-- ==== Defs.lean ====
def Pre_FcOneKernel (m : (ℓ : Loc Cert.FcOneKernel.nD Cert.FcOneKernel.τ Cert.FcOneKernel.sig) → Buf (Elt Bits) ℓ) : Prop :=
  True

def Pre_FcOneKernelIdeal (m : (ℓ : Loc Cert.FcOneKernelIdeal.nD Cert.FcOneKernelIdeal.τ Cert.FcOneKernelIdeal.sig) → Buf (Elt Ideal) ℓ) : Prop :=
  True

def Pre_FcOneReferenceIdeal (m : (ℓ : Loc Cert.FcOneReferenceIdeal.nD Cert.FcOneReferenceIdeal.τ Cert.FcOneReferenceIdeal.sig) → Buf (Elt Ideal) ℓ) : Prop :=
  True

def Pre_FcTwoKernel (m : (ℓ : Loc Cert.FcTwoKernel.nD Cert.FcTwoKernel.τ Cert.FcTwoKernel.sig) → Buf (Elt Bits) ℓ) : Prop :=
  True

def Pre_FcTwoKernelIdeal (m : (ℓ : Loc Cert.FcTwoKernelIdeal.nD Cert.FcTwoKernelIdeal.τ Cert.FcTwoKernelIdeal.sig) → Buf (Elt Ideal) ℓ) : Prop :=
  True

def Pre_FcTwoReferenceIdeal (m : (ℓ : Loc Cert.FcTwoReferenceIdeal.nD Cert.FcTwoReferenceIdeal.τ Cert.FcTwoReferenceIdeal.sig) → Buf (Elt Ideal) ℓ) : Prop :=
  True

def Pre_ProjTKernel (m : (ℓ : Loc Cert.ProjTKernel.nD Cert.ProjTKernel.τ Cert.ProjTKernel.sig) → Buf (Elt Bits) ℓ) : Prop :=
  True

def Pre_ProjTKernelIdeal (m : (ℓ : Loc Cert.ProjTKernelIdeal.nD Cert.ProjTKernelIdeal.τ Cert.ProjTKernelIdeal.sig) → Buf (Elt Ideal) ℓ) : Prop :=
  True

def Pre_ProjTReferenceIdeal (m : (ℓ : Loc Cert.ProjTReferenceIdeal.nD Cert.ProjTReferenceIdeal.τ Cert.ProjTReferenceIdeal.sig) → Buf (Elt Ideal) ℓ) : Prop :=
  True

def Pre_ProjSKernel [hPre_ids_in_table : Cert.Pre_ids_in_table.Facts] (m : (ℓ : Loc Cert.ProjSKernel.nD Cert.ProjSKernel.τ Cert.ProjSKernel.sig) → Buf (Elt Bits) ℓ) : Prop :=
  ∀ c : Dev Cert.ProjSKernel.nD,
    (Cert.Pre_ids_in_table.fn (F := Bits) (m ((c.tc : Thread Cert.ProjSKernel.nD Cert.ProjSKernel.τ).loc Cert.ProjSKernel.main_arg0)) (m ((c.tc : Thread Cert.ProjSKernel.nD Cert.ProjSKernel.τ).loc Cert.ProjSKernel.main_arg1)) (m ((c.tc : Thread Cert.ProjSKernel.nD Cert.ProjSKernel.τ).loc Cert.ProjSKernel.main_arg2)) (m ((c.tc : Thread Cert.ProjSKernel.nD Cert.ProjSKernel.τ).loc Cert.ProjSKernel.main_arg3)) (m ((c.tc : Thread Cert.ProjSKernel.nD Cert.ProjSKernel.τ).loc Cert.ProjSKernel.main_arg4)) (m ((c.tc : Thread Cert.ProjSKernel.nD Cert.ProjSKernel.τ).loc Cert.ProjSKernel.main_arg5)) (m ((c.tc : Thread Cert.ProjSKernel.nD Cert.ProjSKernel.τ).loc Cert.ProjSKernel.main_arg6)) (m ((c.tc : Thread Cert.ProjSKernel.nD Cert.ProjSKernel.τ).loc Cert.ProjSKernel.main_arg7)) (m ((c.tc : Thread Cert.ProjSKernel.nD Cert.ProjSKernel.τ).loc Cert.ProjSKernel.main_arg8))) = (fun _ => 1#1)

def Pre_ProjSKernelIdeal [hPre_ids_in_table : Cert.Pre_ids_in_table.Facts] (m : (ℓ : Loc Cert.ProjSKernelIdeal.nD Cert.ProjSKernelIdeal.τ Cert.ProjSKernelIdeal.sig) → Buf (Elt Ideal) ℓ) : Prop :=
  ∀ c : Dev Cert.ProjSKernelIdeal.nD,
    (Cert.Pre_ids_in_table.fn (F := Ideal) (m ((c.tc : Thread Cert.ProjSKernelIdeal.nD Cert.ProjSKernelIdeal.τ).loc Cert.ProjSKernelIdeal.main_arg0)) (m ((c.tc : Thread Cert.ProjSKernelIdeal.nD Cert.ProjSKernelIdeal.τ).loc Cert.ProjSKernelIdeal.main_arg1)) (m ((c.tc : Thread Cert.ProjSKernelIdeal.nD Cert.ProjSKernelIdeal.τ).loc Cert.ProjSKernelIdeal.main_arg2)) (m ((c.tc : Thread Cert.ProjSKernelIdeal.nD Cert.ProjSKernelIdeal.τ).loc Cert.ProjSKernelIdeal.main_arg3)) (m ((c.tc : Thread Cert.ProjSKernelIdeal.nD Cert.ProjSKernelIdeal.τ).loc Cert.ProjSKernelIdeal.main_arg4)) (m ((c.tc : Thread Cert.ProjSKernelIdeal.nD Cert.ProjSKernelIdeal.τ).loc Cert.ProjSKernelIdeal.main_arg5)) (m ((c.tc : Thread Cert.ProjSKernelIdeal.nD Cert.ProjSKernelIdeal.τ).loc Cert.ProjSKernelIdeal.main_arg6)) (m ((c.tc : Thread Cert.ProjSKernelIdeal.nD Cert.ProjSKernelIdeal.τ).loc Cert.ProjSKernelIdeal.main_arg7)) (m ((c.tc : Thread Cert.ProjSKernelIdeal.nD Cert.ProjSKernelIdeal.τ).loc Cert.ProjSKernelIdeal.main_arg8))) = (fun _ => 1#1)

def Pre_ProjSReferenceIdeal (m : (ℓ : Loc Cert.ProjSReferenceIdeal.nD Cert.ProjSReferenceIdeal.τ Cert.ProjSReferenceIdeal.sig) → Buf (Elt Ideal) ℓ) : Prop :=
  True

def Pre_ProjSReferenceIdeal_ids_in_table [hPre_ids_in_table : Cert.Pre_ids_in_table.Facts] (m : (ℓ : Loc Cert.ProjSReferenceIdeal.nD Cert.ProjSReferenceIdeal.τ Cert.ProjSReferenceIdeal.sig) → Buf (Elt Ideal) ℓ) : Prop :=
  ∀ c : Dev Cert.ProjSReferenceIdeal.nD,
    (Cert.Pre_ids_in_table.fn (F := Ideal) (m ((c.tc : Thread Cert.ProjSReferenceIdeal.nD Cert.ProjSReferenceIdeal.τ).loc Cert.ProjSReferenceIdeal.main_arg0)) (m ((c.tc : Thread Cert.ProjSReferenceIdeal.nD Cert.ProjSReferenceIdeal.τ).loc Cert.ProjSReferenceIdeal.main_arg1)) (m ((c.tc : Thread Cert.ProjSReferenceIdeal.nD Cert.ProjSReferenceIdeal.τ).loc Cert.ProjSReferenceIdeal.main_arg2)) (m ((c.tc : Thread Cert.ProjSReferenceIdeal.nD Cert.ProjSReferenceIdeal.τ).loc Cert.ProjSReferenceIdeal.main_arg3)) (m ((c.tc : Thread Cert.ProjSReferenceIdeal.nD Cert.ProjSReferenceIdeal.τ).loc Cert.ProjSReferenceIdeal.main_arg4)) (m ((c.tc : Thread Cert.ProjSReferenceIdeal.nD Cert.ProjSReferenceIdeal.τ).loc Cert.ProjSReferenceIdeal.main_arg5)) (m ((c.tc : Thread Cert.ProjSReferenceIdeal.nD Cert.ProjSReferenceIdeal.τ).loc Cert.ProjSReferenceIdeal.main_arg6)) (m ((c.tc : Thread Cert.ProjSReferenceIdeal.nD Cert.ProjSReferenceIdeal.τ).loc Cert.ProjSReferenceIdeal.main_arg7)) (m ((c.tc : Thread Cert.ProjSReferenceIdeal.nD Cert.ProjSReferenceIdeal.τ).loc Cert.ProjSReferenceIdeal.main_arg8))) = (fun _ => 1#1)

def Pre_SpatKernel (m : (ℓ : Loc Cert.SpatKernel.nD Cert.SpatKernel.τ Cert.SpatKernel.sig) → Buf (Elt Bits) ℓ) : Prop :=
  True

def Pre_SpatKernelIdeal (m : (ℓ : Loc Cert.SpatKernelIdeal.nD Cert.SpatKernelIdeal.τ Cert.SpatKernelIdeal.sig) → Buf (Elt Ideal) ℓ) : Prop :=
  True

def Pre_SpatReferenceIdeal (m : (ℓ : Loc Cert.SpatReferenceIdeal.nD Cert.SpatReferenceIdeal.τ Cert.SpatReferenceIdeal.sig) → Buf (Elt Ideal) ℓ) : Prop :=
  True

def quiescent_FcOneKernel [hFcOneKernel : Cert.FcOneKernel.Facts] : Prop :=
  ∀ (m : (ℓ : Loc Cert.FcOneKernel.nD Cert.FcOneKernel.τ Cert.FcOneKernel.sig) → Buf (Elt Bits) ℓ) (g : Dev Cert.FcOneKernel.nD → PrngReg), Pre_FcOneKernel m →
    θ_run (Cert.FcOneKernel.defs (F := Bits)) (onTc (τ := Cert.FcOneKernel.τ) (Cert.FcOneKernel.main (F := Bits))) ⟨m, fun _ => 0, g⟩ (fun r => (∀ c : Dev Cert.FcOneKernel.nD,
      r.2.mem ((c.tc : Thread Cert.FcOneKernel.nD Cert.FcOneKernel.τ).loc Cert.FcOneKernel.main_arg0) = m ((c.tc : Thread Cert.FcOneKernel.nD Cert.FcOneKernel.τ).loc Cert.FcOneKernel.main_arg0)
      ∧ r.2.mem ((c.tc : Thread Cert.FcOneKernel.nD Cert.FcOneKernel.τ).loc Cert.FcOneKernel.main_arg1) = m ((c.tc : Thread Cert.FcOneKernel.nD Cert.FcOneKernel.τ).loc Cert.FcOneKernel.main_arg1)
      ∧ r.2.mem ((c.tc : Thread Cert.FcOneKernel.nD Cert.FcOneKernel.τ).loc Cert.FcOneKernel.main_arg2) = m ((c.tc : Thread Cert.FcOneKernel.nD Cert.FcOneKernel.τ).loc Cert.FcOneKernel.main_arg2)
      ∧ r.2.mem ((c.tc : Thread Cert.FcOneKernel.nD Cert.FcOneKernel.τ).loc Cert.FcOneKernel.main_arg3) = m ((c.tc : Thread Cert.FcOneKernel.nD Cert.FcOneKernel.τ).loc Cert.FcOneKernel.main_arg3)
      ∧ r.2.mem ((c.tc : Thread Cert.FcOneKernel.nD Cert.FcOneKernel.τ).loc Cert.FcOneKernel.main_arg4) = m ((c.tc : Thread Cert.FcOneKernel.nD Cert.FcOneKernel.τ).loc Cert.FcOneKernel.main_arg4))
      ∧ r.2.sem = fun _ => 0)

def quiescent_FcOneKernelIdeal [hFcOneKernelIdeal : Cert.FcOneKernelIdeal.Facts] : Prop :=
  ∀ (m : (ℓ : Loc Cert.FcOneKernelIdeal.nD Cert.FcOneKernelIdeal.τ Cert.FcOneKernelIdeal.sig) → Buf (Elt Ideal) ℓ) (g : Dev Cert.FcOneKernelIdeal.nD → PrngReg), Pre_FcOneKernelIdeal m →
    θ_run (Cert.FcOneKernelIdeal.defs (F := Ideal)) (onTc (τ := Cert.FcOneKernelIdeal.τ) (Cert.FcOneKernelIdeal.main (F := Ideal))) ⟨m, fun _ => 0, g⟩ (fun r => (∀ c : Dev Cert.FcOneKernelIdeal.nD,
      r.2.mem ((c.tc : Thread Cert.FcOneKernelIdeal.nD Cert.FcOneKernelIdeal.τ).loc Cert.FcOneKernelIdeal.main_arg0) = m ((c.tc : Thread Cert.FcOneKernelIdeal.nD Cert.FcOneKernelIdeal.τ).loc Cert.FcOneKernelIdeal.main_arg0)
      ∧ r.2.mem ((c.tc : Thread Cert.FcOneKernelIdeal.nD Cert.FcOneKernelIdeal.τ).loc Cert.FcOneKernelIdeal.main_arg1) = m ((c.tc : Thread Cert.FcOneKernelIdeal.nD Cert.FcOneKernelIdeal.τ).loc Cert.FcOneKernelIdeal.main_arg1)
      ∧ r.2.mem ((c.tc : Thread Cert.FcOneKernelIdeal.nD Cert.FcOneKernelIdeal.τ).loc Cert.FcOneKernelIdeal.main_arg2) = m ((c.tc : Thread Cert.FcOneKernelIdeal.nD Cert.FcOneKernelIdeal.τ).loc Cert.FcOneKernelIdeal.main_arg2)
      ∧ r.2.mem ((c.tc : Thread Cert.FcOneKernelIdeal.nD Cert.FcOneKernelIdeal.τ).loc Cert.FcOneKernelIdeal.main_arg3) = m ((c.tc : Thread Cert.FcOneKernelIdeal.nD Cert.FcOneKernelIdeal.τ).loc Cert.FcOneKernelIdeal.main_arg3)
      ∧ r.2.mem ((c.tc : Thread Cert.FcOneKernelIdeal.nD Cert.FcOneKernelIdeal.τ).loc Cert.FcOneKernelIdeal.main_arg4) = m ((c.tc : Thread Cert.FcOneKernelIdeal.nD Cert.FcOneKernelIdeal.τ).loc Cert.FcOneKernelIdeal.main_arg4))
      ∧ r.2.sem = fun _ => 0)

def quiescent_FcOneReferenceIdeal [hFcOneReferenceIdeal : Cert.FcOneReferenceIdeal.Facts] : Prop :=
  ∀ (m : (ℓ : Loc Cert.FcOneReferenceIdeal.nD Cert.FcOneReferenceIdeal.τ Cert.FcOneReferenceIdeal.sig) → Buf (Elt Ideal) ℓ) (g : Dev Cert.FcOneReferenceIdeal.nD → PrngReg), Pre_FcOneReferenceIdeal m →
    θ_run (Cert.FcOneReferenceIdeal.defs (F := Ideal)) (onTc (τ := Cert.FcOneReferenceIdeal.τ) (Cert.FcOneReferenceIdeal.main (F := Ideal))) ⟨m, fun _ => 0, g⟩ (fun r => (∀ c : Dev Cert.FcOneReferenceIdeal.nD,
      r.2.mem ((c.tc : Thread Cert.FcOneReferenceIdeal.nD Cert.FcOneReferenceIdeal.τ).loc Cert.FcOneReferenceIdeal.main_arg0) = m ((c.tc : Thread Cert.FcOneReferenceIdeal.nD Cert.FcOneReferenceIdeal.τ).loc Cert.FcOneReferenceIdeal.main_arg0)
      ∧ r.2.mem ((c.tc : Thread Cert.FcOneReferenceIdeal.nD Cert.FcOneReferenceIdeal.τ).loc Cert.FcOneReferenceIdeal.main_arg1) = m ((c.tc : Thread Cert.FcOneReferenceIdeal.nD Cert.FcOneReferenceIdeal.τ).loc Cert.FcOneReferenceIdeal.main_arg1)
      ∧ r.2.mem ((c.tc : Thread Cert.FcOneReferenceIdeal.nD Cert.FcOneReferenceIdeal.τ).loc Cert.FcOneReferenceIdeal.main_arg2) = m ((c.tc : Thread Cert.FcOneReferenceIdeal.nD Cert.FcOneReferenceIdeal.τ).loc Cert.FcOneReferenceIdeal.main_arg2)
      ∧ r.2.mem ((c.tc : Thread Cert.FcOneReferenceIdeal.nD Cert.FcOneReferenceIdeal.τ).loc Cert.FcOneReferenceIdeal.main_arg3) = m ((c.tc : Thread Cert.FcOneReferenceIdeal.nD Cert.FcOneReferenceIdeal.τ).loc Cert.FcOneReferenceIdeal.main_arg3)
      ∧ r.2.mem ((c.tc : Thread Cert.FcOneReferenceIdeal.nD Cert.FcOneReferenceIdeal.τ).loc Cert.FcOneReferenceIdeal.main_arg4) = m ((c.tc : Thread Cert.FcOneReferenceIdeal.nD Cert.FcOneReferenceIdeal.τ).loc Cert.FcOneReferenceIdeal.main_arg4))
      ∧ r.2.sem = fun _ => 0)

def quiescent_FcTwoKernel [hFcTwoKernel : Cert.FcTwoKernel.Facts] : Prop :=
  ∀ (m : (ℓ : Loc Cert.FcTwoKernel.nD Cert.FcTwoKernel.τ Cert.FcTwoKernel.sig) → Buf (Elt Bits) ℓ) (g : Dev Cert.FcTwoKernel.nD → PrngReg), Pre_FcTwoKernel m →
    θ_run (Cert.FcTwoKernel.defs (F := Bits)) (onTc (τ := Cert.FcTwoKernel.τ) (Cert.FcTwoKernel.main (F := Bits))) ⟨m, fun _ => 0, g⟩ (fun r => (∀ c : Dev Cert.FcTwoKernel.nD,
      r.2.mem ((c.tc : Thread Cert.FcTwoKernel.nD Cert.FcTwoKernel.τ).loc Cert.FcTwoKernel.main_arg0) = m ((c.tc : Thread Cert.FcTwoKernel.nD Cert.FcTwoKernel.τ).loc Cert.FcTwoKernel.main_arg0)
      ∧ r.2.mem ((c.tc : Thread Cert.FcTwoKernel.nD Cert.FcTwoKernel.τ).loc Cert.FcTwoKernel.main_arg1) = m ((c.tc : Thread Cert.FcTwoKernel.nD Cert.FcTwoKernel.τ).loc Cert.FcTwoKernel.main_arg1)
      ∧ r.2.mem ((c.tc : Thread Cert.FcTwoKernel.nD Cert.FcTwoKernel.τ).loc Cert.FcTwoKernel.main_arg2) = m ((c.tc : Thread Cert.FcTwoKernel.nD Cert.FcTwoKernel.τ).loc Cert.FcTwoKernel.main_arg2)
      ∧ r.2.mem ((c.tc : Thread Cert.FcTwoKernel.nD Cert.FcTwoKernel.τ).loc Cert.FcTwoKernel.main_arg3) = m ((c.tc : Thread Cert.FcTwoKernel.nD Cert.FcTwoKernel.τ).loc Cert.FcTwoKernel.main_arg3)
      ∧ r.2.mem ((c.tc : Thread Cert.FcTwoKernel.nD Cert.FcTwoKernel.τ).loc Cert.FcTwoKernel.main_arg4) = m ((c.tc : Thread Cert.FcTwoKernel.nD Cert.FcTwoKernel.τ).loc Cert.FcTwoKernel.main_arg4)
      ∧ r.2.mem ((c.tc : Thread Cert.FcTwoKernel.nD Cert.FcTwoKernel.τ).loc Cert.FcTwoKernel.main_arg5) = m ((c.tc : Thread Cert.FcTwoKernel.nD Cert.FcTwoKernel.τ).loc Cert.FcTwoKernel.main_arg5))
      ∧ r.2.sem = fun _ => 0)

def quiescent_FcTwoKernelIdeal [hFcTwoKernelIdeal : Cert.FcTwoKernelIdeal.Facts] : Prop :=
  ∀ (m : (ℓ : Loc Cert.FcTwoKernelIdeal.nD Cert.FcTwoKernelIdeal.τ Cert.FcTwoKernelIdeal.sig) → Buf (Elt Ideal) ℓ) (g : Dev Cert.FcTwoKernelIdeal.nD → PrngReg), Pre_FcTwoKernelIdeal m →
    θ_run (Cert.FcTwoKernelIdeal.defs (F := Ideal)) (onTc (τ := Cert.FcTwoKernelIdeal.τ) (Cert.FcTwoKernelIdeal.main (F := Ideal))) ⟨m, fun _ => 0, g⟩ (fun r => (∀ c : Dev Cert.FcTwoKernelIdeal.nD,
      r.2.mem ((c.tc : Thread Cert.FcTwoKernelIdeal.nD Cert.FcTwoKernelIdeal.τ).loc Cert.FcTwoKernelIdeal.main_arg0) = m ((c.tc : Thread Cert.FcTwoKernelIdeal.nD Cert.FcTwoKernelIdeal.τ).loc Cert.FcTwoKernelIdeal.main_arg0)
      ∧ r.2.mem ((c.tc : Thread Cert.FcTwoKernelIdeal.nD Cert.FcTwoKernelIdeal.τ).loc Cert.FcTwoKernelIdeal.main_arg1) = m ((c.tc : Thread Cert.FcTwoKernelIdeal.nD Cert.FcTwoKernelIdeal.τ).loc Cert.FcTwoKernelIdeal.main_arg1)
      ∧ r.2.mem ((c.tc : Thread Cert.FcTwoKernelIdeal.nD Cert.FcTwoKernelIdeal.τ).loc Cert.FcTwoKernelIdeal.main_arg2) = m ((c.tc : Thread Cert.FcTwoKernelIdeal.nD Cert.FcTwoKernelIdeal.τ).loc Cert.FcTwoKernelIdeal.main_arg2)
      ∧ r.2.mem ((c.tc : Thread Cert.FcTwoKernelIdeal.nD Cert.FcTwoKernelIdeal.τ).loc Cert.FcTwoKernelIdeal.main_arg3) = m ((c.tc : Thread Cert.FcTwoKernelIdeal.nD Cert.FcTwoKernelIdeal.τ).loc Cert.FcTwoKernelIdeal.main_arg3)
      ∧ r.2.mem ((c.tc : Thread Cert.FcTwoKernelIdeal.nD Cert.FcTwoKernelIdeal.τ).loc Cert.FcTwoKernelIdeal.main_arg4) = m ((c.tc : Thread Cert.FcTwoKernelIdeal.nD Cert.FcTwoKernelIdeal.τ).loc Cert.FcTwoKernelIdeal.main_arg4)
      ∧ r.2.mem ((c.tc : Thread Cert.FcTwoKernelIdeal.nD Cert.FcTwoKernelIdeal.τ).loc Cert.FcTwoKernelIdeal.main_arg5) = m ((c.tc : Thread Cert.FcTwoKernelIdeal.nD Cert.FcTwoKernelIdeal.τ).loc Cert.FcTwoKernelIdeal.main_arg5))
      ∧ r.2.sem = fun _ => 0)

def quiescent_FcTwoReferenceIdeal [hFcTwoReferenceIdeal : Cert.FcTwoReferenceIdeal.Facts] : Prop :=
  ∀ (m : (ℓ : Loc Cert.FcTwoReferenceIdeal.nD Cert.FcTwoReferenceIdeal.τ Cert.FcTwoReferenceIdeal.sig) → Buf (Elt Ideal) ℓ) (g : Dev Cert.FcTwoReferenceIdeal.nD → PrngReg), Pre_FcTwoReferenceIdeal m →
    θ_run (Cert.FcTwoReferenceIdeal.defs (F := Ideal)) (onTc (τ := Cert.FcTwoReferenceIdeal.τ) (Cert.FcTwoReferenceIdeal.main (F := Ideal))) ⟨m, fun _ => 0, g⟩ (fun r => (∀ c : Dev Cert.FcTwoReferenceIdeal.nD,
      r.2.mem ((c.tc : Thread Cert.FcTwoReferenceIdeal.nD Cert.FcTwoReferenceIdeal.τ).loc Cert.FcTwoReferenceIdeal.main_arg0) = m ((c.tc : Thread Cert.FcTwoReferenceIdeal.nD Cert.FcTwoReferenceIdeal.τ).loc Cert.FcTwoReferenceIdeal.main_arg0)
      ∧ r.2.mem ((c.tc : Thread Cert.FcTwoReferenceIdeal.nD Cert.FcTwoReferenceIdeal.τ).loc Cert.FcTwoReferenceIdeal.main_arg1) = m ((c.tc : Thread Cert.FcTwoReferenceIdeal.nD Cert.FcTwoReferenceIdeal.τ).loc Cert.FcTwoReferenceIdeal.main_arg1)
      ∧ r.2.mem ((c.tc : Thread Cert.FcTwoReferenceIdeal.nD Cert.FcTwoReferenceIdeal.τ).loc Cert.FcTwoReferenceIdeal.main_arg2) = m ((c.tc : Thread Cert.FcTwoReferenceIdeal.nD Cert.FcTwoReferenceIdeal.τ).loc Cert.FcTwoReferenceIdeal.main_arg2)
      ∧ r.2.mem ((c.tc : Thread Cert.FcTwoReferenceIdeal.nD Cert.FcTwoReferenceIdeal.τ).loc Cert.FcTwoReferenceIdeal.main_arg3) = m ((c.tc : Thread Cert.FcTwoReferenceIdeal.nD Cert.FcTwoReferenceIdeal.τ).loc Cert.FcTwoReferenceIdeal.main_arg3)
      ∧ r.2.mem ((c.tc : Thread Cert.FcTwoReferenceIdeal.nD Cert.FcTwoReferenceIdeal.τ).loc Cert.FcTwoReferenceIdeal.main_arg4) = m ((c.tc : Thread Cert.FcTwoReferenceIdeal.nD Cert.FcTwoReferenceIdeal.τ).loc Cert.FcTwoReferenceIdeal.main_arg4)
      ∧ r.2.mem ((c.tc : Thread Cert.FcTwoReferenceIdeal.nD Cert.FcTwoReferenceIdeal.τ).loc Cert.FcTwoReferenceIdeal.main_arg5) = m ((c.tc : Thread Cert.FcTwoReferenceIdeal.nD Cert.FcTwoReferenceIdeal.τ).loc Cert.FcTwoReferenceIdeal.main_arg5))
      ∧ r.2.sem = fun _ => 0)

def quiescent_ProjTKernel [hProjTKernel : Cert.ProjTKernel.Facts] : Prop :=
  ∀ (m : (ℓ : Loc Cert.ProjTKernel.nD Cert.ProjTKernel.τ Cert.ProjTKernel.sig) → Buf (Elt Bits) ℓ) (g : Dev Cert.ProjTKernel.nD → PrngReg), Pre_ProjTKernel m →
    θ_run (Cert.ProjTKernel.defs (F := Bits)) (onTc (τ := Cert.ProjTKernel.τ) (Cert.ProjTKernel.main (F := Bits))) ⟨m, fun _ => 0, g⟩ (fun r => (∀ c : Dev Cert.ProjTKernel.nD,
      r.2.mem ((c.tc : Thread Cert.ProjTKernel.nD Cert.ProjTKernel.τ).loc Cert.ProjTKernel.main_arg0) = m ((c.tc : Thread Cert.ProjTKernel.nD Cert.ProjTKernel.τ).loc Cert.ProjTKernel.main_arg0)
      ∧ r.2.mem ((c.tc : Thread Cert.ProjTKernel.nD Cert.ProjTKernel.τ).loc Cert.ProjTKernel.main_arg1) = m ((c.tc : Thread Cert.ProjTKernel.nD Cert.ProjTKernel.τ).loc Cert.ProjTKernel.main_arg1)
      ∧ r.2.mem ((c.tc : Thread Cert.ProjTKernel.nD Cert.ProjTKernel.τ).loc Cert.ProjTKernel.main_arg2) = m ((c.tc : Thread Cert.ProjTKernel.nD Cert.ProjTKernel.τ).loc Cert.ProjTKernel.main_arg2)
      ∧ r.2.mem ((c.tc : Thread Cert.ProjTKernel.nD Cert.ProjTKernel.τ).loc Cert.ProjTKernel.main_arg3) = m ((c.tc : Thread Cert.ProjTKernel.nD Cert.ProjTKernel.τ).loc Cert.ProjTKernel.main_arg3)
      ∧ r.2.mem ((c.tc : Thread Cert.ProjTKernel.nD Cert.ProjTKernel.τ).loc Cert.ProjTKernel.main_arg4) = m ((c.tc : Thread Cert.ProjTKernel.nD Cert.ProjTKernel.τ).loc Cert.ProjTKernel.main_arg4)
      ∧ r.2.mem ((c.tc : Thread Cert.ProjTKernel.nD Cert.ProjTKernel.τ).loc Cert.ProjTKernel.main_arg5) = m ((c.tc : Thread Cert.ProjTKernel.nD Cert.ProjTKernel.τ).loc Cert.ProjTKernel.main_arg5)
      ∧ r.2.mem ((c.tc : Thread Cert.ProjTKernel.nD Cert.ProjTKernel.τ).loc Cert.ProjTKernel.main_arg6) = m ((c.tc : Thread Cert.ProjTKernel.nD Cert.ProjTKernel.τ).loc Cert.ProjTKernel.main_arg6)
      ∧ r.2.mem ((c.tc : Thread Cert.ProjTKernel.nD Cert.ProjTKernel.τ).loc Cert.ProjTKernel.main_arg7) = m ((c.tc : Thread Cert.ProjTKernel.nD Cert.ProjTKernel.τ).loc Cert.ProjTKernel.main_arg7)
      ∧ r.2.mem ((c.tc : Thread Cert.ProjTKernel.nD Cert.ProjTKernel.τ).loc Cert.ProjTKernel.main_arg8) = m ((c.tc : Thread Cert.ProjTKernel.nD Cert.ProjTKernel.τ).loc Cert.ProjTKernel.main_arg8))
      ∧ r.2.sem = fun _ => 0)

def quiescent_ProjTKernelIdeal [hProjTKernelIdeal : Cert.ProjTKernelIdeal.Facts] : Prop :=
  ∀ (m : (ℓ : Loc Cert.ProjTKernelIdeal.nD Cert.ProjTKernelIdeal.τ Cert.ProjTKernelIdeal.sig) → Buf (Elt Ideal) ℓ) (g : Dev Cert.ProjTKernelIdeal.nD → PrngReg), Pre_ProjTKernelIdeal m →
    θ_run (Cert.ProjTKernelIdeal.defs (F := Ideal)) (onTc (τ := Cert.ProjTKernelIdeal.τ) (Cert.ProjTKernelIdeal.main (F := Ideal))) ⟨m, fun _ => 0, g⟩ (fun r => (∀ c : Dev Cert.ProjTKernelIdeal.nD,
      r.2.mem ((c.tc : Thread Cert.ProjTKernelIdeal.nD Cert.ProjTKernelIdeal.τ).loc Cert.ProjTKernelIdeal.main_arg0) = m ((c.tc : Thread Cert.ProjTKernelIdeal.nD Cert.ProjTKernelIdeal.τ).loc Cert.ProjTKernelIdeal.main_arg0)
      ∧ r.2.mem ((c.tc : Thread Cert.ProjTKernelIdeal.nD Cert.ProjTKernelIdeal.τ).loc Cert.ProjTKernelIdeal.main_arg1) = m ((c.tc : Thread Cert.ProjTKernelIdeal.nD Cert.ProjTKernelIdeal.τ).loc Cert.ProjTKernelIdeal.main_arg1)
      ∧ r.2.mem ((c.tc : Thread Cert.ProjTKernelIdeal.nD Cert.ProjTKernelIdeal.τ).loc Cert.ProjTKernelIdeal.main_arg2) = m ((c.tc : Thread Cert.ProjTKernelIdeal.nD Cert.ProjTKernelIdeal.τ).loc Cert.ProjTKernelIdeal.main_arg2)
      ∧ r.2.mem ((c.tc : Thread Cert.ProjTKernelIdeal.nD Cert.ProjTKernelIdeal.τ).loc Cert.ProjTKernelIdeal.main_arg3) = m ((c.tc : Thread Cert.ProjTKernelIdeal.nD Cert.ProjTKernelIdeal.τ).loc Cert.ProjTKernelIdeal.main_arg3)
      ∧ r.2.mem ((c.tc : Thread Cert.ProjTKernelIdeal.nD Cert.ProjTKernelIdeal.τ).loc Cert.ProjTKernelIdeal.main_arg4) = m ((c.tc : Thread Cert.ProjTKernelIdeal.nD Cert.ProjTKernelIdeal.τ).loc Cert.ProjTKernelIdeal.main_arg4)
      ∧ r.2.mem ((c.tc : Thread Cert.ProjTKernelIdeal.nD Cert.ProjTKernelIdeal.τ).loc Cert.ProjTKernelIdeal.main_arg5) = m ((c.tc : Thread Cert.ProjTKernelIdeal.nD Cert.ProjTKernelIdeal.τ).loc Cert.ProjTKernelIdeal.main_arg5)
      ∧ r.2.mem ((c.tc : Thread Cert.ProjTKernelIdeal.nD Cert.ProjTKernelIdeal.τ).loc Cert.ProjTKernelIdeal.main_arg6) = m ((c.tc : Thread Cert.ProjTKernelIdeal.nD Cert.ProjTKernelIdeal.τ).loc Cert.ProjTKernelIdeal.main_arg6)
      ∧ r.2.mem ((c.tc : Thread Cert.ProjTKernelIdeal.nD Cert.ProjTKernelIdeal.τ).loc Cert.ProjTKernelIdeal.main_arg7) = m ((c.tc : Thread Cert.ProjTKernelIdeal.nD Cert.ProjTKernelIdeal.τ).loc Cert.ProjTKernelIdeal.main_arg7)
      ∧ r.2.mem ((c.tc : Thread Cert.ProjTKernelIdeal.nD Cert.ProjTKernelIdeal.τ).loc Cert.ProjTKernelIdeal.main_arg8) = m ((c.tc : Thread Cert.ProjTKernelIdeal.nD Cert.ProjTKernelIdeal.τ).loc Cert.ProjTKernelIdeal.main_arg8))
      ∧ r.2.sem = fun _ => 0)

def quiescent_ProjTReferenceIdeal [hProjTReferenceIdeal : Cert.ProjTReferenceIdeal.Facts] : Prop :=
  ∀ (m : (ℓ : Loc Cert.ProjTReferenceIdeal.nD Cert.ProjTReferenceIdeal.τ Cert.ProjTReferenceIdeal.sig) → Buf (Elt Ideal) ℓ) (g : Dev Cert.ProjTReferenceIdeal.nD → PrngReg), Pre_ProjTReferenceIdeal m →
    θ_run (Cert.ProjTReferenceIdeal.defs (F := Ideal)) (onTc (τ := Cert.ProjTReferenceIdeal.τ) (Cert.ProjTReferenceIdeal.main (F := Ideal))) ⟨m, fun _ => 0, g⟩ (fun r => (∀ c : Dev Cert.ProjTReferenceIdeal.nD,
      r.2.mem ((c.tc : Thread Cert.ProjTReferenceIdeal.nD Cert.ProjTReferenceIdeal.τ).loc Cert.ProjTReferenceIdeal.main_arg0) = m ((c.tc : Thread Cert.ProjTReferenceIdeal.nD Cert.ProjTReferenceIdeal.τ).loc Cert.ProjTReferenceIdeal.main_arg0)
      ∧ r.2.mem ((c.tc : Thread Cert.ProjTReferenceIdeal.nD Cert.ProjTReferenceIdeal.τ).loc Cert.ProjTReferenceIdeal.main_arg1) = m ((c.tc : Thread Cert.ProjTReferenceIdeal.nD Cert.ProjTReferenceIdeal.τ).loc Cert.ProjTReferenceIdeal.main_arg1)
      ∧ r.2.mem ((c.tc : Thread Cert.ProjTReferenceIdeal.nD Cert.ProjTReferenceIdeal.τ).loc Cert.ProjTReferenceIdeal.main_arg2) = m ((c.tc : Thread Cert.ProjTReferenceIdeal.nD Cert.ProjTReferenceIdeal.τ).loc Cert.ProjTReferenceIdeal.main_arg2)
      ∧ r.2.mem ((c.tc : Thread Cert.ProjTReferenceIdeal.nD Cert.ProjTReferenceIdeal.τ).loc Cert.ProjTReferenceIdeal.main_arg3) = m ((c.tc : Thread Cert.ProjTReferenceIdeal.nD Cert.ProjTReferenceIdeal.τ).loc Cert.ProjTReferenceIdeal.main_arg3)
      ∧ r.2.mem ((c.tc : Thread Cert.ProjTReferenceIdeal.nD Cert.ProjTReferenceIdeal.τ).loc Cert.ProjTReferenceIdeal.main_arg4) = m ((c.tc : Thread Cert.ProjTReferenceIdeal.nD Cert.ProjTReferenceIdeal.τ).loc Cert.ProjTReferenceIdeal.main_arg4)
      ∧ r.2.mem ((c.tc : Thread Cert.ProjTReferenceIdeal.nD Cert.ProjTReferenceIdeal.τ).loc Cert.ProjTReferenceIdeal.main_arg5) = m ((c.tc : Thread Cert.ProjTReferenceIdeal.nD Cert.ProjTReferenceIdeal.τ).loc Cert.ProjTReferenceIdeal.main_arg5)
      ∧ r.2.mem ((c.tc : Thread Cert.ProjTReferenceIdeal.nD Cert.ProjTReferenceIdeal.τ).loc Cert.ProjTReferenceIdeal.main_arg6) = m ((c.tc : Thread Cert.ProjTReferenceIdeal.nD Cert.ProjTReferenceIdeal.τ).loc Cert.ProjTReferenceIdeal.main_arg6)
      ∧ r.2.mem ((c.tc : Thread Cert.ProjTReferenceIdeal.nD Cert.ProjTReferenceIdeal.τ).loc Cert.ProjTReferenceIdeal.main_arg7) = m ((c.tc : Thread Cert.ProjTReferenceIdeal.nD Cert.ProjTReferenceIdeal.τ).loc Cert.ProjTReferenceIdeal.main_arg7)
      ∧ r.2.mem ((c.tc : Thread Cert.ProjTReferenceIdeal.nD Cert.ProjTReferenceIdeal.τ).loc Cert.ProjTReferenceIdeal.main_arg8) = m ((c.tc : Thread Cert.ProjTReferenceIdeal.nD Cert.ProjTReferenceIdeal.τ).loc Cert.ProjTReferenceIdeal.main_arg8))
      ∧ r.2.sem = fun _ => 0)

def quiescent_ProjSKernel [hProjSKernel : Cert.ProjSKernel.Facts] [hPre_ids_in_table : Cert.Pre_ids_in_table.Facts] : Prop :=
  ∀ (m : (ℓ : Loc Cert.ProjSKernel.nD Cert.ProjSKernel.τ Cert.ProjSKernel.sig) → Buf (Elt Bits) ℓ) (g : Dev Cert.ProjSKernel.nD → PrngReg), Pre_ProjSKernel m →
    θ_run (Cert.ProjSKernel.defs (F := Bits)) (onTc (τ := Cert.ProjSKernel.τ) (Cert.ProjSKernel.main (F := Bits))) ⟨m, fun _ => 0, g⟩ (fun r => (∀ c : Dev Cert.ProjSKernel.nD,
      r.2.mem ((c.tc : Thread Cert.ProjSKernel.nD Cert.ProjSKernel.τ).loc Cert.ProjSKernel.main_arg0) = m ((c.tc : Thread Cert.ProjSKernel.nD Cert.ProjSKernel.τ).loc Cert.ProjSKernel.main_arg0)
      ∧ r.2.mem ((c.tc : Thread Cert.ProjSKernel.nD Cert.ProjSKernel.τ).loc Cert.ProjSKernel.main_arg1) = m ((c.tc : Thread Cert.ProjSKernel.nD Cert.ProjSKernel.τ).loc Cert.ProjSKernel.main_arg1)
      ∧ r.2.mem ((c.tc : Thread Cert.ProjSKernel.nD Cert.ProjSKernel.τ).loc Cert.ProjSKernel.main_arg2) = m ((c.tc : Thread Cert.ProjSKernel.nD Cert.ProjSKernel.τ).loc Cert.ProjSKernel.main_arg2)
      ∧ r.2.mem ((c.tc : Thread Cert.ProjSKernel.nD Cert.ProjSKernel.τ).loc Cert.ProjSKernel.main_arg3) = m ((c.tc : Thread Cert.ProjSKernel.nD Cert.ProjSKernel.τ).loc Cert.ProjSKernel.main_arg3)
      ∧ r.2.mem ((c.tc : Thread Cert.ProjSKernel.nD Cert.ProjSKernel.τ).loc Cert.ProjSKernel.main_arg4) = m ((c.tc : Thread Cert.ProjSKernel.nD Cert.ProjSKernel.τ).loc Cert.ProjSKernel.main_arg4)
      ∧ r.2.mem ((c.tc : Thread Cert.ProjSKernel.nD Cert.ProjSKernel.τ).loc Cert.ProjSKernel.main_arg5) = m ((c.tc : Thread Cert.ProjSKernel.nD Cert.ProjSKernel.τ).loc Cert.ProjSKernel.main_arg5)
      ∧ r.2.mem ((c.tc : Thread Cert.ProjSKernel.nD Cert.ProjSKernel.τ).loc Cert.ProjSKernel.main_arg6) = m ((c.tc : Thread Cert.ProjSKernel.nD Cert.ProjSKernel.τ).loc Cert.ProjSKernel.main_arg6)
      ∧ r.2.mem ((c.tc : Thread Cert.ProjSKernel.nD Cert.ProjSKernel.τ).loc Cert.ProjSKernel.main_arg7) = m ((c.tc : Thread Cert.ProjSKernel.nD Cert.ProjSKernel.τ).loc Cert.ProjSKernel.main_arg7)
      ∧ r.2.mem ((c.tc : Thread Cert.ProjSKernel.nD Cert.ProjSKernel.τ).loc Cert.ProjSKernel.main_arg8) = m ((c.tc : Thread Cert.ProjSKernel.nD Cert.ProjSKernel.τ).loc Cert.ProjSKernel.main_arg8))
      ∧ r.2.sem = fun _ => 0)

def quiescent_ProjSKernelIdeal [hProjSKernelIdeal : Cert.ProjSKernelIdeal.Facts] [hPre_ids_in_table : Cert.Pre_ids_in_table.Facts] : Prop :=
  ∀ (m : (ℓ : Loc Cert.ProjSKernelIdeal.nD Cert.ProjSKernelIdeal.τ Cert.ProjSKernelIdeal.sig) → Buf (Elt Ideal) ℓ) (g : Dev Cert.ProjSKernelIdeal.nD → PrngReg), Pre_ProjSKernelIdeal m →
    θ_run (Cert.ProjSKernelIdeal.defs (F := Ideal)) (onTc (τ := Cert.ProjSKernelIdeal.τ) (Cert.ProjSKernelIdeal.main (F := Ideal))) ⟨m, fun _ => 0, g⟩ (fun r => (∀ c : Dev Cert.ProjSKernelIdeal.nD,
      r.2.mem ((c.tc : Thread Cert.ProjSKernelIdeal.nD Cert.ProjSKernelIdeal.τ).loc Cert.ProjSKernelIdeal.main_arg0) = m ((c.tc : Thread Cert.ProjSKernelIdeal.nD Cert.ProjSKernelIdeal.τ).loc Cert.ProjSKernelIdeal.main_arg0)
      ∧ r.2.mem ((c.tc : Thread Cert.ProjSKernelIdeal.nD Cert.ProjSKernelIdeal.τ).loc Cert.ProjSKernelIdeal.main_arg1) = m ((c.tc : Thread Cert.ProjSKernelIdeal.nD Cert.ProjSKernelIdeal.τ).loc Cert.ProjSKernelIdeal.main_arg1)
      ∧ r.2.mem ((c.tc : Thread Cert.ProjSKernelIdeal.nD Cert.ProjSKernelIdeal.τ).loc Cert.ProjSKernelIdeal.main_arg2) = m ((c.tc : Thread Cert.ProjSKernelIdeal.nD Cert.ProjSKernelIdeal.τ).loc Cert.ProjSKernelIdeal.main_arg2)
      ∧ r.2.mem ((c.tc : Thread Cert.ProjSKernelIdeal.nD Cert.ProjSKernelIdeal.τ).loc Cert.ProjSKernelIdeal.main_arg3) = m ((c.tc : Thread Cert.ProjSKernelIdeal.nD Cert.ProjSKernelIdeal.τ).loc Cert.ProjSKernelIdeal.main_arg3)
      ∧ r.2.mem ((c.tc : Thread Cert.ProjSKernelIdeal.nD Cert.ProjSKernelIdeal.τ).loc Cert.ProjSKernelIdeal.main_arg4) = m ((c.tc : Thread Cert.ProjSKernelIdeal.nD Cert.ProjSKernelIdeal.τ).loc Cert.ProjSKernelIdeal.main_arg4)
      ∧ r.2.mem ((c.tc : Thread Cert.ProjSKernelIdeal.nD Cert.ProjSKernelIdeal.τ).loc Cert.ProjSKernelIdeal.main_arg5) = m ((c.tc : Thread Cert.ProjSKernelIdeal.nD Cert.ProjSKernelIdeal.τ).loc Cert.ProjSKernelIdeal.main_arg5)
      ∧ r.2.mem ((c.tc : Thread Cert.ProjSKernelIdeal.nD Cert.ProjSKernelIdeal.τ).loc Cert.ProjSKernelIdeal.main_arg6) = m ((c.tc : Thread Cert.ProjSKernelIdeal.nD Cert.ProjSKernelIdeal.τ).loc Cert.ProjSKernelIdeal.main_arg6)
      ∧ r.2.mem ((c.tc : Thread Cert.ProjSKernelIdeal.nD Cert.ProjSKernelIdeal.τ).loc Cert.ProjSKernelIdeal.main_arg7) = m ((c.tc : Thread Cert.ProjSKernelIdeal.nD Cert.ProjSKernelIdeal.τ).loc Cert.ProjSKernelIdeal.main_arg7)
      ∧ r.2.mem ((c.tc : Thread Cert.ProjSKernelIdeal.nD Cert.ProjSKernelIdeal.τ).loc Cert.ProjSKernelIdeal.main_arg8) = m ((c.tc : Thread Cert.ProjSKernelIdeal.nD Cert.ProjSKernelIdeal.τ).loc Cert.ProjSKernelIdeal.main_arg8))
      ∧ r.2.sem = fun _ => 0)

def quiescent_ProjSReferenceIdeal [hProjSReferenceIdeal : Cert.ProjSReferenceIdeal.Facts] : Prop :=
  ∀ (m : (ℓ : Loc Cert.ProjSReferenceIdeal.nD Cert.ProjSReferenceIdeal.τ Cert.ProjSReferenceIdeal.sig) → Buf (Elt Ideal) ℓ) (g : Dev Cert.ProjSReferenceIdeal.nD → PrngReg), Pre_ProjSReferenceIdeal m →
    θ_run (Cert.ProjSReferenceIdeal.defs (F := Ideal)) (onTc (τ := Cert.ProjSReferenceIdeal.τ) (Cert.ProjSReferenceIdeal.main (F := Ideal))) ⟨m, fun _ => 0, g⟩ (fun r => (∀ c : Dev Cert.ProjSReferenceIdeal.nD,
      r.2.mem ((c.tc : Thread Cert.ProjSReferenceIdeal.nD Cert.ProjSReferenceIdeal.τ).loc Cert.ProjSReferenceIdeal.main_arg0) = m ((c.tc : Thread Cert.ProjSReferenceIdeal.nD Cert.ProjSReferenceIdeal.τ).loc Cert.ProjSReferenceIdeal.main_arg0)
      ∧ r.2.mem ((c.tc : Thread Cert.ProjSReferenceIdeal.nD Cert.ProjSReferenceIdeal.τ).loc Cert.ProjSReferenceIdeal.main_arg1) = m ((c.tc : Thread Cert.ProjSReferenceIdeal.nD Cert.ProjSReferenceIdeal.τ).loc Cert.ProjSReferenceIdeal.main_arg1)
      ∧ r.2.mem ((c.tc : Thread Cert.ProjSReferenceIdeal.nD Cert.ProjSReferenceIdeal.τ).loc Cert.ProjSReferenceIdeal.main_arg2) = m ((c.tc : Thread Cert.ProjSReferenceIdeal.nD Cert.ProjSReferenceIdeal.τ).loc Cert.ProjSReferenceIdeal.main_arg2)
      ∧ r.2.mem ((c.tc : Thread Cert.ProjSReferenceIdeal.nD Cert.ProjSReferenceIdeal.τ).loc Cert.ProjSReferenceIdeal.main_arg3) = m ((c.tc : Thread Cert.ProjSReferenceIdeal.nD Cert.ProjSReferenceIdeal.τ).loc Cert.ProjSReferenceIdeal.main_arg3)
      ∧ r.2.mem ((c.tc : Thread Cert.ProjSReferenceIdeal.nD Cert.ProjSReferenceIdeal.τ).loc Cert.ProjSReferenceIdeal.main_arg4) = m ((c.tc : Thread Cert.ProjSReferenceIdeal.nD Cert.ProjSReferenceIdeal.τ).loc Cert.ProjSReferenceIdeal.main_arg4)
      ∧ r.2.mem ((c.tc : Thread Cert.ProjSReferenceIdeal.nD Cert.ProjSReferenceIdeal.τ).loc Cert.ProjSReferenceIdeal.main_arg5) = m ((c.tc : Thread Cert.ProjSReferenceIdeal.nD Cert.ProjSReferenceIdeal.τ).loc Cert.ProjSReferenceIdeal.main_arg5)
      ∧ r.2.mem ((c.tc : Thread Cert.ProjSReferenceIdeal.nD Cert.ProjSReferenceIdeal.τ).loc Cert.ProjSReferenceIdeal.main_arg6) = m ((c.tc : Thread Cert.ProjSReferenceIdeal.nD Cert.ProjSReferenceIdeal.τ).loc Cert.ProjSReferenceIdeal.main_arg6)
      ∧ r.2.mem ((c.tc : Thread Cert.ProjSReferenceIdeal.nD Cert.ProjSReferenceIdeal.τ).loc Cert.ProjSReferenceIdeal.main_arg7) = m ((c.tc : Thread Cert.ProjSReferenceIdeal.nD Cert.ProjSReferenceIdeal.τ).loc Cert.ProjSReferenceIdeal.main_arg7)
      ∧ r.2.mem ((c.tc : Thread Cert.ProjSReferenceIdeal.nD Cert.ProjSReferenceIdeal.τ).loc Cert.ProjSReferenceIdeal.main_arg8) = m ((c.tc : Thread Cert.ProjSReferenceIdeal.nD Cert.ProjSReferenceIdeal.τ).loc Cert.ProjSReferenceIdeal.main_arg8))
      ∧ r.2.sem = fun _ => 0)

def quiescent_ProjSReferenceIdeal_pre_ids_in_table [hProjSReferenceIdeal : Cert.ProjSReferenceIdeal.Facts] [hPre_ids_in_table : Cert.Pre_ids_in_table.Facts] : Prop :=
  ∀ (m : (ℓ : Loc Cert.ProjSReferenceIdeal.nD Cert.ProjSReferenceIdeal.τ Cert.ProjSReferenceIdeal.sig) → Buf (Elt Ideal) ℓ) (g : Dev Cert.ProjSReferenceIdeal.nD → PrngReg), Pre_ProjSReferenceIdeal_ids_in_table m →
    θ_run (Cert.ProjSReferenceIdeal.defs (F := Ideal)) (onTc (τ := Cert.ProjSReferenceIdeal.τ) (Cert.ProjSReferenceIdeal.main (F := Ideal))) ⟨m, fun _ => 0, g⟩ (fun r => (∀ c : Dev Cert.ProjSReferenceIdeal.nD,
      r.2.mem ((c.tc : Thread Cert.ProjSReferenceIdeal.nD Cert.ProjSReferenceIdeal.τ).loc Cert.ProjSReferenceIdeal.main_arg0) = m ((c.tc : Thread Cert.ProjSReferenceIdeal.nD Cert.ProjSReferenceIdeal.τ).loc Cert.ProjSReferenceIdeal.main_arg0)
      ∧ r.2.mem ((c.tc : Thread Cert.ProjSReferenceIdeal.nD Cert.ProjSReferenceIdeal.τ).loc Cert.ProjSReferenceIdeal.main_arg1) = m ((c.tc : Thread Cert.ProjSReferenceIdeal.nD Cert.ProjSReferenceIdeal.τ).loc Cert.ProjSReferenceIdeal.main_arg1)
      ∧ r.2.mem ((c.tc : Thread Cert.ProjSReferenceIdeal.nD Cert.ProjSReferenceIdeal.τ).loc Cert.ProjSReferenceIdeal.main_arg2) = m ((c.tc : Thread Cert.ProjSReferenceIdeal.nD Cert.ProjSReferenceIdeal.τ).loc Cert.ProjSReferenceIdeal.main_arg2)
      ∧ r.2.mem ((c.tc : Thread Cert.ProjSReferenceIdeal.nD Cert.ProjSReferenceIdeal.τ).loc Cert.ProjSReferenceIdeal.main_arg3) = m ((c.tc : Thread Cert.ProjSReferenceIdeal.nD Cert.ProjSReferenceIdeal.τ).loc Cert.ProjSReferenceIdeal.main_arg3)
      ∧ r.2.mem ((c.tc : Thread Cert.ProjSReferenceIdeal.nD Cert.ProjSReferenceIdeal.τ).loc Cert.ProjSReferenceIdeal.main_arg4) = m ((c.tc : Thread Cert.ProjSReferenceIdeal.nD Cert.ProjSReferenceIdeal.τ).loc Cert.ProjSReferenceIdeal.main_arg4)
      ∧ r.2.mem ((c.tc : Thread Cert.ProjSReferenceIdeal.nD Cert.ProjSReferenceIdeal.τ).loc Cert.ProjSReferenceIdeal.main_arg5) = m ((c.tc : Thread Cert.ProjSReferenceIdeal.nD Cert.ProjSReferenceIdeal.τ).loc Cert.ProjSReferenceIdeal.main_arg5)
      ∧ r.2.mem ((c.tc : Thread Cert.ProjSReferenceIdeal.nD Cert.ProjSReferenceIdeal.τ).loc Cert.ProjSReferenceIdeal.main_arg6) = m ((c.tc : Thread Cert.ProjSReferenceIdeal.nD Cert.ProjSReferenceIdeal.τ).loc Cert.ProjSReferenceIdeal.main_arg6)
      ∧ r.2.mem ((c.tc : Thread Cert.ProjSReferenceIdeal.nD Cert.ProjSReferenceIdeal.τ).loc Cert.ProjSReferenceIdeal.main_arg7) = m ((c.tc : Thread Cert.ProjSReferenceIdeal.nD Cert.ProjSReferenceIdeal.τ).loc Cert.ProjSReferenceIdeal.main_arg7)
      ∧ r.2.mem ((c.tc : Thread Cert.ProjSReferenceIdeal.nD Cert.ProjSReferenceIdeal.τ).loc Cert.ProjSReferenceIdeal.main_arg8) = m ((c.tc : Thread Cert.ProjSReferenceIdeal.nD Cert.ProjSReferenceIdeal.τ).loc Cert.ProjSReferenceIdeal.main_arg8))
      ∧ r.2.sem = fun _ => 0)

def quiescent_SpatKernel [hSpatKernel : Cert.SpatKernel.Facts] : Prop :=
  ∀ (m : (ℓ : Loc Cert.SpatKernel.nD Cert.SpatKernel.τ Cert.SpatKernel.sig) → Buf (Elt Bits) ℓ) (g : Dev Cert.SpatKernel.nD → PrngReg), Pre_SpatKernel m →
    θ_run (Cert.SpatKernel.defs (F := Bits)) (onTc (τ := Cert.SpatKernel.τ) (Cert.SpatKernel.main (F := Bits))) ⟨m, fun _ => 0, g⟩ (fun r => (∀ c : Dev Cert.SpatKernel.nD,
      r.2.mem ((c.tc : Thread Cert.SpatKernel.nD Cert.SpatKernel.τ).loc Cert.SpatKernel.main_arg0) = m ((c.tc : Thread Cert.SpatKernel.nD Cert.SpatKernel.τ).loc Cert.SpatKernel.main_arg0)
      ∧ r.2.mem ((c.tc : Thread Cert.SpatKernel.nD Cert.SpatKernel.τ).loc Cert.SpatKernel.main_arg1) = m ((c.tc : Thread Cert.SpatKernel.nD Cert.SpatKernel.τ).loc Cert.SpatKernel.main_arg1)
      ∧ r.2.mem ((c.tc : Thread Cert.SpatKernel.nD Cert.SpatKernel.τ).loc Cert.SpatKernel.main_arg2) = m ((c.tc : Thread Cert.SpatKernel.nD Cert.SpatKernel.τ).loc Cert.SpatKernel.main_arg2)
      ∧ r.2.mem ((c.tc : Thread Cert.SpatKernel.nD Cert.SpatKernel.τ).loc Cert.SpatKernel.main_arg3) = m ((c.tc : Thread Cert.SpatKernel.nD Cert.SpatKernel.τ).loc Cert.SpatKernel.main_arg3)
      ∧ r.2.mem ((c.tc : Thread Cert.SpatKernel.nD Cert.SpatKernel.τ).loc Cert.SpatKernel.main_arg4) = m ((c.tc : Thread Cert.SpatKernel.nD Cert.SpatKernel.τ).loc Cert.SpatKernel.main_arg4))
      ∧ r.2.sem = fun _ => 0)

def quiescent_SpatKernelIdeal [hSpatKernelIdeal : Cert.SpatKernelIdeal.Facts] : Prop :=
  ∀ (m : (ℓ : Loc Cert.SpatKernelIdeal.nD Cert.SpatKernelIdeal.τ Cert.SpatKernelIdeal.sig) → Buf (Elt Ideal) ℓ) (g : Dev Cert.SpatKernelIdeal.nD → PrngReg), Pre_SpatKernelIdeal m →
    θ_run (Cert.SpatKernelIdeal.defs (F := Ideal)) (onTc (τ := Cert.SpatKernelIdeal.τ) (Cert.SpatKernelIdeal.main (F := Ideal))) ⟨m, fun _ => 0, g⟩ (fun r => (∀ c : Dev Cert.SpatKernelIdeal.nD,
      r.2.mem ((c.tc : Thread Cert.SpatKernelIdeal.nD Cert.SpatKernelIdeal.τ).loc Cert.SpatKernelIdeal.main_arg0) = m ((c.tc : Thread Cert.SpatKernelIdeal.nD Cert.SpatKernelIdeal.τ).loc Cert.SpatKernelIdeal.main_arg0)
      ∧ r.2.mem ((c.tc : Thread Cert.SpatKernelIdeal.nD Cert.SpatKernelIdeal.τ).loc Cert.SpatKernelIdeal.main_arg1) = m ((c.tc : Thread Cert.SpatKernelIdeal.nD Cert.SpatKernelIdeal.τ).loc Cert.SpatKernelIdeal.main_arg1)
      ∧ r.2.mem ((c.tc : Thread Cert.SpatKernelIdeal.nD Cert.SpatKernelIdeal.τ).loc Cert.SpatKernelIdeal.main_arg2) = m ((c.tc : Thread Cert.SpatKernelIdeal.nD Cert.SpatKernelIdeal.τ).loc Cert.SpatKernelIdeal.main_arg2)
      ∧ r.2.mem ((c.tc : Thread Cert.SpatKernelIdeal.nD Cert.SpatKernelIdeal.τ).loc Cert.SpatKernelIdeal.main_arg3) = m ((c.tc : Thread Cert.SpatKernelIdeal.nD Cert.SpatKernelIdeal.τ).loc Cert.SpatKernelIdeal.main_arg3)
      ∧ r.2.mem ((c.tc : Thread Cert.SpatKernelIdeal.nD Cert.SpatKernelIdeal.τ).loc Cert.SpatKernelIdeal.main_arg4) = m ((c.tc : Thread Cert.SpatKernelIdeal.nD Cert.SpatKernelIdeal.τ).loc Cert.SpatKernelIdeal.main_arg4))
      ∧ r.2.sem = fun _ => 0)

def quiescent_SpatReferenceIdeal [hSpatReferenceIdeal : Cert.SpatReferenceIdeal.Facts] : Prop :=
  ∀ (m : (ℓ : Loc Cert.SpatReferenceIdeal.nD Cert.SpatReferenceIdeal.τ Cert.SpatReferenceIdeal.sig) → Buf (Elt Ideal) ℓ) (g : Dev Cert.SpatReferenceIdeal.nD → PrngReg), Pre_SpatReferenceIdeal m →
    θ_run (Cert.SpatReferenceIdeal.defs (F := Ideal)) (onTc (τ := Cert.SpatReferenceIdeal.τ) (Cert.SpatReferenceIdeal.main (F := Ideal))) ⟨m, fun _ => 0, g⟩ (fun r => (∀ c : Dev Cert.SpatReferenceIdeal.nD,
      r.2.mem ((c.tc : Thread Cert.SpatReferenceIdeal.nD Cert.SpatReferenceIdeal.τ).loc Cert.SpatReferenceIdeal.main_arg0) = m ((c.tc : Thread Cert.SpatReferenceIdeal.nD Cert.SpatReferenceIdeal.τ).loc Cert.SpatReferenceIdeal.main_arg0)
      ∧ r.2.mem ((c.tc : Thread Cert.SpatReferenceIdeal.nD Cert.SpatReferenceIdeal.τ).loc Cert.SpatReferenceIdeal.main_arg1) = m ((c.tc : Thread Cert.SpatReferenceIdeal.nD Cert.SpatReferenceIdeal.τ).loc Cert.SpatReferenceIdeal.main_arg1)
      ∧ r.2.mem ((c.tc : Thread Cert.SpatReferenceIdeal.nD Cert.SpatReferenceIdeal.τ).loc Cert.SpatReferenceIdeal.main_arg2) = m ((c.tc : Thread Cert.SpatReferenceIdeal.nD Cert.SpatReferenceIdeal.τ).loc Cert.SpatReferenceIdeal.main_arg2)
      ∧ r.2.mem ((c.tc : Thread Cert.SpatReferenceIdeal.nD Cert.SpatReferenceIdeal.τ).loc Cert.SpatReferenceIdeal.main_arg3) = m ((c.tc : Thread Cert.SpatReferenceIdeal.nD Cert.SpatReferenceIdeal.τ).loc Cert.SpatReferenceIdeal.main_arg3)
      ∧ r.2.mem ((c.tc : Thread Cert.SpatReferenceIdeal.nD Cert.SpatReferenceIdeal.τ).loc Cert.SpatReferenceIdeal.main_arg4) = m ((c.tc : Thread Cert.SpatReferenceIdeal.nD Cert.SpatReferenceIdeal.τ).loc Cert.SpatReferenceIdeal.main_arg4))
      ∧ r.2.sem = fun _ => 0)

def preserves_FcOneKernel_FcOneKernelIdeal : Prop :=
  True

def algebraic_FcOneKernelIdeal_FcOneReferenceIdeal [hFcOneKernelIdeal : Cert.FcOneKernelIdeal.Facts] [hFcOneReferenceIdeal : Cert.FcOneReferenceIdeal.Facts] : Prop :=
  ∀ (m : (ℓ : Loc Cert.FcOneKernelIdeal.nD Cert.FcOneKernelIdeal.τ Cert.FcOneKernelIdeal.sig) → Buf (Elt Ideal) ℓ) (g : Dev Cert.FcOneKernelIdeal.nD → PrngReg)
    (m' : (ℓ : Loc Cert.FcOneReferenceIdeal.nD Cert.FcOneReferenceIdeal.τ Cert.FcOneReferenceIdeal.sig) → Buf (Elt Ideal) ℓ) (g' : Dev Cert.FcOneReferenceIdeal.nD → PrngReg), Pre_FcOneKernelIdeal m →
    (∀ c : Dev Cert.FcOneKernelIdeal.nD,
      m' ((c.tc : Thread Cert.FcOneReferenceIdeal.nD Cert.FcOneReferenceIdeal.τ).loc Cert.FcOneReferenceIdeal.main_arg0) = m ((c.tc : Thread Cert.FcOneKernelIdeal.nD Cert.FcOneKernelIdeal.τ).loc Cert.FcOneKernelIdeal.main_arg0)
      ∧ m' ((c.tc : Thread Cert.FcOneReferenceIdeal.nD Cert.FcOneReferenceIdeal.τ).loc Cert.FcOneReferenceIdeal.main_arg1) = m ((c.tc : Thread Cert.FcOneKernelIdeal.nD Cert.FcOneKernelIdeal.τ).loc Cert.FcOneKernelIdeal.main_arg1)
      ∧ m' ((c.tc : Thread Cert.FcOneReferenceIdeal.nD Cert.FcOneReferenceIdeal.τ).loc Cert.FcOneReferenceIdeal.main_arg2) = m ((c.tc : Thread Cert.FcOneKernelIdeal.nD Cert.FcOneKernelIdeal.τ).loc Cert.FcOneKernelIdeal.main_arg2)
      ∧ m' ((c.tc : Thread Cert.FcOneReferenceIdeal.nD Cert.FcOneReferenceIdeal.τ).loc Cert.FcOneReferenceIdeal.main_arg3) = m ((c.tc : Thread Cert.FcOneKernelIdeal.nD Cert.FcOneKernelIdeal.τ).loc Cert.FcOneKernelIdeal.main_arg3)
      ∧ m' ((c.tc : Thread Cert.FcOneReferenceIdeal.nD Cert.FcOneReferenceIdeal.τ).loc Cert.FcOneReferenceIdeal.main_arg4) = m ((c.tc : Thread Cert.FcOneKernelIdeal.nD Cert.FcOneKernelIdeal.τ).loc Cert.FcOneKernelIdeal.main_arg4)) →
    ∃ (v0 : (c : Dev Cert.FcOneKernelIdeal.nD) → Buf (Elt Ideal) ((c.tc : Thread Cert.FcOneKernelIdeal.nD Cert.FcOneKernelIdeal.τ).loc Cert.FcOneKernelIdeal.main_v4_0)) (v1 : (c : Dev Cert.FcOneKernelIdeal.nD) → Buf (Elt Ideal) ((c.tc : Thread Cert.FcOneKernelIdeal.nD Cert.FcOneKernelIdeal.τ).loc Cert.FcOneKernelIdeal.main_v4_1)),
      θ_run (Cert.FcOneKernelIdeal.defs (F := Ideal)) (onTc (τ := Cert.FcOneKernelIdeal.τ) (Cert.FcOneKernelIdeal.main (F := Ideal))) ⟨m, fun _ => 0, g⟩ (fun r => ∀ c : Dev Cert.FcOneKernelIdeal.nD,
          r.2.mem ((c.tc : Thread Cert.FcOneKernelIdeal.nD Cert.FcOneKernelIdeal.τ).loc Cert.FcOneKernelIdeal.main_v4_0) = v0 c
          ∧ r.2.mem ((c.tc : Thread Cert.FcOneKernelIdeal.nD Cert.FcOneKernelIdeal.τ).loc Cert.FcOneKernelIdeal.main_v4_1) = v1 c
          ∧ r.2.mem ((c.tc : Thread Cert.FcOneKernelIdeal.nD Cert.FcOneKernelIdeal.τ).loc Cert.FcOneKernelIdeal.main_arg0) = m ((c.tc : Thread Cert.FcOneKernelIdeal.nD Cert.FcOneKernelIdeal.τ).loc Cert.FcOneKernelIdeal.main_arg0)
          ∧ r.2.mem ((c.tc : Thread Cert.FcOneKernelIdeal.nD Cert.FcOneKernelIdeal.τ).loc Cert.FcOneKernelIdeal.main_arg1) = m ((c.tc : Thread Cert.FcOneKernelIdeal.nD Cert.FcOneKernelIdeal.τ).loc Cert.FcOneKernelIdeal.main_arg1)
          ∧ r.2.mem ((c.tc : Thread Cert.FcOneKernelIdeal.nD Cert.FcOneKernelIdeal.τ).loc Cert.FcOneKernelIdeal.main_arg2) = m ((c.tc : Thread Cert.FcOneKernelIdeal.nD Cert.FcOneKernelIdeal.τ).loc Cert.FcOneKernelIdeal.main_arg2)
          ∧ r.2.mem ((c.tc : Thread Cert.FcOneKernelIdeal.nD Cert.FcOneKernelIdeal.τ).loc Cert.FcOneKernelIdeal.main_arg3) = m ((c.tc : Thread Cert.FcOneKernelIdeal.nD Cert.FcOneKernelIdeal.τ).loc Cert.FcOneKernelIdeal.main_arg3)
          ∧ r.2.mem ((c.tc : Thread Cert.FcOneKernelIdeal.nD Cert.FcOneKernelIdeal.τ).loc Cert.FcOneKernelIdeal.main_arg4) = m ((c.tc : Thread Cert.FcOneKernelIdeal.nD Cert.FcOneKernelIdeal.τ).loc Cert.FcOneKernelIdeal.main_arg4))
      ∧ θ_run (Cert.FcOneReferenceIdeal.defs (F := Ideal)) (onTc (τ := Cert.FcOneReferenceIdeal.τ) (Cert.FcOneReferenceIdeal.main (F := Ideal))) ⟨m', fun _ => 0, g'⟩ (fun r => ∀ c : Dev Cert.FcOneReferenceIdeal.nD,
          r.2.mem ((c.tc : Thread Cert.FcOneReferenceIdeal.nD Cert.FcOneReferenceIdeal.τ).loc Cert.FcOneReferenceIdeal.main_v3_0) = v0 c
          ∧ r.2.mem ((c.tc : Thread Cert.FcOneReferenceIdeal.nD Cert.FcOneReferenceIdeal.τ).loc Cert.FcOneReferenceIdeal.main_v3_1) = v1 c
          ∧ r.2.mem ((c.tc : Thread Cert.FcOneReferenceIdeal.nD Cert.FcOneReferenceIdeal.τ).loc Cert.FcOneReferenceIdeal.main_arg0) = m' ((c.tc : Thread Cert.FcOneReferenceIdeal.nD Cert.FcOneReferenceIdeal.τ).loc Cert.FcOneReferenceIdeal.main_arg0)
          ∧ r.2.mem ((c.tc : Thread Cert.FcOneReferenceIdeal.nD Cert.FcOneReferenceIdeal.τ).loc Cert.FcOneReferenceIdeal.main_arg1) = m' ((c.tc : Thread Cert.FcOneReferenceIdeal.nD Cert.FcOneReferenceIdeal.τ).loc Cert.FcOneReferenceIdeal.main_arg1)
          ∧ r.2.mem ((c.tc : Thread Cert.FcOneReferenceIdeal.nD Cert.FcOneReferenceIdeal.τ).loc Cert.FcOneReferenceIdeal.main_arg2) = m' ((c.tc : Thread Cert.FcOneReferenceIdeal.nD Cert.FcOneReferenceIdeal.τ).loc Cert.FcOneReferenceIdeal.main_arg2)
          ∧ r.2.mem ((c.tc : Thread Cert.FcOneReferenceIdeal.nD Cert.FcOneReferenceIdeal.τ).loc Cert.FcOneReferenceIdeal.main_arg3) = m' ((c.tc : Thread Cert.FcOneReferenceIdeal.nD Cert.FcOneReferenceIdeal.τ).loc Cert.FcOneReferenceIdeal.main_arg3)
          ∧ r.2.mem ((c.tc : Thread Cert.FcOneReferenceIdeal.nD Cert.FcOneReferenceIdeal.τ).loc Cert.FcOneReferenceIdeal.main_arg4) = m' ((c.tc : Thread Cert.FcOneReferenceIdeal.nD Cert.FcOneReferenceIdeal.τ).loc Cert.FcOneReferenceIdeal.main_arg4))

def preserves_FcTwoKernel_FcTwoKernelIdeal : Prop :=
  True

def algebraic_FcTwoKernelIdeal_FcTwoReferenceIdeal [hFcTwoKernelIdeal : Cert.FcTwoKernelIdeal.Facts] [hFcTwoReferenceIdeal : Cert.FcTwoReferenceIdeal.Facts] : Prop :=
  ∀ (m : (ℓ : Loc Cert.FcTwoKernelIdeal.nD Cert.FcTwoKernelIdeal.τ Cert.FcTwoKernelIdeal.sig) → Buf (Elt Ideal) ℓ) (g : Dev Cert.FcTwoKernelIdeal.nD → PrngReg)
    (m' : (ℓ : Loc Cert.FcTwoReferenceIdeal.nD Cert.FcTwoReferenceIdeal.τ Cert.FcTwoReferenceIdeal.sig) → Buf (Elt Ideal) ℓ) (g' : Dev Cert.FcTwoReferenceIdeal.nD → PrngReg), Pre_FcTwoKernelIdeal m →
    (∀ c : Dev Cert.FcTwoKernelIdeal.nD,
      m' ((c.tc : Thread Cert.FcTwoReferenceIdeal.nD Cert.FcTwoReferenceIdeal.τ).loc Cert.FcTwoReferenceIdeal.main_arg0) = m ((c.tc : Thread Cert.FcTwoKernelIdeal.nD Cert.FcTwoKernelIdeal.τ).loc Cert.FcTwoKernelIdeal.main_arg0)
      ∧ m' ((c.tc : Thread Cert.FcTwoReferenceIdeal.nD Cert.FcTwoReferenceIdeal.τ).loc Cert.FcTwoReferenceIdeal.main_arg1) = m ((c.tc : Thread Cert.FcTwoKernelIdeal.nD Cert.FcTwoKernelIdeal.τ).loc Cert.FcTwoKernelIdeal.main_arg1)
      ∧ m' ((c.tc : Thread Cert.FcTwoReferenceIdeal.nD Cert.FcTwoReferenceIdeal.τ).loc Cert.FcTwoReferenceIdeal.main_arg2) = m ((c.tc : Thread Cert.FcTwoKernelIdeal.nD Cert.FcTwoKernelIdeal.τ).loc Cert.FcTwoKernelIdeal.main_arg2)
      ∧ m' ((c.tc : Thread Cert.FcTwoReferenceIdeal.nD Cert.FcTwoReferenceIdeal.τ).loc Cert.FcTwoReferenceIdeal.main_arg3) = m ((c.tc : Thread Cert.FcTwoKernelIdeal.nD Cert.FcTwoKernelIdeal.τ).loc Cert.FcTwoKernelIdeal.main_arg3)
      ∧ m' ((c.tc : Thread Cert.FcTwoReferenceIdeal.nD Cert.FcTwoReferenceIdeal.τ).loc Cert.FcTwoReferenceIdeal.main_arg4) = m ((c.tc : Thread Cert.FcTwoKernelIdeal.nD Cert.FcTwoKernelIdeal.τ).loc Cert.FcTwoKernelIdeal.main_arg4)
      ∧ m' ((c.tc : Thread Cert.FcTwoReferenceIdeal.nD Cert.FcTwoReferenceIdeal.τ).loc Cert.FcTwoReferenceIdeal.main_arg5) = m ((c.tc : Thread Cert.FcTwoKernelIdeal.nD Cert.FcTwoKernelIdeal.τ).loc Cert.FcTwoKernelIdeal.main_arg5)) →
    ∃ (v0 : (c : Dev Cert.FcTwoKernelIdeal.nD) → Buf (Elt Ideal) ((c.tc : Thread Cert.FcTwoKernelIdeal.nD Cert.FcTwoKernelIdeal.τ).loc Cert.FcTwoKernelIdeal.main_v4_0)) (v1 : (c : Dev Cert.FcTwoKernelIdeal.nD) → Buf (Elt Ideal) ((c.tc : Thread Cert.FcTwoKernelIdeal.nD Cert.FcTwoKernelIdeal.τ).loc Cert.FcTwoKernelIdeal.main_v4_1)),
      θ_run (Cert.FcTwoKernelIdeal.defs (F := Ideal)) (onTc (τ := Cert.FcTwoKernelIdeal.τ) (Cert.FcTwoKernelIdeal.main (F := Ideal))) ⟨m, fun _ => 0, g⟩ (fun r => ∀ c : Dev Cert.FcTwoKernelIdeal.nD,
          r.2.mem ((c.tc : Thread Cert.FcTwoKernelIdeal.nD Cert.FcTwoKernelIdeal.τ).loc Cert.FcTwoKernelIdeal.main_v4_0) = v0 c
          ∧ r.2.mem ((c.tc : Thread Cert.FcTwoKernelIdeal.nD Cert.FcTwoKernelIdeal.τ).loc Cert.FcTwoKernelIdeal.main_v4_1) = v1 c
          ∧ r.2.mem ((c.tc : Thread Cert.FcTwoKernelIdeal.nD Cert.FcTwoKernelIdeal.τ).loc Cert.FcTwoKernelIdeal.main_arg0) = m ((c.tc : Thread Cert.FcTwoKernelIdeal.nD Cert.FcTwoKernelIdeal.τ).loc Cert.FcTwoKernelIdeal.main_arg0)
          ∧ r.2.mem ((c.tc : Thread Cert.FcTwoKernelIdeal.nD Cert.FcTwoKernelIdeal.τ).loc Cert.FcTwoKernelIdeal.main_arg1) = m ((c.tc : Thread Cert.FcTwoKernelIdeal.nD Cert.FcTwoKernelIdeal.τ).loc Cert.FcTwoKernelIdeal.main_arg1)
          ∧ r.2.mem ((c.tc : Thread Cert.FcTwoKernelIdeal.nD Cert.FcTwoKernelIdeal.τ).loc Cert.FcTwoKernelIdeal.main_arg2) = m ((c.tc : Thread Cert.FcTwoKernelIdeal.nD Cert.FcTwoKernelIdeal.τ).loc Cert.FcTwoKernelIdeal.main_arg2)
          ∧ r.2.mem ((c.tc : Thread Cert.FcTwoKernelIdeal.nD Cert.FcTwoKernelIdeal.τ).loc Cert.FcTwoKernelIdeal.main_arg3) = m ((c.tc : Thread Cert.FcTwoKernelIdeal.nD Cert.FcTwoKernelIdeal.τ).loc Cert.FcTwoKernelIdeal.main_arg3)
          ∧ r.2.mem ((c.tc : Thread Cert.FcTwoKernelIdeal.nD Cert.FcTwoKernelIdeal.τ).loc Cert.FcTwoKernelIdeal.main_arg4) = m ((c.tc : Thread Cert.FcTwoKernelIdeal.nD Cert.FcTwoKernelIdeal.τ).loc Cert.FcTwoKernelIdeal.main_arg4)
          ∧ r.2.mem ((c.tc : Thread Cert.FcTwoKernelIdeal.nD Cert.FcTwoKernelIdeal.τ).loc Cert.FcTwoKernelIdeal.main_arg5) = m ((c.tc : Thread Cert.FcTwoKernelIdeal.nD Cert.FcTwoKernelIdeal.τ).loc Cert.FcTwoKernelIdeal.main_arg5))
      ∧ θ_run (Cert.FcTwoReferenceIdeal.defs (F := Ideal)) (onTc (τ := Cert.FcTwoReferenceIdeal.τ) (Cert.FcTwoReferenceIdeal.main (F := Ideal))) ⟨m', fun _ => 0, g'⟩ (fun r => ∀ c : Dev Cert.FcTwoReferenceIdeal.nD,
          r.2.mem ((c.tc : Thread Cert.FcTwoReferenceIdeal.nD Cert.FcTwoReferenceIdeal.τ).loc Cert.FcTwoReferenceIdeal.main_v3_0) = v0 c
          ∧ r.2.mem ((c.tc : Thread Cert.FcTwoReferenceIdeal.nD Cert.FcTwoReferenceIdeal.τ).loc Cert.FcTwoReferenceIdeal.main_v3_1) = v1 c
          ∧ r.2.mem ((c.tc : Thread Cert.FcTwoReferenceIdeal.nD Cert.FcTwoReferenceIdeal.τ).loc Cert.FcTwoReferenceIdeal.main_arg0) = m' ((c.tc : Thread Cert.FcTwoReferenceIdeal.nD Cert.FcTwoReferenceIdeal.τ).loc Cert.FcTwoReferenceIdeal.main_arg0)
          ∧ r.2.mem ((c.tc : Thread Cert.FcTwoReferenceIdeal.nD Cert.FcTwoReferenceIdeal.τ).loc Cert.FcTwoReferenceIdeal.main_arg1) = m' ((c.tc : Thread Cert.FcTwoReferenceIdeal.nD Cert.FcTwoReferenceIdeal.τ).loc Cert.FcTwoReferenceIdeal.main_arg1)
          ∧ r.2.mem ((c.tc : Thread Cert.FcTwoReferenceIdeal.nD Cert.FcTwoReferenceIdeal.τ).loc Cert.FcTwoReferenceIdeal.main_arg2) = m' ((c.tc : Thread Cert.FcTwoReferenceIdeal.nD Cert.FcTwoReferenceIdeal.τ).loc Cert.FcTwoReferenceIdeal.main_arg2)
          ∧ r.2.mem ((c.tc : Thread Cert.FcTwoReferenceIdeal.nD Cert.FcTwoReferenceIdeal.τ).loc Cert.FcTwoReferenceIdeal.main_arg3) = m' ((c.tc : Thread Cert.FcTwoReferenceIdeal.nD Cert.FcTwoReferenceIdeal.τ).loc Cert.FcTwoReferenceIdeal.main_arg3)
          ∧ r.2.mem ((c.tc : Thread Cert.FcTwoReferenceIdeal.nD Cert.FcTwoReferenceIdeal.τ).loc Cert.FcTwoReferenceIdeal.main_arg4) = m' ((c.tc : Thread Cert.FcTwoReferenceIdeal.nD Cert.FcTwoReferenceIdeal.τ).loc Cert.FcTwoReferenceIdeal.main_arg4)
          ∧ r.2.mem ((c.tc : Thread Cert.FcTwoReferenceIdeal.nD Cert.FcTwoReferenceIdeal.τ).loc Cert.FcTwoReferenceIdeal.main_arg5) = m' ((c.tc : Thread Cert.FcTwoReferenceIdeal.nD Cert.FcTwoReferenceIdeal.τ).loc Cert.FcTwoReferenceIdeal.main_arg5))

def preserves_ProjTKernel_ProjTKernelIdeal : Prop :=
  True

def algebraic_ProjTKernelIdeal_ProjTReferenceIdeal [hProjTKernelIdeal : Cert.ProjTKernelIdeal.Facts] [hProjTReferenceIdeal : Cert.ProjTReferenceIdeal.Facts] : Prop :=
  ∀ (m : (ℓ : Loc Cert.ProjTKernelIdeal.nD Cert.ProjTKernelIdeal.τ Cert.ProjTKernelIdeal.sig) → Buf (Elt Ideal) ℓ) (g : Dev Cert.ProjTKernelIdeal.nD → PrngReg)
    (m' : (ℓ : Loc Cert.ProjTReferenceIdeal.nD Cert.ProjTReferenceIdeal.τ Cert.ProjTReferenceIdeal.sig) → Buf (Elt Ideal) ℓ) (g' : Dev Cert.ProjTReferenceIdeal.nD → PrngReg), Pre_ProjTKernelIdeal m →
    (∀ c : Dev Cert.ProjTKernelIdeal.nD,
      m' ((c.tc : Thread Cert.ProjTReferenceIdeal.nD Cert.ProjTReferenceIdeal.τ).loc Cert.ProjTReferenceIdeal.main_arg0) = m ((c.tc : Thread Cert.ProjTKernelIdeal.nD Cert.ProjTKernelIdeal.τ).loc Cert.ProjTKernelIdeal.main_arg0)
      ∧ m' ((c.tc : Thread Cert.ProjTReferenceIdeal.nD Cert.ProjTReferenceIdeal.τ).loc Cert.ProjTReferenceIdeal.main_arg1) = m ((c.tc : Thread Cert.ProjTKernelIdeal.nD Cert.ProjTKernelIdeal.τ).loc Cert.ProjTKernelIdeal.main_arg1)
      ∧ m' ((c.tc : Thread Cert.ProjTReferenceIdeal.nD Cert.ProjTReferenceIdeal.τ).loc Cert.ProjTReferenceIdeal.main_arg2) = m ((c.tc : Thread Cert.ProjTKernelIdeal.nD Cert.ProjTKernelIdeal.τ).loc Cert.ProjTKernelIdeal.main_arg2)
      ∧ m' ((c.tc : Thread Cert.ProjTReferenceIdeal.nD Cert.ProjTReferenceIdeal.τ).loc Cert.ProjTReferenceIdeal.main_arg3) = m ((c.tc : Thread Cert.ProjTKernelIdeal.nD Cert.ProjTKernelIdeal.τ).loc Cert.ProjTKernelIdeal.main_arg3)
      ∧ m' ((c.tc : Thread Cert.ProjTReferenceIdeal.nD Cert.ProjTReferenceIdeal.τ).loc Cert.ProjTReferenceIdeal.main_arg4) = m ((c.tc : Thread Cert.ProjTKernelIdeal.nD Cert.ProjTKernelIdeal.τ).loc Cert.ProjTKernelIdeal.main_arg4)
      ∧ m' ((c.tc : Thread Cert.ProjTReferenceIdeal.nD Cert.ProjTReferenceIdeal.τ).loc Cert.ProjTReferenceIdeal.main_arg5) = m ((c.tc : Thread Cert.ProjTKernelIdeal.nD Cert.ProjTKernelIdeal.τ).loc Cert.ProjTKernelIdeal.main_arg5)
      ∧ m' ((c.tc : Thread Cert.ProjTReferenceIdeal.nD Cert.ProjTReferenceIdeal.τ).loc Cert.ProjTReferenceIdeal.main_arg6) = m ((c.tc : Thread Cert.ProjTKernelIdeal.nD Cert.ProjTKernelIdeal.τ).loc Cert.ProjTKernelIdeal.main_arg6)
      ∧ m' ((c.tc : Thread Cert.ProjTReferenceIdeal.nD Cert.ProjTReferenceIdeal.τ).loc Cert.ProjTReferenceIdeal.main_arg7) = m ((c.tc : Thread Cert.ProjTKernelIdeal.nD Cert.ProjTKernelIdeal.τ).loc Cert.ProjTKernelIdeal.main_arg7)
      ∧ m' ((c.tc : Thread Cert.ProjTReferenceIdeal.nD Cert.ProjTReferenceIdeal.τ).loc Cert.ProjTReferenceIdeal.main_arg8) = m ((c.tc : Thread Cert.ProjTKernelIdeal.nD Cert.ProjTKernelIdeal.τ).loc Cert.ProjTKernelIdeal.main_arg8)) →
    ∃ (v0 : (c : Dev Cert.ProjTKernelIdeal.nD) → Buf (Elt Ideal) ((c.tc : Thread Cert.ProjTKernelIdeal.nD Cert.ProjTKernelIdeal.τ).loc Cert.ProjTKernelIdeal.main_v6_0)) (v1 : (c : Dev Cert.ProjTKernelIdeal.nD) → Buf (Elt Ideal) ((c.tc : Thread Cert.ProjTKernelIdeal.nD Cert.ProjTKernelIdeal.τ).loc Cert.ProjTKernelIdeal.main_v6_1)) (v2 : (c : Dev Cert.ProjTKernelIdeal.nD) → Buf (Elt Ideal) ((c.tc : Thread Cert.ProjTKernelIdeal.nD Cert.ProjTKernelIdeal.τ).loc Cert.ProjTKernelIdeal.main_v6_2)),
      θ_run (Cert.ProjTKernelIdeal.defs (F := Ideal)) (onTc (τ := Cert.ProjTKernelIdeal.τ) (Cert.ProjTKernelIdeal.main (F := Ideal))) ⟨m, fun _ => 0, g⟩ (fun r => ∀ c : Dev Cert.ProjTKernelIdeal.nD,
          r.2.mem ((c.tc : Thread Cert.ProjTKernelIdeal.nD Cert.ProjTKernelIdeal.τ).loc Cert.ProjTKernelIdeal.main_v6_0) = v0 c
          ∧ r.2.mem ((c.tc : Thread Cert.ProjTKernelIdeal.nD Cert.ProjTKernelIdeal.τ).loc Cert.ProjTKernelIdeal.main_v6_1) = v1 c
          ∧ r.2.mem ((c.tc : Thread Cert.ProjTKernelIdeal.nD Cert.ProjTKernelIdeal.τ).loc Cert.ProjTKernelIdeal.main_v6_2) = v2 c
          ∧ r.2.mem ((c.tc : Thread Cert.ProjTKernelIdeal.nD Cert.ProjTKernelIdeal.τ).loc Cert.ProjTKernelIdeal.main_arg0) = m ((c.tc : Thread Cert.ProjTKernelIdeal.nD Cert.ProjTKernelIdeal.τ).loc Cert.ProjTKernelIdeal.main_arg0)
          ∧ r.2.mem ((c.tc : Thread Cert.ProjTKernelIdeal.nD Cert.ProjTKernelIdeal.τ).loc Cert.ProjTKernelIdeal.main_arg1) = m ((c.tc : Thread Cert.ProjTKernelIdeal.nD Cert.ProjTKernelIdeal.τ).loc Cert.ProjTKernelIdeal.main_arg1)
          ∧ r.2.mem ((c.tc : Thread Cert.ProjTKernelIdeal.nD Cert.ProjTKernelIdeal.τ).loc Cert.ProjTKernelIdeal.main_arg2) = m ((c.tc : Thread Cert.ProjTKernelIdeal.nD Cert.ProjTKernelIdeal.τ).loc Cert.ProjTKernelIdeal.main_arg2)
          ∧ r.2.mem ((c.tc : Thread Cert.ProjTKernelIdeal.nD Cert.ProjTKernelIdeal.τ).loc Cert.ProjTKernelIdeal.main_arg3) = m ((c.tc : Thread Cert.ProjTKernelIdeal.nD Cert.ProjTKernelIdeal.τ).loc Cert.ProjTKernelIdeal.main_arg3)
          ∧ r.2.mem ((c.tc : Thread Cert.ProjTKernelIdeal.nD Cert.ProjTKernelIdeal.τ).loc Cert.ProjTKernelIdeal.main_arg4) = m ((c.tc : Thread Cert.ProjTKernelIdeal.nD Cert.ProjTKernelIdeal.τ).loc Cert.ProjTKernelIdeal.main_arg4)
          ∧ r.2.mem ((c.tc : Thread Cert.ProjTKernelIdeal.nD Cert.ProjTKernelIdeal.τ).loc Cert.ProjTKernelIdeal.main_arg5) = m ((c.tc : Thread Cert.ProjTKernelIdeal.nD Cert.ProjTKernelIdeal.τ).loc Cert.ProjTKernelIdeal.main_arg5)
          ∧ r.2.mem ((c.tc : Thread Cert.ProjTKernelIdeal.nD Cert.ProjTKernelIdeal.τ).loc Cert.ProjTKernelIdeal.main_arg6) = m ((c.tc : Thread Cert.ProjTKernelIdeal.nD Cert.ProjTKernelIdeal.τ).loc Cert.ProjTKernelIdeal.main_arg6)
          ∧ r.2.mem ((c.tc : Thread Cert.ProjTKernelIdeal.nD Cert.ProjTKernelIdeal.τ).loc Cert.ProjTKernelIdeal.main_arg7) = m ((c.tc : Thread Cert.ProjTKernelIdeal.nD Cert.ProjTKernelIdeal.τ).loc Cert.ProjTKernelIdeal.main_arg7)
          ∧ r.2.mem ((c.tc : Thread Cert.ProjTKernelIdeal.nD Cert.ProjTKernelIdeal.τ).loc Cert.ProjTKernelIdeal.main_arg8) = m ((c.tc : Thread Cert.ProjTKernelIdeal.nD Cert.ProjTKernelIdeal.τ).loc Cert.ProjTKernelIdeal.main_arg8))
      ∧ θ_run (Cert.ProjTReferenceIdeal.defs (F := Ideal)) (onTc (τ := Cert.ProjTReferenceIdeal.τ) (Cert.ProjTReferenceIdeal.main (F := Ideal))) ⟨m', fun _ => 0, g'⟩ (fun r => ∀ c : Dev Cert.ProjTReferenceIdeal.nD,
          r.2.mem ((c.tc : Thread Cert.ProjTReferenceIdeal.nD Cert.ProjTReferenceIdeal.τ).loc Cert.ProjTReferenceIdeal.main_v5_0) = v0 c
          ∧ r.2.mem ((c.tc : Thread Cert.ProjTReferenceIdeal.nD Cert.ProjTReferenceIdeal.τ).loc Cert.ProjTReferenceIdeal.main_v5_1) = v1 c
          ∧ r.2.mem ((c.tc : Thread Cert.ProjTReferenceIdeal.nD Cert.ProjTReferenceIdeal.τ).loc Cert.ProjTReferenceIdeal.main_v5_2) = v2 c
          ∧ r.2.mem ((c.tc : Thread Cert.ProjTReferenceIdeal.nD Cert.ProjTReferenceIdeal.τ).loc Cert.ProjTReferenceIdeal.main_arg0) = m' ((c.tc : Thread Cert.ProjTReferenceIdeal.nD Cert.ProjTReferenceIdeal.τ).loc Cert.ProjTReferenceIdeal.main_arg0)
          ∧ r.2.mem ((c.tc : Thread Cert.ProjTReferenceIdeal.nD Cert.ProjTReferenceIdeal.τ).loc Cert.ProjTReferenceIdeal.main_arg1) = m' ((c.tc : Thread Cert.ProjTReferenceIdeal.nD Cert.ProjTReferenceIdeal.τ).loc Cert.ProjTReferenceIdeal.main_arg1)
          ∧ r.2.mem ((c.tc : Thread Cert.ProjTReferenceIdeal.nD Cert.ProjTReferenceIdeal.τ).loc Cert.ProjTReferenceIdeal.main_arg2) = m' ((c.tc : Thread Cert.ProjTReferenceIdeal.nD Cert.ProjTReferenceIdeal.τ).loc Cert.ProjTReferenceIdeal.main_arg2)
          ∧ r.2.mem ((c.tc : Thread Cert.ProjTReferenceIdeal.nD Cert.ProjTReferenceIdeal.τ).loc Cert.ProjTReferenceIdeal.main_arg3) = m' ((c.tc : Thread Cert.ProjTReferenceIdeal.nD Cert.ProjTReferenceIdeal.τ).loc Cert.ProjTReferenceIdeal.main_arg3)
          ∧ r.2.mem ((c.tc : Thread Cert.ProjTReferenceIdeal.nD Cert.ProjTReferenceIdeal.τ).loc Cert.ProjTReferenceIdeal.main_arg4) = m' ((c.tc : Thread Cert.ProjTReferenceIdeal.nD Cert.ProjTReferenceIdeal.τ).loc Cert.ProjTReferenceIdeal.main_arg4)
          ∧ r.2.mem ((c.tc : Thread Cert.ProjTReferenceIdeal.nD Cert.ProjTReferenceIdeal.τ).loc Cert.ProjTReferenceIdeal.main_arg5) = m' ((c.tc : Thread Cert.ProjTReferenceIdeal.nD Cert.ProjTReferenceIdeal.τ).loc Cert.ProjTReferenceIdeal.main_arg5)
          ∧ r.2.mem ((c.tc : Thread Cert.ProjTReferenceIdeal.nD Cert.ProjTReferenceIdeal.τ).loc Cert.ProjTReferenceIdeal.main_arg6) = m' ((c.tc : Thread Cert.ProjTReferenceIdeal.nD Cert.ProjTReferenceIdeal.τ).loc Cert.ProjTReferenceIdeal.main_arg6)
          ∧ r.2.mem ((c.tc : Thread Cert.ProjTReferenceIdeal.nD Cert.ProjTReferenceIdeal.τ).loc Cert.ProjTReferenceIdeal.main_arg7) = m' ((c.tc : Thread Cert.ProjTReferenceIdeal.nD Cert.ProjTReferenceIdeal.τ).loc Cert.ProjTReferenceIdeal.main_arg7)
          ∧ r.2.mem ((c.tc : Thread Cert.ProjTReferenceIdeal.nD Cert.ProjTReferenceIdeal.τ).loc Cert.ProjTReferenceIdeal.main_arg8) = m' ((c.tc : Thread Cert.ProjTReferenceIdeal.nD Cert.ProjTReferenceIdeal.τ).loc Cert.ProjTReferenceIdeal.main_arg8))

def preserves_ProjSKernel_ProjSKernelIdeal : Prop :=
  True

def algebraic_ProjSKernelIdeal_ProjSReferenceIdeal [hProjSKernelIdeal : Cert.ProjSKernelIdeal.Facts] [hProjSReferenceIdeal : Cert.ProjSReferenceIdeal.Facts] [hPre_ids_in_table : Cert.Pre_ids_in_table.Facts] : Prop :=
  ∀ (m : (ℓ : Loc Cert.ProjSKernelIdeal.nD Cert.ProjSKernelIdeal.τ Cert.ProjSKernelIdeal.sig) → Buf (Elt Ideal) ℓ) (g : Dev Cert.ProjSKernelIdeal.nD → PrngReg)
    (m' : (ℓ : Loc Cert.ProjSReferenceIdeal.nD Cert.ProjSReferenceIdeal.τ Cert.ProjSReferenceIdeal.sig) → Buf (Elt Ideal) ℓ) (g' : Dev Cert.ProjSReferenceIdeal.nD → PrngReg), Pre_ProjSKernelIdeal m →
    (∀ c : Dev Cert.ProjSKernelIdeal.nD,
      m' ((c.tc : Thread Cert.ProjSReferenceIdeal.nD Cert.ProjSReferenceIdeal.τ).loc Cert.ProjSReferenceIdeal.main_arg0) = m ((c.tc : Thread Cert.ProjSKernelIdeal.nD Cert.ProjSKernelIdeal.τ).loc Cert.ProjSKernelIdeal.main_arg0)
      ∧ m' ((c.tc : Thread Cert.ProjSReferenceIdeal.nD Cert.ProjSReferenceIdeal.τ).loc Cert.ProjSReferenceIdeal.main_arg1) = m ((c.tc : Thread Cert.ProjSKernelIdeal.nD Cert.ProjSKernelIdeal.τ).loc Cert.ProjSKernelIdeal.main_arg1)
      ∧ m' ((c.tc : Thread Cert.ProjSReferenceIdeal.nD Cert.ProjSReferenceIdeal.τ).loc Cert.ProjSReferenceIdeal.main_arg2) = m ((c.tc : Thread Cert.ProjSKernelIdeal.nD Cert.ProjSKernelIdeal.τ).loc Cert.ProjSKernelIdeal.main_arg2)
      ∧ m' ((c.tc : Thread Cert.ProjSReferenceIdeal.nD Cert.ProjSReferenceIdeal.τ).loc Cert.ProjSReferenceIdeal.main_arg3) = m ((c.tc : Thread Cert.ProjSKernelIdeal.nD Cert.ProjSKernelIdeal.τ).loc Cert.ProjSKernelIdeal.main_arg3)
      ∧ m' ((c.tc : Thread Cert.ProjSReferenceIdeal.nD Cert.ProjSReferenceIdeal.τ).loc Cert.ProjSReferenceIdeal.main_arg4) = m ((c.tc : Thread Cert.ProjSKernelIdeal.nD Cert.ProjSKernelIdeal.τ).loc Cert.ProjSKernelIdeal.main_arg4)
      ∧ m' ((c.tc : Thread Cert.ProjSReferenceIdeal.nD Cert.ProjSReferenceIdeal.τ).loc Cert.ProjSReferenceIdeal.main_arg5) = m ((c.tc : Thread Cert.ProjSKernelIdeal.nD Cert.ProjSKernelIdeal.τ).loc Cert.ProjSKernelIdeal.main_arg5)
      ∧ m' ((c.tc : Thread Cert.ProjSReferenceIdeal.nD Cert.ProjSReferenceIdeal.τ).loc Cert.ProjSReferenceIdeal.main_arg6) = m ((c.tc : Thread Cert.ProjSKernelIdeal.nD Cert.ProjSKernelIdeal.τ).loc Cert.ProjSKernelIdeal.main_arg6)
      ∧ m' ((c.tc : Thread Cert.ProjSReferenceIdeal.nD Cert.ProjSReferenceIdeal.τ).loc Cert.ProjSReferenceIdeal.main_arg7) = m ((c.tc : Thread Cert.ProjSKernelIdeal.nD Cert.ProjSKernelIdeal.τ).loc Cert.ProjSKernelIdeal.main_arg7)
      ∧ m' ((c.tc : Thread Cert.ProjSReferenceIdeal.nD Cert.ProjSReferenceIdeal.τ).loc Cert.ProjSReferenceIdeal.main_arg8) = m ((c.tc : Thread Cert.ProjSKernelIdeal.nD Cert.ProjSKernelIdeal.τ).loc Cert.ProjSKernelIdeal.main_arg8)) →
    ∃ (v0 : (c : Dev Cert.ProjSKernelIdeal.nD) → Buf (Elt Ideal) ((c.tc : Thread Cert.ProjSKernelIdeal.nD Cert.ProjSKernelIdeal.τ).loc Cert.ProjSKernelIdeal.main_v7_0)) (v1 : (c : Dev Cert.ProjSKernelIdeal.nD) → Buf (Elt Ideal) ((c.tc : Thread Cert.ProjSKernelIdeal.nD Cert.ProjSKernelIdeal.τ).loc Cert.ProjSKernelIdeal.main_v7_1)) (v2 : (c : Dev Cert.ProjSKernelIdeal.nD) → Buf (Elt Ideal) ((c.tc : Thread Cert.ProjSKernelIdeal.nD Cert.ProjSKernelIdeal.τ).loc Cert.ProjSKernelIdeal.main_v7_2)),
      θ_run (Cert.ProjSKernelIdeal.defs (F := Ideal)) (onTc (τ := Cert.ProjSKernelIdeal.τ) (Cert.ProjSKernelIdeal.main (F := Ideal))) ⟨m, fun _ => 0, g⟩ (fun r => ∀ c : Dev Cert.ProjSKernelIdeal.nD,
          r.2.mem ((c.tc : Thread Cert.ProjSKernelIdeal.nD Cert.ProjSKernelIdeal.τ).loc Cert.ProjSKernelIdeal.main_v7_0) = v0 c
          ∧ r.2.mem ((c.tc : Thread Cert.ProjSKernelIdeal.nD Cert.ProjSKernelIdeal.τ).loc Cert.ProjSKernelIdeal.main_v7_1) = v1 c
          ∧ r.2.mem ((c.tc : Thread Cert.ProjSKernelIdeal.nD Cert.ProjSKernelIdeal.τ).loc Cert.ProjSKernelIdeal.main_v7_2) = v2 c
          ∧ r.2.mem ((c.tc : Thread Cert.ProjSKernelIdeal.nD Cert.ProjSKernelIdeal.τ).loc Cert.ProjSKernelIdeal.main_arg0) = m ((c.tc : Thread Cert.ProjSKernelIdeal.nD Cert.ProjSKernelIdeal.τ).loc Cert.ProjSKernelIdeal.main_arg0)
          ∧ r.2.mem ((c.tc : Thread Cert.ProjSKernelIdeal.nD Cert.ProjSKernelIdeal.τ).loc Cert.ProjSKernelIdeal.main_arg1) = m ((c.tc : Thread Cert.ProjSKernelIdeal.nD Cert.ProjSKernelIdeal.τ).loc Cert.ProjSKernelIdeal.main_arg1)
          ∧ r.2.mem ((c.tc : Thread Cert.ProjSKernelIdeal.nD Cert.ProjSKernelIdeal.τ).loc Cert.ProjSKernelIdeal.main_arg2) = m ((c.tc : Thread Cert.ProjSKernelIdeal.nD Cert.ProjSKernelIdeal.τ).loc Cert.ProjSKernelIdeal.main_arg2)
          ∧ r.2.mem ((c.tc : Thread Cert.ProjSKernelIdeal.nD Cert.ProjSKernelIdeal.τ).loc Cert.ProjSKernelIdeal.main_arg3) = m ((c.tc : Thread Cert.ProjSKernelIdeal.nD Cert.ProjSKernelIdeal.τ).loc Cert.ProjSKernelIdeal.main_arg3)
          ∧ r.2.mem ((c.tc : Thread Cert.ProjSKernelIdeal.nD Cert.ProjSKernelIdeal.τ).loc Cert.ProjSKernelIdeal.main_arg4) = m ((c.tc : Thread Cert.ProjSKernelIdeal.nD Cert.ProjSKernelIdeal.τ).loc Cert.ProjSKernelIdeal.main_arg4)
          ∧ r.2.mem ((c.tc : Thread Cert.ProjSKernelIdeal.nD Cert.ProjSKernelIdeal.τ).loc Cert.ProjSKernelIdeal.main_arg5) = m ((c.tc : Thread Cert.ProjSKernelIdeal.nD Cert.ProjSKernelIdeal.τ).loc Cert.ProjSKernelIdeal.main_arg5)
          ∧ r.2.mem ((c.tc : Thread Cert.ProjSKernelIdeal.nD Cert.ProjSKernelIdeal.τ).loc Cert.ProjSKernelIdeal.main_arg6) = m ((c.tc : Thread Cert.ProjSKernelIdeal.nD Cert.ProjSKernelIdeal.τ).loc Cert.ProjSKernelIdeal.main_arg6)
          ∧ r.2.mem ((c.tc : Thread Cert.ProjSKernelIdeal.nD Cert.ProjSKernelIdeal.τ).loc Cert.ProjSKernelIdeal.main_arg7) = m ((c.tc : Thread Cert.ProjSKernelIdeal.nD Cert.ProjSKernelIdeal.τ).loc Cert.ProjSKernelIdeal.main_arg7)
          ∧ r.2.mem ((c.tc : Thread Cert.ProjSKernelIdeal.nD Cert.ProjSKernelIdeal.τ).loc Cert.ProjSKernelIdeal.main_arg8) = m ((c.tc : Thread Cert.ProjSKernelIdeal.nD Cert.ProjSKernelIdeal.τ).loc Cert.ProjSKernelIdeal.main_arg8))
      ∧ θ_run (Cert.ProjSReferenceIdeal.defs (F := Ideal)) (onTc (τ := Cert.ProjSReferenceIdeal.τ) (Cert.ProjSReferenceIdeal.main (F := Ideal))) ⟨m', fun _ => 0, g'⟩ (fun r => ∀ c : Dev Cert.ProjSReferenceIdeal.nD,
          r.2.mem ((c.tc : Thread Cert.ProjSReferenceIdeal.nD Cert.ProjSReferenceIdeal.τ).loc Cert.ProjSReferenceIdeal.main_v17_0) = v0 c
          ∧ r.2.mem ((c.tc : Thread Cert.ProjSReferenceIdeal.nD Cert.ProjSReferenceIdeal.τ).loc Cert.ProjSReferenceIdeal.main_v17_1) = v1 c
          ∧ r.2.mem ((c.tc : Thread Cert.ProjSReferenceIdeal.nD Cert.ProjSReferenceIdeal.τ).loc Cert.ProjSReferenceIdeal.main_v17_2) = v2 c
          ∧ r.2.mem ((c.tc : Thread Cert.ProjSReferenceIdeal.nD Cert.ProjSReferenceIdeal.τ).loc Cert.ProjSReferenceIdeal.main_arg0) = m' ((c.tc : Thread Cert.ProjSReferenceIdeal.nD Cert.ProjSReferenceIdeal.τ).loc Cert.ProjSReferenceIdeal.main_arg0)
          ∧ r.2.mem ((c.tc : Thread Cert.ProjSReferenceIdeal.nD Cert.ProjSReferenceIdeal.τ).loc Cert.ProjSReferenceIdeal.main_arg1) = m' ((c.tc : Thread Cert.ProjSReferenceIdeal.nD Cert.ProjSReferenceIdeal.τ).loc Cert.ProjSReferenceIdeal.main_arg1)
          ∧ r.2.mem ((c.tc : Thread Cert.ProjSReferenceIdeal.nD Cert.ProjSReferenceIdeal.τ).loc Cert.ProjSReferenceIdeal.main_arg2) = m' ((c.tc : Thread Cert.ProjSReferenceIdeal.nD Cert.ProjSReferenceIdeal.τ).loc Cert.ProjSReferenceIdeal.main_arg2)
          ∧ r.2.mem ((c.tc : Thread Cert.ProjSReferenceIdeal.nD Cert.ProjSReferenceIdeal.τ).loc Cert.ProjSReferenceIdeal.main_arg3) = m' ((c.tc : Thread Cert.ProjSReferenceIdeal.nD Cert.ProjSReferenceIdeal.τ).loc Cert.ProjSReferenceIdeal.main_arg3)
          ∧ r.2.mem ((c.tc : Thread Cert.ProjSReferenceIdeal.nD Cert.ProjSReferenceIdeal.τ).loc Cert.ProjSReferenceIdeal.main_arg4) = m' ((c.tc : Thread Cert.ProjSReferenceIdeal.nD Cert.ProjSReferenceIdeal.τ).loc Cert.ProjSReferenceIdeal.main_arg4)
          ∧ r.2.mem ((c.tc : Thread Cert.ProjSReferenceIdeal.nD Cert.ProjSReferenceIdeal.τ).loc Cert.ProjSReferenceIdeal.main_arg5) = m' ((c.tc : Thread Cert.ProjSReferenceIdeal.nD Cert.ProjSReferenceIdeal.τ).loc Cert.ProjSReferenceIdeal.main_arg5)
          ∧ r.2.mem ((c.tc : Thread Cert.ProjSReferenceIdeal.nD Cert.ProjSReferenceIdeal.τ).loc Cert.ProjSReferenceIdeal.main_arg6) = m' ((c.tc : Thread Cert.ProjSReferenceIdeal.nD Cert.ProjSReferenceIdeal.τ).loc Cert.ProjSReferenceIdeal.main_arg6)
          ∧ r.2.mem ((c.tc : Thread Cert.ProjSReferenceIdeal.nD Cert.ProjSReferenceIdeal.τ).loc Cert.ProjSReferenceIdeal.main_arg7) = m' ((c.tc : Thread Cert.ProjSReferenceIdeal.nD Cert.ProjSReferenceIdeal.τ).loc Cert.ProjSReferenceIdeal.main_arg7)
          ∧ r.2.mem ((c.tc : Thread Cert.ProjSReferenceIdeal.nD Cert.ProjSReferenceIdeal.τ).loc Cert.ProjSReferenceIdeal.main_arg8) = m' ((c.tc : Thread Cert.ProjSReferenceIdeal.nD Cert.ProjSReferenceIdeal.τ).loc Cert.ProjSReferenceIdeal.main_arg8))

def preserves_SpatKernel_SpatKernelIdeal : Prop :=
  True

def algebraic_SpatKernelIdeal_SpatReferenceIdeal_on_norm_results [hSpatKernelIdeal : Cert.SpatKernelIdeal.Facts] [hSpatReferenceIdeal : Cert.SpatReferenceIdeal.Facts] [hOn_norm_results : Cert.On_norm_results.Facts] : Prop :=
  ∀ (m : (ℓ : Loc Cert.SpatKernelIdeal.nD Cert.SpatKernelIdeal.τ Cert.SpatKernelIdeal.sig) → Buf (Elt Ideal) ℓ) (g : Dev Cert.SpatKernelIdeal.nD → PrngReg)
    (m' : (ℓ : Loc Cert.SpatReferenceIdeal.nD Cert.SpatReferenceIdeal.τ Cert.SpatReferenceIdeal.sig) → Buf (Elt Ideal) ℓ) (g' : Dev Cert.SpatReferenceIdeal.nD → PrngReg), Pre_SpatKernelIdeal m →
    (∀ c : Dev Cert.SpatKernelIdeal.nD,
      m' ((c.tc : Thread Cert.SpatReferenceIdeal.nD Cert.SpatReferenceIdeal.τ).loc Cert.SpatReferenceIdeal.main_arg0) = m ((c.tc : Thread Cert.SpatKernelIdeal.nD Cert.SpatKernelIdeal.τ).loc Cert.SpatKernelIdeal.main_arg0)
      ∧ m' ((c.tc : Thread Cert.SpatReferenceIdeal.nD Cert.SpatReferenceIdeal.τ).loc Cert.SpatReferenceIdeal.main_arg1) = m ((c.tc : Thread Cert.SpatKernelIdeal.nD Cert.SpatKernelIdeal.τ).loc Cert.SpatKernelIdeal.main_arg1)
      ∧ m' ((c.tc : Thread Cert.SpatReferenceIdeal.nD Cert.SpatReferenceIdeal.τ).loc Cert.SpatReferenceIdeal.main_arg2) = m ((c.tc : Thread Cert.SpatKernelIdeal.nD Cert.SpatKernelIdeal.τ).loc Cert.SpatKernelIdeal.main_arg2)
      ∧ m' ((c.tc : Thread Cert.SpatReferenceIdeal.nD Cert.SpatReferenceIdeal.τ).loc Cert.SpatReferenceIdeal.main_arg3) = m ((c.tc : Thread Cert.SpatKernelIdeal.nD Cert.SpatKernelIdeal.τ).loc Cert.SpatKernelIdeal.main_arg3)
      ∧ m' ((c.tc : Thread Cert.SpatReferenceIdeal.nD Cert.SpatReferenceIdeal.τ).loc Cert.SpatReferenceIdeal.main_arg4) = m ((c.tc : Thread Cert.SpatKernelIdeal.nD Cert.SpatKernelIdeal.τ).loc Cert.SpatKernelIdeal.main_arg4)) →
    ∃ (v0 : (c : Dev Cert.SpatKernelIdeal.nD) → Buf (Elt Ideal) ((c.tc : Thread Cert.SpatKernelIdeal.nD Cert.SpatKernelIdeal.τ).loc Cert.SpatKernelIdeal.main_v6_0)) (v1 : (c : Dev Cert.SpatKernelIdeal.nD) → Buf (Elt Ideal) ((c.tc : Thread Cert.SpatKernelIdeal.nD Cert.SpatKernelIdeal.τ).loc Cert.SpatKernelIdeal.main_v6_1)) (v2 : (c : Dev Cert.SpatKernelIdeal.nD) → Buf (Elt Ideal) ((c.tc : Thread Cert.SpatKernelIdeal.nD Cert.SpatKernelIdeal.τ).loc Cert.SpatKernelIdeal.main_v6_2)) (v3 : (c : Dev Cert.SpatKernelIdeal.nD) → Buf (Elt Ideal) ((c.tc : Thread Cert.SpatKernelIdeal.nD Cert.SpatKernelIdeal.τ).loc Cert.SpatKernelIdeal.main_v6_3)),
      θ_run (Cert.SpatKernelIdeal.defs (F := Ideal)) (onTc (τ := Cert.SpatKernelIdeal.τ) (Cert.SpatKernelIdeal.main (F := Ideal))) ⟨m, fun _ => 0, g⟩ (fun r => ∀ c : Dev Cert.SpatKernelIdeal.nD,
          (∀ i : (⟨2, ![1024, 2560]⟩ : Shape).Idx, (Cert.On_norm_results.fn (F := Ideal) (m ((c.tc : Thread Cert.SpatKernelIdeal.nD Cert.SpatKernelIdeal.τ).loc Cert.SpatKernelIdeal.main_arg0)) (m ((c.tc : Thread Cert.SpatKernelIdeal.nD Cert.SpatKernelIdeal.τ).loc Cert.SpatKernelIdeal.main_arg1)) (m ((c.tc : Thread Cert.SpatKernelIdeal.nD Cert.SpatKernelIdeal.τ).loc Cert.SpatKernelIdeal.main_arg2)) (m ((c.tc : Thread Cert.SpatKernelIdeal.nD Cert.SpatKernelIdeal.τ).loc Cert.SpatKernelIdeal.main_arg3)) (m ((c.tc : Thread Cert.SpatKernelIdeal.nD Cert.SpatKernelIdeal.τ).loc Cert.SpatKernelIdeal.main_arg4))).1 i = 1#1 → r.2.mem ((c.tc : Thread Cert.SpatKernelIdeal.nD Cert.SpatKernelIdeal.τ).loc Cert.SpatKernelIdeal.main_v6_0) i = v0 c i)
          ∧ (∀ i : (⟨2, ![1024, 128]⟩ : Shape).Idx, (Cert.On_norm_results.fn (F := Ideal) (m ((c.tc : Thread Cert.SpatKernelIdeal.nD Cert.SpatKernelIdeal.τ).loc Cert.SpatKernelIdeal.main_arg0)) (m ((c.tc : Thread Cert.SpatKernelIdeal.nD Cert.SpatKernelIdeal.τ).loc Cert.SpatKernelIdeal.main_arg1)) (m ((c.tc : Thread Cert.SpatKernelIdeal.nD Cert.SpatKernelIdeal.τ).loc Cert.SpatKernelIdeal.main_arg2)) (m ((c.tc : Thread Cert.SpatKernelIdeal.nD Cert.SpatKernelIdeal.τ).loc Cert.SpatKernelIdeal.main_arg3)) (m ((c.tc : Thread Cert.SpatKernelIdeal.nD Cert.SpatKernelIdeal.τ).loc Cert.SpatKernelIdeal.main_arg4))).2.1 i = 1#1 → r.2.mem ((c.tc : Thread Cert.SpatKernelIdeal.nD Cert.SpatKernelIdeal.τ).loc Cert.SpatKernelIdeal.main_v6_1) i = v1 c i)
          ∧ (∀ i : (⟨2, ![1024, 2560]⟩ : Shape).Idx, (Cert.On_norm_results.fn (F := Ideal) (m ((c.tc : Thread Cert.SpatKernelIdeal.nD Cert.SpatKernelIdeal.τ).loc Cert.SpatKernelIdeal.main_arg0)) (m ((c.tc : Thread Cert.SpatKernelIdeal.nD Cert.SpatKernelIdeal.τ).loc Cert.SpatKernelIdeal.main_arg1)) (m ((c.tc : Thread Cert.SpatKernelIdeal.nD Cert.SpatKernelIdeal.τ).loc Cert.SpatKernelIdeal.main_arg2)) (m ((c.tc : Thread Cert.SpatKernelIdeal.nD Cert.SpatKernelIdeal.τ).loc Cert.SpatKernelIdeal.main_arg3)) (m ((c.tc : Thread Cert.SpatKernelIdeal.nD Cert.SpatKernelIdeal.τ).loc Cert.SpatKernelIdeal.main_arg4))).2.2.1 i = 1#1 → r.2.mem ((c.tc : Thread Cert.SpatKernelIdeal.nD Cert.SpatKernelIdeal.τ).loc Cert.SpatKernelIdeal.main_v6_2) i = v2 c i)
          ∧ (∀ i : (⟨2, ![1024, 128]⟩ : Shape).Idx, (Cert.On_norm_results.fn (F := Ideal) (m ((c.tc : Thread Cert.SpatKernelIdeal.nD Cert.SpatKernelIdeal.τ).loc Cert.SpatKernelIdeal.main_arg0)) (m ((c.tc : Thread Cert.SpatKernelIdeal.nD Cert.SpatKernelIdeal.τ).loc Cert.SpatKernelIdeal.main_arg1)) (m ((c.tc : Thread Cert.SpatKernelIdeal.nD Cert.SpatKernelIdeal.τ).loc Cert.SpatKernelIdeal.main_arg2)) (m ((c.tc : Thread Cert.SpatKernelIdeal.nD Cert.SpatKernelIdeal.τ).loc Cert.SpatKernelIdeal.main_arg3)) (m ((c.tc : Thread Cert.SpatKernelIdeal.nD Cert.SpatKernelIdeal.τ).loc Cert.SpatKernelIdeal.main_arg4))).2.2.2 i = 1#1 → r.2.mem ((c.tc : Thread Cert.SpatKernelIdeal.nD Cert.SpatKernelIdeal.τ).loc Cert.SpatKernelIdeal.main_v6_3) i = v3 c i)
          ∧ r.2.mem ((c.tc : Thread Cert.SpatKernelIdeal.nD Cert.SpatKernelIdeal.τ).loc Cert.SpatKernelIdeal.main_arg0) = m ((c.tc : Thread Cert.SpatKernelIdeal.nD Cert.SpatKernelIdeal.τ).loc Cert.SpatKernelIdeal.main_arg0)
          ∧ r.2.mem ((c.tc : Thread Cert.SpatKernelIdeal.nD Cert.SpatKernelIdeal.τ).loc Cert.SpatKernelIdeal.main_arg1) = m ((c.tc : Thread Cert.SpatKernelIdeal.nD Cert.SpatKernelIdeal.τ).loc Cert.SpatKernelIdeal.main_arg1)
          ∧ r.2.mem ((c.tc : Thread Cert.SpatKernelIdeal.nD Cert.SpatKernelIdeal.τ).loc Cert.SpatKernelIdeal.main_arg2) = m ((c.tc : Thread Cert.SpatKernelIdeal.nD Cert.SpatKernelIdeal.τ).loc Cert.SpatKernelIdeal.main_arg2)
          ∧ r.2.mem ((c.tc : Thread Cert.SpatKernelIdeal.nD Cert.SpatKernelIdeal.τ).loc Cert.SpatKernelIdeal.main_arg3) = m ((c.tc : Thread Cert.SpatKernelIdeal.nD Cert.SpatKernelIdeal.τ).loc Cert.SpatKernelIdeal.main_arg3)
          ∧ r.2.mem ((c.tc : Thread Cert.SpatKernelIdeal.nD Cert.SpatKernelIdeal.τ).loc Cert.SpatKernelIdeal.main_arg4) = m ((c.tc : Thread Cert.SpatKernelIdeal.nD Cert.SpatKernelIdeal.τ).loc Cert.SpatKernelIdeal.main_arg4))
      ∧ θ_run (Cert.SpatReferenceIdeal.defs (F := Ideal)) (onTc (τ := Cert.SpatReferenceIdeal.τ) (Cert.SpatReferenceIdeal.main (F := Ideal))) ⟨m', fun _ => 0, g'⟩ (fun r => ∀ c : Dev Cert.SpatReferenceIdeal.nD,
          (∀ i : (⟨2, ![1024, 2560]⟩ : Shape).Idx, (Cert.On_norm_results.fn (F := Ideal) (m ((c.tc : Thread Cert.SpatKernelIdeal.nD Cert.SpatKernelIdeal.τ).loc Cert.SpatKernelIdeal.main_arg0)) (m ((c.tc : Thread Cert.SpatKernelIdeal.nD Cert.SpatKernelIdeal.τ).loc Cert.SpatKernelIdeal.main_arg1)) (m ((c.tc : Thread Cert.SpatKernelIdeal.nD Cert.SpatKernelIdeal.τ).loc Cert.SpatKernelIdeal.main_arg2)) (m ((c.tc : Thread Cert.SpatKernelIdeal.nD Cert.SpatKernelIdeal.τ).loc Cert.SpatKernelIdeal.main_arg3)) (m ((c.tc : Thread Cert.SpatKernelIdeal.nD Cert.SpatKernelIdeal.τ).loc Cert.SpatKernelIdeal.main_arg4))).1 i = 1#1 → r.2.mem ((c.tc : Thread Cert.SpatReferenceIdeal.nD Cert.SpatReferenceIdeal.τ).loc Cert.SpatReferenceIdeal.main_v5_0) i = v0 c i)
          ∧ (∀ i : (⟨2, ![1024, 128]⟩ : Shape).Idx, (Cert.On_norm_results.fn (F := Ideal) (m ((c.tc : Thread Cert.SpatKernelIdeal.nD Cert.SpatKernelIdeal.τ).loc Cert.SpatKernelIdeal.main_arg0)) (m ((c.tc : Thread Cert.SpatKernelIdeal.nD Cert.SpatKernelIdeal.τ).loc Cert.SpatKernelIdeal.main_arg1)) (m ((c.tc : Thread Cert.SpatKernelIdeal.nD Cert.SpatKernelIdeal.τ).loc Cert.SpatKernelIdeal.main_arg2)) (m ((c.tc : Thread Cert.SpatKernelIdeal.nD Cert.SpatKernelIdeal.τ).loc Cert.SpatKernelIdeal.main_arg3)) (m ((c.tc : Thread Cert.SpatKernelIdeal.nD Cert.SpatKernelIdeal.τ).loc Cert.SpatKernelIdeal.main_arg4))).2.1 i = 1#1 → r.2.mem ((c.tc : Thread Cert.SpatReferenceIdeal.nD Cert.SpatReferenceIdeal.τ).loc Cert.SpatReferenceIdeal.main_v5_1) i = v1 c i)
          ∧ (∀ i : (⟨2, ![1024, 2560]⟩ : Shape).Idx, (Cert.On_norm_results.fn (F := Ideal) (m ((c.tc : Thread Cert.SpatKernelIdeal.nD Cert.SpatKernelIdeal.τ).loc Cert.SpatKernelIdeal.main_arg0)) (m ((c.tc : Thread Cert.SpatKernelIdeal.nD Cert.SpatKernelIdeal.τ).loc Cert.SpatKernelIdeal.main_arg1)) (m ((c.tc : Thread Cert.SpatKernelIdeal.nD Cert.SpatKernelIdeal.τ).loc Cert.SpatKernelIdeal.main_arg2)) (m ((c.tc : Thread Cert.SpatKernelIdeal.nD Cert.SpatKernelIdeal.τ).loc Cert.SpatKernelIdeal.main_arg3)) (m ((c.tc : Thread Cert.SpatKernelIdeal.nD Cert.SpatKernelIdeal.τ).loc Cert.SpatKernelIdeal.main_arg4))).2.2.1 i = 1#1 → r.2.mem ((c.tc : Thread Cert.SpatReferenceIdeal.nD Cert.SpatReferenceIdeal.τ).loc Cert.SpatReferenceIdeal.main_v5_2) i = v2 c i)
          ∧ (∀ i : (⟨2, ![1024, 128]⟩ : Shape).Idx, (Cert.On_norm_results.fn (F := Ideal) (m ((c.tc : Thread Cert.SpatKernelIdeal.nD Cert.SpatKernelIdeal.τ).loc Cert.SpatKernelIdeal.main_arg0)) (m ((c.tc : Thread Cert.SpatKernelIdeal.nD Cert.SpatKernelIdeal.τ).loc Cert.SpatKernelIdeal.main_arg1)) (m ((c.tc : Thread Cert.SpatKernelIdeal.nD Cert.SpatKernelIdeal.τ).loc Cert.SpatKernelIdeal.main_arg2)) (m ((c.tc : Thread Cert.SpatKernelIdeal.nD Cert.SpatKernelIdeal.τ).loc Cert.SpatKernelIdeal.main_arg3)) (m ((c.tc : Thread Cert.SpatKernelIdeal.nD Cert.SpatKernelIdeal.τ).loc Cert.SpatKernelIdeal.main_arg4))).2.2.2 i = 1#1 → r.2.mem ((c.tc : Thread Cert.SpatReferenceIdeal.nD Cert.SpatReferenceIdeal.τ).loc Cert.SpatReferenceIdeal.main_v5_3) i = v3 c i)
          ∧ r.2.mem ((c.tc : Thread Cert.SpatReferenceIdeal.nD Cert.SpatReferenceIdeal.τ).loc Cert.SpatReferenceIdeal.main_arg0) = m' ((c.tc : Thread Cert.SpatReferenceIdeal.nD Cert.SpatReferenceIdeal.τ).loc Cert.SpatReferenceIdeal.main_arg0)
          ∧ r.2.mem ((c.tc : Thread Cert.SpatReferenceIdeal.nD Cert.SpatReferenceIdeal.τ).loc Cert.SpatReferenceIdeal.main_arg1) = m' ((c.tc : Thread Cert.SpatReferenceIdeal.nD Cert.SpatReferenceIdeal.τ).loc Cert.SpatReferenceIdeal.main_arg1)
          ∧ r.2.mem ((c.tc : Thread Cert.SpatReferenceIdeal.nD Cert.SpatReferenceIdeal.τ).loc Cert.SpatReferenceIdeal.main_arg2) = m' ((c.tc : Thread Cert.SpatReferenceIdeal.nD Cert.SpatReferenceIdeal.τ).loc Cert.SpatReferenceIdeal.main_arg2)
          ∧ r.2.mem ((c.tc : Thread Cert.SpatReferenceIdeal.nD Cert.SpatReferenceIdeal.τ).loc Cert.SpatReferenceIdeal.main_arg3) = m' ((c.tc : Thread Cert.SpatReferenceIdeal.nD Cert.SpatReferenceIdeal.τ).loc Cert.SpatReferenceIdeal.main_arg3)
          ∧ r.2.mem ((c.tc : Thread Cert.SpatReferenceIdeal.nD Cert.SpatReferenceIdeal.τ).loc Cert.SpatReferenceIdeal.main_arg4) = m' ((c.tc : Thread Cert.SpatReferenceIdeal.nD Cert.SpatReferenceIdeal.τ).loc Cert.SpatReferenceIdeal.main_arg4))

def Claim : Prop :=
  ∃ (hFcOneKernel : Cert.FcOneKernel.Facts) (hFcOneKernelIdeal : Cert.FcOneKernelIdeal.Facts) (hFcOneReferenceIdeal : Cert.FcOneReferenceIdeal.Facts) (hFcTwoKernel : Cert.FcTwoKernel.Facts) (hFcTwoKernelIdeal : Cert.FcTwoKernelIdeal.Facts) (hFcTwoReferenceIdeal : Cert.FcTwoReferenceIdeal.Facts) (hProjTKernel : Cert.ProjTKernel.Facts) (hProjTKernelIdeal : Cert.ProjTKernelIdeal.Facts) (hProjTReferenceIdeal : Cert.ProjTReferenceIdeal.Facts) (hProjSKernel : Cert.ProjSKernel.Facts) (hProjSKernelIdeal : Cert.ProjSKernelIdeal.Facts) (hProjSReferenceIdeal : Cert.ProjSReferenceIdeal.Facts) (hSpatKernel : Cert.SpatKernel.Facts) (hSpatKernelIdeal : Cert.SpatKernelIdeal.Facts) (hSpatReferenceIdeal : Cert.SpatReferenceIdeal.Facts) (hPre_ids_in_table : Cert.Pre_ids_in_table.Facts) (hOn_norm_results : Cert.On_norm_results.Facts),
    quiescent_FcOneKernel (hFcOneKernel := hFcOneKernel)
    ∧ quiescent_FcOneKernelIdeal (hFcOneKernelIdeal := hFcOneKernelIdeal)
    ∧ quiescent_FcOneReferenceIdeal (hFcOneReferenceIdeal := hFcOneReferenceIdeal)
    ∧ quiescent_FcTwoKernel (hFcTwoKernel := hFcTwoKernel)
    ∧ quiescent_FcTwoKernelIdeal (hFcTwoKernelIdeal := hFcTwoKernelIdeal)
    ∧ quiescent_FcTwoReferenceIdeal (hFcTwoReferenceIdeal := hFcTwoReferenceIdeal)
    ∧ quiescent_ProjTKernel (hProjTKernel := hProjTKernel)
    ∧ quiescent_ProjTKernelIdeal (hProjTKernelIdeal := hProjTKernelIdeal)
    ∧ quiescent_ProjTReferenceIdeal (hProjTReferenceIdeal := hProjTReferenceIdeal)
    ∧ quiescent_ProjSKernel (hProjSKernel := hProjSKernel) (hPre_ids_in_table := hPre_ids_in_table)
    ∧ quiescent_ProjSKernelIdeal (hProjSKernelIdeal := hProjSKernelIdeal) (hPre_ids_in_table := hPre_ids_in_table)
    ∧ quiescent_ProjSReferenceIdeal (hProjSReferenceIdeal := hProjSReferenceIdeal)
    ∧ quiescent_ProjSReferenceIdeal_pre_ids_in_table (hProjSReferenceIdeal := hProjSReferenceIdeal) (hPre_ids_in_table := hPre_ids_in_table)
    ∧ quiescent_SpatKernel (hSpatKernel := hSpatKernel)
    ∧ quiescent_SpatKernelIdeal (hSpatKernelIdeal := hSpatKernelIdeal)
    ∧ quiescent_SpatReferenceIdeal (hSpatReferenceIdeal := hSpatReferenceIdeal)
    ∧ preserves_FcOneKernel_FcOneKernelIdeal
    ∧ algebraic_FcOneKernelIdeal_FcOneReferenceIdeal (hFcOneKernelIdeal := hFcOneKernelIdeal) (hFcOneReferenceIdeal := hFcOneReferenceIdeal)
    ∧ preserves_FcTwoKernel_FcTwoKernelIdeal
    ∧ algebraic_FcTwoKernelIdeal_FcTwoReferenceIdeal (hFcTwoKernelIdeal := hFcTwoKernelIdeal) (hFcTwoReferenceIdeal := hFcTwoReferenceIdeal)
    ∧ preserves_ProjTKernel_ProjTKernelIdeal
    ∧ algebraic_ProjTKernelIdeal_ProjTReferenceIdeal (hProjTKernelIdeal := hProjTKernelIdeal) (hProjTReferenceIdeal := hProjTReferenceIdeal)
    ∧ preserves_ProjSKernel_ProjSKernelIdeal
    ∧ algebraic_ProjSKernelIdeal_ProjSReferenceIdeal (hProjSKernelIdeal := hProjSKernelIdeal) (hProjSReferenceIdeal := hProjSReferenceIdeal) (hPre_ids_in_table := hPre_ids_in_table)
    ∧ preserves_SpatKernel_SpatKernelIdeal
    ∧ algebraic_SpatKernelIdeal_SpatReferenceIdeal_on_norm_results (hSpatKernelIdeal := hSpatKernelIdeal) (hSpatReferenceIdeal := hSpatReferenceIdeal) (hOn_norm_results := hOn_norm_results)
-- ==== On_norm_results.lean ====
abbrev S4x256x2560 : Shape := ⟨3, ![4, 256, 2560]⟩
abbrev S2560 : Shape := ⟨1, ![2560]⟩
abbrev S2560x3x20x128 : Shape := ⟨4, ![2560, 3, 20, 128]⟩
abbrev S3x20x128 : Shape := ⟨3, ![3, 20, 128]⟩
abbrev S_ : Shape := ⟨0, ![]⟩
abbrev S1024x2560 : Shape := ⟨2, ![1024, 2560]⟩
abbrev S1024x128 : Shape := ⟨2, ![1024, 128]⟩

class Facts : Prop where
  bcast_S_S1024x2560 : S_.BroadcastsInDim S1024x2560 (![] : Fin 0 → Fin S1024x2560.rank)
  bcast_S_S1024x128 : S_.BroadcastsInDim S1024x128 (![] : Fin 0 → Fin S1024x128.rank)

variable [Facts]

def fn {F : FTy → Type} [FloatOps F] (main_arg0 : FVec F S4x256x2560 .bf16) (main_arg1 : FVec F S2560 .f32) (main_arg2 : FVec F S2560 .f32) (main_arg3 : FVec F S2560x3x20x128 .fp8e4m3) (main_arg4 : FVec F S3x20x128 .f32) : IVec S1024x2560 1 × IVec S1024x128 1 × IVec S1024x2560 1 × IVec S1024x128 1 :=
  let main_c : IVec S_ 1 := constantI S_ 1 1#1
  let main_v0 : IVec S1024x2560 1 := broadcastInDim S1024x2560 ![] bcast_S_S1024x2560 main_c
  let main_c_0 : IVec S_ 1 := constantI S_ 1 1#1
  let main_v1 : IVec S1024x128 1 := broadcastInDim S1024x128 ![] bcast_S_S1024x128 main_c_0
  let main_c_1 : IVec S_ 1 := constantI S_ 1 0#1
  let main_v2 : IVec S1024x2560 1 := broadcastInDim S1024x2560 ![] bcast_S_S1024x2560 main_c_1
  let main_c_2 : IVec S_ 1 := constantI S_ 1 0#1
  let main_v3 : IVec S1024x128 1 := broadcastInDim S1024x128 ![] bcast_S_S1024x128 main_c_2
  (main_v0, main_v1, main_v2, main_v3)
-- ==== Pre_ids_in_table.lean ====
abbrev S4 : Shape := ⟨1, ![4]⟩
abbrev S1024x2560 : Shape := ⟨2, ![1024, 2560]⟩
abbrev S1024 : Shape := ⟨1, ![1024]⟩
abbrev S20x128x2560 : Shape := ⟨3, ![20, 128, 2560]⟩
abbrev S2560 : Shape := ⟨1, ![2560]⟩
abbrev S4x256x2560 : Shape := ⟨3, ![4, 256, 2560]⟩
abbrev S8x2560 : Shape := ⟨2, ![8, 2560]⟩
abbrev S_ : Shape := ⟨0, ![]⟩

class Facts : Prop where
  bcast_S_S4 : S_.BroadcastsInDim S4 (![] : Fin 0 → Fin S4.rank)

variable [Facts]

def fn {F : FTy → Type} [FloatOps F] (main_arg0 : IVec S4 32) (main_arg1 : FVec F S1024x2560 .fp8e4m3) (main_arg2 : FVec F S1024 .f32) (main_arg3 : FVec F S20x128x2560 .fp8e4m3) (main_arg4 : FVec F S2560 .f32) (main_arg5 : FVec F S4x256x2560 .bf16) (main_arg6 : FVec F S8x2560 .f32) (main_arg7 : FVec F S2560 .f32) (main_arg8 : FVec F S2560 .f32) : IVec S4 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 8#32
  let main_v2 : IVec S4 32 := broadcastInDim S4 ![] bcast_S_S4 main_c_0
  let main_v3 : IVec S4 1 := cmpi .slt main_arg0 main_v2
  let main_v4 : IVec S4 1 := andi main_v1 main_v3
  main_v4
-- ==== FcOneKernel.lean ====
abbrev S1024x2560 : Shape := ⟨2, ![1024, 2560]⟩
abbrev S1024 : Shape := ⟨1, ![1024]⟩
abbrev S2560x10240 : Shape := ⟨2, ![2560, 10240]⟩
abbrev S10240 : Shape := ⟨1, ![10240]⟩
abbrev S1024x1 : Shape := ⟨2, ![1024, 1]⟩
abbrev S1024x128 : Shape := ⟨2, ![1024, 128]⟩
abbrev S1x10240 : Shape := ⟨2, ![1, 10240]⟩
abbrev S1024x10240 : Shape := ⟨2, ![1024, 10240]⟩
abbrev S2560x512 : Shape := ⟨2, ![2560, 512]⟩
abbrev S1x512 : Shape := ⟨2, ![1, 512]⟩
abbrev S1024x512 : Shape := ⟨2, ![1024, 512]⟩
abbrev S2560x256 : Shape := ⟨2, ![2560, 256]⟩
abbrev S1024x256 : Shape := ⟨2, ![1024, 256]⟩
abbrev S1x256 : Shape := ⟨2, ![1, 256]⟩

abbrev nBuf : Space → Nat
  | .hbm => 11
  | .vmem => 12
  | .smem => 0
  | _ => 0

abbrev bufTy : (tb : Table) → Fin (tcTables nBuf tb) → BufTy
  | .hbm, ⟨0, _⟩ => ⟨S1024x2560, .fp8e4m3⟩
  | .hbm, ⟨1, _⟩ => ⟨S1024, .f32⟩
  | .hbm, ⟨2, _⟩ => ⟨S2560x10240, .fp8e4m3⟩
  | .hbm, ⟨3, _⟩ => ⟨S10240, .f32⟩
  | .hbm, ⟨4, _⟩ => ⟨S10240, .f32⟩
  | .hbm, ⟨5, _⟩ => ⟨S1024x1, .f32⟩
  | .hbm, ⟨6, _⟩ => ⟨S1024x128, .f32⟩
  | .hbm, ⟨7, _⟩ => ⟨S1x10240, .f32⟩
  | .hbm, ⟨8, _⟩ => ⟨S1x10240, .f32⟩
  | .hbm, ⟨9, _⟩ => ⟨S1024x10240, .f32⟩
  | .hbm, ⟨10, _⟩ => ⟨S1024x128, .f32⟩
  | .local _ .vmem, ⟨0, _⟩ => ⟨S1024x2560, .fp8e4m3⟩
  | .local _ .vmem, ⟨1, _⟩ => ⟨S1024x128, .f32⟩
  | .local _ .vmem, ⟨2, _⟩ => ⟨S2560x512, .fp8e4m3⟩
  | .local _ .vmem, ⟨3, _⟩ => ⟨S2560x512, .fp8e4m3⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x128, .f32⟩
  | .local _ .vmem, ⟨11, _⟩ => ⟨S1024x128, .f32⟩
  | _, _ => ⟨S1024x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v77 : BitVec 1 := Scalar.cmpi .eq arg0 c19_i32
  let v78 : BitVec 32 := Scalar.extui v77
  let c0_i32_38 : BitVec 32 := 0#32
  let v79 : BitVec 1 := Scalar.cmpi .ne v78 c0_i32_38
  v79

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2560x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FcOneReferenceIdeal.lean ====
abbrev S1024x2560 : Shape := ⟨2, ![1024, 2560]⟩
abbrev S1024 : Shape := ⟨1, ![1024]⟩
abbrev S2560x10240 : Shape := ⟨2, ![2560, 10240]⟩
abbrev S10240 : Shape := ⟨1, ![10240]⟩
abbrev S1024x1 : Shape := ⟨2, ![1024, 1]⟩
abbrev S1x10240 : Shape := ⟨2, ![1, 10240]⟩
abbrev S1024x10240 : Shape := ⟨2, ![1024, 10240]⟩
abbrev S1024x128 : Shape := ⟨2, ![1024, 128]⟩

abbrev nBuf : Space → Nat
  | .hbm => 10
  | .vmem => 7
  | .smem => 0
  | _ => 0

abbrev bufTy : (tb : Table) → Fin (tcTables nBuf tb) → BufTy
  | .hbm, ⟨0, _⟩ => ⟨S1024x2560, .fp8e4m3⟩
  | .hbm, ⟨1, _⟩ => ⟨S1024, .f32⟩
  | .hbm, ⟨2, _⟩ => ⟨S2560x10240, .fp8e4m3⟩
  | .hbm, ⟨3, _⟩ => ⟨S10240, .f32⟩
  | .hbm, ⟨4, _⟩ => ⟨S10240, .f32⟩
  | .hbm, ⟨5, _⟩ => ⟨S1024x1, .f32⟩
  | .hbm, ⟨6, _⟩ => ⟨S1x10240, .f32⟩
  | .hbm, ⟨7, _⟩ => ⟨S1x10240, .f32⟩
  | .hbm, ⟨8, _⟩ => ⟨S1024x10240, .f32⟩
  | .hbm, ⟨9, _⟩ => ⟨S1024x128, .f32⟩
  | .local _ .vmem, ⟨0, _⟩ => ⟨S1024x2560, .fp8e4m3⟩
  | .local _ .vmem, ⟨1, _⟩ => ⟨S1024x1, .f32⟩
  | .local _ .vmem, ⟨2, _⟩ => ⟨S2560x10240, .fp8e4m3⟩
  | .local _ .vmem, ⟨3, _⟩ => ⟨S1x10240, .f32⟩
  | .local _ .vmem, ⟨4, _⟩ => ⟨S1x10240, .f32⟩
  | .local _ .vmem, ⟨5, _⟩ => ⟨S1024x10240, .f32⟩
  | .local _ .vmem, ⟨6, _⟩ => ⟨S1024x128, .f32⟩
  | _, _ => ⟨S1024x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x10240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== FcTwoKernel.lean ====
abbrev S1024x10240 : Shape := ⟨2, ![1024, 10240]⟩
abbrev S1024 : Shape := ⟨1, ![1024]⟩
abbrev S10240x2560 : Shape := ⟨2, ![10240, 2560]⟩
abbrev S2560 : Shape := ⟨1, ![2560]⟩
abbrev S1024x2560 : Shape := ⟨2, ![1024, 2560]⟩
abbrev S1024x1 : Shape := ⟨2, ![1024, 1]⟩
abbrev S1024x128 : Shape := ⟨2, ![1024, 128]⟩
abbrev S1x2560 : Shape := ⟨2, ![1, 2560]⟩
abbrev S1024x2048 : Shape := ⟨2, ![1024, 2048]⟩
abbrev S2048x2560 : Shape := ⟨2, ![2048, 2560]⟩
abbrev S32x128 : Shape := ⟨2, ![32, 128]⟩
abbrev S2048x512 : Shape := ⟨2, ![2048, 512]⟩
abbrev S1024x512 : Shape := ⟨2, ![1024, 512]⟩
abbrev S256x2560 : Shape := ⟨2, ![256, 2560]⟩
abbrev S256x128 : Shape := ⟨2, ![256, 128]⟩

abbrev nBuf : Space → Nat
  | .hbm => 12
  | .vmem => 12
  | .smem => 0
  | _ => 0

abbrev bufTy : (tb : Table) → Fin (tcTables nBuf tb) → BufTy
  | .hbm, ⟨0, _⟩ => ⟨S1024x10240, .f32⟩
  | .hbm, ⟨1, _⟩ => ⟨S1024, .f32⟩
  | .hbm, ⟨2, _⟩ => ⟨S10240x2560, .fp8e4m3⟩
  | .hbm, ⟨3, _⟩ => ⟨S2560, .f32⟩
  | .hbm, ⟨4, _⟩ => ⟨S2560, .f32⟩
  | .hbm, ⟨5, _⟩ => ⟨S1024x2560, .f32⟩
  | .hbm, ⟨6, _⟩ => ⟨S1024x1, .f32⟩
  | .hbm, ⟨7, _⟩ => ⟨S1024x128, .f32⟩
  | .hbm, ⟨8, _⟩ => ⟨S1x2560, .f32⟩
  | .hbm, ⟨9, _⟩ => ⟨S1x2560, .f32⟩
  | .hbm, ⟨10, _⟩ => ⟨S1024x10240, .fp8e4m3⟩
  | .hbm, ⟨11, _⟩ => ⟨S1024x2560, .bf16⟩
  | .local _ .vmem, ⟨0, _⟩ => ⟨S1024x2048, .f32⟩
  | .local _ .vmem, ⟨1, _⟩ => ⟨S1024x2048, .f32⟩
  | .local _ .vmem, ⟨2, _⟩ => ⟨S1024x128, .f32⟩
  | .local _ .vmem, ⟨3, _⟩ => ⟨S2048x2560, .fp8e4m3⟩
  | .local _ .vmem, ⟨4, _⟩ => ⟨S2048x2560, .fp8e4m3⟩
  | .local _ .vmem, ⟨5, _⟩ => ⟨S1x2560, .f32⟩
  | .local _ .vmem, ⟨6, _⟩ => ⟨S1x2560, .f32⟩
  | .local _ .vmem, ⟨7, _⟩ => ⟨S1024x2560, .f32⟩
  | .local _ .vmem, ⟨8, _⟩ => ⟨S1024x2048, .fp8e4m3⟩
  | .local _ .vmem, ⟨9, _⟩ => ⟨S1024x2048, .fp8e4m3⟩
  | .local _ .vmem, ⟨10, _⟩ => ⟨S1024x2560, .bf16⟩
  | .local _ .vmem, ⟨11, _⟩ => ⟨S1024x2560, .f32⟩
  | _, _ => ⟨S1024x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v55 : Index := Scalar.indexCast v54
  let c0_42 : Index := 0#32
  ![v55.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v58 : Index := Scalar.indexCast v54
  let c0_43 : Index := 0#32
  ![v58.toNat, 0]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v68 : Index := Scalar.indexCast v54
  let c128 : Index := 128#32
  ![v68.toNat, 128]
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v78 : Index := Scalar.indexCast v54
  let c256 : Index := 256#32
  ![v78.toNat, 256]
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v88 : Index := Scalar.indexCast v54
  let c384 : Index := 384#32
  ![v88.toNat, 384]
def k0_off6 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v98 : Index := Scalar.indexCast v54
  let c512_56 : Index := 512#32
  ![v98.toNat, 512]
def k0_off7 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v108 : Index := Scalar.indexCast v54
  let c640 : Index := 640#32
  ![v108.toNat, 640]
def k0_off8 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v118 : Index := Scalar.indexCast v54
  let c768 : Index := 768#32
  ![v118.toNat, 768]
def k0_off9 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v128 : Index := Scalar.indexCast v54
  let c896 : Index := 896#32
  ![v128.toNat, 896]
def k0_off10 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v138 : Index := Scalar.indexCast v54
  let c1024_69 : Index := 1024#32
  ![v138.toNat, 1024]
def k0_off11 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v148 : Index := Scalar.indexCast v54
  let c1152 : Index := 1152#32
  ![v148.toNat, 1152]
def k0_off12 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v158 : Index := Scalar.indexCast v54
  let c1280 : Index := 1280#32
  ![v158.toNat, 1280]
def k0_off13 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v168 : Index := Scalar.indexCast v54
  let c1408 : Index := 1408#32
  ![v168.toNat, 1408]
def k0_off14 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v178 : Index := Scalar.indexCast v54
  let c1536_82 : Index := 1536#32
  ![v178.toNat, 1536]
def k0_off15 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v188 : Index := Scalar.indexCast v54
  let c1664 : Index := 1664#32
  ![v188.toNat, 1664]
def k0_off16 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v198 : Index := Scalar.indexCast v54
  let c1792 : Index := 1792#32
  ![v198.toNat, 1792]
def k0_off17 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_41 : BitVec 32 := 32#32
  let v54 : BitVec 32 := Scalar.muli arg10 c32_i32_41
  let v208 : Index := Scalar.indexCast v54
  let c1920 : Index := 1920#32
  ![v208.toNat, 1920]
def k0_cond11 (i : grid0.Coords) : BitVec 1 :=
  let arg0 : BitVec 32 := BitVec.ofNat 32 (i 0).val
  let c4_i32 : BitVec 32 := 4#32
  let v51 : BitVec 1 := Scalar.cmpi .eq arg0 c4_i32
  let v52 : BitVec 32 := Scalar.extui v51
  let c0_i32_40 : BitVec 32 := 0#32
  let v53 : BitVec 1 := Scalar.cmpi .ne v52 c0_i32_40
  v53

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FcTwoReferenceIdeal.lean ====
abbrev S1024x10240 : Shape := ⟨2, ![1024, 10240]⟩
abbrev S1024 : Shape := ⟨1, ![1024]⟩
abbrev S10240x2560 : Shape := ⟨2, ![10240, 2560]⟩
abbrev S2560 : Shape := ⟨1, ![2560]⟩
abbrev S1024x2560 : Shape := ⟨2, ![1024, 2560]⟩
abbrev S1024x1 : Shape := ⟨2, ![1024, 1]⟩
abbrev S1x2560 : Shape := ⟨2, ![1, 2560]⟩

abbrev nBuf : Space → Nat
  | .hbm => 11
  | .vmem => 8
  | .smem => 0
  | _ => 0

abbrev bufTy : (tb : Table) → Fin (tcTables nBuf tb) → BufTy
  | .hbm, ⟨0, _⟩ => ⟨S1024x10240, .f32⟩
  | .hbm, ⟨1, _⟩ => ⟨S1024, .f32⟩
  | .hbm, ⟨2, _⟩ => ⟨S10240x2560, .fp8e4m3⟩
  | .hbm, ⟨3, _⟩ => ⟨S2560, .f32⟩
  | .hbm, ⟨4, _⟩ => ⟨S2560, .f32⟩
  | .hbm, ⟨5, _⟩ => ⟨S1024x2560, .f32⟩
  | .hbm, ⟨6, _⟩ => ⟨S1024x1, .f32⟩
  | .hbm, ⟨7, _⟩ => ⟨S1x2560, .f32⟩
  | .hbm, ⟨8, _⟩ => ⟨S1x2560, .f32⟩
  | .hbm, ⟨9, _⟩ => ⟨S1024x10240, .fp8e4m3⟩
  | .hbm, ⟨10, _⟩ => ⟨S1024x2560, .bf16⟩
  | .local _ .vmem, ⟨0, _⟩ => ⟨S1024x10240, .f32⟩
  | .local _ .vmem, ⟨1, _⟩ => ⟨S1024x1, .f32⟩
  | .local _ .vmem, ⟨2, _⟩ => ⟨S10240x2560, .fp8e4m3⟩
  | .local _ .vmem, ⟨3, _⟩ => ⟨S1x2560, .f32⟩
  | .local _ .vmem, ⟨4, _⟩ => ⟨S1x2560, .f32⟩
  | .local _ .vmem, ⟨5, _⟩ => ⟨S1024x2560, .f32⟩
  | .local _ .vmem, ⟨6, _⟩ => ⟨S1024x10240, .fp8e4m3⟩
  | .local _ .vmem, ⟨7, _⟩ => ⟨S1024x2560, .bf16⟩
  | _, _ => ⟨S1024x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10240x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x10240 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ProjTKernel.lean ====
abbrev S4 : Shape := ⟨1, ![4]⟩
abbrev S1024x2560 : Shape := ⟨2, ![1024, 2560]⟩
abbrev S1024 : Shape := ⟨1, ![1024]⟩
abbrev S20x128x2560 : Shape := ⟨3, ![20, 128, 2560]⟩
abbrev S2560 : Shape := ⟨1, ![2560]⟩
abbrev S8x2560 : Shape := ⟨2, ![8, 2560]⟩
abbrev S1024x1 : Shape := ⟨2, ![1024, 1]⟩
abbrev S1024x128 : Shape := ⟨2, ![1024, 128]⟩
abbrev S2560x2560 : Shape := ⟨2, ![2560, 2560]⟩
abbrev S1x2560 : Shape := ⟨2, ![1, 2560]⟩
abbrev S256x2560 : Shape := ⟨2, ![256, 2560]⟩
abbrev S256x128 : Shape := ⟨2, ![256, 128]⟩
abbrev S2560x512 : Shape := ⟨2, ![2560, 512]⟩
abbrev S256x512 : Shape := ⟨2, ![256, 512]⟩
abbrev S1x512 : Shape := ⟨2, ![1, 512]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩

abbrev nBuf : Space → Nat
  | .hbm => 18
  | .vmem => 17
  | .smem => 1
  | _ => 0

abbrev bufTy : (tb : Table) → Fin (tcTables nBuf tb) → BufTy
  | .hbm, ⟨0, _⟩ => ⟨S4, .i32⟩
  | .hbm, ⟨1, _⟩ => ⟨S1024x2560, .fp8e4m3⟩
  | .hbm, ⟨2, _⟩ => ⟨S1024, .f32⟩
  | .hbm, ⟨3, _⟩ => ⟨S20x128x2560, .fp8e4m3⟩
  | .hbm, ⟨4, _⟩ => ⟨S2560, .f32⟩
  | .hbm, ⟨5, _⟩ => ⟨S1024x2560, .f32⟩
  | .hbm, ⟨6, _⟩ => ⟨S8x2560, .f32⟩
  | .hbm, ⟨7, _⟩ => ⟨S2560, .f32⟩
  | .hbm, ⟨8, _⟩ => ⟨S2560, .f32⟩
  | .hbm, ⟨9, _⟩ => ⟨S1024x1, .f32⟩
  | .hbm, ⟨10, _⟩ => ⟨S1024x128, .f32⟩
  | .hbm, ⟨11, _⟩ => ⟨S2560x2560, .fp8e4m3⟩
  | .hbm, ⟨12, _⟩ => ⟨S1x2560, .f32⟩
  | .hbm, ⟨13, _⟩ => ⟨S1x2560, .f32⟩
  | .hbm, ⟨14, _⟩ => ⟨S1x2560, .f32⟩
  | .hbm, ⟨15, _⟩ => ⟨S1024x2560, .f32⟩
  | .hbm, ⟨16, _⟩ => ⟨S1024x2560, .fp8e4m3⟩
  | .hbm, ⟨17, _⟩ => ⟨S1024x128, .f32⟩
  | .local _ .vmem, ⟨0, _⟩ => ⟨S256x2560, .fp8e4m3⟩
  | .local _ .vmem, ⟨1, _⟩ => ⟨S256x2560, .fp8e4m3⟩
  | .local _ .vmem, ⟨2, _⟩ => ⟨S256x128, .f32⟩
  | .local _ .vmem, ⟨3, _⟩ => ⟨S256x128, .f32⟩
  | .local _ .vmem, ⟨4, _⟩ => ⟨S2560x2560, .fp8e4m3⟩
  | .local _ .vmem, ⟨5, _⟩ => ⟨S1x2560, .f32⟩
  | .local _ .vmem, ⟨6, _⟩ => ⟨S256x2560, .f32⟩
  | .local _ .vmem, ⟨7, _⟩ => ⟨S256x2560, .f32⟩
  | .local _ .vmem, ⟨8, _⟩ => ⟨S8x2560, .f32⟩
  | .local _ .vmem, ⟨9, _⟩ => ⟨S1x2560, .f32⟩
  | .local _ .vmem, ⟨10, _⟩ => ⟨S1x2560, .f32⟩
  | .local _ .vmem, ⟨11, _⟩ => ⟨S256x2560, .f32⟩
  | .local _ .vmem, ⟨12, _⟩ => ⟨S256x2560, .f32⟩
  | .local _ .vmem, ⟨13, _⟩ => ⟨S256x2560, .fp8e4m3⟩
  | .local _ .vmem, ⟨14, _⟩ => ⟨S256x2560, .fp8e4m3⟩
  | .local _ .vmem, ⟨15, _⟩ => ⟨S256x128, .f32⟩
  | .local _ .vmem, ⟨16, _⟩ => ⟨S256x128, .f32⟩
  | .local _ .smem, ⟨0, _⟩ => ⟨S4, .i32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v114 : BitVec 32 := Scalar.addi c0_i32 c8_i32
  let c1_i32 : BitVec 32 := 1#32
  ⟨c0_i32, v114, c1_i32⟩
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v115 : BitVec 32 := Scalar.muli arg13 c32_i32
  let v116 : Index := Scalar.indexCast v115
  let c0_64 : Index := 0#32
  ![v116.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v115 : BitVec 32 := Scalar.muli arg13 c32_i32
  let v159 : Index := Scalar.indexCast v115
  let c0_77 : Index := 0#32
  ![v159.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2560x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2560 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2560 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjTReferenceIdeal.lean ====
abbrev S4 : Shape := ⟨1, ![4]⟩
abbrev S1024x2560 : Shape := ⟨2, ![1024, 2560]⟩
abbrev S1024 : Shape := ⟨1, ![1024]⟩
abbrev S20x128x2560 : Shape := ⟨3, ![20, 128, 2560]⟩
abbrev S2560 : Shape := ⟨1, ![2560]⟩
abbrev S8x2560 : Shape := ⟨2, ![8, 2560]⟩
abbrev S1024x1 : Shape := ⟨2, ![1024, 1]⟩
abbrev S2560x2560 : Shape := ⟨2, ![2560, 2560]⟩
abbrev S1x2560 : Shape := ⟨2, ![1, 2560]⟩
abbrev S1024x128 : Shape := ⟨2, ![1024, 128]⟩

abbrev nBuf : Space → Nat
  | .hbm => 17
  | .vmem => 10
  | .smem => 0
  | _ => 0

abbrev bufTy : (tb : Table) → Fin (tcTables nBuf tb) → BufTy
  | .hbm, ⟨0, _⟩ => ⟨S4, .i32⟩
  | .hbm, ⟨1, _⟩ => ⟨S1024x2560, .fp8e4m3⟩
  | .hbm, ⟨2, _⟩ => ⟨S1024, .f32⟩
  | .hbm, ⟨3, _⟩ => ⟨S20x128x2560, .fp8e4m3⟩
  | .hbm, ⟨4, _⟩ => ⟨S2560, .f32⟩
  | .hbm, ⟨5, _⟩ => ⟨S1024x2560, .f32⟩
  | .hbm, ⟨6, _⟩ => ⟨S8x2560, .f32⟩
  | .hbm, ⟨7, _⟩ => ⟨S2560, .f32⟩
  | .hbm, ⟨8, _⟩ => ⟨S2560, .f32⟩
  | .hbm, ⟨9, _⟩ => ⟨S1024x1, .f32⟩
  | .hbm, ⟨10, _⟩ => ⟨S2560x2560, .fp8e4m3⟩
  | .hbm, ⟨11, _⟩ => ⟨S1x2560, .f32⟩
  | .hbm, ⟨12, _⟩ => ⟨S1x2560, .f32⟩
  | .hbm, ⟨13, _⟩ => ⟨S1x2560, .f32⟩
  | .hbm, ⟨14, _⟩ => ⟨S1024x2560, .f32⟩
  | .hbm, ⟨15, _⟩ => ⟨S1024x2560, .fp8e4m3⟩
  | .hbm, ⟨16, _⟩ => ⟨S1024x128, .f32⟩
  | .local _ .vmem, ⟨0, _⟩ => ⟨S1024x2560, .fp8e4m3⟩
  | .local _ .vmem, ⟨1, _⟩ => ⟨S1024x1, .f32⟩
  | .local _ .vmem, ⟨2, _⟩ => ⟨S2560x2560, .fp8e4m3⟩
  | .local _ .vmem, ⟨3, _⟩ => ⟨S1x2560, .f32⟩
  | .local _ .vmem, ⟨4, _⟩ => ⟨S1024x2560, .f32⟩
  | .local _ .vmem, ⟨5, _⟩ => ⟨S1x2560, .f32⟩
  | .local _ .vmem, ⟨6, _⟩ => ⟨S1x2560, .f32⟩
  | .local _ .vmem, ⟨7, _⟩ => ⟨S1024x2560, .f32⟩
  | .local _ .vmem, ⟨8, _⟩ => ⟨S1024x2560, .fp8e4m3⟩
  | .local _ .vmem, ⟨9, _⟩ => ⟨S1024x128, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1024x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x2560 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ProjSKernel.lean ====
abbrev S4 : Shape := ⟨1, ![4]⟩
abbrev S1024x2560 : Shape := ⟨2, ![1024, 2560]⟩
abbrev S1024 : Shape := ⟨1, ![1024]⟩
abbrev S20x128x2560 : Shape := ⟨3, ![20, 128, 2560]⟩
abbrev S2560 : Shape := ⟨1, ![2560]⟩
abbrev S4x256x2560 : Shape := ⟨3, ![4, 256, 2560]⟩
abbrev S8x2560 : Shape := ⟨2, ![8, 2560]⟩
abbrev S1024x1 : Shape := ⟨2, ![1024, 1]⟩
abbrev S1024x128 : Shape := ⟨2, ![1024, 128]⟩
abbrev S2560x2560 : Shape := ⟨2, ![2560, 2560]⟩
abbrev S1x2560 : Shape := ⟨2, ![1, 2560]⟩
abbrev S256x2560 : Shape := ⟨2, ![256, 2560]⟩
abbrev S256x128 : Shape := ⟨2, ![256, 128]⟩
abbrev S2560x512 : Shape := ⟨2, ![2560, 512]⟩
abbrev S256x512 : Shape := ⟨2, ![256, 512]⟩
abbrev S1x512 : Shape := ⟨2, ![1, 512]⟩
abbrev S1 : Shape := ⟨1, ![1]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩

abbrev nBuf : Space → Nat
  | .hbm => 19
  | .vmem => 17
  | .smem => 1
  | _ => 0

abbrev bufTy : (tb : Table) → Fin (tcTables nBuf tb) → BufTy
  | .hbm, ⟨0, _⟩ => ⟨S4, .i32⟩
  | .hbm, ⟨1, _⟩ => ⟨S1024x2560, .fp8e4m3⟩
  | .hbm, ⟨2, _⟩ => ⟨S1024, .f32⟩
  | .hbm, ⟨3, _⟩ => ⟨S20x128x2560, .fp8e4m3⟩
  | .hbm, ⟨4, _⟩ => ⟨S2560, .f32⟩
  | .hbm, ⟨5, _⟩ => ⟨S4x256x2560, .bf16⟩
  | .hbm, ⟨6, _⟩ => ⟨S8x2560, .f32⟩
  | .hbm, ⟨7, _⟩ => ⟨S2560, .f32⟩
  | .hbm, ⟨8, _⟩ => ⟨S2560, .f32⟩
  | .hbm, ⟨9, _⟩ => ⟨S1024x1, .f32⟩
  | .hbm, ⟨10, _⟩ => ⟨S1024x128, .f32⟩
  | .hbm, ⟨11, _⟩ => ⟨S2560x2560, .fp8e4m3⟩
  | .hbm, ⟨12, _⟩ => ⟨S1x2560, .f32⟩
  | .hbm, ⟨13, _⟩ => ⟨S1024x2560, .bf16⟩
  | .hbm, ⟨14, _⟩ => ⟨S1x2560, .f32⟩
  | .hbm, ⟨15, _⟩ => ⟨S1x2560, .f32⟩
  | .hbm, ⟨16, _⟩ => ⟨S1024x2560, .f32⟩
  | .hbm, ⟨17, _⟩ => ⟨S1024x2560, .fp8e4m3⟩
  | .hbm, ⟨18, _⟩ => ⟨S1024x128, .f32⟩
  | .local _ .vmem, ⟨0, _⟩ => ⟨S256x2560, .fp8e4m3⟩
  | .local _ .vmem, ⟨1, _⟩ => ⟨S256x2560, .fp8e4m3⟩
  | .local _ .vmem, ⟨2, _⟩ => ⟨S256x128, .f32⟩
  | .local _ .vmem, ⟨3, _⟩ => ⟨S256x128, .f32⟩
  | .local _ .vmem, ⟨4, _⟩ => ⟨S2560x2560, .fp8e4m3⟩
  | .local _ .vmem, ⟨5, _⟩ => ⟨S1x2560, .f32⟩
  | .local _ .vmem, ⟨6, _⟩ => ⟨S256x2560, .bf16⟩
  | .local _ .vmem, ⟨7, _⟩ => ⟨S256x2560, .bf16⟩
  | .local _ .vmem, ⟨8, _⟩ => ⟨S8x2560, .f32⟩
  | .local _ .vmem, ⟨9, _⟩ => ⟨S1x2560, .f32⟩
  | .local _ .vmem, ⟨10, _⟩ => ⟨S1x2560, .f32⟩
  | .local _ .vmem, ⟨11, _⟩ => ⟨S256x2560, .f32⟩
  | .local _ .vmem, ⟨12, _⟩ => ⟨S256x2560, .f32⟩
  | .local _ .vmem, ⟨13, _⟩ => ⟨S256x2560, .fp8e4m3⟩
  | .local _ .vmem, ⟨14, _⟩ => ⟨S256x2560, .fp8e4m3⟩
  | .local _ .vmem, ⟨15, _⟩ => ⟨S256x128, .f32⟩
  | .local _ .vmem, ⟨16, _⟩ => ⟨S256x128, .f32⟩
  | .local _ .smem, ⟨0, _⟩ => ⟨S4, .i32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![4], ![false]⟩

def k0_off1 (i : grid0.Coords) : Fin 1 → Nat :=
  let arg0 : BitVec 32 := BitVec.ofNat 32 (i 0).val
  let v124 : Index := Scalar.indexCast arg0
  ![v124.toNat]
def k0_off2 (v125 : BitVec 32) : Fin 2 → Nat :=
  let v126 : Index := Scalar.indexCast v125
  let c0_63 : Index := 0#32
  ![v126.toNat, 0]

def k0_chk1 (v125 : BitVec 32) : Prop :=
  (∀ a, (k0_off2 v125) a + S1x2560.size a ≤ S8x2560.size a)
theorem k0_off2_inb : ∀ (v125 : BitVec 32) (k0_hw1 : k0_chk1 v125), ∀ a, (k0_off2 v125) a + S1x2560.size a ≤ S8x2560.size a := fun v125 k0_hw1 => k0_hw1

@[reducible] def k0_t1_loop : Scf.Loop 32 :=
  let c0_i32 : BitVec 32 := 0#32
  let c8_i32 : BitVec 32 := 8#32
  let v128 : BitVec 32 := Scalar.addi c0_i32 c8_i32
  let c1_i32 : BitVec 32 := 1#32
  ⟨c0_i32, v128, c1_i32⟩
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v129 : BitVec 32 := Scalar.muli arg13 c32_i32
  let v130 : Index := Scalar.indexCast v129
  let c0_65 : Index := 0#32
  ![v130.toNat, 0]
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v129 : BitVec 32 := Scalar.muli arg13 c32_i32
  let v175 : Index := Scalar.indexCast v129
  let c0_78 : Index := 0#32
  ![v175.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2560x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2560 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2560 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjSReferenceIdeal.lean ====
abbrev S4 : Shape := ⟨1, ![4]⟩
abbrev S1024x2560 : Shape := ⟨2, ![1024, 2560]⟩
abbrev S1024 : Shape := ⟨1, ![1024]⟩
abbrev S20x128x2560 : Shape := ⟨3, ![20, 128, 2560]⟩
abbrev S2560 : Shape := ⟨1, ![2560]⟩
abbrev S4x256x2560 : Shape := ⟨3, ![4, 256, 2560]⟩
abbrev S8x2560 : Shape := ⟨2, ![8, 2560]⟩
abbrev S_ : Shape := ⟨0, ![]⟩
abbrev S4x1 : Shape := ⟨2, ![4, 1]⟩
abbrev S4x2560 : Shape := ⟨2, ![4, 2560]⟩
abbrev S4x1x2560 : Shape := ⟨3, ![4, 1, 2560]⟩
abbrev S1024x1 : Shape := ⟨2, ![1024, 1]⟩
abbrev S2560x2560 : Shape := ⟨2, ![2560, 2560]⟩
abbrev S1x2560 : Shape := ⟨2, ![1, 2560]⟩
abbrev S1024x128 : Shape := ⟨2, ![1024, 128]⟩

abbrev nBuf : Space → Nat
  | .hbm => 31
  | .vmem => 11
  | .smem => 0
  | _ => 0

abbrev bufTy : (tb : Table) → Fin (tcTables nBuf tb) → BufTy
  | .hbm, ⟨0, _⟩ => ⟨S4, .i32⟩
  | .hbm, ⟨1, _⟩ => ⟨S1024x2560, .fp8e4m3⟩
  | .hbm, ⟨2, _⟩ => ⟨S1024, .f32⟩
  | .hbm, ⟨3, _⟩ => ⟨S20x128x2560, .fp8e4m3⟩
  | .hbm, ⟨4, _⟩ => ⟨S2560, .f32⟩
  | .hbm, ⟨5, _⟩ => ⟨S4x256x2560, .bf16⟩
  | .hbm, ⟨6, _⟩ => ⟨S8x2560, .f32⟩
  | .hbm, ⟨7, _⟩ => ⟨S2560, .f32⟩
  | .hbm, ⟨8, _⟩ => ⟨S2560, .f32⟩
  | .hbm, ⟨9, _⟩ => ⟨S_, .i32⟩
  | .hbm, ⟨10, _⟩ => ⟨S4, .i32⟩
  | .hbm, ⟨11, _⟩ => ⟨S4, .i1⟩
  | .hbm, ⟨12, _⟩ => ⟨S_, .i32⟩
  | .hbm, ⟨13, _⟩ => ⟨S4, .i32⟩
  | .hbm, ⟨14, _⟩ => ⟨S4, .i32⟩
  | .hbm, ⟨15, _⟩ => ⟨S4, .i32⟩
  | .hbm, ⟨16, _⟩ => ⟨S4x1, .i32⟩
  | .hbm, ⟨17, _⟩ => ⟨S4x2560, .f32⟩
  | .hbm, ⟨18, _⟩ => ⟨S4x1x2560, .f32⟩
  | .hbm, ⟨19, _⟩ => ⟨S4x256x2560, .f32⟩
  | .hbm, ⟨20, _⟩ => ⟨S1024x2560, .f32⟩
  | .hbm, ⟨21, _⟩ => ⟨S1024x1, .f32⟩
  | .hbm, ⟨22, _⟩ => ⟨S2560x2560, .fp8e4m3⟩
  | .hbm, ⟨23, _⟩ => ⟨S1x2560, .f32⟩
  | .hbm, ⟨24, _⟩ => ⟨S4x256x2560, .f32⟩
  | .hbm, ⟨25, _⟩ => ⟨S1024x2560, .f32⟩
  | .hbm, ⟨26, _⟩ => ⟨S1x2560, .f32⟩
  | .hbm, ⟨27, _⟩ => ⟨S1x2560, .f32⟩
  | .hbm, ⟨28, _⟩ => ⟨S1024x2560, .f32⟩
  | .hbm, ⟨29, _⟩ => ⟨S1024x2560, .fp8e4m3⟩
  | .hbm, ⟨30, _⟩ => ⟨S1024x128, .f32⟩
  | .local _ .vmem, ⟨0, _⟩ => ⟨S1024x2560, .fp8e4m3⟩
  | .local _ .vmem, ⟨1, _⟩ => ⟨S1024x1, .f32⟩
  | .local _ .vmem, ⟨2, _⟩ => ⟨S2560x2560, .fp8e4m3⟩
  | .local _ .vmem, ⟨3, _⟩ => ⟨S1x2560, .f32⟩
  | .local _ .vmem, ⟨4, _⟩ => ⟨S1024x2560, .f32⟩
  | .local _ .vmem, ⟨5, _⟩ => ⟨S1024x2560, .f32⟩
  | .local _ .vmem, ⟨6, _⟩ => ⟨S1x2560, .f32⟩
  | .local _ .vmem, ⟨7, _⟩ => ⟨S1x2560, .f32⟩
  | .local _ .vmem, ⟨8, _⟩ => ⟨S1024x2560, .f32⟩
  | .local _ .vmem, ⟨9, _⟩ => ⟨S1024x2560, .fp8e4m3⟩
  | .local _ .vmem, ⟨10, _⟩ => ⟨S1024x128, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1024x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x2560 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== SpatKernel.lean ====
abbrev S4x256x2560 : Shape := ⟨3, ![4, 256, 2560]⟩
abbrev S2560 : Shape := ⟨1, ![2560]⟩
abbrev S2560x3x20x128 : Shape := ⟨4, ![2560, 3, 20, 128]⟩
abbrev S3x20x128 : Shape := ⟨3, ![3, 20, 128]⟩
abbrev S1024x2560 : Shape := ⟨2, ![1024, 2560]⟩
abbrev S1x2560 : Shape := ⟨2, ![1, 2560]⟩
abbrev S3x20x2560x128 : Shape := ⟨4, ![3, 20, 2560, 128]⟩
abbrev S3x10x256 : Shape := ⟨3, ![3, 10, 256]⟩
abbrev S10x3x256 : Shape := ⟨3, ![10, 3, 256]⟩
abbrev S1024x128 : Shape := ⟨2, ![1024, 128]⟩
abbrev S3x2x2560x128 : Shape := ⟨4, ![3, 2, 2560, 128]⟩
abbrev S1x3x256 : Shape := ⟨3, ![1, 3, 256]⟩
abbrev S3x1024x256 : Shape := ⟨3, ![3, 1024, 256]⟩
abbrev S10x1024x256 : Shape := ⟨3, ![10, 1024, 256]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩
abbrev S1x1x2560x128 : Shape := ⟨4, ![1, 1, 2560, 128]⟩
abbrev S2560x128 : Shape := ⟨2, ![2560, 128]⟩
abbrev S2560x256 : Shape := ⟨2, ![2560, 256]⟩
abbrev S1024x256 : Shape := ⟨2, ![1024, 256]⟩
abbrev S1x1x256 : Shape := ⟨3, ![1, 1, 256]⟩
abbrev S1x256 : Shape := ⟨2, ![1, 256]⟩
abbrev S1x1024x256 : Shape := ⟨3, ![1, 1024, 256]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x32x256 : Shape := ⟨3, ![1, 32, 256]⟩
abbrev S32x256 : Shape := ⟨2, ![32, 256]⟩

abbrev nBuf : Space → Nat
  | .hbm => 15
  | .vmem => 14
  | .smem => 0
  | _ => 0

abbrev bufTy : (tb : Table) → Fin (tcTables nBuf tb) → BufTy
  | .hbm, ⟨0, _⟩ => ⟨S4x256x2560, .bf16⟩
  | .hbm, ⟨1, _⟩ => ⟨S2560, .f32⟩
  | .hbm, ⟨2, _⟩ => ⟨S2560, .f32⟩
  | .hbm, ⟨3, _⟩ => ⟨S2560x3x20x128, .fp8e4m3⟩
  | .hbm, ⟨4, _⟩ => ⟨S3x20x128, .f32⟩
  | .hbm, ⟨5, _⟩ => ⟨S1024x2560, .bf16⟩
  | .hbm, ⟨6, _⟩ => ⟨S1x2560, .f32⟩
  | .hbm, ⟨7, _⟩ => ⟨S1x2560, .f32⟩
  | .hbm, ⟨8, _⟩ => ⟨S3x20x2560x128, .fp8e4m3⟩
  | .hbm, ⟨9, _⟩ => ⟨S3x10x256, .f32⟩
  | .hbm, ⟨10, _⟩ => ⟨S10x3x256, .f32⟩
  | .hbm, ⟨11, _⟩ => ⟨S1024x2560, .fp8e4m3⟩
  | .hbm, ⟨12, _⟩ => ⟨S1024x128, .f32⟩
  | .hbm, ⟨13, _⟩ => ⟨S1024x2560, .fp8e4m3⟩
  | .hbm, ⟨14, _⟩ => ⟨S1024x128, .f32⟩
  | .local _ .vmem, ⟨0, _⟩ => ⟨S1024x2560, .bf16⟩
  | .local _ .vmem, ⟨1, _⟩ => ⟨S1x2560, .f32⟩
  | .local _ .vmem, ⟨2, _⟩ => ⟨S1x2560, .f32⟩
  | .local _ .vmem, ⟨3, _⟩ => ⟨S3x2x2560x128, .fp8e4m3⟩
  | .local _ .vmem, ⟨4, _⟩ => ⟨S3x2x2560x128, .fp8e4m3⟩
  | .local _ .vmem, ⟨5, _⟩ => ⟨S1x3x256, .f32⟩
  | .local _ .vmem, ⟨6, _⟩ => ⟨S1x3x256, .f32⟩
  | .local _ .vmem, ⟨7, _⟩ => ⟨S1024x2560, .fp8e4m3⟩
  | .local _ .vmem, ⟨8, _⟩ => ⟨S1024x128, .f32⟩
  | .local _ .vmem, ⟨9, _⟩ => ⟨S1024x2560, .fp8e4m3⟩
  | .local _ .vmem, ⟨10, _⟩ => ⟨S1024x128, .f32⟩
  | .local _ .vmem, ⟨11, _⟩ => ⟨S3x1024x256, .bf16⟩
  | .local _ .vmem, ⟨12, _⟩ => ⟨S10x1024x256, .f32⟩
  | .local _ .vmem, ⟨13, _⟩ => ⟨S1024x128, .f32⟩
  | _, _ => ⟨S4x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_207 : BitVec 32 := 0#32
  let c32_i32 : BitVec 32 := 32#32
  let v327 : BitVec 32 := Scalar.addi c0_i32_207 c32_i32
  let c1_i32 : BitVec 32 := 1#32
  ⟨c0_i32_207, v327, c1_i32⟩
def k0_off1 (k0_t1 : Fin k0_t1_loop.trips) : Fin 2 → Nat :=
  let c0_i32_207 : BitVec 32 := 0#32
  let c1_i32 : BitVec 32 := 1#32
  let arg13 : BitVec 32 := Scf.iv c0_i32_207 c1_i32 k0_t1
  let c32_i32_212 : BitVec 32 := 32#32
  let v332 : BitVec 32 := Scalar.muli arg13 c32_i32_212
  let v333 : Index := Scalar.indexCast v332
  let c0_213 : Index := 0#32
  ![v333.toNat, 0]
def k0_off2 (k0_t1 : Fin k0_t1_loop.trips) : Fin 2 → Nat :=
  let c0_i32_207 : BitVec 32 := 0#32
  let c1_i32 : BitVec 32 := 1#32
  let arg13 : BitVec 32 := Scf.iv c0_i32_207 c1_i32 k0_t1
  let c32_i32_212 : BitVec 32 := 32#32
  let v332 : BitVec 32 := Scalar.muli arg13 c32_i32_212
  let v377 : Index := Scalar.indexCast v332
  let c0_226 : Index := 0#32
  ![v377.toNat, 0]
def k0_off3 (i : grid0.Coords) : Fin 3 → Nat :=
  let arg0 : BitVec 32 := BitVec.ofNat 32 (i 0).val
  let v95 : Index := Scalar.indexCast arg0
  let c0_69 : Index := 0#32
  let c0_70 : Index := 0#32
  ![v95.toNat, 0, 0]
def k0_off4 (i : grid0.Coords) : Fin 3 → Nat :=
  let arg0 : BitVec 32 := BitVec.ofNat 32 (i 0).val
  let v123 : Index := Scalar.indexCast arg0
  let c0_85 : Index := 0#32
  let c128_86 : Index := 128#32
  ![v123.toNat, 0, 128]
def k0_off5 (i : grid0.Coords) : Fin 3 → Nat :=
  let arg0 : BitVec 32 := BitVec.ofNat 32 (i 0).val
  let v157 : Index := Scalar.indexCast arg0
  let c256_105 : Index := 256#32
  let c0_106 : Index := 0#32
  ![v157.toNat, 256, 0]
def k0_off6 (i : grid0.Coords) : Fin 3 → Nat :=
  let arg0 : BitVec 32 := BitVec.ofNat 32 (i 0).val
  let v185 : Index := Scalar.indexCast arg0
  let c256_122 : Index := 256#32
  let c128_123 : Index := 128#32
  ![v185.toNat, 256, 128]
def k0_off7 (i : grid0.Coords) : Fin 3 → Nat :=
  let arg0 : BitVec 32 := BitVec.ofNat 32 (i 0).val
  let v219 : Index := Scalar.indexCast arg0
  let c512_142 : Index := 512#32
  let c0_143 : Index := 0#32
  ![v219.toNat, 512, 0]
def k0_off8 (i : grid0.Coords) : Fin 3 → Nat :=
  let arg0 : BitVec 32 := BitVec.ofNat 32 (i 0).val
  let v247 : Index := Scalar.indexCast arg0
  let c512_159 : Index := 512#32
  let c128_160 : Index := 128#32
  ![v247.toNat, 512, 128]
def k0_off9 (i : grid0.Coords) : Fin 3 → Nat :=
  let arg0 : BitVec 32 := BitVec.ofNat 32 (i 0).val
  let v281 : Index := Scalar.indexCast arg0
  let c768_179 : Index := 768#32
  let c0_180 : Index := 0#32
  ![v281.toNat, 768, 0]
def k0_off10 (i : grid0.Coords) : Fin 3 → Nat :=
  let arg0 : BitVec 32 := BitVec.ofNat 32 (i 0).val
  let v309 : Index := Scalar.indexCast arg0
  let c768_196 : Index := 768#32
  let c128_197 : Index := 128#32
  ![v309.toNat, 768, 128]
def k0_cond2 (i : grid0.Coords) : BitVec 1 :=
  let arg0 : BitVec 32 := BitVec.ofNat 32 (i 0).val
  let c9_i32 : BitVec 32 := 9#32
  let v320 : BitVec 1 := Scalar.cmpi .eq arg0 c9_i32
  let v321 : BitVec 32 := Scalar.extui v320
  let c0_i32_202 : BitVec 32 := 0#32
  let v322 : BitVec 1 := Scalar.cmpi .ne v321 c0_i32_202
  v322

@[reducible] def k0_t2_loop : Scf.Loop 32 :=
  let c0_i32_203 : BitVec 32 := 0#32
  let c32_i32 : BitVec 32 := 32#32
  let v323 : BitVec 32 := Scalar.addi c0_i32_203 c32_i32
  let c1_i32 : BitVec 32 := 1#32
  ⟨c0_i32_203, v323, c1_i32⟩
def k0_off11 (k0_t2 : Fin k0_t2_loop.trips) : Fin 2 → Nat :=
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v325 : Index := Scalar.indexCast v324
  let c0_206 : Index := 0#32
  ![v325.toNat, 0]
def k0_off12 (k0_t2 : Fin k0_t2_loop.trips) : Fin 3 → Nat :=
  let c0_212 : Index := 0#32
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v339 : Index := Scalar.indexCast v324
  let c0_213 : Index := 0#32
  ![0, v339.toNat, 0]
def k0_off13 (k0_t2 : Fin k0_t2_loop.trips) : Fin 2 → Nat :=
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v349 : Index := Scalar.indexCast v324
  let c0_216 : Index := 0#32
  ![v349.toNat, 0]
def k0_off14 (k0_t2 : Fin k0_t2_loop.trips) : Fin 3 → Nat :=
  let c1_217 : Index := 1#32
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v351 : Index := Scalar.indexCast v324
  let c0_218 : Index := 0#32
  ![1, v351.toNat, 0]
def k0_off15 (k0_t2 : Fin k0_t2_loop.trips) : Fin 2 → Nat :=
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v361 : Index := Scalar.indexCast v324
  let c256_221 : Index := 256#32
  ![v361.toNat, 256]
def k0_off16 (k0_t2 : Fin k0_t2_loop.trips) : Fin 3 → Nat :=
  let c2_222 : Index := 2#32
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v363 : Index := Scalar.indexCast v324
  let c0_223 : Index := 0#32
  ![2, v363.toNat, 0]
def k0_off17 (k0_t2 : Fin k0_t2_loop.trips) : Fin 2 → Nat :=
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v373 : Index := Scalar.indexCast v324
  let c512_226 : Index := 512#32
  ![v373.toNat, 512]
def k0_off18 (k0_t2 : Fin k0_t2_loop.trips) : Fin 3 → Nat :=
  let c3 : Index := 3#32
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v375 : Index := Scalar.indexCast v324
  let c0_227 : Index := 0#32
  ![3, v375.toNat, 0]
def k0_off19 (k0_t2 : Fin k0_t2_loop.trips) : Fin 2 → Nat :=
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v385 : Index := Scalar.indexCast v324
  let c768_230 : Index := 768#32
  ![v385.toNat, 768]
def k0_off20 (k0_t2 : Fin k0_t2_loop.trips) : Fin 3 → Nat :=
  let c4 : Index := 4#32
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v387 : Index := Scalar.indexCast v324
  let c0_231 : Index := 0#32
  ![4, v387.toNat, 0]
def k0_off21 (k0_t2 : Fin k0_t2_loop.trips) : Fin 2 → Nat :=
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v397 : Index := Scalar.indexCast v324
  let c1024 : Index := 1024#32
  ![v397.toNat, 1024]
def k0_off22 (k0_t2 : Fin k0_t2_loop.trips) : Fin 3 → Nat :=
  let c5 : Index := 5#32
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v399 : Index := Scalar.indexCast v324
  let c0_234 : Index := 0#32
  ![5, v399.toNat, 0]
def k0_off23 (k0_t2 : Fin k0_t2_loop.trips) : Fin 2 → Nat :=
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v409 : Index := Scalar.indexCast v324
  let c1280 : Index := 1280#32
  ![v409.toNat, 1280]
def k0_off24 (k0_t2 : Fin k0_t2_loop.trips) : Fin 3 → Nat :=
  let c6 : Index := 6#32
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v411 : Index := Scalar.indexCast v324
  let c0_237 : Index := 0#32
  ![6, v411.toNat, 0]
def k0_off25 (k0_t2 : Fin k0_t2_loop.trips) : Fin 2 → Nat :=
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v421 : Index := Scalar.indexCast v324
  let c1536 : Index := 1536#32
  ![v421.toNat, 1536]
def k0_off26 (k0_t2 : Fin k0_t2_loop.trips) : Fin 3 → Nat :=
  let c7 : Index := 7#32
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v423 : Index := Scalar.indexCast v324
  let c0_240 : Index := 0#32
  ![7, v423.toNat, 0]
def k0_off27 (k0_t2 : Fin k0_t2_loop.trips) : Fin 2 → Nat :=
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v433 : Index := Scalar.indexCast v324
  let c1792 : Index := 1792#32
  ![v433.toNat, 1792]
def k0_off28 (k0_t2 : Fin k0_t2_loop.trips) : Fin 3 → Nat :=
  let c8 : Index := 8#32
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v435 : Index := Scalar.indexCast v324
  let c0_243 : Index := 0#32
  ![8, v435.toNat, 0]
def k0_off29 (k0_t2 : Fin k0_t2_loop.trips) : Fin 2 → Nat :=
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v445 : Index := Scalar.indexCast v324
  let c2048 : Index := 2048#32
  ![v445.toNat, 2048]
def k0_off30 (k0_t2 : Fin k0_t2_loop.trips) : Fin 3 → Nat :=
  let c9 : Index := 9#32
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v447 : Index := Scalar.indexCast v324
  let c0_246 : Index := 0#32
  ![9, v447.toNat, 0]
def k0_off31 (k0_t2 : Fin k0_t2_loop.trips) : Fin 2 → Nat :=
  let c0_i32_203 : BitVec 32 := 0#32
  let c1_i32 : BitVec 32 := 1#32
  let arg13 : BitVec 32 := Scf.iv c0_i32_203 c1_i32 k0_t2
  let c32_i32_205 : BitVec 32 := 32#32
  let v324 : BitVec 32 := Scalar.muli arg13 c32_i32_205
  let v457 : Index := Scalar.indexCast v324
  let c2304 : Index := 2304#32
  ![v457.toNat, 2304]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x2x2560x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== SpatReferenceIdeal.lean ====
abbrev S4x256x2560 : Shape := ⟨3, ![4, 256, 2560]⟩
abbrev S2560 : Shape := ⟨1, ![2560]⟩
abbrev S2560x3x20x128 : Shape := ⟨4, ![2560, 3, 20, 128]⟩
abbrev S3x20x128 : Shape := ⟨3, ![3, 20, 128]⟩
abbrev S1024x2560 : Shape := ⟨2, ![1024, 2560]⟩
abbrev S1x2560 : Shape := ⟨2, ![1, 2560]⟩
abbrev S2560x7680 : Shape := ⟨2, ![2560, 7680]⟩
abbrev S1x7680 : Shape := ⟨2, ![1, 7680]⟩
abbrev S1024x128 : Shape := ⟨2, ![1024, 128]⟩
abbrev S1024 : Shape := ⟨1, ![1024]⟩
abbrev S1024x1 : Shape := ⟨2, ![1024, 1]⟩
abbrev S1024x7680 : Shape := ⟨2, ![1024, 7680]⟩
abbrev S4x256x20x128 : Shape := ⟨4, ![4, 256, 20, 128]⟩
abbrev S4x20x256x128 : Shape := ⟨4, ![4, 20, 256, 128]⟩
abbrev S80x256x128 : Shape := ⟨3, ![80, 256, 128]⟩
abbrev S80x256x256 : Shape := ⟨3, ![80, 256, 256]⟩
abbrev S80x256 : Shape := ⟨2, ![80, 256]⟩
abbrev S80x256x1 : Shape := ⟨3, ![80, 256, 1]⟩

abbrev nBuf : Space → Nat
  | .hbm => 14
  | .vmem => 9
  | .smem => 0
  | _ => 0

abbrev bufTy : (tb : Table) → Fin (tcTables nBuf tb) → BufTy
  | .hbm, ⟨0, _⟩ => ⟨S4x256x2560, .bf16⟩
  | .hbm, ⟨1, _⟩ => ⟨S2560, .f32⟩
  | .hbm, ⟨2, _⟩ => ⟨S2560, .f32⟩
  | .hbm, ⟨3, _⟩ => ⟨S2560x3x20x128, .fp8e4m3⟩
  | .hbm, ⟨4, _⟩ => ⟨S3x20x128, .f32⟩
  | .hbm, ⟨5, _⟩ => ⟨S1024x2560, .bf16⟩
  | .hbm, ⟨6, _⟩ => ⟨S1x2560, .f32⟩
  | .hbm, ⟨7, _⟩ => ⟨S1x2560, .f32⟩
  | .hbm, ⟨8, _⟩ => ⟨S2560x7680, .fp8e4m3⟩
  | .hbm, ⟨9, _⟩ => ⟨S1x7680, .f32⟩
  | .hbm, ⟨10, _⟩ => ⟨S1024x2560, .fp8e4m3⟩
  | .hbm, ⟨11, _⟩ => ⟨S1024x128, .f32⟩
  | .hbm, ⟨12, _⟩ => ⟨S1024x2560, .fp8e4m3⟩
  | .hbm, ⟨13, _⟩ => ⟨S1024x128, .f32⟩
  | .local _ .vmem, ⟨0, _⟩ => ⟨S1024x2560, .bf16⟩
  | .local _ .vmem, ⟨1, _⟩ => ⟨S1x2560, .f32⟩
  | .local _ .vmem, ⟨2, _⟩ => ⟨S1x2560, .f32⟩
  | .local _ .vmem, ⟨3, _⟩ => ⟨S2560x7680, .fp8e4m3⟩
  | .local _ .vmem, ⟨4, _⟩ => ⟨S1x7680, .f32⟩
  | .local _ .vmem, ⟨5, _⟩ => ⟨S1024x2560, .fp8e4m3⟩
  | .local _ .vmem, ⟨6, _⟩ => ⟨S1024x128, .f32⟩
  | .local _ .vmem, ⟨7, _⟩ => ⟨S1024x2560, .fp8e4m3⟩
  | .local _ .vmem, ⟨8, _⟩ => ⟨S1024x128, .f32⟩
  | _, _ => ⟨S4x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1024x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x7680 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7680 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Spec.lean ====
/- The mathematics the kernels and the references are both compared with: plain functions of rows and columns, over the
   extended reals (the values a program at `Ideal` computes with). Nothing here mentions a program. -/
module

public import Idealize.ShloMosaic.Lib.Pointwise

@[expose] public section

noncomputable section

namespace Cert.Spec

open Idealize.ShloMosaic

/-- The constant `0.5`, as the programs print it. -/
def half : EReal := Ideal.ofBits .f32 0x3F000000#32

/-- The constant `sqrt 0.5`, as the programs print it. -/
def rsqrt2 : EReal := Ideal.ofBits .f32 0x3F3504F3#32

/-- The largest finite fp8 value, `448`. -/
def fmax : EReal := Ideal.ofBits .f32 0x43E00000#32

/-- Its negative, `-448`. -/
def fmin : EReal := Ideal.ofBits .f32 0xC3E00000#32

/-- The code of a value in a row of scale `s`: the quotient, clipped to the fp8 range. -/
def code (x s : EReal) : EReal := min fmax (max fmin (Ideal.div x s))

/-- A row of a scaled product: integer-like codes `C` with one scale per row, weights `W` with one scale per column. -/
def mm {K N : ℕ} (C : Fin K → EReal) (s : EReal) (W : Fin K → Fin N → EReal) (ws : Fin N → EReal) (n : Fin N) : EReal :=
  (∑ k : Fin K, C k * W k n) * s * ws n

/-- The exact (error-function) `gelu`. -/
def gelu (x : EReal) : EReal := half * x * (1 + Ideal.erf (x * rsqrt2))

/-- The absolute maximum of a row. -/
def amax {N : ℕ} (f : Fin N → EReal) : EReal := Finset.univ.fold max ⊥ fun n => max (f n) (-f n)

/-- The scale of a quantised row: `1` for a row of zeros, else its absolute maximum over `448`. -/
def scale {N : ℕ} (f : Fin N → EReal) : EReal := if amax f = 0 then 1 else Ideal.div (amax f) fmax

/-- The row length `2560`, as the programs print it. -/
def rowLen : EReal := Ideal.ofBits .f32 0x45200000#32

/-- The constant `1e-5` added to a variance. -/
def eps : EReal := Ideal.ofBits .f32 0x3727C5AC#32

/-- The mean of a row. -/
def mean (f : Fin 2560 → EReal) : EReal := Ideal.div (∑ n, f n) rowLen

/-- A row's deviations from its mean. -/
def dev (f : Fin 2560 → EReal) (n : Fin 2560) : EReal := f n - mean f

/-- A row normalised: its deviations over the root of their mean square, times `g`, plus `b`. -/
def norm (f g b : Fin 2560 → EReal) (n : Fin 2560) : EReal :=
  dev f n * Ideal.rsqrt (mean (fun k => dev f k * dev f k) + eps) * g n + b n

/-- The programs' absolute value and error function at `Ideal`. -/
theorem absf_eq (x : EReal) : FloatOps.absf (F := Ideal) (φ := .f32) x = max x (-x) := rfl
theorem erf_eq (x : EReal) : FloatOps.erf (F := Ideal) (φ := .f32) x = Ideal.erf x := rfl

/-- The error function is odd. -/
theorem erf_neg (x : EReal) : Ideal.erf (-x) = -Ideal.erf x := by
  induction x with
  | bot => show (1 : EReal) = -(-1); simp
  | top => rfl
  | coe r =>
    show ((2 / Real.sqrt Real.pi * ∫ t in (0 : ℝ)..(-r), Real.exp (-(t ^ 2)) : ℝ) : EReal)
      = -((2 / Real.sqrt Real.pi * ∫ t in (0 : ℝ)..r, Real.exp (-(t ^ 2)) : ℝ) : EReal)
    have h := intervalIntegral.integral_comp_neg (a := r) (b := 0) fun t : ℝ => Real.exp (-(t ^ 2))
    simp only [neg_zero, even_two, Even.neg_pow] at h
    rw [← h, intervalIntegral.integral_symm, mul_neg, EReal.coe_neg]

/-- `gelu` with the complementary error function written out. -/
theorem gelu_compl (x : EReal) : half * x * (1 - Ideal.erf ((0 - x) * rsqrt2)) = gelu x := by
  rw [zero_sub, EReal.neg_mul, erf_neg, sub_eq_add_neg, neg_neg]
  rfl

end Cert.Spec
-- ==== Proof.Reads.lean ====
/- Reads of a part of a block, at an index: a load through a rectangle at a literal offset takes the block's entry at the
   offset plus the index. -/
module

public import Idealize.ShloMosaic.Lib.Pointwise
public import Idealize.ShloMosaic.Lib.Pipeline.ValueKit

@[expose] public section

noncomputable section

namespace Cert.Reads

open Idealize.ShloMosaic

/-- A load of an `A' × B'` part of an `A × B` block at offsets `o0`, `o1`. -/
theorem ld2 {Val : EltTy → Type} {e : EltTy} {A B A' B' o0 o1 : ℕ} (X : (⟨2, ![A, B]⟩ : Shape).Idx → Val e)
    (inb : ∀ a : Fin (⟨2, ![A, B]⟩ : Shape).rank, (![o0, o1] : Fin 2 → ℕ) a + (![A', B'] : Fin 2 → ℕ) a ≤ (⟨2, ![A, B]⟩ : Shape).size a)
    (i : Fin A') (j : Fin B') (i' : Fin A) (j' : Fin B) (hi : i'.val = o0 + i.val) (hj : j'.val = o1 + j.val) :
    View.ld X (Rect.unit (s := ⟨2, ![A, B]⟩) ![o0, o1] ![A', B'] inb) (ix2 i j) = X (ix2 i' j') :=
  View.ld_unit_apply_of X _ _ _ _ _ fun a => by
    match a with
    | 0 => exact hi
    | 1 => exact hj

end Cert.Reads
-- ==== Proof.FcOnePay.lean ====
/-
What each computed value of the first fully connected kernel is at an index: the matrix product and
the GELU of one column tile, and the maxima the row scales are made of.
-/
module

public import proofs.«01_k».proof.Proof.Gen.FcOneKernelIdeal.Value
public import proofs.«01_k».proof.Proof.Spec
public import proofs.«01_k».proof.Proof.Reads
public import Idealize.ShloMosaic.Lib.Pointwise
public import Idealize.ShloMosaic.Lib.Pipeline.ValueKit

@[expose] public section

set_option maxRecDepth 16384

noncomputable section

namespace Cert.FcOneKernelIdeal.Hand

open Cert.FcOneKernelIdeal Cert.FcOneKernelIdeal.Gen Idealize.ShloMosaic Idealize.ShloMosaic.TcCoe Idealize.SL.Sem
open Idealize.ShloMosaic.Pipeline (Dat)

/-- Columns 0..255 of a grid point's block of the hidden layer: `gelu` of the scaled product plus the bias. -/
theorem pay4_apply (x : Vec Ideal S1024x2560 .fp8e4m3) (w : Vec Ideal S2560x256 .fp8e4m3) (s : Vec Ideal S1024x128 .f32)
    (ws b : Vec Ideal S1x256 .f32) (r : Fin 1024) (j : Fin 256) {X W : Fin 2560 → EReal} {a u v : EReal}
    (hx : ∀ k, x (ix2 r k) = X k) (hw : ∀ k, w (ix2 k j) = W k) (hs : ∀ l : Fin 128, s (ix2 r l) = a)
    (hu : ws (ix2 0 j) = u) (hv : b (ix2 0 j) = v) :
    k0_pay4 x w s ws b (ix2 r j) = Spec.gelu ((∑ k, X k * W k) * a * u + v) := by
  have e : (if h : j.val < 128 then (∑ k, x (ix2 r k) * w (ix2 k j)) * s (ix2 r ⟨j.val, h⟩)
      else (∑ k, x (ix2 r k) * w (ix2 k ⟨128 + (j.val - 128), by omega⟩)) * s (ix2 r ⟨j.val - 128, by omega⟩))
      = (∑ k, X k * W k) * a := by
    have hj : ∀ h : ¬ j.val < 128, (⟨128 + (j.val - 128), by omega⟩ : Fin 256) = j := fun h => Fin.ext (by simp only; omega)
    split
    · rw [hs]; simp only [hx, hw]
    · rename_i h
      rw [hs, hj h]; simp only [hx, hw]
  pointwise [k0_pay4]
  rw [e, hu, hv]
  rfl

/-- Columns 256..511 of the block are computed by the same expression as columns 0..255. -/
theorem pay7_eq : k0_pay7 (F := Ideal) = k0_pay4 := rfl

/-- The running maximum's step over one half block is the same expression for both halves. -/
theorem pay8_eq (x : Vec Ideal S1024x2560 .fp8e4m3) (w : Vec Ideal S2560x256 .fp8e4m3) (s : Vec Ideal S1024x128 .f32)
    (ws b : Vec Ideal S1x256 .f32) (a : Vec Ideal S1024x128 .f32) :
    k0_pay8 x w s ws b a = k0_pay5 x w s ws b a := rfl

/-- The running maximum's step over one half block: lane `j` takes in the absolute values of columns `j` and `128 + j`. -/
theorem pay5_apply (x : Vec Ideal S1024x2560 .fp8e4m3) (w : Vec Ideal S2560x256 .fp8e4m3) (s : Vec Ideal S1024x128 .f32)
    (ws b : Vec Ideal S1x256 .f32) (a : Vec Ideal S1024x128 .f32) (r : Fin 1024) (j : Fin 128) (f : Fin 256 → EReal)
    (hf : ∀ n, k0_pay4 x w s ws b (ix2 r n) = f n) :
    k0_pay5 x w s ws b a (ix2 r j) = max (a (ix2 r j)) (max (max (f ⟨j.val, by omega⟩) (-f ⟨j.val, by omega⟩))
      (max (f ⟨128 + j.val, by omega⟩) (-f ⟨128 + j.val, by omega⟩))) := by
  pointwise [k0_pay5]
  rw [hf, hf]
  rfl

/-- The word `0xFF800000` is `-∞`, the unit of the maximum. -/
theorem negInf : Ideal.ofBits .f32 0xFF800000#32 = ⊥ := by decide

/-- The scale stored at the last point: from the running maxima's maximum over the lanes. -/
theorem pay2_apply (a : Vec Ideal S1024x128 .f32) (r : Fin 1024) (j : Fin 128) (A : EReal)
    (hA : Finset.univ.fold max ⊥ (fun l : Fin 128 => a (ix2 r l)) = A) :
    k0_pay2 a (ix2 r j) = if A = 0 then 1 else Ideal.div A Spec.fmax := by
  pointwise [k0_pay2]
  rw [negInf, hA]
  rfl

end Cert.FcOneKernelIdeal.Hand
-- ==== Proof.FcOneBlock.lean ====
/- The blocks each grid point of the first feed-forward kernel reads and writes, in closed form. -/
module

public import proofs.«01_k».proof.Proof.FcOnePay

@[expose] public section

set_option maxRecDepth 16384

noncomputable section

namespace Cert.FcOneKernelIdeal.Hand

open Cert.FcOneKernelIdeal Cert.FcOneKernelIdeal.Gen Idealize.ShloMosaic Idealize.ShloMosaic.TcCoe Idealize.SL.Sem
open Idealize.ShloMosaic.Pipeline (Dat)

variable (m : (ℓ : Loc nD τ sig) → Buf (Elt Ideal) ℓ)

/-- The hidden layer's entry (`r`, `n`), over the argument arrays. -/
def hid (c : Dev nD) (r : Fin 1024) (n : Fin 10240) : EReal :=
  Spec.gelu (Spec.mm (fun k => m ((c : Thread nD τ).loc main_arg0) (ix2 r k)) (m ((c : Thread nD τ).loc main_arg1) (ix1 r))
    (fun k n => m ((c : Thread nD τ).loc main_arg2) (ix2 k n)) (fun n => m ((c : Thread nD τ).loc main_arg3) (ix1 n)) n
    + m ((c : Thread nD τ).loc main_arg4) (ix1 n))

/-- The index maps: the codes and the row scales stay, the weights' columns, the column scales and the bias move with the point. -/
theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val] ∧ win0_6.index t = ![0, 0] :=
  (by decide +kernel : ∀ t : Fin grid0.N, _)

/-- The array column under column `j` of point `t`'s block. -/
abbrev col (t : Fin cfg0.N) (j : ℕ) (hj : j < 512) : Fin 10240 :=
  ⟨512 * t.val + j, by have := t.isLt; have h : cfg0.N = 20 := N_0; omega⟩

/-- The blocks of the operands at a point: the codes, the row scales, the weights, the column scales and the bias. -/
theorem blk0 (c : Dev nD) (t : Fin cfg0.N) (r : Fin 1024) (k : Fin 2560) :
    iblk m c 0 t (ix2 r k) = m ((c : Thread nD τ).loc main_arg0) (ix2 r k) := by
  blk_point [iblk, V, idx t]

theorem blk1 (c : Dev nD) (t : Fin cfg0.N) (r : Fin 1024) (l : Fin 128) :
    iblk m c 1 t (ix2 r l) = m ((c : Thread nD τ).loc main_arg1) (ix1 r) := by
  blk_point [iblk, V, idx t]

theorem blk2 (c : Dev nD) (t : Fin cfg0.N) (k : Fin 2560) (j : Fin 512) :
    iblk m c 2 t (ix2 k j) = m ((c : Thread nD τ).loc main_arg2) (ix2 k (col t j.val j.isLt)) := by
  blk_point [iblk, V, idx t]

theorem blk3 (c : Dev nD) (t : Fin cfg0.N) (j : Fin 512) :
    iblk m c 3 t (ix2 0 j) = m ((c : Thread nD τ).loc main_arg3) (ix1 (col t j.val j.isLt)) := by
  blk_point [iblk, V, idx t]

theorem blk4 (c : Dev nD) (t : Fin cfg0.N) (j : Fin 512) :
    iblk m c 4 t (ix2 0 j) = m ((c : Thread nD τ).loc main_arg4) (ix1 (col t j.val j.isLt)) := by
  blk_point [iblk, V, idx t]

/-- The two halves of a point's block at a column: each half's payload is `hid` at the array column. -/
theorem half0 (c : Dev nD) (t : Fin cfg0.N) (r : Fin 1024) (n : Fin 256) :
    k0_pay4 (F := Ideal) (iblk m c 0 t) (View.ld (iblk m c 2 t) (Rect.unit ![0, 0] ![2560, 256] inb_S2560x512_S2560x256_0_0)) (iblk m c 1 t)
      (View.ld (iblk m c 3 t) (Rect.unit ![0, 0] ![1, 256] inb_S1x512_S1x256_0_0))
      (View.ld (iblk m c 4 t) (Rect.unit ![0, 0] ![1, 256] inb_S1x512_S1x256_0_0)) (ix2 r n)
      = hid m c r (col t n.val (by omega)) :=
  pay4_apply _ _ _ _ _ r n (fun k => blk0 m c t r k)
    (fun k => (Reads.ld2 _ _ k n k ⟨n.val, by omega⟩ (by omega) (by simp)).trans (blk2 m c t k _))
    (fun l => blk1 m c t r l)
    ((Reads.ld2 _ _ 0 n 0 ⟨n.val, by omega⟩ rfl (by simp)).trans (blk3 m c t _))
    ((Reads.ld2 _ _ 0 n 0 ⟨n.val, by omega⟩ rfl (by simp)).trans (blk4 m c t _))

theorem half1 (c : Dev nD) (t : Fin cfg0.N) (r : Fin 1024) (n : Fin 256) :
    k0_pay4 (F := Ideal) (iblk m c 0 t) (View.ld (iblk m c 2 t) (Rect.unit ![0, 256] ![2560, 256] inb_S2560x512_S2560x256_0_256)) (iblk m c 1 t)
      (View.ld (iblk m c 3 t) (Rect.unit ![0, 256] ![1, 256] inb_S1x512_S1x256_0_256))
      (View.ld (iblk m c 4 t) (Rect.unit ![0, 256] ![1, 256] inb_S1x512_S1x256_0_256)) (ix2 r n)
      = hid m c r (col t (256 + n.val) (by omega)) :=
  pay4_apply _ _ _ _ _ r n (fun k => blk0 m c t r k)
    (fun k => (Reads.ld2 _ _ k n k ⟨256 + n.val, by omega⟩ (by omega) rfl).trans (blk2 m c t k _))
    (fun l => blk1 m c t r l)
    ((Reads.ld2 _ _ 0 n 0 ⟨256 + n.val, by omega⟩ rfl rfl).trans (blk3 m c t _))
    ((Reads.ld2 _ _ 0 n 0 ⟨256 + n.val, by omega⟩ rfl rfl).trans (blk4 m c t _))

/-- What any point leaves in the hidden layer's block. -/
theorem block5 (c : Dev nD) (t : Fin cfg0.N) (y : S1024x512.Idx) :
    (outsAt0 m c t.val t.isLt).1 y = hid m c (y 0) (col t (y 1).val (y 1).isLt) := by
  have key : ∀ (p0 p1 : FVec Ideal S1024x256 .f32), (∀ r n, p0 (ix2 r n) = hid m c r (col t n.val (by omega))) →
      (∀ r n, p1 (ix2 r n) = hid m c r (col t (256 + n.val) (by omega))) →
      View.canon (Val := Elt Ideal) (e := .f32) [⟨Rect.unit (s := S1024x512) ![0, 256] ![1024, 256] inb_S1024x512_S1024x256_0_256, p1⟩,
        ⟨Rect.unit (s := S1024x512) ![0, 0] ![1024, 256] inb_S1024x512_S1024x256_0_0, p0⟩] y
        = hid m c (y 0) (col t (y 1).val (y 1).isLt) := by
    intro p0 p1 e0 e1
    canon_tiles x h
    all_goals (
      first
        | refine (congrArg p1 (?_ : x = ix2 (x 0) (x 1))).trans ((e1 (x 0) (x 1)).trans ?_)
        | refine (congrArg p0 (?_ : x = ix2 (x 0) (x 1))).trans ((e0 (x 0) (x 1)).trans ?_)
      · blk_ext []
      · congr 1
        · exact Fin.ext h0.symm
        · exact Fin.ext (by simp only; omega))
  by_cases h0 : t.val % 20 = 0 <;> by_cases h1 : t.val % 20 = 19
  · omega
  · rw [outsAt0_A m c t h0 h1]; dsimp only; frame_out; exact key _ _ (half0 m c t) (half1 m c t)
  · rw [outsAt0_C m c t h0 h1]; dsimp only; frame_out; exact key _ _ (half0 m c t) (half1 m c t)
  · rw [outsAt0_B m c t h0 h1]; dsimp only; frame_out; exact key _ _ (half0 m c t) (half1 m c t)

/-- Two steps of two maxima each, bounded. -/
theorem max_bound (a p0 p1 p2 p3 y : EReal) : max (max a (max p0 p1)) (max p2 p3) ≤ y
    ↔ a ≤ y ∧ p0 ≤ y ∧ p1 ≤ y ∧ p2 ≤ y ∧ p3 ≤ y := by
  rw [max_le_iff, max_le_iff, max_le_iff, max_le_iff]; tauto

/-- The running maximum's step over one point's block: lane `l` takes in the absolute values of the columns `l`, `128 + l`,
    `256 + l` and `384 + l` of the block. -/
theorem step6 (c : Dev nD) (t : Fin cfg0.N) (a : Vec Ideal S1024x128 .f32) (r : Fin 1024) (l : Fin 128) (y : EReal) :
    k0_pay1
      (k0_pay8 (iblk m c 0 t) (View.ld (iblk m c 2 t) (Rect.unit ![0, 256] ![2560, 256] inb_S2560x512_S2560x256_0_256))
        (iblk m c 1 t) (View.ld (iblk m c 3 t) (Rect.unit ![0, 256] ![1, 256] inb_S1x512_S1x256_0_256))
        (View.ld (iblk m c 4 t) (Rect.unit ![0, 256] ![1, 256] inb_S1x512_S1x256_0_256))
        (k0_pay6
          (k0_pay5 (iblk m c 0 t) (View.ld (iblk m c 2 t) (Rect.unit ![0, 0] ![2560, 256] inb_S2560x512_S2560x256_0_0))
            (iblk m c 1 t) (View.ld (iblk m c 3 t) (Rect.unit ![0, 0] ![1, 256] inb_S1x512_S1x256_0_0))
            (View.ld (iblk m c 4 t) (Rect.unit ![0, 0] ![1, 256] inb_S1x512_S1x256_0_0)) a))) (ix2 r l) ≤ y
      ↔ a (ix2 r l) ≤ y ∧ ∀ j : Fin 512, j.val % 128 = l.val →
          max (hid m c r (col t j.val j.isLt)) (-hid m c r (col t j.val j.isLt)) ≤ y := by
  have e1 : ∀ v : FVec Ideal S1024x128 .f32, k0_pay1 v = v := fun v => by funext i; pointwise [k0_pay1]
  have e6 : ∀ v : FVec Ideal S1024x128 .f32, k0_pay6 v = v := fun v => by funext i; pointwise [k0_pay6]
  rw [e1, e6, pay8_eq, pay5_apply _ _ _ _ _ _ r l _ (half1 m c t r), pay5_apply _ _ _ _ _ _ r l _ (half0 m c t r)]
  refine (max_bound _ _ _ _ _ _).trans ?_
  constructor
  · rintro ⟨ha, h0, h1, h2, h3⟩
    refine ⟨ha, fun j hj => ?_⟩
    have hlt := j.isLt
    have : j.val = l.val ∨ j.val = 128 + l.val ∨ j.val = 256 + l.val ∨ j.val = 256 + (128 + l.val) := by omega
    rcases this with e | e | e | e
    · simpa only [e] using h0
    · simpa only [e] using h1
    · simpa only [e] using h2
    · simpa only [e] using h3
  · rintro ⟨ha, h⟩
    exact ⟨ha, h ⟨l.val, by omega⟩ (by simp only; omega), h ⟨128 + l.val, by omega⟩ (by simp only; omega),
      h ⟨256 + l.val, by omega⟩ (by simp only; omega), h ⟨256 + (128 + l.val), by omega⟩ (by simp only; omega)⟩

end Cert.FcOneKernelIdeal.Hand
-- ==== Proof.FcOneScale.lean ====
/- The running maximum of the first feed-forward kernel, and the row scales it ends with. -/
module

public import proofs.«01_k».proof.Proof.FcOneBlock

@[expose] public section

set_option maxRecDepth 16384

noncomputable section

namespace Cert.FcOneKernelIdeal.Hand

open Cert.FcOneKernelIdeal Cert.FcOneKernelIdeal.Gen Idealize.ShloMosaic Idealize.ShloMosaic.TcCoe Idealize.SL.Sem
open Idealize.ShloMosaic.Pipeline (Dat)

variable (m : (ℓ : Loc nD τ sig) → Buf (Elt Ideal) ℓ)

/-- Lane `l` after point `n`, by its upper bounds: it is the maximum of `0` and the absolute values of the columns
    congruent to `l` modulo 128 among those done so far. -/
theorem scratch (c : Dev nD) (r : Fin 1024) (l : Fin 128) (y : EReal) : ∀ (n : ℕ) (hn : n < cfg0.N),
    (outsAt0 m c n hn).2.2 (ix2 r l) ≤ y ↔ 0 ≤ y ∧ ∀ k : Fin 10240, k.val < 512 * (n + 1) → k.val % 128 = l.val →
      max (hid m c r k) (-hid m c r k) ≤ y
  | 0, hn => by
    have e3 : (k0_pay3 (F := Ideal)) (ix2 r l) = 0 := by pointwise [k0_pay3]
    rw [show (outsAt0 m c 0 hn) = outsAt0 m c (⟨0, hn⟩ : Fin cfg0.N).val hn from rfl, outsAt0_A m c ⟨0, hn⟩ rfl (by simp)]
    dsimp only; frame_out
    refine (step6 m c ⟨0, hn⟩ _ r l y).trans ?_
    rw [e3]
    refine and_congr_right fun _ => ⟨fun h k hk hl => ?_, fun h j hl => h _ ?_ ?_⟩
    · have := h ⟨k.val, by omega⟩ hl
      have e : col ⟨0, hn⟩ k.val (by omega) = k := Fin.ext (by simp [col])
      rwa [e] at this
    · have := j.isLt; simp only [col]; omega
    · simp only [col]; omega
  | n + 1, hn => by
    have hN : cfg0.N = 20 := N_0
    have ih := scratch c r l y n (by omega)
    have key : ∀ a : Vec Ideal S1024x128 .f32, a = (outsAt0 m c n (by omega)).2.2 →
        ((a (ix2 r l) ≤ y ∧ ∀ j : Fin 512, j.val % 128 = l.val →
          max (hid m c r (col ⟨n + 1, hn⟩ j.val j.isLt)) (-hid m c r (col ⟨n + 1, hn⟩ j.val j.isLt)) ≤ y)
        ↔ 0 ≤ y ∧ ∀ k : Fin 10240, k.val < 512 * (n + 1 + 1) → k.val % 128 = l.val →
          max (hid m c r k) (-hid m c r k) ≤ y) := by
      intro a ha
      rw [ha, ih, and_assoc]
      refine and_congr_right fun _ => ⟨fun h k hk hl => ?_, fun h => ⟨fun k hk hl => h k (by omega) hl, fun j hl => h _ ?_ ?_⟩⟩
      · by_cases hk' : k.val < 512 * (n + 1)
        · exact h.1 k hk' hl
        · have := h.2 ⟨k.val - 512 * (n + 1), by omega⟩ (by simp only; omega)
          have e : col ⟨n + 1, hn⟩ (k.val - 512 * (n + 1)) (by omega) = k := Fin.ext (by simp only [col]; omega)
          simp only [e] at this
          exact this
      · have := j.isLt; simp only [col]; omega
      · simp only [col]; omega
    rw [show (outsAt0 m c (n + 1) hn) = outsAt0 m c (⟨n + 1, hn⟩ : Fin cfg0.N).val hn from rfl]
    have h0 : ¬ (⟨n + 1, hn⟩ : Fin cfg0.N).val % 20 = 0 := by simp only; omega
    by_cases h1 : (⟨n + 1, hn⟩ : Fin cfg0.N).val % 20 = 19
    · rw [outsAt0_C m c _ h0 h1]; dsimp only; frame_out
      exact (step6 m c _ _ r l y).trans (key _ ((Memref.isWhole_whole cc0_scratch0).read_unread _))
    · rw [outsAt0_B m c _ h0 h1]; dsimp only; frame_out
      exact (step6 m c _ _ r l y).trans (key _ ((Memref.isWhole_whole cc0_scratch0).read_unread _))

/-- The maximum over the lanes after the last point is the row's absolute maximum. -/
theorem lanes (c : Dev nD) (r : Fin 1024) (hn : 19 < cfg0.N) :
    Finset.univ.fold max ⊥ (fun l : Fin 128 => (outsAt0 m c 19 hn).2.2 (ix2 r l)) = Spec.amax (hid m c r) := by
  refine eq_of_forall_ge_iff fun y => ?_
  unfold Spec.amax
  rw [Finset.fold_max_le, Finset.fold_max_le]
  refine and_congr_right fun _ => ⟨fun h k _ => ?_, fun h l _ => (scratch m c r l y 19 hn).2 ⟨?_, fun k _ _ => h k (Finset.mem_univ k)⟩⟩
  · exact ((scratch m c r ⟨k.val % 128, by omega⟩ y 19 hn).1 (h _ (Finset.mem_univ _))).2 k (by omega) rfl
  · have h0 := h 0 (Finset.mem_univ _)
    rcases le_total 0 (hid m c r 0) with hp | hp
    · exact hp.trans ((le_max_left _ _).trans h0)
    · exact (EReal.neg_nonneg.2 hp).trans ((le_max_right _ _).trans h0)

/-- What the last point leaves in the scales' block. -/
theorem block6 (c : Dev nD) (t : Fin cfg0.N) (h1 : t.val % 20 = 19) (y : S1024x128.Idx) :
    (outsAt0 m c t.val t.isLt).2.1 y = Spec.scale (hid m c (y 0)) := by
  have h0 : ¬ t.val % 20 = 0 := by omega
  have hN : t.val < 20 := lt_of_lt_of_eq t.isLt N_0
  have e : (outsAt0 m c t.val t.isLt).2.1 = k0_pay2 ((outsAt0 m c t.val t.isLt).2.2) := by
    rw [outsAt0_C m c t h0 h1]; dsimp only; frame_out
  rw [e]
  obtain ⟨n, hn⟩ := t
  obtain rfl : n = 19 := by simp only at h1 hN; omega
  have hy : y = ix2 (y 0) (y 1) := by blk_ext []
  rw [hy]
  exact pay2_apply _ (y 0) (y 1) _ (lanes m c (y 0) hn)

/-- The hidden layer's array after the run. -/
theorem final5 (c : Dev nD) : (dats m 0 c).arrAt 5 cfg0.N = fun i => hid m c (i 0) (i 1) := by
  refine (dats m 0 c).arrAt_eq_of_covers 5 _ (by decide +kernel) fun t hf y => ?_
  blk_simp; rw [after0_5]
  refine (block5 m c t y).trans ?_
  exact congrArg₂ (hid m c) (Fin.ext (by blk_simp [idx t])) (Fin.ext (by blk_simp [idx t]; simp only [col]; omega))

/-- The scales' array after the run. -/
theorem final6 (c : Dev nD) : (dats m 0 c).arrAt 6 cfg0.N = fun i => Spec.scale (hid m c (i 0)) := by
  refine (dats m 0 c).arrAt_eq_of_covers 6 _ (by decide +kernel) fun t hf y => ?_
  blk_simp; rw [after0_6]
  refine (block6 m c t ((flush0_6 t).mp hf) y).trans ?_
  exact congrArg (fun r => Spec.scale (hid m c r)) (Fin.ext (by blk_simp [idx t]))

end Cert.FcOneKernelIdeal.Hand
-- ==== Proof.FcOneRef.lean ====
/- The reference of the first feed-forward kernel: its two arrays after the run. -/
module

public import proofs.«01_k».proof.Proof.Gen.FcOneReferenceIdeal.Value
public import proofs.«01_k».proof.Proof.Spec
public import Idealize.ShloMosaic.Lib.Pipeline.ValueKit

@[expose] public section

set_option maxRecDepth 16384

noncomputable section

namespace Cert.FcOneReferenceIdeal.Hand

open Cert.FcOneReferenceIdeal Cert.FcOneReferenceIdeal.Gen Idealize.ShloMosaic Idealize.ShloMosaic.TcCoe Idealize.SL.Sem
open Idealize.ShloMosaic.Pipeline (Dat)

variable (m : (ℓ : Loc nD τ sig) → Buf (Elt Ideal) ℓ)

/-- The hidden layer's entry (`r`, `n`), over the argument arrays. -/
def hid (c : Dev nD) (r : Fin 1024) (n : Fin 10240) : EReal :=
  Spec.gelu (Spec.mm (fun k => m ((c : Thread nD τ).loc main_arg0) (ix2 r k)) (m ((c : Thread nD τ).loc main_arg1) (ix1 r))
    (fun k n => m ((c : Thread nD τ).loc main_arg2) (ix2 k n)) (fun n => m ((c : Thread nD τ).loc main_arg3) (ix1 n)) n
    + m ((c : Thread nD τ).loc main_arg4) (ix1 n))

/-- Every block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The stored hidden layer at an index, over any operands. -/
theorem pay1_apply (x : Vec Ideal S1024x2560 .fp8e4m3) (s : Vec Ideal S1024x1 .f32) (w : Vec Ideal S2560x10240 .fp8e4m3)
    (ws b : Vec Ideal S1x10240 .f32) (r : Fin 1024) (n : Fin 10240) {X W : Fin 2560 → EReal} {a u v : EReal}
    (hx : ∀ k, x (ix2 r k) = X k) (hw : ∀ k, w (ix2 k n) = W k) (hs : s (ix2 r 0) = a)
    (hu : ws (ix2 0 n) = u) (hv : b (ix2 0 n) = v) :
    k0_pay1 x s w ws b (ix2 r n) = Spec.gelu ((∑ k, X k * W k) * a * u + v) := by
  rw [← Spec.gelu_compl]
  unfold Spec.half Spec.rsqrt2
  pointwise [k0_pay1]
  simp only [hx, hw]
  rw [hs, hu, hv, Spec.erf_eq]

/-- The reduction of a row to its maximum. -/
theorem red_apply (v : FVec Ideal S1024x10240 .f32) (r : Fin 1024) {f : Fin 10240 → EReal} (hf : ∀ n, v (ix2 r n) = f n) :
    multiReduction .maximumf [1] S1024 v 0xFF800000#32 reduces_S1024x10240_S1024 (.inl rfl) rfl (ix1 r)
      = Finset.univ.fold max ⊥ f := by
  have hb : Ideal.ofBits .f32 0xFF800000#32 = ⊥ := by decide
  obtain rfl : f = fun n => v (ix2 r n) := funext fun n => (hf n).symm
  pointwise
  rw [hb]

/-- The scale from the row maxima `M`, written over the lanes. -/
theorem tail_apply (M : FVec Ideal S1024 .f32) (r : Fin 1024) (l : Fin 128) :
    broadcastTo S1024x128
      (shapeCast S1024x1
        (select
          (cmpf CmpFPredicate.oeq (shapeCast S1024x1 M shapeCasts_S1024_S1024x1) (broadcast S1024x1 (Scalar.ofBits .f32 0x00000000#32)))
          (broadcast S1024x1 (Scalar.ofBits .f32 0x3F800000#32))
          (divf (shapeCast S1024x1 M shapeCasts_S1024_S1024x1) (broadcast S1024x1 (Scalar.ofBits .f32 0x43E00000#32))))
        shapeCasts_S1024x1_S1024x1)
      broadcasts_S1024x1_S1024x128 (ix2 r l)
      = if M (ix1 r) = 0 then 1 else Ideal.div (M (ix1 r)) Spec.fmax := by
  unfold Spec.fmax
  pointwise

/-- The stored scales at an index, over any operands. -/
theorem pay2_apply (x : Vec Ideal S1024x2560 .fp8e4m3) (s : Vec Ideal S1024x1 .f32) (w : Vec Ideal S2560x10240 .fp8e4m3)
    (ws b : Vec Ideal S1x10240 .f32) (r : Fin 1024) (l : Fin 128) {f : Fin 10240 → EReal}
    (hf : ∀ n, k0_pay1 x s w ws b (ix2 r n) = f n) :
    k0_pay2 x s w ws b (ix2 r l) = Spec.scale f := by
  have hM := red_apply (absf (k0_pay1 (F := Ideal) x s w ws b)) r (f := fun n => max (f n) (-f n)) (fun n => by
    rw [← hf n]; rfl)
  unfold k0_pay2
  refine (tail_apply _ r l).trans ?_
  rw [hM]
  unfold Spec.scale Spec.amax
  with_reducible rfl

theorem blk0 (c : Dev nD) (t : Fin cfg0.N) (r : Fin 1024) (k : Fin 2560) :
    iblk m c 0 t (ix2 r k) = m ((c : Thread nD τ).loc main_arg0) (ix2 r k) := by
  blk_point [iblk, V, idx t]

theorem blk1 (c : Dev nD) (t : Fin cfg0.N) (r : Fin 1024) :
    iblk m c 1 t (ix2 r 0) = m ((c : Thread nD τ).loc main_arg1) (ix1 r) := by
  blk_point [iblk, V, idx t]

theorem blk2 (c : Dev nD) (t : Fin cfg0.N) (k : Fin 2560) (j : Fin 10240) :
    iblk m c 2 t (ix2 k j) = m ((c : Thread nD τ).loc main_arg2) (ix2 k j) := by
  blk_point [iblk, V, idx t]

theorem blk3 (c : Dev nD) (t : Fin cfg0.N) (j : Fin 10240) :
    iblk m c 3 t (ix2 0 j) = m ((c : Thread nD τ).loc main_arg3) (ix1 j) := by
  blk_point [iblk, V, idx t]

theorem blk4 (c : Dev nD) (t : Fin cfg0.N) (j : Fin 10240) :
    iblk m c 4 t (ix2 0 j) = m ((c : Thread nD τ).loc main_arg4) (ix1 j) := by
  blk_point [iblk, V, idx t]

/-- What the run leaves in the hidden layer's block. -/
theorem block5 (c : Dev nD) (t : Fin cfg0.N) (r : Fin 1024) (n : Fin 10240) :
    k0_pay1 (F := Ideal) (iblk m c 0 t) (iblk m c 1 t) (iblk m c 2 t) (iblk m c 3 t) (iblk m c 4 t) (ix2 r n) = hid m c r n :=
  pay1_apply _ _ _ _ _ r n (blk0 m c t r) (fun k => blk2 m c t k n) (blk1 m c t r) (blk3 m c t n) (blk4 m c t n)

/-- What the run leaves in the scales' block. -/
theorem block6 (c : Dev nD) (t : Fin cfg0.N) (r : Fin 1024) (l : Fin 128) :
    k0_pay2 (F := Ideal) (iblk m c 0 t) (iblk m c 1 t) (iblk m c 2 t) (iblk m c 3 t) (iblk m c 4 t) (ix2 r l) = Spec.scale (hid m c r) :=
  pay2_apply _ _ _ _ _ r l (block5 m c t r)

theorem out5 (c : Dev nD) (t : Fin cfg0.N) (y : S1024x10240.Idx) :
    out0_5 (F := Ideal) (iblk m c 0 t) (iblk m c 1 t) (iblk m c 2 t) (iblk m c 3 t) (iblk m c 4 t) y = hid m c (y 0) (y 1) := by
  frame_out
  have hy : y = ix2 (y 0) (y 1) := by blk_ext []
  rw [hy]
  exact block5 m c t (y 0) (y 1)

theorem out6 (c : Dev nD) (t : Fin cfg0.N) (y : S1024x128.Idx) :
    out0_6 (F := Ideal) (iblk m c 0 t) (iblk m c 1 t) (iblk m c 2 t) (iblk m c 3 t) (iblk m c 4 t) y = Spec.scale (hid m c (y 0)) := by
  frame_out
  have hy : y = ix2 (y 0) (y 1) := by blk_ext []
  rw [hy]
  exact block6 m c t (y 0) (y 1)

/-- The hidden layer's array after the run. -/
theorem final5 (c : Dev nD) : (dats m 0 c).arrAt 5 cfg0.N = fun i => hid m c (i 0) (i 1) := by
  refine (dats m 0 c).arrAt_eq_of_covers 5 _ (by decide +kernel) fun t hf y => ?_
  blk_simp; rw [after0_5]
  refine (out5 m c t y).trans ?_
  exact congrArg₂ (hid m c) (Fin.ext (by blk_simp [idx t])) (Fin.ext (by blk_simp [idx t]))

/-- The scales' array after the run. -/
theorem final6 (c : Dev nD) : (dats m 0 c).arrAt 6 cfg0.N = fun i => Spec.scale (hid m c (i 0)) := by
  refine (dats m 0 c).arrAt_eq_of_covers 6 _ (by decide +kernel) fun t hf y => ?_
  blk_simp; rw [after0_6]
  refine (out6 m c t y).trans ?_
  exact congrArg (fun r => Spec.scale (hid m c r)) (Fin.ext (by blk_simp [idx t]))

end Cert.FcOneReferenceIdeal.Hand
-- ==== Proof.FcOneClaim.lean ====
/- The first feed-forward kernel computes its reference, over the extended reals. -/
module

public import proofs.«01_k».proof.Defs
public import proofs.«01_k».proof.Proof.FcOneScale
public import proofs.«01_k».proof.Proof.FcOneRef
public import Idealize.ShloMosaic.Lib.Claim

@[expose] public section

set_option maxRecDepth 16384

noncomputable section

namespace Cert.Proof

open Idealize.ShloMosaic Idealize.ShloMosaic.TcCoe Idealize.SL.Sem

/-- The two programs' hidden layers, from equal arguments. -/
theorem fcOne_hid (m : (ℓ : Loc Cert.FcOneKernelIdeal.nD Cert.FcOneKernelIdeal.τ Cert.FcOneKernelIdeal.sig) → Buf (Elt Ideal) ℓ)
    (m' : (ℓ : Loc Cert.FcOneReferenceIdeal.nD Cert.FcOneReferenceIdeal.τ Cert.FcOneReferenceIdeal.sig) → Buf (Elt Ideal) ℓ)
    (c : Dev Cert.FcOneKernelIdeal.nD)
    (h : m' ((c : Thread Cert.FcOneReferenceIdeal.nD Cert.FcOneReferenceIdeal.τ).loc Cert.FcOneReferenceIdeal.main_arg0) = m ((c : Thread Cert.FcOneKernelIdeal.nD Cert.FcOneKernelIdeal.τ).loc Cert.FcOneKernelIdeal.main_arg0)
      ∧ m' ((c : Thread Cert.FcOneReferenceIdeal.nD Cert.FcOneReferenceIdeal.τ).loc Cert.FcOneReferenceIdeal.main_arg1) = m ((c : Thread Cert.FcOneKernelIdeal.nD Cert.FcOneKernelIdeal.τ).loc Cert.FcOneKernelIdeal.main_arg1)
      ∧ m' ((c : Thread Cert.FcOneReferenceIdeal.nD Cert.FcOneReferenceIdeal.τ).loc Cert.FcOneReferenceIdeal.main_arg2) = m ((c : Thread Cert.FcOneKernelIdeal.nD Cert.FcOneKernelIdeal.τ).loc Cert.FcOneKernelIdeal.main_arg2)
      ∧ m' ((c : Thread Cert.FcOneReferenceIdeal.nD Cert.FcOneReferenceIdeal.τ).loc Cert.FcOneReferenceIdeal.main_arg3) = m ((c : Thread Cert.FcOneKernelIdeal.nD Cert.FcOneKernelIdeal.τ).loc Cert.FcOneKernelIdeal.main_arg3)
      ∧ m' ((c : Thread Cert.FcOneReferenceIdeal.nD Cert.FcOneReferenceIdeal.τ).loc Cert.FcOneReferenceIdeal.main_arg4) = m ((c : Thread Cert.FcOneKernelIdeal.nD Cert.FcOneKernelIdeal.τ).loc Cert.FcOneKernelIdeal.main_arg4)) :
    Cert.FcOneReferenceIdeal.Hand.hid m' c = Cert.FcOneKernelIdeal.Hand.hid m c := by
  obtain ⟨e0, e1, e2, e3, e4⟩ := h
  funext r n
  unfold Cert.FcOneReferenceIdeal.Hand.hid Cert.FcOneKernelIdeal.Hand.hid
  rw [e0, e1, e2, e3, e4]

/-- The two results agree for all arguments. -/
theorem fcOne : Cert.algebraic_FcOneKernelIdeal_FcOneReferenceIdeal := by
  pair_intro
  · run_from Cert.FcOneKernelIdeal.Value.run_blocks m g
  · run_from Cert.FcOneReferenceIdeal.Value.run_blocks m' g'
    · rw [Cert.FcOneReferenceIdeal.Hand.final5, Cert.FcOneKernelIdeal.Hand.final5, fcOne_hid m m' c (hagree c)]; rfl
    · rw [Cert.FcOneReferenceIdeal.Hand.final6, Cert.FcOneKernelIdeal.Hand.final6, fcOne_hid m m' c (hagree c)]; rfl

end Cert.Proof
-- ==== Proof.FcTwoCodes.lean ====
/- The block of codes one grid point of the second feed-forward kernel stores: a counted loop quantises 32 rows
   per trip, in 16 lane tiles, and the tiles are read back at one index. -/
module

public import proofs.«01_k».proof.Proof.Gen.FcTwoKernelIdeal.Value
public import proofs.«01_k».proof.Proof.Spec
public import proofs.«01_k».proof.Proof.Reads
public import Idealize.ShloMosaic.Lib.Pointwise
public import Idealize.ShloMosaic.Lib.Pipeline.ValueKit

@[expose] public section

set_option maxRecDepth 16384

noncomputable section

namespace Cert.FcTwoKernelIdeal.Hand

open Cert.FcTwoKernelIdeal Cert.FcTwoKernelIdeal.Gen Idealize.ShloMosaic Idealize.ShloMosaic.TcCoe Idealize.SL.Sem
open Idealize.ShloMosaic.Pipeline (Dat)
open Idealize.ShloMosaic.Tactic

/-- The tile of scales is read as it is. -/
theorem pay11_eq (v : Vec Ideal S32x128 .f32) : k0_pay11 v = v := by
  funext x
  pointwise [k0_pay11]

section Loop

variable (c : Dev nD) (i : grid0.Coords)
  (arg1 : Memref sig .tc .vmem S1024x2048 .f32) (harg1 : arg1.IsWhole)
  (arg2 : Memref sig .tc .vmem S1024x128 .f32) (harg2 : arg2.IsWhole)
  (arg3 : Memref sig .tc .vmem S2048x2560 .fp8e4m3) (harg3 : arg3.IsWhole)
  (arg4 : Memref sig .tc .vmem S1x2560 .f32) (harg4 : arg4.IsWhole)
  (arg5 : Memref sig .tc .vmem S1x2560 .f32) (harg5 : arg5.IsWhole)
  (arg6 : Memref sig .tc .vmem S1024x2560 .f32) (harg6 : arg6.IsWhole)
  (arg7 : Memref sig .tc .vmem S1024x2048 .fp8e4m3) (harg7 : arg7.IsWhole)
  (arg8 : Memref sig .tc .vmem S1024x2560 .bf16) (harg8 : arg8.IsWhole)
  (arg9 : Memref sig .tc .vmem S1024x2560 .f32) (harg9 : arg9.IsWhole)
  (X : Vec Ideal S1024x2048 .f32) (S : Vec Ideal S1024x128 .f32) (s : Fin 1024 → EReal)
  (hS : ∀ j, S j = s (j 0))

include hS in
/-- Every tile of one trip holds the codes of its rows. -/
theorem trip_codes (k : Fin k0_t1_loop.trips) (y : S1024x2048.Idx) :
    View.AllAt (tripL_k0_t1 (F := Ideal) Variants.none c none i arg1 harg1 arg2 harg2 arg3 harg3 arg4 harg4 arg5 harg5 arg6 harg6 arg7 harg7 arg8 harg8 arg9 harg9 (harg1.unread X) (harg2.unread S) k) y
      (Spec.code (X y) (s (y 0))) := by
  unfold tripL_k0_t1 trip_k0_t1
  dsimp only
  simp only [View.readAt_eq_ld, Memref.IsWhole.read_unread]
  unfold trip_k0_t1.sl.r_1 trip_k0_t1.sl.r_2 trip_k0_t1.sl.r_3 trip_k0_t1.sl.r_4
  unfold trip_k0_t1.sl.r trip_k0_t1.sl.cst_54
  repeat' first | exact View.allAt_nil _ _ | refine View.allAt_cons _ _ _ ?_ ?_
  all_goals
    intro x hx
    try simp only [View.readAt_eq_ld, Memref.IsWhole.read_unread]
    subst hx
    refine Eq.trans (b := Spec.code (X _) (S ((Rect.unit (k0_off1 k) ![32, 128] (k0_off1_inb k)).idx x))) ?_
      (congrArg (Spec.code _) ((hS _).trans (congrArg s rfl)))
    simp only [k0_pay12, k0_pay13, k0_pay14, k0_pay15, k0_pay20, k0_pay25, k0_pay30, pay11_eq]
    rfl

/-- Every piece of the trips before `n` is a piece of one trip. -/
theorem mem_pieces (X_arg1 : BufTy.Contents (Elt Ideal) arg1.view.ty) (X_arg2 : BufTy.Contents (Elt Ideal) arg2.view.ty)
    (p : View.Piece (Elt Ideal) S1024x2048 .fp8e4m3) : ∀ n : Nat,
    p ∈ pb_k0_t1 (F := Ideal) Variants.none c none i arg1 harg1 arg2 harg2 arg3 harg3 arg4 harg4 arg5 harg5 arg6 harg6 arg7 harg7 arg8 harg8 arg9 harg9 X_arg1 X_arg2 n →
    ∃ k, p ∈ tripL_k0_t1 (F := Ideal) Variants.none c none i arg1 harg1 arg2 harg2 arg3 harg3 arg4 harg4 arg5 harg5 arg6 harg6 arg7 harg7 arg8 harg8 arg9 harg9 X_arg1 X_arg2 k
  | 0, h => by rw [pb_k0_t1.eq_1] at h; exact absurd h List.not_mem_nil
  | n + 1, h => by
    rw [pb_k0_t1.eq_2] at h
    unfold pb_k0_t1Step at h
    split at h
    · rcases List.mem_append.mp h with h | h
      · exact ⟨_, h⟩
      · exact mem_pieces X_arg1 X_arg2 p n h
    · exact mem_pieces X_arg1 X_arg2 p n h

include hS in
/-- The block the loop leaves: the codes. -/
theorem loop_codes :
    View.canon (pb_k0_t1 (F := Ideal) Variants.none c none i arg1 harg1 arg2 harg2 arg3 harg3 arg4 harg4 arg5 harg5 arg6 harg6 arg7 harg7 arg8 harg8 arg9 harg9 (harg1.unread X) (harg2.unread S)
      (Scf.trips (0#32) (Scalar.addi 0#32 32#32) 1#32)) = fun y => Spec.code (X y) (s (y 0)) := by
  funext y
  refine View.canon_eq_of_allAt _ y _ ?_ fun p hp => ?_
  · exact View.cover_of_tiledL (pb_k0_t1 (F := Ideal) Variants.none c none i arg1 harg1 arg2 harg2 arg3 harg3 arg4 harg4 arg5 harg5 arg6 harg6 arg7 harg7 arg8 harg8 arg9 harg9 (harg1.unread X) (harg2.unread S)
      (Scf.trips (0#32) (Scalar.addi 0#32 32#32) 1#32)) S32x128.size (by sl_kernel_rfl) y
  obtain ⟨k, hk⟩ := mem_pieces c i arg1 harg1 arg2 harg2 arg3 harg3 arg4 harg4 arg5 harg5 arg6 harg6 arg7 harg7 arg8 harg8 arg9 harg9 _ _ p _ hp
  exact trip_codes c i arg1 harg1 arg2 harg2 arg3 harg3 arg4 harg4 arg5 harg5 arg6 harg6 arg7 harg7 arg8 harg8 arg9 harg9 X S s hS k y p hk

include hS in
/-- The block read back. -/
theorem read_codes (y : S1024x2048.Idx) :
    arg7.view.readCov (pb_k0_t1 (F := Ideal) Variants.none c none i arg1 harg1 arg2 harg2 arg3 harg3 arg4 harg4 arg5 harg5 arg6 harg6 arg7 harg7 arg8 harg8 arg9 harg9 (harg1.unread X) (harg2.unread S)
      (Scf.trips (0#32) (Scalar.addi 0#32 32#32) 1#32))
      (Rect.unit (s := S1024x2048) ![0, 0] ![1024, 2048] inb_S1024x2048_S1024x2048_0_0).toLoadRect y = Spec.code (X y) (s (y 0)) := by
  rw [View.readCov_eq_canon', loop_codes c i arg1 harg1 arg2 harg2 arg3 harg3 arg4 harg4 arg5 harg5 arg6 harg6 arg7 harg7 arg8 harg8 arg9 harg9 X S s hS]
  have hj : (Rect.unit (s := S1024x2048) ![0, 0] ![1024, 2048] inb_S1024x2048_S1024x2048_0_0).toLoadRect.idx y = y := by
    blk_ext []
    all_goals exact (Rect.idx_unit_val _ _ _ _ _).trans (Nat.zero_add _)
  exact congrArg (fun j => Spec.code (X j) (s (j 0))) hj

end Loop

end Cert.FcTwoKernelIdeal.Hand

end
-- ==== Proof.Concat.lean ====
/- Column pieces of one width laid side by side, read at an index: the value there is known as soon as every
   piece is known at the columns it covers. -/
module

public import Idealize.ShloMosaic.Lib.Pointwise
public import Idealize.ShloMosaic.Lib.Pipeline.ValueKit

@[expose] public section

namespace Cert.Reads

open Idealize.ShloMosaic

variable {α : Type} {m w N : ℕ}

/-- Every piece of the list, the first starting at column `o`, has the value `v` where it covers row `r`, column `n`. -/
def Cols (r : Fin m) (n : ℕ) (v : α) : List ((s : Shape) × (s.Idx → α)) → ℕ → Prop
  | [], _ => True
  | p :: ps, o => (∃ x : (⟨2, ![m, w]⟩ : Shape).Idx → α, p = ⟨⟨2, ![m, w]⟩, x⟩ ∧ ∀ i : Fin w, n = o + i.val → x (ix2 r i) = v)
      ∧ Cols r n v ps (o + w)

theorem Cols.get (r : Fin m) (n : ℕ) (v : α) : ∀ (xs : List ((s : Shape) × (s.Idx → α))) (o : ℕ), Cols (w := w) r n v xs o →
    ∀ (k : ℕ) (hk : k < xs.length), ∃ x : (⟨2, ![m, w]⟩ : Shape).Idx → α, xs[k] = ⟨⟨2, ![m, w]⟩, x⟩ ∧
      ∀ i : Fin w, n = o + w * k + i.val → x (ix2 r i) = v
  | [], _, _, k, hk => absurd hk (Nat.not_lt_zero k)
  | p :: ps, o, ⟨⟨x, hx, hv⟩, _⟩, 0, _ => ⟨x, hx, fun i hi => hv i (by simpa using hi)⟩
  | p :: ps, o, ⟨_, hc⟩, k + 1, hk => by
    obtain ⟨x, hx, hv⟩ := Cols.get r n v ps (o + w) hc k (by simpa using hk)
    exact ⟨x, hx, fun i hi => hv i (by rw [hi, Nat.mul_succ]; omega)⟩

/-- The side-by-side pieces at row `r`, column `n`. -/
theorem concat_cols (xs : List ((s : Shape) × (s.Idx → α))) (h : Shape.Concatenates (xs.map (·.1)) ⟨2, ![m, N]⟩ 1)
    (hN : N = w * xs.length) (r : Fin m) (n : Fin N) (v : α) (hc : Cols (w := w) r n.val v xs 0) :
    concatenate ⟨2, ![m, N]⟩ 1 xs h (ix2 r n) = v := by
  have hw : 0 < w := by
    rcases Nat.eq_zero_or_pos w with h0 | h0
    · have hn := n.isLt
      have hz : N = 0 := by rw [hN, h0, Nat.zero_mul]
      omega
    · exact h0
  have hk : n.val / w < xs.length := Nat.div_lt_of_lt_mul (hN ▸ n.isLt)
  have get := Cols.get r n.val v xs 0 hc
  obtain ⟨x, hx, hv⟩ := get (n.val / w) hk
  have hm : n.val % w < w := Nat.mod_lt _ hw
  have hd : w * (n.val / w) + n.val % w = n.val := Nat.div_add_mod _ _
  refine (concatenate_apply_piece (1 : Fin (⟨2, ![m, N]⟩ : Shape).rank) xs h (ix2 r n) (n.val / w) hk ⟨2, ![m, w]⟩ x hx rfl (w * (n.val / w)) ?_
    (ix2 r ⟨n.val % w, hm⟩) ?_ ?_).trans (hv ⟨n.val % w, hm⟩ (by simp only [Nat.zero_add]; omega))
  · rw [List.sum_eq_card_nsmul _ w]
    · simp [Nat.min_eq_left hk.le, Nat.mul_comm]
    · intro y hy
      simp only [List.map_map, List.mem_map, Function.comp] at hy
      obtain ⟨p, hp, rfl⟩ := hy
      obtain ⟨k, hk', rfl⟩ := List.getElem_of_mem (List.mem_of_mem_take hp)
      obtain ⟨x', hx', _⟩ := get k hk'
      rw [hx']
      rfl
  · intro b hb
    match b with
    | 0 => rfl
    | 1 => exact absurd rfl hb
  · exact hd

end Cert.Reads
-- ==== Proof.FcTwoPay.lean ====
/- The computed values of the second feed-forward kernel at an index: the product of a block of codes with a
   column part of the weights, and the last point's scaled sum with bias and residual. -/
module

public import proofs.«01_k».proof.Proof.FcTwoCodes
public import proofs.«01_k».proof.Proof.Concat

@[expose] public section

set_option maxRecDepth 16384

noncomputable section

namespace Cert.FcTwoKernelIdeal.Hand

open Cert.FcTwoKernelIdeal Cert.FcTwoKernelIdeal.Gen Idealize.ShloMosaic Idealize.ShloMosaic.TcCoe Idealize.SL.Sem

/-- One column part of the product, at an index. -/
theorem dot_apply (A : Vec Ideal S1024x2048 .fp8e4m3) (B : Vec Ideal S2048x512 .fp8e4m3) (r : Fin 1024) (n : Fin 512) :
    k0_pay71 A B (ix2 r n) = ∑ k : Fin 2048, A (ix2 r k) * B (ix2 k n) := by
  pointwise [k0_pay71, k0_pay70]

/-- The five column parts are one function, stored at the first point -/
theorem pay74_eq (A : Vec Ideal S1024x2048 .fp8e4m3) (B) : k0_pay74 A B = k0_pay71 A B := rfl
theorem pay1_eq (A : Vec Ideal S1024x2048 .fp8e4m3) (B) : k0_pay1 (k0_pay76 A B) = k0_pay71 A B := rfl
theorem pay4_eq (A : Vec Ideal S1024x2048 .fp8e4m3) (B) : k0_pay4 A B = k0_pay71 A B := rfl
theorem pay7_eq (A : Vec Ideal S1024x2048 .fp8e4m3) (B) : k0_pay7 A B = k0_pay71 A B := rfl

/-- and added to the sum at the others. -/
theorem add_apply (A : Vec Ideal S1024x2048 .fp8e4m3) (B : Vec Ideal S2048x512 .fp8e4m3) (C : Vec Ideal S1024x512 .f32)
    (r : Fin 1024) (n : Fin 512) :
    k0_pay72 A B C (ix2 r n) = C (ix2 r n) + ∑ k : Fin 2048, A (ix2 r k) * B (ix2 k n) := by
  pointwise [k0_pay72, k0_pay70]

theorem pay75_eq (A : Vec Ideal S1024x2048 .fp8e4m3) (B C) : k0_pay75 A B C = k0_pay72 A B C := rfl
theorem pay2_eq (A : Vec Ideal S1024x2048 .fp8e4m3) (B C) : k0_pay2 (k0_pay76 A B) C = k0_pay72 A B C := rfl
theorem pay5_eq (A : Vec Ideal S1024x2048 .fp8e4m3) (B C) : k0_pay5 A B C = k0_pay72 A B C := rfl
theorem pay8_eq (A : Vec Ideal S1024x2048 .fp8e4m3) (B C) : k0_pay8 A B C = k0_pay72 A B C := rfl

/-- One row part of the sum times the row scales, at an index: the 20 lane tiles of the product, side by side. -/
theorem scaled_apply (Y : Vec Ideal S256x2560 .f32) (S : Vec Ideal S256x128 .f32) (r : Fin 256) (n : Fin 2560) (s : EReal)
    (hS : ∀ l, S (ix2 r l) = s) : k0_pay33 Y S (ix2 r n) = Y (ix2 r n) * s := by
  unfold k0_pay33
  refine Reads.concat_cols (w := 128) (N := 2560) _ _ ?_ r n _ ?_
  · rfl
  iterate 20 (refine ⟨⟨_, rfl, fun i hi => ?_⟩, ?_⟩; swap)
  · exact trivial
  all_goals
    pointwise []
    rw [hS]
    exact congrArg (fun j => Y (ix2 r j) * s) (Fin.ext (by simp only; omega))

/-- One row part of the result, at an index, where the scales do not depend on the lane. -/
theorem part_apply (Y : Vec Ideal S256x2560 .f32) (S : Vec Ideal S256x128 .f32) (ws : Vec Ideal S1x2560 .f32)
    (h : Vec Ideal S256x2560 .f32) (b : Vec Ideal S1x2560 .f32) (r : Fin 256) (n : Fin 2560) (s : EReal)
    (hS : ∀ l, S (ix2 r l) = s) :
    k0_pay34 (k0_pay33 Y S) ws h b (ix2 r n) = h (ix2 r n) + Y (ix2 r n) * s * ws (ix2 0 n) + b (ix2 0 n) := by
  rw [← scaled_apply Y S r n s hS]
  generalize k0_pay33 Y S = Z
  pointwise [k0_pay34]

/-- The first row part is computed by the same expression. -/
theorem pay32_eq (Y : Vec Ideal S256x2560 .f32) (S ws h b) :
    k0_pay32 (k0_pay31 Y S ws h) b = k0_pay34 (k0_pay33 Y S) ws h b := rfl

/-- So are the third -/
theorem pay54_eq (Y : Vec Ideal S256x2560 .f32) (S ws h b) :
    k0_pay54 Y (k0_pay35 S) (k0_pay36 Y S) (k0_pay37 Y S) (k0_pay38 Y S) (k0_pay39 Y S) (k0_pay40 Y S) (k0_pay41 Y S) (k0_pay42 Y S) (k0_pay43 Y S) (k0_pay44 Y S) (k0_pay45 Y S) (k0_pay46 Y S) (k0_pay47 Y S) (k0_pay48 Y S) (k0_pay49 Y S) (k0_pay50 Y S) (k0_pay51 Y S) (k0_pay52 Y S)
      (k0_pay53 Y) ws h b = k0_pay34 (k0_pay33 Y S) ws h b := rfl

/-- and the last. -/
theorem pay10_eq (Y : Vec Ideal S256x2560 .f32) (S ws h b) :
    k0_pay10 (k0_pay9 Y (k0_pay55 S) (k0_pay56 Y S) (k0_pay57 Y S) (k0_pay58 Y S) (k0_pay59 Y S) (k0_pay60 Y S) (k0_pay61 Y S) (k0_pay62 Y S) (k0_pay63 Y S) (k0_pay64 Y S) (k0_pay65 Y S) (k0_pay66 Y S) (k0_pay67 Y S) (k0_pay68 Y S)) ws h b
      = k0_pay34 (k0_pay33 Y S) ws h b := rfl

end Cert.FcTwoKernelIdeal.Hand

end
-- ==== Proof.FcTwoBlock.lean ====
/- The blocks each grid point of the second feed-forward kernel reads and writes, in closed form. -/
module

public import proofs.«01_k».proof.Proof.FcTwoPay
public import proofs.«01_k».proof.Proof.Reads

@[expose] public section

set_option maxRecDepth 16384

noncomputable section

namespace Cert.FcTwoKernelIdeal.Hand

open Cert.FcTwoKernelIdeal Cert.FcTwoKernelIdeal.Gen Idealize.ShloMosaic Idealize.ShloMosaic.TcCoe Idealize.SL.Sem
open Idealize.ShloMosaic.Pipeline (Dat)

variable (m : (ℓ : Loc nD τ sig) → Buf (Elt Ideal) ℓ)

/-- The code at (`r`, `k`), over the argument arrays. -/
def cod (c : Dev nD) (r : Fin 1024) (k : Fin 10240) : EReal :=
  Spec.code (m ((c : Thread nD τ).loc main_arg0) (ix2 r k)) (m ((c : Thread nD τ).loc main_arg1) (ix1 r))

/-- The residual's entry. -/
def skip (c : Dev nD) (r : Fin 1024) (n : Fin 2560) : EReal := m ((c : Thread nD τ).loc main_arg5) (ix2 r n)

/-- The result at (`r`, `n`), over the argument arrays. -/
def res (c : Dev nD) (r : Fin 1024) (n : Fin 2560) : EReal :=
  skip m c r n
    + Spec.mm (cod m c r) (m ((c : Thread nD τ).loc main_arg1) (ix1 r))
      (fun k n => m ((c : Thread nD τ).loc main_arg2) (ix2 k n)) (fun n => m ((c : Thread nD τ).loc main_arg3) (ix1 n)) n
    + m ((c : Thread nD τ).loc main_arg4) (ix1 n)

/-- The index maps: the hidden layer's columns, the codes' columns and the weights' rows move with the point, the rest stays. -/
theorem idx : ∀ t : Fin cfg0.N, win0_0.index t = ![0, t.val] ∧ win0_1.index t = ![0, 0] ∧ win0_2.index t = ![t.val, 0]
    ∧ win0_3.index t = ![0, 0] ∧ win0_4.index t = ![0, 0] ∧ win0_5.index t = ![0, 0] ∧ win0_6.index t = ![0, t.val]
    ∧ win0_7.index t = ![0, 0] :=
  (by decide +kernel : ∀ t : Fin grid0.N, _)

/-- The array position under position `k` of point `t`'s block of the contracted axis. -/
abbrev pos (t : Fin cfg0.N) (k : Fin 2048) : Fin 10240 :=
  ⟨2048 * t.val + k.val, by have := t.isLt; have h : cfg0.N = 5 := N_0; omega⟩

theorem blk0 (c : Dev nD) (t : Fin cfg0.N) (r : Fin 1024) (k : Fin 2048) :
    iblk m c 0 t (ix2 r k) = m ((c : Thread nD τ).loc main_arg0) (ix2 r (pos t k)) := by
  blk_point [iblk, V, idx t]

theorem blk1 (c : Dev nD) (t : Fin cfg0.N) (r : Fin 1024) (l : Fin 128) :
    iblk m c 1 t (ix2 r l) = m ((c : Thread nD τ).loc main_arg1) (ix1 r) := by
  blk_point [iblk, V, idx t]

theorem blk2 (c : Dev nD) (t : Fin cfg0.N) (k : Fin 2048) (n : Fin 2560) :
    iblk m c 2 t (ix2 k n) = m ((c : Thread nD τ).loc main_arg2) (ix2 (pos t k) n) := by
  blk_point [iblk, V, idx t]

theorem blk3 (c : Dev nD) (t : Fin cfg0.N) (n : Fin 2560) :
    iblk m c 3 t (ix2 0 n) = m ((c : Thread nD τ).loc main_arg3) (ix1 n) := by
  blk_point [iblk, V, idx t]

theorem blk4 (c : Dev nD) (t : Fin cfg0.N) (n : Fin 2560) :
    iblk m c 4 t (ix2 0 n) = m ((c : Thread nD τ).loc main_arg4) (ix1 n) := by
  blk_point [iblk, V, idx t]

theorem blk5 (c : Dev nD) (t : Fin cfg0.N) (r : Fin 1024) (n : Fin 2560) :
    iblk m c 5 t (ix2 r n) = m ((c : Thread nD τ).loc main_arg5) (ix2 r n) := by
  blk_point [iblk, V, idx t]

/-- The scales' block does not depend on the lane. -/
theorem blk1' (c : Dev nD) (t : Fin cfg0.N) (j : S1024x128.Idx) :
    iblk m c 1 t j = m ((c : Thread nD τ).loc main_arg1) (ix1 (j 0)) := by
  have hj : j = ix2 (j 0) (j 1) := by blk_ext []
  rw [hj]
  exact blk1 m c t (j 0) (j 1)

/-- The block of codes of a point, from its blocks of the hidden layer and the scales. -/
theorem code_eq (c : Dev nD) (t : Fin cfg0.N) (y : S1024x2048.Idx) :
    Spec.code (iblk m c 0 t y) (m ((c : Thread nD τ).loc main_arg1) (ix1 (y 0))) = cod m c (y 0) (pos t (y 1)) := by
  have hy : y = ix2 (y 0) (y 1) := by blk_ext []
  rw [hy]
  exact congrArg (fun v => Spec.code v _) (blk0 m c t (y 0) (y 1))

/-- What any point leaves in the codes' block. -/
theorem block6 (c : Dev nD) (t : Fin cfg0.N) (y : S1024x2048.Idx) :
    (outsAt0 m c t.val t.isLt).1 y = cod m c (y 0) (pos t (y 1)) := by
  refine Eq.trans ?_ (code_eq m c t y)
  by_cases h0 : t.val % 5 = 0
  · have h1 : ¬1 ≤ t.val := by have := t.isLt; have h : cfg0.N = 5 := N_0; omega
    have h2 : ¬t.val % 5 = 4 := by omega
    rw [outsAt0_A m c t h0 h1 h0 h1 h0 h1 h0 h1 h0 h1 h2]; dsimp only; frame_out
    exact congrFun (loop_codes _ _ _ _ _ _ _ _ _ _ _ _ _ _ _ _ _ _ _ _ _ (iblk m c 1 t) (fun r => m ((c : Thread nD τ).loc main_arg1) (ix1 r)) (blk1' m c t)) y
  · have h1 : 1 ≤ t.val := by omega
    by_cases h2 : t.val % 5 = 4
    · rw [outsAt0_C m c t h0 h1 h0 h1 h0 h1 h0 h1 h0 h1 h2]; dsimp only; frame_out
      exact congrFun (loop_codes _ _ _ _ _ _ _ _ _ _ _ _ _ _ _ _ _ _ _ _ _ (iblk m c 1 t) (fun r => m ((c : Thread nD τ).loc main_arg1) (ix1 r)) (blk1' m c t)) y
    · rw [outsAt0_B m c t h0 h1 h0 h1 h0 h1 h0 h1 h0 h1 h2]; dsimp only; frame_out
      exact congrFun (loop_codes _ _ _ _ _ _ _ _ _ _ _ _ _ _ _ _ _ _ _ _ _ (iblk m c 1 t) (fun r => m ((c : Thread nD τ).loc main_arg1) (ix1 r)) (blk1' m c t)) y

end Cert.FcTwoKernelIdeal.Hand

end
-- ==== Proof.FcTwoAcc.lean ====
/- The accumulator of the second feed-forward kernel: after a point it holds the product over the blocks of the contracted
   axis up to that point; the last point's stored result. -/
module

public import proofs.«01_k».proof.Proof.FcTwoBlock

@[expose] public section

set_option maxRecDepth 16384

noncomputable section

namespace Cert.FcTwoKernelIdeal.Hand

open Cert.FcTwoKernelIdeal Cert.FcTwoKernelIdeal.Gen Idealize.ShloMosaic Idealize.ShloMosaic.TcCoe Idealize.SL.Sem
open Idealize.ShloMosaic.Pipeline (Dat)

variable (m : (ℓ : Loc nD τ sig) → Buf (Elt Ideal) ℓ)

/-- A weight. -/
def wgt (c : Dev nD) (k : Fin 10240) (n : Fin 2560) : EReal := m ((c : Thread nD τ).loc main_arg2) (ix2 k n)

/-- One point's share of the product. -/
def prod (c : Dev nD) (t : Fin cfg0.N) (r : Fin 1024) (n : Fin 2560) : EReal :=
  ∑ k : Fin 2048, cod m c r (pos t k) * wgt m c (pos t k) n

/-- The shares up to a point, summed in order. -/
def acc (c : Dev nD) (r : Fin 1024) (n : Fin 2560) : (t : ℕ) → t < cfg0.N → EReal
  | 0, h => prod m c ⟨0, h⟩ r n
  | t + 1, h => acc c r n t (Nat.lt_of_succ_lt h) + prod m c ⟨t + 1, h⟩ r n

/-- The column under column `n` of the part at `o`. -/
abbrev coln (o : ℕ) (ho : o + 512 ≤ 2560) (n : Fin 512) : Fin 2560 := ⟨o + n.val, by omega⟩

/-- A column part of a point's share, from the codes' block and the part of the weights' block. -/
theorem dot_part (c : Dev nD) (t : Fin cfg0.N) (A : Vec Ideal S1024x2048 .fp8e4m3) (B : Vec Ideal S2048x512 .fp8e4m3)
    (o : ℕ) (ho : o + 512 ≤ 2560)
    (hA : ∀ r k, A (ix2 r k) = cod m c r (pos t k)) (hB : ∀ k n, B (ix2 k n) = iblk m c 2 t (ix2 k (coln o ho n)))
    (r : Fin 1024) (n : Fin 512) :
    ∑ k : Fin 2048, A (ix2 r k) * B (ix2 k n) = prod m c t r (coln o ho n) := by
  unfold prod
  refine Finset.sum_congr rfl fun k _ => ?_
  rw [hA, hB, blk2]
  rfl

/-- The five stored column parts make up the block. -/
theorem acc_tiles (p4 p3 p2 p1 p0 : FVec Ideal S1024x512 .f32) (G : Fin 1024 → Fin 2560 → EReal) (y : S1024x2560.Idx)
    (e0 : ∀ r n, p0 (ix2 r n) = G r (coln 0 (by omega) n)) (e1 : ∀ r n, p1 (ix2 r n) = G r (coln 512 (by omega) n))
    (e2 : ∀ r n, p2 (ix2 r n) = G r (coln 1024 (by omega) n)) (e3 : ∀ r n, p3 (ix2 r n) = G r (coln 1536 (by omega) n))
    (e4 : ∀ r n, p4 (ix2 r n) = G r (coln 2048 (by omega) n)) :
      View.canon (Val := Elt Ideal) (e := .f32) [
        ⟨Rect.unit (s := S1024x2560) ![0, 2048] ![1024, 512] inb_S1024x2560_S1024x512_0_2048, p4⟩,
        ⟨Rect.unit (s := S1024x2560) ![0, 1536] ![1024, 512] inb_S1024x2560_S1024x512_0_1536, p3⟩,
        ⟨Rect.unit (s := S1024x2560) ![0, 1024] ![1024, 512] inb_S1024x2560_S1024x512_0_1024, p2⟩,
        ⟨Rect.unit (s := S1024x2560) ![0, 512] ![1024, 512] inb_S1024x2560_S1024x512_0_512, p1⟩,
        ⟨Rect.unit (s := S1024x2560) ![0, 0] ![1024, 512] inb_S1024x2560_S1024x512_0_0, p0⟩] y = G (y 0) (y 1) := by
  canon_tiles x h
  all_goals (
      first
        | refine (congrArg p4 (?_ : x = ix2 (x 0) (x 1))).trans ((e4 (x 0) (x 1)).trans ?_)
        | refine (congrArg p3 (?_ : x = ix2 (x 0) (x 1))).trans ((e3 (x 0) (x 1)).trans ?_)
        | refine (congrArg p2 (?_ : x = ix2 (x 0) (x 1))).trans ((e2 (x 0) (x 1)).trans ?_)
        | refine (congrArg p1 (?_ : x = ix2 (x 0) (x 1))).trans ((e1 (x 0) (x 1)).trans ?_)
        | refine (congrArg p0 (?_ : x = ix2 (x 0) (x 1))).trans ((e0 (x 0) (x 1)).trans ?_)
      · blk_ext []
      · congr 1
        · exact Fin.ext h0.symm
        · exact Fin.ext (by simp only; omega))

/-- The accumulator after a point. -/
theorem scr (c : Dev nD) : ∀ (t : ℕ) (ht : t < cfg0.N) (y : S1024x2560.Idx),
    (outsAt0 m c t ht).2.2 y = acc m c (y 0) (y 1) t ht := by
  intro t
  induction t with
  | zero =>
    intro ht y
    have h1 : ¬1 ≤ (⟨0, ht⟩ : Fin cfg0.N).val := Nat.not_succ_le_zero 0
    have h2 : ¬(⟨0, ht⟩ : Fin cfg0.N).val % 5 = 4 := by simp only; omega
    rw [outsAt0_A m c ⟨0, ht⟩ rfl h1 rfl h1 rfl h1 rfl h1 rfl h1 h2]
    dsimp only
    frame_out
    simp only [pay74_eq, pay1_eq, pay4_eq, pay7_eq]
    refine acc_tiles _ _ _ _ _ (fun r n => prod m c ⟨0, ht⟩ r n) y ?_ ?_ ?_ ?_ ?_
    all_goals
      intro r n
      refine (dot_apply _ _ r n).trans ?_
      refine dot_part m c ⟨0, ht⟩ _ _ _ _ (fun r k => (read_codes _ _ _ _ _ _ _ _ _ _ _ _ _ _ _ _ _ _ _ _ _ (iblk m c 1 ⟨0, ht⟩)
        (fun r => m ((c : Thread nD τ).loc main_arg1) (ix1 r)) (blk1' m c ⟨0, ht⟩) (ix2 r k)).trans (code_eq m c ⟨0, ht⟩ (ix2 r k)))
        (fun k n => ?_) r n
      refine Reads.ld2 _ _ k n k _ (by omega) (by simp)
  | succ t ih =>
    intro ht y
    have hN : cfg0.N = 5 := N_0
    obtain ⟨T, hT⟩ : ∃ T : Fin cfg0.N, T = ⟨t + 1, ht⟩ := ⟨_, rfl⟩
    have hv : T.val = t + 1 := congrArg Fin.val hT
    have h0 : ¬T.val % 5 = 0 := by omega
    have h1 : 1 ≤ T.val := by omega
    have e : (outsAt0 m c (t + 1) ht).2.2 = (outsAt0 m c T.val T.isLt).2.2 := by rw [hT]
    have ip : ∀ y, (outsAt0 m c (T.val - 1) (Nat.lt_of_le_of_lt (Nat.sub_le _ 1) T.isLt)).2.2 y = acc m c (y 0) (y 1) t (Nat.lt_of_succ_lt ht) := by
      have hp : ∀ (u v : ℕ) (hu : u < cfg0.N) (hv : v < cfg0.N), u = v → (outsAt0 m c u hu).2.2 = (outsAt0 m c v hv).2.2 := by
        rintro u v hu hv rfl; rfl
      intro y
      rw [hp _ t _ (Nat.lt_of_succ_lt ht) (by omega)]
      exact ih (Nat.lt_of_succ_lt ht) y
    rw [e]
    refine Eq.trans ?_ (congrArg (fun v => acc m c (y 0) (y 1) t (Nat.lt_of_succ_lt ht) + prod m c v (y 0) (y 1)) hT)
    by_cases h2 : T.val % 5 = 4
    all_goals
      first | rw [outsAt0_C m c T h0 h1 h0 h1 h0 h1 h0 h1 h0 h1 h2] | rw [outsAt0_B m c T h0 h1 h0 h1 h0 h1 h0 h1 h0 h1 h2]
      dsimp only
      frame_out
      simp only [pay75_eq, pay2_eq, pay5_eq, pay8_eq]
      refine acc_tiles _ _ _ _ _ (fun r n => acc m c r n t (Nat.lt_of_succ_lt ht) + prod m c T r n) y ?_ ?_ ?_ ?_ ?_
      all_goals
        intro r n
        refine (add_apply _ _ _ r n).trans (congrArg₂ (· + ·) ?_ ?_)
        · refine Eq.trans ?_ (ip (ix2 r (coln _ (by omega) n)))
          rw [(Memref.isWhole_whole cc0_scratch0).read_unread _]
          exact Reads.ld2 _ _ r n r _ (by omega) (by simp)
        · refine dot_part m c T _ _ _ _ (fun r k => (read_codes _ _ _ _ _ _ _ _ _ _ _ _ _ _ _ _ _ _ _ _ _ (iblk m c 1 T)
          (fun r => m ((c : Thread nD τ).loc main_arg1) (ix1 r)) (blk1' m c T) (ix2 r k)).trans (code_eq m c T (ix2 r k))) (fun k n => ?_) r n
          refine Reads.ld2 _ _ k n k _ (by omega) (by simp)

/-- The last point's stored result: the four stored row parts make up the block. -/
theorem row_tiles (p3 p2 p1 p0 : FVec Ideal S256x2560 .bf16) (G : Fin 1024 → Fin 2560 → EReal) (y : S1024x2560.Idx)
    (e0 : ∀ (r : Fin 256) n, p0 (ix2 r n) = G ⟨0 + r.val, by omega⟩ n) (e1 : ∀ (r : Fin 256) n, p1 (ix2 r n) = G ⟨256 + r.val, by omega⟩ n)
    (e2 : ∀ (r : Fin 256) n, p2 (ix2 r n) = G ⟨512 + r.val, by omega⟩ n) (e3 : ∀ (r : Fin 256) n, p3 (ix2 r n) = G ⟨768 + r.val, by omega⟩ n) :
    View.canon (Val := Elt Ideal) (e := .bf16) [
        ⟨Rect.unit (s := S1024x2560) ![768, 0] ![256, 2560] inb_S1024x2560_S256x2560_768_0, p3⟩,
        ⟨Rect.unit (s := S1024x2560) ![512, 0] ![256, 2560] inb_S1024x2560_S256x2560_512_0, p2⟩,
        ⟨Rect.unit (s := S1024x2560) ![256, 0] ![256, 2560] inb_S1024x2560_S256x2560_256_0, p1⟩,
        ⟨Rect.unit (s := S1024x2560) ![0, 0] ![256, 2560] inb_S1024x2560_S256x2560_0_0, p0⟩] y = G (y 0) (y 1) := by
  canon_tiles x h
  all_goals (
      first
        | refine (congrArg p3 (?_ : x = ix2 (x 0) (x 1))).trans ((e3 (x 0) (x 1)).trans ?_)
        | refine (congrArg p2 (?_ : x = ix2 (x 0) (x 1))).trans ((e2 (x 0) (x 1)).trans ?_)
        | refine (congrArg p1 (?_ : x = ix2 (x 0) (x 1))).trans ((e1 (x 0) (x 1)).trans ?_)
        | refine (congrArg p0 (?_ : x = ix2 (x 0) (x 1))).trans ((e0 (x 0) (x 1)).trans ?_)
      · blk_ext []
      · congr 1
        · exact Fin.ext (by simp only; omega)
        · exact Fin.ext (by first | exact h1.symm | omega))

/-- The accumulator after the last point is the whole product. -/
theorem acc_last (c : Dev nD) (r : Fin 1024) (n : Fin 2560) (h : 4 < cfg0.N) :
    acc m c r n 4 h = ∑ k : Fin 10240, cod m c r k * wgt m c k n := by
  rw [Fin.sum_univ_tiles 5 2048 rfl, Fin.sum_univ_five]
  have e : ∀ (t : Fin 5) (ht : t.val < cfg0.N), prod m c ⟨t.val, ht⟩ r n
      = ∑ k : Fin 2048, cod m c r ⟨t.val * 2048 + k.val, by omega⟩ * wgt m c ⟨t.val * 2048 + k.val, by omega⟩ n := by
    intro t ht
    unfold prod
    refine Finset.sum_congr rfl fun k _ => ?_
    have hp : pos ⟨t.val, ht⟩ k = ⟨t.val * 2048 + k.val, by omega⟩ := Fin.ext (by simp only; omega)
    rw [hp]
  have hN : cfg0.N = 5 := N_0
  rw [← e 0 (by rw [hN]; decide), ← e 1 (by rw [hN]; decide), ← e 2 (by rw [hN]; decide), ← e 3 (by rw [hN]; decide), ← e 4 (by rw [hN]; decide)]
  rfl

/-- One row part of the last point's result, from the accumulator `P`. -/
theorem part (c : Dev nD) (t : Fin cfg0.N) (o : ℕ) (ho : o + 256 ≤ 1024) (P : Fin 1024 → Fin 2560 → EReal)
    (hP : ∀ r n, P r n = ∑ k : Fin 10240, cod m c r k * wgt m c k n)
    (Y : Vec Ideal S256x2560 .f32) (S : Vec Ideal S256x128 .f32) (h : Vec Ideal S256x2560 .f32)
    (hY : ∀ (r : Fin 256) n, Y (ix2 r n) = P ⟨o + r.val, by omega⟩ n)
    (hS : ∀ (r : Fin 256) l, S (ix2 r l) = iblk m c 1 t (ix2 ⟨o + r.val, by omega⟩ l))
    (hh : ∀ (r : Fin 256) n, h (ix2 r n) = iblk m c 5 t (ix2 ⟨o + r.val, by omega⟩ n)) (r : Fin 256) (n : Fin 2560) :
    k0_pay34 (k0_pay33 Y S) (iblk m c 3 t) h (iblk m c 4 t) (ix2 r n) = res m c ⟨o + r.val, by omega⟩ n := by
  rw [part_apply _ _ _ _ _ r n _ (fun l => (hS r l).trans (blk1 m c t _ l)), hY, hh, blk3, blk4, blk5, hP]
  unfold res Spec.mm wgt skip
  with_reducible rfl

/-- What the last point leaves in the result's block. -/
theorem block7 (c : Dev nD) (t : Fin cfg0.N) (ht : t.val % 5 = 4) (y : S1024x2560.Idx) :
    (outsAt0 m c t.val t.isLt).2.1 y = res m c (y 0) (y 1) := by
  have hN : cfg0.N = 5 := N_0
  have hv : t.val = 4 := by have := t.isLt; omega
  have h0 : ¬t.val % 5 = 0 := by omega
  have h1 : 1 ≤ t.val := by omega
  have hP : ∀ r n, acc m c r n t.val t.isLt = ∑ k : Fin 10240, cod m c r k * wgt m c k n := by
    obtain ⟨v, hlt⟩ := t
    obtain rfl : v = 4 := hv
    exact fun r n => acc_last m c r n hlt
  have hs := scr m c t.val t.isLt
  rw [outsAt0_C m c t h0 h1 h0 h1 h0 h1 h0 h1 h0 h1 ht] at hs ⊢
  dsimp only at hs ⊢
  frame_out at hs
  frame_out
  rw [pay32_eq, pay54_eq, pay10_eq]
  refine row_tiles _ _ _ _ (res m c) y ?_ ?_ ?_ ?_
  all_goals
    intro r n
    refine part m c t _ (by omega) (fun r n => acc m c r n t.val t.isLt) hP _ _ _ (fun r n => ?_) (fun r l => ?_) (fun r n => ?_) r n
    · rw [View.readCov_eq_canon']
      refine (hs _).trans (congrArg₂ (fun r n => acc m c r n t.val t.isLt) (Fin.ext ?_) (Fin.ext ?_))
      · exact Rect.idx_unit_val _ _ _ _ _
      · exact (Rect.idx_unit_val _ _ _ _ _).trans (Nat.zero_add _)
    · exact Reads.ld2 _ _ r l _ l rfl (by simp)
    · exact Reads.ld2 _ _ r n _ n rfl (by simp)

/-- The codes' array after the run. -/
theorem final6 (c : Dev nD) : (dats m 0 c).arrAt 6 cfg0.N = fun i => cod m c (i 0) (i 1) := by
  refine (dats m 0 c).arrAt_eq_of_covers 6 _ (by decide +kernel) fun t hf y => ?_
  blk_simp; rw [after0_6]
  refine (block6 m c t y).trans ?_
  exact congrArg₂ (cod m c) (Fin.ext (by blk_simp [idx t])) (Fin.ext (by blk_simp [idx t]; dsimp only [pos]; omega))

/-- The result's array after the run. -/
theorem final7 (c : Dev nD) : (dats m 0 c).arrAt 7 cfg0.N = fun i => res m c (i 0) (i 1) := by
  refine (dats m 0 c).arrAt_eq_of_covers 7 _ (by decide +kernel) fun t hf y => ?_
  blk_simp; rw [after0_7]
  refine (block7 m c t ((flush0_7 t).mp hf) y).trans ?_
  exact congrArg₂ (res m c) (Fin.ext (by blk_simp [idx t])) (Fin.ext (by blk_simp [idx t]))

end Cert.FcTwoKernelIdeal.Hand

end
-- ==== Proof.FcTwoRef.lean ====
/- The reference of the second feed-forward half: its two results, in closed form. -/
module

public import proofs.«01_k».proof.Proof.Gen.FcTwoReferenceIdeal.Value
public import proofs.«01_k».proof.Proof.Spec
public import Idealize.ShloMosaic.Lib.Pipeline.ValueKit

@[expose] public section

set_option maxRecDepth 16384

noncomputable section

namespace Cert.FcTwoReferenceIdeal.Hand

open Cert.FcTwoReferenceIdeal Cert.FcTwoReferenceIdeal.Gen Idealize.ShloMosaic Idealize.ShloMosaic.TcCoe Idealize.SL.Sem
open Idealize.ShloMosaic.Pipeline (Dat)

variable (m : (ℓ : Loc nD τ sig) → Buf (Elt Ideal) ℓ)

/-- The code at (`r`, `k`), over the argument arrays. -/
def cod (c : Dev nD) (r : Fin 1024) (k : Fin 10240) : EReal :=
  Spec.code (m ((c : Thread nD τ).loc main_arg0) (ix2 r k)) (m ((c : Thread nD τ).loc main_arg1) (ix1 r))

/-- The residual's entry. -/
def skip (c : Dev nD) (r : Fin 1024) (n : Fin 2560) : EReal := m ((c : Thread nD τ).loc main_arg5) (ix2 r n)

/-- The result at (`r`, `n`), over the argument arrays. -/
def res (c : Dev nD) (r : Fin 1024) (n : Fin 2560) : EReal :=
  skip m c r n
    + Spec.mm (cod m c r) (m ((c : Thread nD τ).loc main_arg1) (ix1 r))
      (fun k n => m ((c : Thread nD τ).loc main_arg2) (ix2 k n)) (fun n => m ((c : Thread nD τ).loc main_arg3) (ix1 n)) n
    + m ((c : Thread nD τ).loc main_arg4) (ix1 n)

/-- Every block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The stored codes at an index, over any operands. -/
theorem pay2_apply (x : Vec Ideal S1024x10240 .f32) (s : Vec Ideal S1024x1 .f32) (r : Fin 1024) (k : Fin 10240) {a b : EReal}
    (hx : x (ix2 r k) = a) (hs : s (ix2 r 0) = b) : k0_pay2 x s (ix2 r k) = Spec.code a b := by
  unfold Spec.code Spec.fmin Spec.fmax
  pointwise [k0_pay2, k0_pay1]
  rw [hx, hs]

/-- The stored result at an index, over any operands. -/
theorem pay3_apply (x : Vec Ideal S1024x10240 .f32) (s : Vec Ideal S1024x1 .f32) (w : Vec Ideal S10240x2560 .fp8e4m3)
    (ws b : Vec Ideal S1x2560 .f32) (h : Vec Ideal S1024x2560 .f32) (r : Fin 1024) (n : Fin 2560) {C W : Fin 10240 → EReal}
    {a u v z : EReal} (hc : ∀ k, k0_pay2 x s (ix2 r k) = C k) (hw : ∀ k, w (ix2 k n) = W k) (hs : s (ix2 r 0) = a)
    (hu : ws (ix2 0 n) = u) (hv : b (ix2 0 n) = v) (hh : h (ix2 r n) = z) :
    k0_pay3 x s w ws b h (ix2 r n) = z + (∑ k, C k * W k) * a * u + v := by
  obtain rfl : C = fun k => k0_pay2 x s (ix2 r k) := funext fun k => (hc k).symm
  unfold k0_pay3
  generalize k0_pay2 x s = Z
  pointwise [k0_pay1]
  simp only [hw]
  rw [hs, hu, hv, hh]

theorem blk0 (c : Dev nD) (t : Fin cfg0.N) (r : Fin 1024) (k : Fin 10240) :
    iblk m c 0 t (ix2 r k) = m ((c : Thread nD τ).loc main_arg0) (ix2 r k) := by
  blk_point [iblk, V, idx t]

theorem blk1 (c : Dev nD) (t : Fin cfg0.N) (r : Fin 1024) :
    iblk m c 1 t (ix2 r 0) = m ((c : Thread nD τ).loc main_arg1) (ix1 r) := by
  blk_point [iblk, V, idx t]

theorem blk2 (c : Dev nD) (t : Fin cfg0.N) (k : Fin 10240) (n : Fin 2560) :
    iblk m c 2 t (ix2 k n) = m ((c : Thread nD τ).loc main_arg2) (ix2 k n) := by
  blk_point [iblk, V, idx t]

theorem blk3 (c : Dev nD) (t : Fin cfg0.N) (n : Fin 2560) :
    iblk m c 3 t (ix2 0 n) = m ((c : Thread nD τ).loc main_arg3) (ix1 n) := by
  blk_point [iblk, V, idx t]

theorem blk4 (c : Dev nD) (t : Fin cfg0.N) (n : Fin 2560) :
    iblk m c 4 t (ix2 0 n) = m ((c : Thread nD τ).loc main_arg4) (ix1 n) := by
  blk_point [iblk, V, idx t]

theorem blk5 (c : Dev nD) (t : Fin cfg0.N) (r : Fin 1024) (n : Fin 2560) :
    iblk m c 5 t (ix2 r n) = m ((c : Thread nD τ).loc main_arg5) (ix2 r n) := by
  blk_point [iblk, V, idx t]

/-- What the run leaves in the codes' block. -/
theorem block6 (c : Dev nD) (t : Fin cfg0.N) (r : Fin 1024) (k : Fin 10240) :
    k0_pay2 (F := Ideal) (iblk m c 0 t) (iblk m c 1 t) (ix2 r k) = cod m c r k :=
  pay2_apply _ _ r k (blk0 m c t r k) (blk1 m c t r)

/-- What the run leaves in the result's block. -/
theorem block7 (c : Dev nD) (t : Fin cfg0.N) (r : Fin 1024) (n : Fin 2560) :
    k0_pay3 (F := Ideal) (iblk m c 0 t) (iblk m c 1 t) (iblk m c 2 t) (iblk m c 3 t) (iblk m c 4 t) (iblk m c 5 t) (ix2 r n) = res m c r n :=
  pay3_apply _ _ _ _ _ _ r n (block6 m c t r) (fun k => blk2 m c t k n) (blk1 m c t r) (blk3 m c t n) (blk4 m c t n) (blk5 m c t r n)

theorem out6 (c : Dev nD) (t : Fin cfg0.N) (y : S1024x10240.Idx) :
    out0_6 (F := Ideal) (iblk m c 0 t) (iblk m c 1 t) (iblk m c 2 t) (iblk m c 3 t) (iblk m c 4 t) (iblk m c 5 t) y = cod m c (y 0) (y 1) := by
  frame_out
  have hy : y = ix2 (y 0) (y 1) := by blk_ext []
  rw [hy]
  exact block6 m c t (y 0) (y 1)

theorem out7 (c : Dev nD) (t : Fin cfg0.N) (y : S1024x2560.Idx) :
    out0_7 (F := Ideal) (iblk m c 0 t) (iblk m c 1 t) (iblk m c 2 t) (iblk m c 3 t) (iblk m c 4 t) (iblk m c 5 t) y = res m c (y 0) (y 1) := by
  frame_out
  have hy : y = ix2 (y 0) (y 1) := by blk_ext []
  rw [hy]
  exact block7 m c t (y 0) (y 1)

/-- The codes' array after the run. -/
theorem final6 (c : Dev nD) : (dats m 0 c).arrAt 6 cfg0.N = fun i => cod m c (i 0) (i 1) := by
  refine (dats m 0 c).arrAt_eq_of_covers 6 _ (by decide +kernel) fun t hf y => ?_
  blk_simp; rw [after0_6]
  refine (out6 m c t y).trans ?_
  exact congrArg₂ (cod m c) (Fin.ext (by blk_simp [idx t])) (Fin.ext (by blk_simp [idx t]))

/-- The result's array after the run. -/
theorem final7 (c : Dev nD) : (dats m 0 c).arrAt 7 cfg0.N = fun i => res m c (i 0) (i 1) := by
  refine (dats m 0 c).arrAt_eq_of_covers 7 _ (by decide +kernel) fun t hf y => ?_
  blk_simp; rw [after0_7]
  refine (out7 m c t y).trans ?_
  exact congrArg₂ (res m c) (Fin.ext (by blk_simp [idx t])) (Fin.ext (by blk_simp [idx t]))

end Cert.FcTwoReferenceIdeal.Hand

end
-- ==== Proof.FcTwoClaim.lean ====
/- The second feed-forward kernel computes its reference, over the extended reals. -/
module

public import proofs.«01_k».proof.Defs
public import proofs.«01_k».proof.Proof.FcTwoAcc
public import proofs.«01_k».proof.Proof.FcTwoRef
public import Idealize.ShloMosaic.Lib.Claim

@[expose] public section

set_option maxRecDepth 16384

noncomputable section

namespace Cert.Proof

open Idealize.ShloMosaic Idealize.ShloMosaic.TcCoe Idealize.SL.Sem

/-- The two programs' codes, from equal arguments, -/
theorem fcTwo_cod (m : (ℓ : Loc Cert.FcTwoKernelIdeal.nD Cert.FcTwoKernelIdeal.τ Cert.FcTwoKernelIdeal.sig) → Buf (Elt Ideal) ℓ)
    (m' : (ℓ : Loc Cert.FcTwoReferenceIdeal.nD Cert.FcTwoReferenceIdeal.τ Cert.FcTwoReferenceIdeal.sig) → Buf (Elt Ideal) ℓ)
    (c : Dev Cert.FcTwoKernelIdeal.nD)
    (h : m' ((c : Thread Cert.FcTwoReferenceIdeal.nD Cert.FcTwoReferenceIdeal.τ).loc Cert.FcTwoReferenceIdeal.main_arg0) = m ((c : Thread Cert.FcTwoKernelIdeal.nD Cert.FcTwoKernelIdeal.τ).loc Cert.FcTwoKernelIdeal.main_arg0)
      ∧ m' ((c : Thread Cert.FcTwoReferenceIdeal.nD Cert.FcTwoReferenceIdeal.τ).loc Cert.FcTwoReferenceIdeal.main_arg1) = m ((c : Thread Cert.FcTwoKernelIdeal.nD Cert.FcTwoKernelIdeal.τ).loc Cert.FcTwoKernelIdeal.main_arg1)
      ∧ m' ((c : Thread Cert.FcTwoReferenceIdeal.nD Cert.FcTwoReferenceIdeal.τ).loc Cert.FcTwoReferenceIdeal.main_arg2) = m ((c : Thread Cert.FcTwoKernelIdeal.nD Cert.FcTwoKernelIdeal.τ).loc Cert.FcTwoKernelIdeal.main_arg2)
      ∧ m' ((c : Thread Cert.FcTwoReferenceIdeal.nD Cert.FcTwoReferenceIdeal.τ).loc Cert.FcTwoReferenceIdeal.main_arg3) = m ((c : Thread Cert.FcTwoKernelIdeal.nD Cert.FcTwoKernelIdeal.τ).loc Cert.FcTwoKernelIdeal.main_arg3)
      ∧ m' ((c : Thread Cert.FcTwoReferenceIdeal.nD Cert.FcTwoReferenceIdeal.τ).loc Cert.FcTwoReferenceIdeal.main_arg4) = m ((c : Thread Cert.FcTwoKernelIdeal.nD Cert.FcTwoKernelIdeal.τ).loc Cert.FcTwoKernelIdeal.main_arg4)
      ∧ m' ((c : Thread Cert.FcTwoReferenceIdeal.nD Cert.FcTwoReferenceIdeal.τ).loc Cert.FcTwoReferenceIdeal.main_arg5) = m ((c : Thread Cert.FcTwoKernelIdeal.nD Cert.FcTwoKernelIdeal.τ).loc Cert.FcTwoKernelIdeal.main_arg5)) :
    Cert.FcTwoReferenceIdeal.Hand.cod m' c = Cert.FcTwoKernelIdeal.Hand.cod m c := by
  obtain ⟨e0, e1, e2, e3, e4, e5⟩ := h
  funext r k
  unfold Cert.FcTwoReferenceIdeal.Hand.cod Cert.FcTwoKernelIdeal.Hand.cod
  rw [e0, e1]

/-- and their results. -/
theorem fcTwo_res (m : (ℓ : Loc Cert.FcTwoKernelIdeal.nD Cert.FcTwoKernelIdeal.τ Cert.FcTwoKernelIdeal.sig) → Buf (Elt Ideal) ℓ)
    (m' : (ℓ : Loc Cert.FcTwoReferenceIdeal.nD Cert.FcTwoReferenceIdeal.τ Cert.FcTwoReferenceIdeal.sig) → Buf (Elt Ideal) ℓ)
    (c : Dev Cert.FcTwoKernelIdeal.nD)
    (h : m' ((c : Thread Cert.FcTwoReferenceIdeal.nD Cert.FcTwoReferenceIdeal.τ).loc Cert.FcTwoReferenceIdeal.main_arg0) = m ((c : Thread Cert.FcTwoKernelIdeal.nD Cert.FcTwoKernelIdeal.τ).loc Cert.FcTwoKernelIdeal.main_arg0)
      ∧ m' ((c : Thread Cert.FcTwoReferenceIdeal.nD Cert.FcTwoReferenceIdeal.τ).loc Cert.FcTwoReferenceIdeal.main_arg1) = m ((c : Thread Cert.FcTwoKernelIdeal.nD Cert.FcTwoKernelIdeal.τ).loc Cert.FcTwoKernelIdeal.main_arg1)
      ∧ m' ((c : Thread Cert.FcTwoReferenceIdeal.nD Cert.FcTwoReferenceIdeal.τ).loc Cert.FcTwoReferenceIdeal.main_arg2) = m ((c : Thread Cert.FcTwoKernelIdeal.nD Cert.FcTwoKernelIdeal.τ).loc Cert.FcTwoKernelIdeal.main_arg2)
      ∧ m' ((c : Thread Cert.FcTwoReferenceIdeal.nD Cert.FcTwoReferenceIdeal.τ).loc Cert.FcTwoReferenceIdeal.main_arg3) = m ((c : Thread Cert.FcTwoKernelIdeal.nD Cert.FcTwoKernelIdeal.τ).loc Cert.FcTwoKernelIdeal.main_arg3)
      ∧ m' ((c : Thread Cert.FcTwoReferenceIdeal.nD Cert.FcTwoReferenceIdeal.τ).loc Cert.FcTwoReferenceIdeal.main_arg4) = m ((c : Thread Cert.FcTwoKernelIdeal.nD Cert.FcTwoKernelIdeal.τ).loc Cert.FcTwoKernelIdeal.main_arg4)
      ∧ m' ((c : Thread Cert.FcTwoReferenceIdeal.nD Cert.FcTwoReferenceIdeal.τ).loc Cert.FcTwoReferenceIdeal.main_arg5) = m ((c : Thread Cert.FcTwoKernelIdeal.nD Cert.FcTwoKernelIdeal.τ).loc Cert.FcTwoKernelIdeal.main_arg5)) :
    Cert.FcTwoReferenceIdeal.Hand.res m' c = Cert.FcTwoKernelIdeal.Hand.res m c := by
  have hc := fcTwo_cod m m' c h
  obtain ⟨e0, e1, e2, e3, e4, e5⟩ := h
  funext r n
  unfold Cert.FcTwoReferenceIdeal.Hand.res Cert.FcTwoKernelIdeal.Hand.res Cert.FcTwoReferenceIdeal.Hand.skip Cert.FcTwoKernelIdeal.Hand.skip
  rw [hc, e1, e2, e3, e4, e5]

/-- The two results agree for all arguments. -/
theorem fcTwo : Cert.algebraic_FcTwoKernelIdeal_FcTwoReferenceIdeal := by
  pair_intro
  · run_from Cert.FcTwoKernelIdeal.Value.run_blocks m g
  · run_from Cert.FcTwoReferenceIdeal.Value.run_blocks m' g'
    · rw [Cert.FcTwoReferenceIdeal.Hand.final6, Cert.FcTwoKernelIdeal.Hand.final6, fcTwo_cod m m' c (hagree c)]; rfl
    · rw [Cert.FcTwoReferenceIdeal.Hand.final7, Cert.FcTwoKernelIdeal.Hand.final7, fcTwo_res m m' c (hagree c)]; rfl

end Cert.Proof

end
-- ==== Proof.ProjTPay.lean ====
/- The computed values of the temporal output projection at an index: a column part of the residual sum, the
   layer norm of 32 rows, their scales and their codes. -/
module

public import proofs.«01_k».proof.Proof.Gen.ProjTKernelIdeal.Value
public import proofs.«01_k».proof.Proof.Spec
public import proofs.«01_k».proof.Proof.Reads
public import proofs.«01_k».proof.Proof.Concat
public import Idealize.ShloMosaic.Lib.Pointwise
public import Idealize.ShloMosaic.Lib.Pipeline.ValueKit

@[expose] public section

set_option maxRecDepth 16384

noncomputable section

namespace Cert.ProjTKernelIdeal.Hand

open Cert.ProjTKernelIdeal Cert.ProjTKernelIdeal.Gen Idealize.ShloMosaic Idealize.ShloMosaic.TcCoe Idealize.SL.Sem

/-- The product of a block of codes with a column part of the weights. -/
theorem dot_apply (A : Vec Ideal S256x2560 .fp8e4m3) (B : Vec Ideal S2560x512 .fp8e4m3) (r : Fin 256) (n : Fin 512) :
    k0_pay16 A B (ix2 r n) = ∑ k : Fin 2560, A (ix2 r k) * B (ix2 k n) := by
  pointwise [k0_pay16]

/-- A column part of the residual sum, from the product `Y`: the four lane tiles of the scaled product, side by side. -/
theorem part_apply (Y : FVec Ideal S256x512 .f32) (H : Vec Ideal S256x512 .f32) (S : Vec Ideal S256x128 .f32)
    (ws : Vec Ideal S1x512 .f32) (r : Fin 256) (n : Fin 512) (s : EReal) (hS : ∀ l, S (ix2 r l) = s) :
    k0_pay17 Y H S ws (ix2 r n) = H (ix2 r n) + Y (ix2 r n) * s * ws (ix2 0 n) := by
  have key : ∀ (Z : FVec Ideal S256x512 .f32), Z (ix2 r n) = Y (ix2 r n) * s →
      addf H (mulf Z (broadcastTo S256x512 (shapeCast S1x512 ws shapeCasts_S1x512_S1x512) broadcasts_S1x512_S256x512)) (ix2 r n)
        = H (ix2 r n) + Y (ix2 r n) * s * ws (ix2 0 n) := by
    intro Z hZ
    rw [← hZ]
    pointwise []
  unfold k0_pay17
  refine key _ ?_
  refine Reads.concat_cols (w := 128) (N := 512) _ _ ?_ r n _ ?_
  · rfl
  iterate 4 (refine ⟨⟨_, rfl, fun i hi => ?_⟩, ?_⟩; swap)
  · exact trivial
  all_goals
    pointwise []
    rw [hS]
    exact congrArg (fun j => Y (ix2 r j) * s) (Fin.ext (by simp only; omega))

/-- The five column parts are one function. -/
theorem pay7_eq (A : Vec Ideal S256x2560 .fp8e4m3) (B H S ws) : k0_pay7 A B H S ws = k0_pay17 (k0_pay16 A B) H S ws := rfl
theorem pay14_eq (A : Vec Ideal S256x2560 .fp8e4m3) (B H S ws) :
    k0_pay14 H (k0_pay9 S) (k0_pay10 A B S) (k0_pay11 A B S) (k0_pay12 A B S) (k0_pay13 A B) ws = k0_pay17 (k0_pay16 A B) H S ws := rfl
theorem pay15_eq (A : Vec Ideal S256x2560 .fp8e4m3) (B H S ws) : k0_pay15 A B H S ws = k0_pay17 (k0_pay16 A B) H S ws := rfl
theorem pay18_eq (A : Vec Ideal S256x2560 .fp8e4m3) (B H S ws) : k0_pay18 A B H S ws = k0_pay17 (k0_pay16 A B) H S ws := rfl

/-- The layer norm of a row of 32, at an index. -/
theorem norm_apply (g b : Vec Ideal S1x2560 .f32) (X : Vec Ideal S32x2560 .f32) (r : Fin 32) (n : Fin 2560) :
    k0_pay3 (k0_pay1 g) (k0_pay2 b) X (ix2 r n)
      = Spec.norm (fun k => X (ix2 r k)) (fun k => g (ix2 0 k)) (fun k => b (ix2 0 k)) n := by
  unfold Spec.norm Spec.mean Spec.dev Spec.mean Spec.rowLen Spec.eps
  pointwise [k0_pay3, k0_pay1, k0_pay2]

/-- The reduction of a row to its maximum. -/
theorem red_apply (v : FVec Ideal S32x2560 .f32) (r : Fin 32) {f : Fin 2560 → EReal} (hf : ∀ n, v (ix2 r n) = f n) :
    multiReduction .maximumf [1] S32 v 0xFF800000#32 reduces_S32x2560_S32 (.inl rfl) rfl (ix1 r)
      = Finset.univ.fold max ⊥ f := by
  have hb : Ideal.ofBits .f32 0xFF800000#32 = ⊥ := by decide
  obtain rfl : f = fun n => v (ix2 r n) := funext fun n => (hf n).symm
  pointwise
  rw [hb]

/-- The scale from the row maxima `M`. -/
theorem tail_apply (M : FVec Ideal S32 .f32) (r : Fin 32) (l : Fin 1) :
    select
          (cmpf CmpFPredicate.oeq (shapeCast S32x1 M shapeCasts_S32_S32x1) (broadcast S32x1 (Scalar.ofBits .f32 0x00000000#32)))
          (broadcast S32x1 (Scalar.ofBits .f32 0x3F800000#32))
          (divf (shapeCast S32x1 M shapeCasts_S32_S32x1) (broadcast S32x1 (Scalar.ofBits .f32 0x43E00000#32))) (ix2 r l)
      = if M (ix1 r) = 0 then 1 else Ideal.div (M (ix1 r)) Spec.fmax := by
  unfold Spec.fmax
  pointwise

/-- The scale of a row, from its normalised values `f`. -/
theorem scale_apply (g b : FVec Ideal S1x2560 .f32) (X : Vec Ideal S32x2560 .f32) (r : Fin 32) (l : Fin 1) {f : Fin 2560 → EReal}
    (hf : ∀ n, k0_pay3 g b X (ix2 r n) = f n) : k0_pay4 g b X (ix2 r l) = Spec.scale f := by
  have hM := red_apply (absf (k0_pay3 (F := Ideal) g b X)) r (f := fun n => max (f n) (-f n)) (fun n => by
    rw [← hf n]; rfl)
  unfold k0_pay4
  refine (tail_apply _ r l).trans ?_
  rw [hM]
  unfold Spec.scale Spec.amax
  with_reducible rfl

/-- The stored scales. -/
theorem scales_apply (g b : FVec Ideal S1x2560 .f32) (X : Vec Ideal S32x2560 .f32) (r : Fin 32) (l : Fin 128) {f : Fin 2560 → EReal}
    (hf : ∀ n, k0_pay3 g b X (ix2 r n) = f n) : k0_pay6 g b X (ix2 r l) = Spec.scale f := by
  rw [← scale_apply g b X r 0 hf]
  unfold k0_pay6
  generalize k0_pay4 g b X = Z
  pointwise []

/-- The stored codes. -/
theorem codes_apply (g b : FVec Ideal S1x2560 .f32) (X : Vec Ideal S32x2560 .f32) (r : Fin 32) (n : Fin 2560) {f : Fin 2560 → EReal}
    (hf : ∀ n, k0_pay3 g b X (ix2 r n) = f n) : k0_pay5 g b X (ix2 r n) = Spec.code (f n) (Spec.scale f) := by
  rw [← scale_apply g b X r 0 hf, ← hf n]
  unfold k0_pay5 Spec.code Spec.fmax Spec.fmin
  generalize k0_pay4 g b X = Z
  generalize k0_pay3 g b X = W
  pointwise []

end Cert.ProjTKernelIdeal.Hand

end
-- ==== Proof.ProjTLoop.lean ====
/- The codes and scales one grid point of the temporal output projection stores: a counted loop normalises and quantises
   32 rows per trip. -/
module

public import proofs.«01_k».proof.Proof.ProjTPay

@[expose] public section

set_option maxRecDepth 16384

noncomputable section

namespace Cert.ProjTKernelIdeal.Hand

open Cert.ProjTKernelIdeal Cert.ProjTKernelIdeal.Gen Idealize.ShloMosaic Idealize.ShloMosaic.TcCoe Idealize.SL.Sem
open Idealize.ShloMosaic.Pipeline (Dat)
open Idealize.ShloMosaic.Tactic

/-- A row of the layer norm, from the rows `R` of the residual sum. -/
abbrev nrm (R : Fin 256 → Fin 2560 → EReal) (g b : Vec Ideal S1x2560 .f32) (r : Fin 256) : Fin 2560 → EReal :=
  Spec.norm (R r) (fun k => g (ix2 0 k)) (fun k => b (ix2 0 k))

/-- Where a trip's rows lie. -/
theorem off1_0 (k : Fin k0_t1_loop.trips) : k0_off1 k 0 = 32 * k.val := congrFun (k0_off1_eq k) 0
theorem off1_1 (k : Fin k0_t1_loop.trips) : k0_off1 k 1 = 0 := congrFun (k0_off1_eq k) 1
theorem off2_0 (k : Fin k0_t1_loop.trips) : k0_off2 k 0 = 32 * k.val := congrFun (k0_off2_eq k) 0
theorem off2_1 (k : Fin k0_t1_loop.trips) : k0_off2 k 1 = 0 := congrFun (k0_off2_eq k) 1

section Loop

variable (c : Dev nD) (i : grid0.Coords)
  (arg1 : Memref sig .tc .smem S4 .i32) (harg1 : arg1.IsWhole)
  (arg2 : Memref sig .tc .vmem S256x2560 .fp8e4m3) (harg2 : arg2.IsWhole)
  (arg3 : Memref sig .tc .vmem S256x128 .f32) (harg3 : arg3.IsWhole)
  (arg4 : Memref sig .tc .vmem S2560x2560 .fp8e4m3) (harg4 : arg4.IsWhole)
  (arg5 : Memref sig .tc .vmem S1x2560 .f32) (harg5 : arg5.IsWhole)
  (arg6 : Memref sig .tc .vmem S256x2560 .f32) (harg6 : arg6.IsWhole)
  (arg7 : Memref sig .tc .vmem S8x2560 .f32) (harg7 : arg7.IsWhole)
  (arg8 : Memref sig .tc .vmem S1x2560 .f32) (harg8 : arg8.IsWhole)
  (arg9 : Memref sig .tc .vmem S1x2560 .f32) (harg9 : arg9.IsWhole)
  (arg10 : Memref sig .tc .vmem S256x2560 .f32) (harg10 : arg10.IsWhole)
  (arg11 : Memref sig .tc .vmem S256x2560 .fp8e4m3) (harg11 : arg11.IsWhole)
  (arg12 : Memref sig .tc .vmem S256x128 .f32) (harg12 : arg12.IsWhole)
  (g b : Vec Ideal S1x2560 .f32) (X : BufTy.Contents (Elt Ideal) arg10.view.ty) (R : Fin 256 → Fin 2560 → EReal)
  (hX : ∀ j, arg10.view.read (Elt Ideal) X j = R (j 0) (j 1))

include hX in
/-- The rows one trip loads. -/
theorem trip_rows (k : Fin k0_t1_loop.trips) (r : Fin 32) (n : Fin 2560) (r' : Fin 256)
    (hr : r'.val = 32 * k.val + r.val) :
    k0_pay3 (k0_pay1 g) (k0_pay2 b)
      (View.ld (arg10.view.read (Elt Ideal) X) (Rect.unit (k0_off1 k) ![32, 2560] (k0_off1_inb k))) (ix2 r n) = nrm R g b r' n := by
  rw [norm_apply]
  refine congrArg (fun f => Spec.norm f _ _ n) (funext fun q => ?_)
  refine (View.ld_unit_apply_of _ _ _ _ _ (ix2 r' q) fun a => ?_).trans (hX _)
  match a with
  | 0 => exact hr.trans (congrArg (· + r.val) (off1_0 k).symm)
  | 1 => exact (Nat.zero_add _).symm.trans (congrArg (· + q.val) (off1_1 k).symm)

include hX in
/-- The piece of codes one trip stores. -/
theorem trip_codes (k : Fin k0_t1_loop.trips) (y : S256x2560.Idx) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 g b X k).1 y
      (Spec.code (nrm R g b (y 0) (y 1)) (Spec.scale (nrm R g b (y 0)))) := by
  unfold tripL_k0_t1 trip_k0_t1
  dsimp only
  simp only [View.readAt_eq_ld]
  refine View.allAt_cons _ _ _ (fun x hx => ?_) (View.allAt_nil _ _)
  subst hx
  have hx : x = ix2 (x 0) (x 1) := by blk_ext []
  have h0 : ((Rect.unit (s := S256x2560) (k0_off1 k) ![32, 2560] (k0_off1_inb k)).idx x 0).val = 32 * k.val + (x 0).val :=
    (Rect.idx_unit_val _ _ _ _ _).trans (congrArg (· + (x 0).val) (off1_0 k))
  have h1 : (Rect.unit (s := S256x2560) (k0_off1 k) ![32, 2560] (k0_off1_inb k)).idx x 1 = x 1 :=
    Fin.ext ((Rect.idx_unit_val _ _ _ _ _).trans ((congrArg (· + (x 1).val) (off1_1 k)).trans (Nat.zero_add _)))
  refine (congrArg _ hx).trans ((codes_apply _ _ _ (x 0) (x 1) fun n => trip_rows arg10 g b X R hX k (x 0) n _ h0).trans ?_)
  exact congrArg (fun n => Spec.code (nrm R g b _ n) _) h1.symm

include hX in
/-- The piece of scales one trip stores. -/
theorem trip_scales (k : Fin k0_t1_loop.trips) (y : S256x128.Idx) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 g b X k).2 y
      (Spec.scale (nrm R g b (y 0))) := by
  unfold tripL_k0_t1 trip_k0_t1
  dsimp only
  unfold trip_k0_t1.sl.r
  refine View.allAt_cons _ _ _ (fun x hx => ?_) (View.allAt_nil _ _)
  subst hx
  simp only [View.readAt_eq_ld]
  have hx : x = ix2 (x 0) (x 1) := by blk_ext []
  have h0 : ((Rect.unit (s := S256x128) (k0_off2 k) ![32, 128] (k0_off2_inb k)).idx x 0).val = 32 * k.val + (x 0).val :=
    (Rect.idx_unit_val _ _ _ _ _).trans (congrArg (· + (x 0).val) (off2_0 k))
  exact (congrArg _ hx).trans (scales_apply _ _ _ (x 0) (x 1) fun n => trip_rows arg10 g b X R hX k (x 0) n _ h0)

/-- Every piece of the trips before `n` is a piece of one trip. -/
theorem mem_pieces (p : View.Piece (Elt Ideal) S256x2560 .fp8e4m3) : ∀ n : Nat,
    p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 g b X n).1 →
    ∃ k, p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 g b X k).1
  | 0, h => by rw [pb_k0_t1.eq_1] at h; exact absurd h List.not_mem_nil
  | n + 1, h => by
    rw [pb_k0_t1.eq_2] at h
    unfold pb_k0_t1Step at h
    split at h
    · rcases List.mem_append.mp h with h | h
      · exact ⟨_, h⟩
      · exact mem_pieces p n h
    · exact mem_pieces p n h

theorem mem_pieces' (p : View.Piece (Elt Ideal) S256x128 .f32) : ∀ n : Nat,
    p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 g b X n).2 →
    ∃ k, p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 g b X k).2
  | 0, h => by rw [pb_k0_t1.eq_1] at h; exact absurd h List.not_mem_nil
  | n + 1, h => by
    rw [pb_k0_t1.eq_2] at h
    unfold pb_k0_t1Step at h
    split at h
    · rcases List.mem_append.mp h with h | h
      · exact ⟨_, h⟩
      · exact mem_pieces' p n h
    · exact mem_pieces' p n h

include hX in
/-- The block of codes the loop leaves. -/
theorem loop_codes (y : S256x2560.Idx) :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 g b X
      (Scf.trips (0#32) (Scalar.addi 0#32 8#32) 1#32)).1 y
      = Spec.code (nrm R g b (y 0) (y 1)) (Spec.scale (nrm R g b (y 0))) := by
  refine View.canon_eq_of_allAt _ y _ ?_ fun p hp => ?_
  · exact View.cover_of_tiledL (pb_k0_t1 (F := Ideal) Variants.none c none i arg1 harg1 arg2 harg2 arg3 harg3 arg4 harg4 arg5 harg5 arg6 harg6 arg7 harg7 arg8 harg8 arg9 harg9 arg10 harg10 arg11 harg11 arg12 harg12 g b X
      (Scf.trips (0#32) (Scalar.addi 0#32 8#32) 1#32)).1 S32x2560.size (by sl_kernel_rfl) y
  obtain ⟨k, hk⟩ := mem_pieces c i arg1 harg1 arg2 harg2 arg3 harg3 arg4 harg4 arg5 harg5 arg6 harg6 arg7 harg7 arg8 harg8 arg9 harg9 arg10 harg10 arg11 harg11 arg12 harg12 g b X p _ hp
  exact trip_codes c i arg1 harg1 arg2 harg2 arg3 harg3 arg4 harg4 arg5 harg5 arg6 harg6 arg7 harg7 arg8 harg8 arg9 harg9 arg10 harg10 arg11 harg11 arg12 harg12 g b X R hX k y p hk

include hX in
/-- The block of scales the loop leaves. -/
theorem loop_scales (y : S256x128.Idx) :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 g b X
      (Scf.trips (0#32) (Scalar.addi 0#32 8#32) 1#32)).2 y
      = Spec.scale (nrm R g b (y 0)) := by
  refine View.canon_eq_of_allAt _ y _ ?_ fun p hp => ?_
  · exact View.cover_of_tiledL (pb_k0_t1 (F := Ideal) Variants.none c none i arg1 harg1 arg2 harg2 arg3 harg3 arg4 harg4 arg5 harg5 arg6 harg6 arg7 harg7 arg8 harg8 arg9 harg9 arg10 harg10 arg11 harg11 arg12 harg12 g b X
      (Scf.trips (0#32) (Scalar.addi 0#32 8#32) 1#32)).2 S32x128.size (by sl_kernel_rfl) y
  obtain ⟨k, hk⟩ := mem_pieces' c i arg1 harg1 arg2 harg2 arg3 harg3 arg4 harg4 arg5 harg5 arg6 harg6 arg7 harg7 arg8 harg8 arg9 harg9 arg10 harg10 arg11 harg11 arg12 harg12 g b X p _ hp
  exact trip_scales c i arg1 harg1 arg2 harg2 arg3 harg3 arg4 harg4 arg5 harg5 arg6 harg6 arg7 harg7 arg8 harg8 arg9 harg9 arg10 harg10 arg11 harg11 arg12 harg12 g b X R hX k y p hk

end Loop

end Cert.ProjTKernelIdeal.Hand

end
-- ==== Proof.ProjTBlock.lean ====
/- The blocks each grid point of the temporal output projection reads and writes, in closed form, and its three arrays
   after the run. -/
module

public import proofs.«01_k».proof.Proof.ProjTLoop

@[expose] public section

set_option maxRecDepth 16384

noncomputable section

namespace Cert.ProjTKernelIdeal.Hand

open Cert.ProjTKernelIdeal Cert.ProjTKernelIdeal.Gen Idealize.ShloMosaic Idealize.ShloMosaic.TcCoe Idealize.SL.Sem
open Idealize.ShloMosaic.Pipeline (Dat)

variable (m : (ℓ : Loc nD τ sig) → Buf (Elt Ideal) ℓ)

/-- A weight: the heads' axis and the axis within a head are one. -/
def wgt (c : Dev nD) (k : Fin 2560) (n : Fin 2560) : EReal :=
  m ((c : Thread nD τ).loc main_arg3) (ix3 ⟨k.val / 128, by omega⟩ ⟨k.val % 128, by omega⟩ n)

/-- A code of the attention's result. -/
def act (c : Dev nD) (r : Fin 1024) (k : Fin 2560) : EReal := m ((c : Thread nD τ).loc main_arg1) (ix2 r k)

/-- The residual's entry. -/
def skip (c : Dev nD) (r : Fin 1024) (n : Fin 2560) : EReal := m ((c : Thread nD τ).loc main_arg5) (ix2 r n)

/-- The residual sum at (`r`, `n`), over the argument arrays. -/
def res (c : Dev nD) (r : Fin 1024) (n : Fin 2560) : EReal :=
  skip m c r n
    + Spec.mm (act m c r) (m ((c : Thread nD τ).loc main_arg2) (ix1 r))
      (wgt m c) (fun n => m ((c : Thread nD τ).loc main_arg4) (ix1 n)) n

/-- Its layer norm. -/
def nrmd (c : Dev nD) (r : Fin 1024) : Fin 2560 → EReal :=
  Spec.norm (res m c r) (fun k => m ((c : Thread nD τ).loc main_arg7) (ix1 k)) (fun k => m ((c : Thread nD τ).loc main_arg8) (ix1 k))

/-- The code of an entry of the layer norm. -/
def cod (c : Dev nD) (r : Fin 1024) (n : Fin 2560) : EReal := Spec.code (nrmd m c r n) (Spec.scale (nrmd m c r))

/-- The index maps: the rows move with the point, weights and vectors stay. -/
theorem idx : ∀ t : Fin cfg0.N, win0_1.index t = ![t.val, 0] ∧ win0_2.index t = ![t.val, 0]
    ∧ win0_3.index t = ![0, 0] ∧ win0_4.index t = ![0, 0] ∧ win0_5.index t = ![t.val, 0] ∧ win0_7.index t = ![0, 0]
    ∧ win0_8.index t = ![0, 0] ∧ win0_9.index t = ![t.val, 0] ∧ win0_10.index t = ![t.val, 0] ∧ win0_11.index t = ![t.val, 0] :=
  (by decide +kernel : ∀ t : Fin grid0.N, _)

/-- The array row under row `r` of point `t`'s block. -/
abbrev pos (t : Fin cfg0.N) (r : Fin 256) : Fin 1024 :=
  ⟨256 * t.val + r.val, by have := t.isLt; have h : cfg0.N = 4 := N_0; omega⟩

theorem blk1 (c : Dev nD) (t : Fin cfg0.N) (r : Fin 256) (k : Fin 2560) :
    iblk m c 1 t (ix2 r k) = m ((c : Thread nD τ).loc main_arg1) (ix2 (pos t r) k) := by
  blk_point [iblk, V, idx t]

theorem blk2 (c : Dev nD) (t : Fin cfg0.N) (r : Fin 256) (l : Fin 128) :
    iblk m c 2 t (ix2 r l) = m ((c : Thread nD τ).loc main_arg2) (ix1 (pos t r)) := by
  blk_point [iblk, V, idx t]

theorem blk3 (c : Dev nD) (t : Fin cfg0.N) (k : Fin 2560) (n : Fin 2560) :
    iblk m c 3 t (ix2 k n) = wgt m c k n := by
  unfold wgt
  blk_point [iblk, V, idx t]

theorem blk4 (c : Dev nD) (t : Fin cfg0.N) (n : Fin 2560) :
    iblk m c 4 t (ix2 0 n) = m ((c : Thread nD τ).loc main_arg4) (ix1 n) := by
  blk_point [iblk, V, idx t]

theorem blk5 (c : Dev nD) (t : Fin cfg0.N) (r : Fin 256) (n : Fin 2560) :
    iblk m c 5 t (ix2 r n) = m ((c : Thread nD τ).loc main_arg5) (ix2 (pos t r) n) := by
  blk_point [iblk, V, idx t]

theorem blk7 (c : Dev nD) (t : Fin cfg0.N) (n : Fin 2560) :
    iblk m c 7 t (ix2 0 n) = m ((c : Thread nD τ).loc main_arg7) (ix1 n) := by
  blk_point [iblk, V, idx t]

theorem blk8 (c : Dev nD) (t : Fin cfg0.N) (n : Fin 2560) :
    iblk m c 8 t (ix2 0 n) = m ((c : Thread nD τ).loc main_arg8) (ix1 n) := by
  blk_point [iblk, V, idx t]

/-- The column under column `n` of the part at `o`. -/
abbrev coln (o : ℕ) (ho : o + 512 ≤ 2560) (n : Fin 512) : Fin 2560 := ⟨o + n.val, by omega⟩

/-- One column part of a point's residual sum. -/
theorem part (c : Dev nD) (t : Fin cfg0.N) (o : ℕ) (ho : o + 512 ≤ 2560)
    (B : Vec Ideal S2560x512 .fp8e4m3) (H : Vec Ideal S256x512 .f32) (ws : Vec Ideal S1x512 .f32)
    (hB : ∀ k n, B (ix2 k n) = iblk m c 3 t (ix2 k (coln o ho n)))
    (hH : ∀ (r : Fin 256) n, H (ix2 r n) = iblk m c 5 t (ix2 r (coln o ho n)))
    (hw : ∀ n, ws (ix2 0 n) = iblk m c 4 t (ix2 0 (coln o ho n))) (r : Fin 256) (n : Fin 512) :
    k0_pay17 (k0_pay16 (iblk m c 1 t) B) H (iblk m c 2 t) ws (ix2 r n) = res m c (pos t r) (coln o ho n) := by
  have hd : k0_pay16 (iblk m c 1 t) B (ix2 r n)
      = ∑ k : Fin 2560, act m c (pos t r) k * wgt m c k (coln o ho n) := by
    refine (dot_apply _ _ r n).trans (Finset.sum_congr rfl fun k _ => ?_)
    rw [hB, blk1, blk3]
    rfl
  rw [part_apply _ _ _ _ r n _ (fun l => blk2 m c t r l), hd, hH, hw, blk4, blk5]
  unfold res Spec.mm skip
  with_reducible rfl

/-- The five stored column parts make up the block. -/
theorem col_tiles (p4 p3 p2 p1 p0 : FVec Ideal S256x512 .f32) (G : Fin 256 → Fin 2560 → EReal) (y : S256x2560.Idx)
    (e0 : ∀ r n, p0 (ix2 r n) = G r (coln 0 (by omega) n)) (e1 : ∀ r n, p1 (ix2 r n) = G r (coln 512 (by omega) n))
    (e2 : ∀ r n, p2 (ix2 r n) = G r (coln 1024 (by omega) n)) (e3 : ∀ r n, p3 (ix2 r n) = G r (coln 1536 (by omega) n))
    (e4 : ∀ r n, p4 (ix2 r n) = G r (coln 2048 (by omega) n)) :
      View.canon (Val := Elt Ideal) (e := .f32) [
        ⟨Rect.unit (s := S256x2560) ![0, 2048] ![256, 512] inb_S256x2560_S256x512_0_2048, p4⟩,
        ⟨Rect.unit (s := S256x2560) ![0, 1536] ![256, 512] inb_S256x2560_S256x512_0_1536, p3⟩,
        ⟨Rect.unit (s := S256x2560) ![0, 1024] ![256, 512] inb_S256x2560_S256x512_0_1024, p2⟩,
        ⟨Rect.unit (s := S256x2560) ![0, 512] ![256, 512] inb_S256x2560_S256x512_0_512, p1⟩,
        ⟨Rect.unit (s := S256x2560) ![0, 0] ![256, 512] inb_S256x2560_S256x512_0_0, p0⟩] y = G (y 0) (y 1) := by
  canon_tiles x h
  all_goals (
      first
        | refine (congrArg p4 (?_ : x = ix2 (x 0) (x 1))).trans ((e4 (x 0) (x 1)).trans ?_)
        | refine (congrArg p3 (?_ : x = ix2 (x 0) (x 1))).trans ((e3 (x 0) (x 1)).trans ?_)
        | refine (congrArg p2 (?_ : x = ix2 (x 0) (x 1))).trans ((e2 (x 0) (x 1)).trans ?_)
        | refine (congrArg p1 (?_ : x = ix2 (x 0) (x 1))).trans ((e1 (x 0) (x 1)).trans ?_)
        | refine (congrArg p0 (?_ : x = ix2 (x 0) (x 1))).trans ((e0 (x 0) (x 1)).trans ?_)
      · blk_ext []
      · congr 1
        · exact Fin.ext h0.symm
        · exact Fin.ext (by simp only; omega))

/-- What a point leaves in the residual sum's block. -/
theorem block9 (c : Dev nD) (t : Fin cfg0.N) (y : S256x2560.Idx) :
    (outsAt0 m c t).1 y = res m c (pos t (y 0)) (y 1) := by
  unfold outsAt0
  dsimp only
  frame_out
  rw [pay18_eq, pay15_eq, pay14_eq, pay7_eq]
  refine col_tiles _ _ _ _ _ (fun r n => res m c (pos t r) n) y ?_ ?_ ?_ ?_ ?_
  all_goals
    intro r n
    refine part m c t _ (by omega) _ _ _ (fun k n => ?_) (fun r n => ?_) (fun n => ?_) r n
    · exact Reads.ld2 _ _ k n k _ (by omega) (by simp)
    · exact Reads.ld2 _ _ r n r _ (by omega) (by simp)
    · exact Reads.ld2 _ _ 0 n 0 _ (by simp) (by simp)

/-- The layer norm of a row of a point's block. -/
theorem nrm_eq (c : Dev nD) (t : Fin cfg0.N) (r : Fin 256) :
    nrm (fun r n => res m c (pos t r) n) (iblk m c 7 t) (iblk m c 8 t) r = nrmd m c (pos t r) := by
  unfold nrmd
  have hg : (fun k => iblk m c 7 t (ix2 0 k)) = fun k => m ((c : Thread nD τ).loc main_arg7) (ix1 k) := funext fun k => blk7 m c t k
  have hb : (fun k => iblk m c 8 t (ix2 0 k)) = fun k => m ((c : Thread nD τ).loc main_arg8) (ix1 k) := funext fun k => blk8 m c t k
  exact congrArg₂ (Spec.norm (res m c (pos t r))) hg hb

/-- What a point leaves in the codes' block -/
theorem block10 (c : Dev nD) (t : Fin cfg0.N) (y : S256x2560.Idx) :
    (outsAt0 m c t).2.1 y = cod m c (pos t (y 0)) (y 1) := by
  have h9 := block9 m c t
  unfold outsAt0 at h9 ⊢
  dsimp only at h9 ⊢
  frame_out at h9
  frame_out
  refine (loop_codes _ _ _ _ _ _ _ _ _ _ _ _ _ _ _ _ _ _ _ _ _ _ _ _ _ _ _ _ _ (fun r n => res m c (pos t r) n) (fun j => ?_) y).trans ?_
  · rw [View.read_writes_junk_eq_canon]
    exact h9 j
  · exact congrArg (fun f : Fin 2560 → EReal => Spec.code (f (y 1)) (Spec.scale f)) (nrm_eq m c t (y 0))

/-- and in the scales' block. -/
theorem block11 (c : Dev nD) (t : Fin cfg0.N) (y : S256x128.Idx) :
    (outsAt0 m c t).2.2 y = Spec.scale (nrmd m c (pos t (y 0))) := by
  have h9 := block9 m c t
  unfold outsAt0 at h9 ⊢
  dsimp only at h9 ⊢
  frame_out at h9
  frame_out
  refine (loop_scales _ _ _ _ _ _ _ _ _ _ _ _ _ _ _ _ _ _ _ _ _ _ _ _ _ _ _ _ _ (fun r n => res m c (pos t r) n) (fun j => ?_) y).trans ?_
  · rw [View.read_writes_junk_eq_canon]
    exact h9 j
  · exact congrArg Spec.scale (nrm_eq m c t (y 0))

/-- The residual sum's array after the run. -/
theorem final9 (c : Dev nD) : (dats m 0 c).arrAt 9 cfg0.N = fun i => res m c (i 0) (i 1) := by
  refine (dats m 0 c).arrAt_eq_of_covers 9 _ (by decide +kernel) fun t hf y => ?_
  blk_simp; rw [after0_9]
  refine (block9 m c t y).trans ?_
  exact congrArg₂ (res m c) (Fin.ext (by blk_simp [idx t]; dsimp only [pos]; omega)) (Fin.ext (by blk_simp [idx t]))

/-- The codes' array after the run. -/
theorem final10 (c : Dev nD) : (dats m 0 c).arrAt 10 cfg0.N = fun i => cod m c (i 0) (i 1) := by
  refine (dats m 0 c).arrAt_eq_of_covers 10 _ (by decide +kernel) fun t hf y => ?_
  blk_simp; rw [after0_10]
  refine (block10 m c t y).trans ?_
  exact congrArg₂ (cod m c) (Fin.ext (by blk_simp [idx t]; dsimp only [pos]; omega)) (Fin.ext (by blk_simp [idx t]))

/-- The scales' array after the run. -/
theorem final11 (c : Dev nD) : (dats m 0 c).arrAt 11 cfg0.N = fun i => Spec.scale (nrmd m c (i 0)) := by
  refine (dats m 0 c).arrAt_eq_of_covers 11 _ (by decide +kernel) fun t hf y => ?_
  blk_simp; rw [after0_11]
  refine (block11 m c t y).trans ?_
  exact congrArg (fun r => Spec.scale (nrmd m c r)) (Fin.ext (by blk_simp [idx t]; dsimp only [pos]; omega))

end Cert.ProjTKernelIdeal.Hand

end
-- ==== Proof.ProjTRef.lean ====
/- The reference of the temporal output projection: its three arrays after the run. -/
module

public import proofs.«01_k».proof.Proof.Gen.ProjTReferenceIdeal.Value
public import proofs.«01_k».proof.Proof.Spec
public import Idealize.ShloMosaic.Lib.Pipeline.ValueKit

@[expose] public section

set_option maxRecDepth 16384

noncomputable section

namespace Cert.ProjTReferenceIdeal.Hand

open Cert.ProjTReferenceIdeal Cert.ProjTReferenceIdeal.Gen Idealize.ShloMosaic Idealize.ShloMosaic.TcCoe Idealize.SL.Sem
open Idealize.ShloMosaic.Pipeline (Dat)

variable (m : (ℓ : Loc nD τ sig) → Buf (Elt Ideal) ℓ)

/-- A weight: the heads' axis and the axis within a head are one. -/
def wgt (c : Dev nD) (k : Fin 2560) (n : Fin 2560) : EReal :=
  m ((c : Thread nD τ).loc main_arg3) (ix3 ⟨k.val / 128, by omega⟩ ⟨k.val % 128, by omega⟩ n)

/-- A code of the attention's result. -/
def act (c : Dev nD) (r : Fin 1024) (k : Fin 2560) : EReal := m ((c : Thread nD τ).loc main_arg1) (ix2 r k)

/-- The residual's entry. -/
def skip (c : Dev nD) (r : Fin 1024) (n : Fin 2560) : EReal := m ((c : Thread nD τ).loc main_arg5) (ix2 r n)

/-- The residual sum at (`r`, `n`), over the argument arrays. -/
def res (c : Dev nD) (r : Fin 1024) (n : Fin 2560) : EReal :=
  skip m c r n
    + Spec.mm (act m c r) (m ((c : Thread nD τ).loc main_arg2) (ix1 r))
      (wgt m c) (fun n => m ((c : Thread nD τ).loc main_arg4) (ix1 n)) n

/-- Its layer norm. -/
def nrmd (c : Dev nD) (r : Fin 1024) : Fin 2560 → EReal :=
  Spec.norm (res m c r) (fun k => m ((c : Thread nD τ).loc main_arg7) (ix1 k)) (fun k => m ((c : Thread nD τ).loc main_arg8) (ix1 k))

/-- The code of an entry of the layer norm. -/
def cod (c : Dev nD) (r : Fin 1024) (n : Fin 2560) : EReal := Spec.code (nrmd m c r n) (Spec.scale (nrmd m c r))

/-- Every block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- The residual sum at an index, over any operands. -/
theorem pay4_apply (x : Vec Ideal S1024x2560 .fp8e4m3) (s : Vec Ideal S1024x1 .f32) (w : Vec Ideal S2560x2560 .fp8e4m3)
    (ws : Vec Ideal S1x2560 .f32) (h : Vec Ideal S1024x2560 .f32) (r : Fin 1024) (n : Fin 2560)
    {X W : Fin 2560 → EReal} {a u v : EReal}
    (hx : ∀ k, x (ix2 r k) = X k) (hw : ∀ k, w (ix2 k n) = W k) (hs : s (ix2 r 0) = a)
    (hu : ws (ix2 0 n) = u) (hv : h (ix2 r n) = v) :
    k0_pay4 x s w ws h (ix2 r n) = v + (∑ k, X k * W k) * a * u := by
  pointwise [k0_pay4]
  simp only [hx, hw]
  rw [hs, hu, hv]

/-- The layer norm at an index, over any operands. -/
theorem pay5_apply (x : Vec Ideal S1024x2560 .fp8e4m3) (s : Vec Ideal S1024x1 .f32) (w : Vec Ideal S2560x2560 .fp8e4m3)
    (ws : Vec Ideal S1x2560 .f32) (h : Vec Ideal S1024x2560 .f32) (g b : Vec Ideal S1x2560 .f32) (r : Fin 1024) (n : Fin 2560)
    {f G B : Fin 2560 → EReal} (hf : ∀ n, k0_pay4 x s w ws h (ix2 r n) = f n)
    (hg : ∀ k, g (ix2 0 k) = G k) (hb : ∀ k, b (ix2 0 k) = B k) :
    k0_pay5 x s w ws h g b (ix2 r n) = Spec.norm f G B n := by
  obtain rfl := funext hf
  obtain rfl := funext hg
  obtain rfl := funext hb
  unfold k0_pay5 Spec.norm Spec.mean Spec.dev Spec.mean Spec.rowLen Spec.eps
  generalize k0_pay4 x s w ws h = Z
  pointwise []

/-- The reduction of a row to its maximum. -/
theorem red_apply (v : FVec Ideal S1024x2560 .f32) (r : Fin 1024) {f : Fin 2560 → EReal} (hf : ∀ n, v (ix2 r n) = f n) :
    multiReduction .maximumf [1] S1024 v 0xFF800000#32 reduces_S1024x2560_S1024 (.inl rfl) rfl (ix1 r)
      = Finset.univ.fold max ⊥ f := by
  have hb : Ideal.ofBits .f32 0xFF800000#32 = ⊥ := by decide
  obtain rfl : f = fun n => v (ix2 r n) := funext fun n => (hf n).symm
  pointwise
  rw [hb]

/-- The scale from the row maxima `M`. -/
theorem tail_apply (M : FVec Ideal S1024 .f32) (r : Fin 1024) (l : Fin 1) :
    select
          (cmpf CmpFPredicate.oeq (shapeCast S1024x1 M shapeCasts_S1024_S1024x1) (broadcast S1024x1 (Scalar.ofBits .f32 0x00000000#32)))
          (broadcast S1024x1 (Scalar.ofBits .f32 0x3F800000#32))
          (divf (shapeCast S1024x1 M shapeCasts_S1024_S1024x1) (broadcast S1024x1 (Scalar.ofBits .f32 0x43E00000#32))) (ix2 r l)
      = if M (ix1 r) = 0 then 1 else Ideal.div (M (ix1 r)) Spec.fmax := by
  unfold Spec.fmax
  pointwise

/-- The scale of a row, from its normalised values `f`. -/
theorem scale_apply (Z : FVec Ideal S1024x2560 .f32) (r : Fin 1024) (l : Fin 1) {f : Fin 2560 → EReal}
    (hf : ∀ n, Z (ix2 r n) = f n) : k0_pay1 (absf Z) (ix2 r l) = Spec.scale f := by
  have hM := red_apply (absf Z) r (f := fun n => max (f n) (-f n)) (fun n => by
    rw [← hf n]; rfl)
  unfold k0_pay1
  refine (tail_apply _ r l).trans ?_
  rw [hM]
  unfold Spec.scale Spec.amax
  with_reducible rfl

/-- The stored scales. -/
theorem scales_apply (Z : FVec Ideal S1024x2560 .f32) (r : Fin 1024) (l : Fin 128) {f : Fin 2560 → EReal}
    (hf : ∀ n, Z (ix2 r n) = f n) : k0_pay3 (absf Z) (ix2 r l) = Spec.scale f := by
  rw [← scale_apply Z r 0 hf]
  unfold k0_pay3
  generalize k0_pay1 (absf Z) = W
  pointwise []

/-- A column over the lanes of a row. -/
theorem lanes_apply (W : FVec Ideal S1024x1 .f32) (r : Fin 1024) (n : Fin 2560) :
    broadcastTo S1024x2560 W broadcasts_S1024x1_S1024x2560 (ix2 r n) = W (ix2 r 0) := by
  pointwise []

/-- A quotient, clipped and rounded, at an index. -/
theorem clip_apply (Z Y : FVec Ideal S1024x2560 .f32) (i : S1024x2560.Idx) :
    truncf .fp8e4m3 (minimumf (broadcast S1024x2560 (Scalar.ofBits .f32 0x43E00000#32))
      (maximumf (broadcast S1024x2560 (Scalar.ofBits .f32 0xC3E00000#32)) (divf Z Y))) bitsLt_fp8e4m3_f32 i
      = Spec.code (Z i) (Y i) := by
  unfold Spec.code Spec.fmax Spec.fmin
  pointwise []

/-- A stored code, from its row's scale. -/
theorem code_apply (Z A : FVec Ideal S1024x2560 .f32) (r : Fin 1024) (n : Fin 2560) {s : EReal}
    (hs : k0_pay1 A (ix2 r 0) = s) : k0_pay2 Z A (ix2 r n) = Spec.code (Z (ix2 r n)) s := by
  rw [← hs]
  refine (clip_apply Z _ _).trans ?_
  rw [lanes_apply]

/-- The stored codes. -/
theorem codes_apply (Z : FVec Ideal S1024x2560 .f32) (r : Fin 1024) (n : Fin 2560) {f : Fin 2560 → EReal}
    (hf : ∀ n, Z (ix2 r n) = f n) : k0_pay2 Z (absf Z) (ix2 r n) = Spec.code (f n) (Spec.scale f) :=
  (code_apply Z (absf Z) r n (scale_apply Z r 0 hf)).trans (congrArg (fun x => Spec.code x (Spec.scale f)) (hf n))

theorem blk0 (c : Dev nD) (t : Fin cfg0.N) (r : Fin 1024) (k : Fin 2560) :
    iblk m c 0 t (ix2 r k) = act m c r k := by
  unfold act
  blk_point [iblk, V, idx t]

theorem blk1 (c : Dev nD) (t : Fin cfg0.N) (r : Fin 1024) :
    iblk m c 1 t (ix2 r 0) = m ((c : Thread nD τ).loc main_arg2) (ix1 r) := by
  blk_point [iblk, V, idx t]

theorem blk2 (c : Dev nD) (t : Fin cfg0.N) (k : Fin 2560) (n : Fin 2560) :
    iblk m c 2 t (ix2 k n) = wgt m c k n := by
  unfold wgt
  blk_point [iblk, V, idx t]

theorem blk3 (c : Dev nD) (t : Fin cfg0.N) (n : Fin 2560) :
    iblk m c 3 t (ix2 0 n) = m ((c : Thread nD τ).loc main_arg4) (ix1 n) := by
  blk_point [iblk, V, idx t]

theorem blk4 (c : Dev nD) (t : Fin cfg0.N) (r : Fin 1024) (n : Fin 2560) :
    iblk m c 4 t (ix2 r n) = skip m c r n := by
  unfold skip
  blk_point [iblk, V, idx t]

theorem blk5 (c : Dev nD) (t : Fin cfg0.N) (n : Fin 2560) :
    iblk m c 5 t (ix2 0 n) = m ((c : Thread nD τ).loc main_arg7) (ix1 n) := by
  blk_point [iblk, V, idx t]

theorem blk6 (c : Dev nD) (t : Fin cfg0.N) (n : Fin 2560) :
    iblk m c 6 t (ix2 0 n) = m ((c : Thread nD τ).loc main_arg8) (ix1 n) := by
  blk_point [iblk, V, idx t]

/-- The residual sum of the run's blocks. -/
theorem sum_apply (c : Dev nD) (t : Fin cfg0.N) (r : Fin 1024) (n : Fin 2560) :
    k0_pay4 (F := Ideal) (iblk m c 0 t) (iblk m c 1 t) (iblk m c 2 t) (iblk m c 3 t) (iblk m c 4 t) (ix2 r n) = res m c r n :=
  pay4_apply _ _ _ _ _ r n (blk0 m c t r) (fun k => blk2 m c t k n) (blk1 m c t r) (blk3 m c t n) (blk4 m c t r n)

/-- The layer norm of the run's blocks. -/
theorem norm_apply (c : Dev nD) (t : Fin cfg0.N) (r : Fin 1024) (n : Fin 2560) :
    k0_pay5 (F := Ideal) (iblk m c 0 t) (iblk m c 1 t) (iblk m c 2 t) (iblk m c 3 t) (iblk m c 4 t) (iblk m c 5 t) (iblk m c 6 t) (ix2 r n)
      = nrmd m c r n :=
  pay5_apply _ _ _ _ _ _ _ r n (sum_apply m c t r) (blk5 m c t) (blk6 m c t)

/-- The absolute values the scales are taken of. -/
theorem pay7_eq (x0 x1 x2 x3 x4 x5 x6) : k0_pay7 (F := Ideal) x0 x1 x2 x3 x4 x5 x6 = absf (k0_pay5 x0 x1 x2 x3 x4 x5 x6) := by
  unfold k0_pay7 k0_pay6
  frame_out

theorem out7 (c : Dev nD) (t : Fin cfg0.N) (y : S1024x2560.Idx) :
    out0_7 (F := Ideal) (iblk m c 0 t) (iblk m c 1 t) (iblk m c 2 t) (iblk m c 3 t) (iblk m c 4 t) (iblk m c 5 t) (iblk m c 6 t) y
      = res m c (y 0) (y 1) := by
  frame_out
  have hy : y = ix2 (y 0) (y 1) := by blk_ext []
  rw [hy]
  exact sum_apply m c t (y 0) (y 1)

theorem out8 (c : Dev nD) (t : Fin cfg0.N) (y : S1024x2560.Idx) :
    out0_8 (F := Ideal) (iblk m c 0 t) (iblk m c 1 t) (iblk m c 2 t) (iblk m c 3 t) (iblk m c 4 t) (iblk m c 5 t) (iblk m c 6 t) y
      = cod m c (y 0) (y 1) := by
  frame_out
  rw [pay7_eq]
  have hy : y = ix2 (y 0) (y 1) := by blk_ext []
  rw [hy]
  exact codes_apply _ (y 0) (y 1) (norm_apply m c t (y 0))

theorem out9 (c : Dev nD) (t : Fin cfg0.N) (y : S1024x128.Idx) :
    out0_9 (F := Ideal) (iblk m c 0 t) (iblk m c 1 t) (iblk m c 2 t) (iblk m c 3 t) (iblk m c 4 t) (iblk m c 5 t) (iblk m c 6 t) y
      = Spec.scale (nrmd m c (y 0)) := by
  frame_out
  rw [pay7_eq]
  have hy : y = ix2 (y 0) (y 1) := by blk_ext []
  rw [hy]
  exact scales_apply _ (y 0) (y 1) (norm_apply m c t (y 0))

/-- The residual sum's array after the run. -/
theorem final7 (c : Dev nD) : (dats m 0 c).arrAt 7 cfg0.N = fun i => res m c (i 0) (i 1) := by
  refine (dats m 0 c).arrAt_eq_of_covers 7 _ (by decide +kernel) fun t hf y => ?_
  blk_simp; rw [after0_7]
  refine (out7 m c t y).trans ?_
  exact congrArg₂ (res m c) (Fin.ext (by blk_simp [idx t])) (Fin.ext (by blk_simp [idx t]))

/-- The codes' array after the run. -/
theorem final8 (c : Dev nD) : (dats m 0 c).arrAt 8 cfg0.N = fun i => cod m c (i 0) (i 1) := by
  refine (dats m 0 c).arrAt_eq_of_covers 8 _ (by decide +kernel) fun t hf y => ?_
  blk_simp; rw [after0_8]
  refine (out8 m c t y).trans ?_
  exact congrArg₂ (cod m c) (Fin.ext (by blk_simp [idx t])) (Fin.ext (by blk_simp [idx t]))

/-- The scales' array after the run. -/
theorem final9 (c : Dev nD) : (dats m 0 c).arrAt 9 cfg0.N = fun i => Spec.scale (nrmd m c (i 0)) := by
  refine (dats m 0 c).arrAt_eq_of_covers 9 _ (by decide +kernel) fun t hf y => ?_
  blk_simp; rw [after0_9]
  refine (out9 m c t y).trans ?_
  exact congrArg (fun r => Spec.scale (nrmd m c r)) (Fin.ext (by blk_simp [idx t]))

end Cert.ProjTReferenceIdeal.Hand

end
-- ==== Proof.ProjTClaim.lean ====
/- The temporal output projection computes its reference, over the extended reals. -/
module

public import proofs.«01_k».proof.Defs
public import proofs.«01_k».proof.Proof.ProjTBlock
public import proofs.«01_k».proof.Proof.ProjTRef
public import Idealize.ShloMosaic.Lib.Claim

@[expose] public section

set_option maxRecDepth 16384

noncomputable section

namespace Cert.Proof.ProjT

open Idealize.ShloMosaic Idealize.ShloMosaic.TcCoe Idealize.SL.Sem

variable (m : (ℓ : Loc Cert.ProjTKernelIdeal.nD Cert.ProjTKernelIdeal.τ Cert.ProjTKernelIdeal.sig) → Buf (Elt Ideal) ℓ)
  (m' : (ℓ : Loc Cert.ProjTReferenceIdeal.nD Cert.ProjTReferenceIdeal.τ Cert.ProjTReferenceIdeal.sig) → Buf (Elt Ideal) ℓ)
  (c : Dev Cert.ProjTKernelIdeal.nD)

/-- The two programs' arguments are equal. -/
abbrev Same : Prop :=
  m' ((c : Thread Cert.ProjTReferenceIdeal.nD Cert.ProjTReferenceIdeal.τ).loc Cert.ProjTReferenceIdeal.main_arg0) = m ((c : Thread Cert.ProjTKernelIdeal.nD Cert.ProjTKernelIdeal.τ).loc Cert.ProjTKernelIdeal.main_arg0)
    ∧ m' ((c : Thread Cert.ProjTReferenceIdeal.nD Cert.ProjTReferenceIdeal.τ).loc Cert.ProjTReferenceIdeal.main_arg1) = m ((c : Thread Cert.ProjTKernelIdeal.nD Cert.ProjTKernelIdeal.τ).loc Cert.ProjTKernelIdeal.main_arg1)
    ∧ m' ((c : Thread Cert.ProjTReferenceIdeal.nD Cert.ProjTReferenceIdeal.τ).loc Cert.ProjTReferenceIdeal.main_arg2) = m ((c : Thread Cert.ProjTKernelIdeal.nD Cert.ProjTKernelIdeal.τ).loc Cert.ProjTKernelIdeal.main_arg2)
    ∧ m' ((c : Thread Cert.ProjTReferenceIdeal.nD Cert.ProjTReferenceIdeal.τ).loc Cert.ProjTReferenceIdeal.main_arg3) = m ((c : Thread Cert.ProjTKernelIdeal.nD Cert.ProjTKernelIdeal.τ).loc Cert.ProjTKernelIdeal.main_arg3)
    ∧ m' ((c : Thread Cert.ProjTReferenceIdeal.nD Cert.ProjTReferenceIdeal.τ).loc Cert.ProjTReferenceIdeal.main_arg4) = m ((c : Thread Cert.ProjTKernelIdeal.nD Cert.ProjTKernelIdeal.τ).loc Cert.ProjTKernelIdeal.main_arg4)
    ∧ m' ((c : Thread Cert.ProjTReferenceIdeal.nD Cert.ProjTReferenceIdeal.τ).loc Cert.ProjTReferenceIdeal.main_arg5) = m ((c : Thread Cert.ProjTKernelIdeal.nD Cert.ProjTKernelIdeal.τ).loc Cert.ProjTKernelIdeal.main_arg5)
    ∧ m' ((c : Thread Cert.ProjTReferenceIdeal.nD Cert.ProjTReferenceIdeal.τ).loc Cert.ProjTReferenceIdeal.main_arg6) = m ((c : Thread Cert.ProjTKernelIdeal.nD Cert.ProjTKernelIdeal.τ).loc Cert.ProjTKernelIdeal.main_arg6)
    ∧ m' ((c : Thread Cert.ProjTReferenceIdeal.nD Cert.ProjTReferenceIdeal.τ).loc Cert.ProjTReferenceIdeal.main_arg7) = m ((c : Thread Cert.ProjTKernelIdeal.nD Cert.ProjTKernelIdeal.τ).loc Cert.ProjTKernelIdeal.main_arg7)
    ∧ m' ((c : Thread Cert.ProjTReferenceIdeal.nD Cert.ProjTReferenceIdeal.τ).loc Cert.ProjTReferenceIdeal.main_arg8) = m ((c : Thread Cert.ProjTKernelIdeal.nD Cert.ProjTKernelIdeal.τ).loc Cert.ProjTKernelIdeal.main_arg8)

/-- The two programs' residual sums, from equal arguments, -/
theorem res (h : Same m m' c) : Cert.ProjTReferenceIdeal.Hand.res m' c = Cert.ProjTKernelIdeal.Hand.res m c := by
  obtain ⟨e0, e1, e2, e3, e4, e5, e6, e7, e8⟩ := h
  funext r n
  unfold Cert.ProjTReferenceIdeal.Hand.res Cert.ProjTKernelIdeal.Hand.res Cert.ProjTReferenceIdeal.Hand.skip Cert.ProjTKernelIdeal.Hand.skip
  have ha : Cert.ProjTReferenceIdeal.Hand.act m' c = Cert.ProjTKernelIdeal.Hand.act m c := by
    funext r k
    unfold Cert.ProjTReferenceIdeal.Hand.act Cert.ProjTKernelIdeal.Hand.act
    rw [e1]
  have hw : Cert.ProjTReferenceIdeal.Hand.wgt m' c = Cert.ProjTKernelIdeal.Hand.wgt m c := by
    funext k n
    unfold Cert.ProjTReferenceIdeal.Hand.wgt Cert.ProjTKernelIdeal.Hand.wgt
    rw [e3]
  rw [ha, hw, e2, e4, e5]

/-- their normalised rows -/
theorem nrmd (h : Same m m' c) : Cert.ProjTReferenceIdeal.Hand.nrmd m' c = Cert.ProjTKernelIdeal.Hand.nrmd m c := by
  have hr := res m m' c h
  obtain ⟨e0, e1, e2, e3, e4, e5, e6, e7, e8⟩ := h
  funext r
  unfold Cert.ProjTReferenceIdeal.Hand.nrmd Cert.ProjTKernelIdeal.Hand.nrmd
  rw [hr, e7, e8]

/-- and their codes. -/
theorem cod (h : Same m m' c) : Cert.ProjTReferenceIdeal.Hand.cod m' c = Cert.ProjTKernelIdeal.Hand.cod m c := by
  funext r n
  unfold Cert.ProjTReferenceIdeal.Hand.cod Cert.ProjTKernelIdeal.Hand.cod
  rw [nrmd m m' c h]

/-- The two results agree for all arguments. -/
theorem agree : Cert.algebraic_ProjTKernelIdeal_ProjTReferenceIdeal := by
  pair_intro
  · run_from Cert.ProjTKernelIdeal.Value.run_blocks m g
  · run_from Cert.ProjTReferenceIdeal.Value.run_blocks m' g'
    · rw [Cert.ProjTReferenceIdeal.Hand.final7, Cert.ProjTKernelIdeal.Hand.final9, res m m' c (hagree c)]; rfl
    · rw [Cert.ProjTReferenceIdeal.Hand.final8, Cert.ProjTKernelIdeal.Hand.final10, cod m m' c (hagree c)]; rfl
    · rw [Cert.ProjTReferenceIdeal.Hand.final9, Cert.ProjTKernelIdeal.Hand.final11, nrmd m m' c (hagree c)]; rfl

end Cert.Proof.ProjT

end
-- ==== Proof.ProjSPSkeleton.lean ====
/- The body of `ProjSKernel` as its memory operations over named payloads: each value the body stores or carries is a definition
   over the values read before it, and each printed function is shown to be its skeleton by unfolding. -/
module

public import proofs.«01_k».proof.Proof.Gen.ProjSKernel

@[expose] public section

set_option synthInstance.maxSize 4096

noncomputable section

namespace Cert.ProjSKernel.Body

open Cert.ProjSKernel Cert.ProjSKernel.Gen

open Idealize.ShloMosaic Idealize.SL.Sem

variable {F : FTy → Type} [FloatOps F]

noncomputable def k0_pay1 (v102 : FVec F S256x512 .f32) (v113 : FVec F S256x512 .f32) (v114 : Vec F S1x512 .f32) : FVec F S256x512 .f32 :=
  have v115 : FVec F S1x512 .f32 := shapeCast S1x512 v114 shapeCasts_S1x512_S1x512
  have v116 : FVec F S256x512 .f32 := broadcastTo S256x512 v115 broadcasts_S1x512_S256x512
  have v117 : FVec F S256x512 .f32 := mulf v113 v116
  have v118 : FVec F S256x512 .f32 := addf v102 v117
  v118

noncomputable def k0_pay2 (v120 : Vec F S1x2560 .f32) : FVec F S1x2560 .f32 :=
  have v121 : FVec F S1x2560 .f32 := shapeCast S1x2560 v120 shapeCasts_S1x2560_S1x2560
  v121

noncomputable def k0_pay3 (v122 : Vec F S1x2560 .f32) : FVec F S1x2560 .f32 :=
  have v123 : FVec F S1x2560 .f32 := shapeCast S1x2560 v122 shapeCasts_S1x2560_S1x2560
  v123

noncomputable def k0_pay4 (v162 : FVec F S32x1 .f32) : FVec F S32x128 .f32 :=
  have v172 : FVec F S32x1 .f32 := shapeCast S32x1 v162 shapeCasts_S32x1_S32x1
  have v173 : FVec F S32x128 .f32 := broadcastTo S32x128 v172 broadcasts_S32x1_S32x128
  v173

noncomputable def k0_pay5 (v121 : FVec F S1x2560 .f32) (v123 : FVec F S1x2560 .f32) (v126 : Vec F S1x2560 .f32) (v130 : Vec F S32x2560 .f32) : FVec F S32x2560 .f32 :=
  have v131 : FVec F S32x2560 .f32 := shapeCast S32x2560 v130 shapeCasts_S32x2560_S32x2560
  have v132 : FVec F S32 .f32 := multiReduction .add [1] S32 v131 0x00000000#32 reduces_S32x2560_S32 (.inl rfl) rfl
  have v133 : FVec F S32x1 .f32 := shapeCast S32x1 v132 shapeCasts_S32_S32x1
  have cst_68 : F .f32 := Scalar.ofBits .f32 0x45200000#32
  have v134 : FVec F S32x1 .f32 := broadcast S32x1 cst_68
  have v135 : FVec F S32x1 .f32 := divf v133 v134
  have v136 : FVec F S32x2560 .f32 := broadcastTo S32x2560 v135 broadcasts_S32x1_S32x2560
  have v137 : FVec F S32x2560 .f32 := subf v131 v136
  have v138 : FVec F S32x2560 .f32 := mulf v137 v137
  have v139 : FVec F S32 .f32 := multiReduction .add [1] S32 v138 0x00000000#32 reduces_S32x2560_S32 (.inl rfl) rfl
  have v140 : FVec F S32x1 .f32 := shapeCast S32x1 v139 shapeCasts_S32_S32x1
  have cst_70 : F .f32 := Scalar.ofBits .f32 0x45200000#32
  have v141 : FVec F S32x1 .f32 := broadcast S32x1 cst_70
  have v142 : FVec F S32x1 .f32 := divf v140 v141
  have cst_71 : F .f32 := Scalar.ofBits .f32 0x3727C5AC#32
  have v143 : FVec F S32x1 .f32 := broadcast S32x1 cst_71
  have v144 : FVec F S32x1 .f32 := addf v142 v143
  have v145 : FVec F S32x1 .f32 := rsqrt v144
  have v146 : FVec F S32x2560 .f32 := broadcastTo S32x2560 v145 broadcasts_S32x1_S32x2560
  have v147 : FVec F S32x2560 .f32 := mulf v137 v146
  have v148 : FVec F S32x2560 .f32 := broadcastTo S32x2560 v121 broadcasts_S1x2560_S32x2560
  have v149 : FVec F S32x2560 .f32 := mulf v147 v148
  have v150 : FVec F S32x2560 .f32 := broadcastTo S32x2560 v123 broadcasts_S1x2560_S32x2560
  have v151 : FVec F S32x2560 .f32 := addf v149 v150
  have v152 : FVec F S32x2560 .f32 := broadcastTo S32x2560 v126 broadcasts_S1x2560_S32x2560
  have v153 : FVec F S32x2560 .f32 := addf v151 v152
  v153

noncomputable def k0_pay6 (v121 : FVec F S1x2560 .f32) (v123 : FVec F S1x2560 .f32) (v126 : Vec F S1x2560 .f32) (v130 : Vec F S32x2560 .f32) : FVec F S32x1 .f32 :=
  have v154 : FVec F S32x2560 .f32 := absf (k0_pay5 v121 v123 v126 v130)
  have v155 : FVec F S32 .f32 := multiReduction .maximumf [1] S32 v154 0xFF800000#32 reduces_S32x2560_S32 (.inl rfl) rfl
  have v156 : FVec F S32x1 .f32 := shapeCast S32x1 v155 shapeCasts_S32_S32x1
  have cst_73 : F .f32 := Scalar.ofBits .f32 0x00000000#32
  have v157 : FVec F S32x1 .f32 := broadcast S32x1 cst_73
  have v158 : IVec S32x1 1 := cmpf .oeq v156 v157
  have cst_74 : F .f32 := Scalar.ofBits .f32 0x43E00000#32
  have v159 : FVec F S32x1 .f32 := broadcast S32x1 cst_74
  have v160 : FVec F S32x1 .f32 := divf v156 v159
  have cst_75 : F .f32 := Scalar.ofBits .f32 0x3F800000#32
  have v161 : FVec F S32x1 .f32 := broadcast S32x1 cst_75
  have v162 : FVec F S32x1 .f32 := select v158 v161 v160
  v162

noncomputable def k0_pay7 (v121 : FVec F S1x2560 .f32) (v123 : FVec F S1x2560 .f32) (v126 : Vec F S1x2560 .f32) (v130 : Vec F S32x2560 .f32) : FVec F S32x2560 .fp8e4m3 :=
  have v163 : FVec F S32x2560 .f32 := broadcastTo S32x2560 (k0_pay6 v121 v123 v126 v130) broadcasts_S32x1_S32x2560
  have v164 : FVec F S32x2560 .f32 := divf (k0_pay5 v121 v123 v126 v130) v163
  have cst_76 : F .f32 := Scalar.ofBits .f32 0xC3E00000#32
  have cst_77 : F .f32 := Scalar.ofBits .f32 0x43E00000#32
  have v165 : FVec F S32x2560 .f32 := broadcast S32x2560 cst_76
  have v166 : FVec F S32x2560 .f32 := maximumf v165 v164
  have v167 : FVec F S32x2560 .f32 := broadcast S32x2560 cst_77
  have v168 : FVec F S32x2560 .f32 := minimumf v167 v166
  have v169 : FVec F S32x2560 .fp8e4m3 := truncf .fp8e4m3 v168 bitsLt_fp8e4m3_f32
  v169

noncomputable def k0_pay8 (v0 : Vec F S256x2560 .fp8e4m3) (v1 : Vec F S2560x512 .fp8e4m3) (v4 : Vec F S256x512 .bf16) (v7 : Vec F S256x128 .f32) (v18 : Vec F S1x512 .f32) : FVec F S256x512 .f32 :=
  have v2 : FVec F S2560x512 .fp8e4m3 := shapeCast S2560x512 v1 shapeCasts_S2560x512_S2560x512
  have cst : FVec F S256x512 .f32 := constant S256x512 .f32 0x00000000#32
  have v3 : FVec F S256x512 .f32 := matmul dot_S256x2560_S2560x512_S256x512_1_0_0_1_n_n none v0 v2 cst
  have v5 : FVec F S256x512 .bf16 := shapeCast S256x512 v4 shapeCasts_S256x512_S256x512
  have v6 : FVec F S256x512 .f32 := extf .f32 v5 bitsLt_bf16_f32
  have v8 : FVec F S256x128 .f32 := shapeCast S256x128 v7 shapeCasts_S256x128_S256x128
  have v9 : FVec F S256x128 .f32 := extractStridedSlice S256x128 ![0, 0] v3 slices_S256x512_o0_0_S256x128
  have v10 : FVec F S256x128 .f32 := mulf v9 v8
  have v11 : FVec F S256x128 .f32 := extractStridedSlice S256x128 ![0, 128] v3 slices_S256x512_o0_128_S256x128
  have v12 : FVec F S256x128 .f32 := mulf v11 v8
  have v13 : FVec F S256x128 .f32 := extractStridedSlice S256x128 ![0, 256] v3 slices_S256x512_o0_256_S256x128
  have v14 : FVec F S256x128 .f32 := mulf v13 v8
  have v15 : FVec F S256x128 .f32 := extractStridedSlice S256x128 ![0, 384] v3 slices_S256x512_o0_384_S256x128
  have v16 : FVec F S256x128 .f32 := mulf v15 v8
  have v17 : FVec F S256x512 .f32 := concatenate S256x512 1 [⟨S256x128, v10⟩, ⟨S256x128, v12⟩, ⟨S256x128, v14⟩, ⟨S256x128, v16⟩] concatenates_S256x128_S256x128_S256x128_S256x128_S256x512_d1
  have v19 : FVec F S1x512 .f32 := shapeCast S1x512 v18 shapeCasts_S1x512_S1x512
  have v20 : FVec F S256x512 .f32 := broadcastTo S256x512 v19 broadcasts_S1x512_S256x512
  have v21 : FVec F S256x512 .f32 := mulf v17 v20
  have v22 : FVec F S256x512 .f32 := addf v6 v21
  v22

noncomputable def k0_pay9 (v24 : Vec F S256x2560 .fp8e4m3) (v25 : Vec F S2560x512 .fp8e4m3) : FVec F S256x512 .f32 :=
  have v26 : FVec F S2560x512 .fp8e4m3 := shapeCast S2560x512 v25 shapeCasts_S2560x512_S2560x512
  have cst_14 : FVec F S256x512 .f32 := constant S256x512 .f32 0x00000000#32
  have v27 : FVec F S256x512 .f32 := matmul dot_S256x2560_S2560x512_S256x512_1_0_0_1_n_n none v24 v26 cst_14
  v27

noncomputable def k0_pay10 (v28 : Vec F S256x512 .bf16) : FVec F S256x512 .f32 :=
  have v29 : FVec F S256x512 .bf16 := shapeCast S256x512 v28 shapeCasts_S256x512_S256x512
  have v30 : FVec F S256x512 .f32 := extf .f32 v29 bitsLt_bf16_f32
  v30

noncomputable def k0_pay11 (v31 : Vec F S256x128 .f32) : FVec F S256x128 .f32 :=
  have v32 : FVec F S256x128 .f32 := shapeCast S256x128 v31 shapeCasts_S256x128_S256x128
  v32

noncomputable def k0_pay12 (v24 : Vec F S256x2560 .fp8e4m3) (v25 : Vec F S2560x512 .fp8e4m3) (v31 : Vec F S256x128 .f32) : FVec F S256x128 .f32 :=
  have v33 : FVec F S256x128 .f32 := extractStridedSlice S256x128 ![0, 0] (k0_pay9 v24 v25) slices_S256x512_o0_0_S256x128
  have v34 : FVec F S256x128 .f32 := mulf v33 (k0_pay11 v31)
  v34

noncomputable def k0_pay13 (v24 : Vec F S256x2560 .fp8e4m3) (v25 : Vec F S2560x512 .fp8e4m3) : FVec F S256x128 .f32 :=
  have v35 : FVec F S256x128 .f32 := extractStridedSlice S256x128 ![0, 128] (k0_pay9 v24 v25) slices_S256x512_o0_128_S256x128
  v35

noncomputable def k0_pay14 (v27 : FVec F S256x512 .f32) (v30 : FVec F S256x512 .f32) (v32 : FVec F S256x128 .f32) (v34 : FVec F S256x128 .f32) (v35 : FVec F S256x128 .f32) (v42 : Vec F S1x512 .f32) : FVec F S256x512 .f32 :=
  have v36 : FVec F S256x128 .f32 := mulf v35 v32
  have v37 : FVec F S256x128 .f32 := extractStridedSlice S256x128 ![0, 256] v27 slices_S256x512_o0_256_S256x128
  have v38 : FVec F S256x128 .f32 := mulf v37 v32
  have v39 : FVec F S256x128 .f32 := extractStridedSlice S256x128 ![0, 384] v27 slices_S256x512_o0_384_S256x128
  have v40 : FVec F S256x128 .f32 := mulf v39 v32
  have v41 : FVec F S256x512 .f32 := concatenate S256x512 1 [⟨S256x128, v34⟩, ⟨S256x128, v36⟩, ⟨S256x128, v38⟩, ⟨S256x128, v40⟩] concatenates_S256x128_S256x128_S256x128_S256x128_S256x512_d1
  have v43 : FVec F S1x512 .f32 := shapeCast S1x512 v42 shapeCasts_S1x512_S1x512
  have v44 : FVec F S256x512 .f32 := broadcastTo S256x512 v43 broadcasts_S1x512_S256x512
  have v45 : FVec F S256x512 .f32 := mulf v41 v44
  have v46 : FVec F S256x512 .f32 := addf v30 v45
  v46

noncomputable def k0_pay15 (v48 : Vec F S256x2560 .fp8e4m3) (v49 : Vec F S2560x512 .fp8e4m3) (v52 : Vec F S256x512 .bf16) (v55 : Vec F S256x128 .f32) (v66 : Vec F S1x512 .f32) : FVec F S256x512 .f32 :=
  have v50 : FVec F S2560x512 .fp8e4m3 := shapeCast S2560x512 v49 shapeCasts_S2560x512_S2560x512
  have cst_26 : FVec F S256x512 .f32 := constant S256x512 .f32 0x00000000#32
  have v51 : FVec F S256x512 .f32 := matmul dot_S256x2560_S2560x512_S256x512_1_0_0_1_n_n none v48 v50 cst_26
  have v53 : FVec F S256x512 .bf16 := shapeCast S256x512 v52 shapeCasts_S256x512_S256x512
  have v54 : FVec F S256x512 .f32 := extf .f32 v53 bitsLt_bf16_f32
  have v56 : FVec F S256x128 .f32 := shapeCast S256x128 v55 shapeCasts_S256x128_S256x128
  have v57 : FVec F S256x128 .f32 := extractStridedSlice S256x128 ![0, 0] v51 slices_S256x512_o0_0_S256x128
  have v58 : FVec F S256x128 .f32 := mulf v57 v56
  have v59 : FVec F S256x128 .f32 := extractStridedSlice S256x128 ![0, 128] v51 slices_S256x512_o0_128_S256x128
  have v60 : FVec F S256x128 .f32 := mulf v59 v56
  have v61 : FVec F S256x128 .f32 := extractStridedSlice S256x128 ![0, 256] v51 slices_S256x512_o0_256_S256x128
  have v62 : FVec F S256x128 .f32 := mulf v61 v56
  have v63 : FVec F S256x128 .f32 := extractStridedSlice S256x128 ![0, 384] v51 slices_S256x512_o0_384_S256x128
  have v64 : FVec F S256x128 .f32 := mulf v63 v56
  have v65 : FVec F S256x512 .f32 := concatenate S256x512 1 [⟨S256x128, v58⟩, ⟨S256x128, v60⟩, ⟨S256x128, v62⟩, ⟨S256x128, v64⟩] concatenates_S256x128_S256x128_S256x128_S256x128_S256x512_d1
  have v67 : FVec F S1x512 .f32 := shapeCast S1x512 v66 shapeCasts_S1x512_S1x512
  have v68 : FVec F S256x512 .f32 := broadcastTo S256x512 v67 broadcasts_S1x512_S256x512
  have v69 : FVec F S256x512 .f32 := mulf v65 v68
  have v70 : FVec F S256x512 .f32 := addf v54 v69
  v70

noncomputable def k0_pay16 (v72 : Vec F S256x2560 .fp8e4m3) (v73 : Vec F S2560x512 .fp8e4m3) (v76 : Vec F S256x512 .bf16) (v79 : Vec F S256x128 .f32) (v90 : Vec F S1x512 .f32) : FVec F S256x512 .f32 :=
  have v74 : FVec F S2560x512 .fp8e4m3 := shapeCast S2560x512 v73 shapeCasts_S2560x512_S2560x512
  have cst_38 : FVec F S256x512 .f32 := constant S256x512 .f32 0x00000000#32
  have v75 : FVec F S256x512 .f32 := matmul dot_S256x2560_S2560x512_S256x512_1_0_0_1_n_n none v72 v74 cst_38
  have v77 : FVec F S256x512 .bf16 := shapeCast S256x512 v76 shapeCasts_S256x512_S256x512
  have v78 : FVec F S256x512 .f32 := extf .f32 v77 bitsLt_bf16_f32
  have v80 : FVec F S256x128 .f32 := shapeCast S256x128 v79 shapeCasts_S256x128_S256x128
  have v81 : FVec F S256x128 .f32 := extractStridedSlice S256x128 ![0, 0] v75 slices_S256x512_o0_0_S256x128
  have v82 : FVec F S256x128 .f32 := mulf v81 v80
  have v83 : FVec F S256x128 .f32 := extractStridedSlice S256x128 ![0, 128] v75 slices_S256x512_o0_128_S256x128
  have v84 : FVec F S256x128 .f32 := mulf v83 v80
  have v85 : FVec F S256x128 .f32 := extractStridedSlice S256x128 ![0, 256] v75 slices_S256x512_o0_256_S256x128
  have v86 : FVec F S256x128 .f32 := mulf v85 v80
  have v87 : FVec F S256x128 .f32 := extractStridedSlice S256x128 ![0, 384] v75 slices_S256x512_o0_384_S256x128
  have v88 : FVec F S256x128 .f32 := mulf v87 v80
  have v89 : FVec F S256x512 .f32 := concatenate S256x512 1 [⟨S256x128, v82⟩, ⟨S256x128, v84⟩, ⟨S256x128, v86⟩, ⟨S256x128, v88⟩] concatenates_S256x128_S256x128_S256x128_S256x128_S256x512_d1
  have v91 : FVec F S1x512 .f32 := shapeCast S1x512 v90 shapeCasts_S1x512_S1x512
  have v92 : FVec F S256x512 .f32 := broadcastTo S256x512 v91 broadcasts_S1x512_S256x512
  have v93 : FVec F S256x512 .f32 := mulf v89 v92
  have v94 : FVec F S256x512 .f32 := addf v78 v93
  v94

noncomputable def k0_pay17 (v100 : Vec F S256x512 .bf16) : FVec F S256x512 .f32 :=
  have v101 : FVec F S256x512 .bf16 := shapeCast S256x512 v100 shapeCasts_S256x512_S256x512
  have v102 : FVec F S256x512 .f32 := extf .f32 v101 bitsLt_bf16_f32
  v102

noncomputable def k0_pay18 (v96 : Vec F S256x2560 .fp8e4m3) (v97 : Vec F S2560x512 .fp8e4m3) (v103 : Vec F S256x128 .f32) : FVec F S256x512 .f32 :=
  have v98 : FVec F S2560x512 .fp8e4m3 := shapeCast S2560x512 v97 shapeCasts_S2560x512_S2560x512
  have cst_50 : FVec F S256x512 .f32 := constant S256x512 .f32 0x00000000#32
  have v99 : FVec F S256x512 .f32 := matmul dot_S256x2560_S2560x512_S256x512_1_0_0_1_n_n none v96 v98 cst_50
  have v104 : FVec F S256x128 .f32 := shapeCast S256x128 v103 shapeCasts_S256x128_S256x128
  have v105 : FVec F S256x128 .f32 := extractStridedSlice S256x128 ![0, 0] v99 slices_S256x512_o0_0_S256x128
  have v106 : FVec F S256x128 .f32 := mulf v105 v104
  have v107 : FVec F S256x128 .f32 := extractStridedSlice S256x128 ![0, 128] v99 slices_S256x512_o0_128_S256x128
  have v108 : FVec F S256x128 .f32 := mulf v107 v104
  have v109 : FVec F S256x128 .f32 := extractStridedSlice S256x128 ![0, 256] v99 slices_S256x512_o0_256_S256x128
  have v110 : FVec F S256x128 .f32 := mulf v109 v104
  have v111 : FVec F S256x128 .f32 := extractStridedSlice S256x128 ![0, 384] v99 slices_S256x512_o0_384_S256x128
  have v112 : FVec F S256x128 .f32 := mulf v111 v104
  have v113 : FVec F S256x512 .f32 := concatenate S256x512 1 [⟨S256x128, v106⟩, ⟨S256x128, v108⟩, ⟨S256x128, v110⟩, ⟨S256x128, v112⟩] concatenates_S256x128_S256x128_S256x128_S256x128_S256x512_d1
  v113

set_option cleanup.letToHave false in set_option maxHeartbeats 40000000 in
noncomputable def k0_t1_body (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) :
    Fin k0_t1_loop.trips → Unit → Prog (TpuEff nD τ sig (Elt F) Λ₀ .tc) (Unit) :=
  fun k0_t1 _ => do
    let ⟨v128, v162⟩ : Σ' (v128 : BitVec 32), FVec F S32x1 .f32 ← k0_part1 i arg1 harg1 arg2 harg2 arg3 harg3 arg4 harg4 arg5 harg5 arg6 harg6 arg7 harg7 arg8 harg8 arg9 harg9 arg10 harg10 arg11 harg11 arg12 harg12 (k0_pay2 v120) (k0_pay3 v122) v126 0#32 1#32 k0_t1
    let v175 : Vec F S32x128 .f32 ← Prog.lift (.load arg12 (Rect.unit (s := S256x128) (k0_off4 k0_t1) S32x128.size (k0_off4_inb k0_t1)).toLoadRect (View.loadsAt_vmem h_S32x128))
    Prog.lift (.store arg12 (Rect.unit (s := S256x128) (k0_off4 k0_t1) S32x128.size (k0_off4_inb k0_t1)) (k0_pay4 v162) Finset.univ (View.stores_vmem_bits_univ h_S32x128 rfl) (.inl rfl))
    pure ⟨⟩

set_option cleanup.letToHave false in set_option maxHeartbeats 40000000 in
noncomputable def cc0_oproj_s_skel (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) :
    Prog (TpuEff nD τ sig (Elt F) Λ₀ .tc) PUnit := do
  let ⟨arg0, v27, v30, v32, v34, v35⟩ : Σ' (arg0 : BitVec 32) (v27 : FVec F S256x512 .f32) (v30 : FVec F S256x512 .f32) (v32 : FVec F S256x128 .f32) (v34 : FVec F S256x128 .f32), FVec F S256x128 .f32 ← k0_part2 i arg1 harg1 arg2 harg2 arg3 harg3 arg4 harg4 arg5 harg5 arg6 harg6 arg7 harg7 arg8 harg8 arg9 harg9 arg10 harg10 arg11 harg11 arg12 harg12
  let v72 : Vec F S256x2560 .fp8e4m3 ← k0_part3 i arg1 harg1 arg2 harg2 arg3 harg3 arg4 harg4 arg5 harg5 arg6 harg6 arg7 harg7 arg8 harg8 arg9 harg9 arg10 harg10 arg11 harg11 arg12 harg12 v27 v30 v32 v34 v35
  let ⟨v102, v113⟩ : Σ' (v102 : FVec F S256x512 .f32), FVec F S256x512 .f32 ← k0_part4 i arg1 harg1 arg2 harg2 arg3 harg3 arg4 harg4 arg5 harg5 arg6 harg6 arg7 harg7 arg8 harg8 arg9 harg9 arg10 harg10 arg11 harg11 arg12 harg12 v72
  let v114 : Vec F S1x512 .f32 ← Prog.lift (.load arg5 (Rect.unit (s := S1x2560) ![0, 2048] S1x512.size inb_S1x2560_S1x512_0_2048).toLoadRect (View.loadsAt_vmem h_S1x512))
  let v119 : Vec F S256x512 .f32 ← Prog.lift (.load arg10 (Rect.unit (s := S256x2560) ![0, 2048] S256x512.size inb_S256x2560_S256x512_0_2048).toLoadRect (View.loadsAt_vmem h_S256x512))
  Prog.lift (.store arg10 (Rect.unit (s := S256x2560) ![0, 2048] S256x512.size inb_S256x2560_S256x512_0_2048) (k0_pay1 v102 v113 v114) Finset.univ (View.stores_vmem_bits_univ h_S256x512 rfl) (.inl rfl))
  let v120 : Vec F S1x2560 .f32 ← Prog.lift (.load arg8 (Rect.unit (s := S1x2560) ![0, 0] S1x2560.size inb_S1x2560_S1x2560_0_0).toLoadRect (View.loadsAt_vmem h_S1x2560))
  let v122 : Vec F S1x2560 .f32 ← Prog.lift (.load arg9 (Rect.unit (s := S1x2560) ![0, 0] S1x2560.size inb_S1x2560_S1x2560_0_0).toLoadRect (View.loadsAt_vmem h_S1x2560))
  let v124 : Elt F .i32 ← smemLoad arg1 (Rect.unit (s := S4) (k0_off1 i) S1.size (k0_off1_inb i)) numel1_S1 rfl
  have k0_hw1 : k0_chk1 v124 := (← Prog.lift (TpuEff.assume (k0_chk1 v124) (k0_chk1.dec v124))).down
  let v126 : Vec F S1x2560 .f32 ← Prog.lift (.load arg7 (Rect.unit (s := S8x2560) (k0_off2 v124) S1x2560.size (k0_off2_inb v124 k0_hw1)).toLoadRect (View.loadsAt_vmem h_S1x2560))
  Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 v120 v122 v126)
  pure ⟨⟩

set_option maxRecDepth 65536 in
theorem cc0_oproj_s_eq_skeleton : cc0_oproj_s (F := F) = cc0_oproj_s_skel (F := F) := rfl

set_option cleanup.letToHave false in set_option maxHeartbeats 40000000 in
noncomputable def k0_part1_skel (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v121 : FVec F S1x2560 .f32) (v123 : FVec F S1x2560 .f32) (v126 : Vec F S1x2560 .f32) (c0_i32 : BitVec 32) (c1_i32 : BitVec 32) (k0_t1 : Fin k0_t1_loop.trips) :
    Prog (TpuEff nD τ sig (Elt F) Λ₀ .tc) (Σ' (v128 : BitVec 32), FVec F S32x1 .f32) := do
  let arg13 : BitVec 32 := Scf.iv c0_i32 c1_i32 k0_t1
  let v128 : BitVec 32 := Scalar.muli arg13 32#32
  let v130 : Vec F S32x2560 .f32 ← Prog.lift (.load arg10 (Rect.unit (s := S256x2560) (k0_off3 k0_t1) S32x2560.size (k0_off3_inb k0_t1)).toLoadRect (View.loadsAt_vmem h_S32x2560))
  let v171 : Vec F S32x2560 .fp8e4m3 ← Prog.lift (.load arg11 (Rect.unit (s := S256x2560) (k0_off3 k0_t1) S32x2560.size (k0_off3_inb k0_t1)).toLoadRect (View.loadsAt_vmem h_S32x2560))
  Prog.lift (.store arg11 (Rect.unit (s := S256x2560) (k0_off3 k0_t1) S32x2560.size (k0_off3_inb k0_t1)) (k0_pay7 v121 v123 v126 v130) Finset.univ (View.stores_vmem h_S32x2560 (harg11.storeExact_slice rfl _ (k0_off3_packedfp8e4m3 k0_t1)) (fun _ => rfl)) (.inl rfl))
  pure ⟨v128, k0_pay6 v121 v123 v126 v130⟩

set_option maxRecDepth 65536 in
theorem k0_part1_eq_skeleton : k0_part1 (F := F) = k0_part1_skel (F := F) := rfl

set_option cleanup.letToHave false in set_option maxHeartbeats 40000000 in
noncomputable def k0_part2_skel (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) :
    Prog (TpuEff nD τ sig (Elt F) Λ₀ .tc) (Σ' (arg0 : BitVec 32) (v27 : FVec F S256x512 .f32) (v30 : FVec F S256x512 .f32) (v32 : FVec F S256x128 .f32) (v34 : FVec F S256x128 .f32), FVec F S256x128 .f32) := do
  let v0 : Vec F S256x2560 .fp8e4m3 ← Prog.lift (.load arg2 (Rect.unit (s := S256x2560) ![0, 0] S256x2560.size inb_S256x2560_S256x2560_0_0).toLoadRect (View.loadsAt_vmem h_S256x2560))
  let v1 : Vec F S2560x512 .fp8e4m3 ← Prog.lift (.load arg4 (Rect.unit (s := S2560x2560) ![0, 0] S2560x512.size inb_S2560x2560_S2560x512_0_0).toLoadRect (View.loadsAt_vmem h_S2560x512))
  let v4 : Vec F S256x512 .bf16 ← Prog.lift (.load arg6 (Rect.unit (s := S256x2560) ![0, 0] S256x512.size inb_S256x2560_S256x512_0_0).toLoadRect (View.loadsAt_vmem h_S256x512))
  let v7 : Vec F S256x128 .f32 ← Prog.lift (.load arg3 (Rect.unit (s := S256x128) ![0, 0] S256x128.size inb_S256x128_S256x128_0_0).toLoadRect (View.loadsAt_vmem h_S256x128))
  let v18 : Vec F S1x512 .f32 ← Prog.lift (.load arg5 (Rect.unit (s := S1x2560) ![0, 0] S1x512.size inb_S1x2560_S1x512_0_0).toLoadRect (View.loadsAt_vmem h_S1x512))
  let v23 : Vec F S256x512 .f32 ← Prog.lift (.load arg10 (Rect.unit (s := S256x2560) ![0, 0] S256x512.size inb_S256x2560_S256x512_0_0).toLoadRect (View.loadsAt_vmem h_S256x512))
  Prog.lift (.store arg10 (Rect.unit (s := S256x2560) ![0, 0] S256x512.size inb_S256x2560_S256x512_0_0) (k0_pay8 v0 v1 v4 v7 v18) Finset.univ (View.stores_vmem_bits_univ h_S256x512 rfl) (.inl rfl))
  let v24 : Vec F S256x2560 .fp8e4m3 ← Prog.lift (.load arg2 (Rect.unit (s := S256x2560) ![0, 0] S256x2560.size inb_S256x2560_S256x2560_0_0).toLoadRect (View.loadsAt_vmem h_S256x2560))
  let v25 : Vec F S2560x512 .fp8e4m3 ← Prog.lift (.load arg4 (Rect.unit (s := S2560x2560) ![0, 512] S2560x512.size inb_S2560x2560_S2560x512_0_512).toLoadRect (View.loadsAt_vmem h_S2560x512))
  let v28 : Vec F S256x512 .bf16 ← Prog.lift (.load arg6 (Rect.unit (s := S256x2560) ![0, 512] S256x512.size inb_S256x2560_S256x512_0_512).toLoadRect (View.loadsAt_vmem h_S256x512))
  let v31 : Vec F S256x128 .f32 ← Prog.lift (.load arg3 (Rect.unit (s := S256x128) ![0, 0] S256x128.size inb_S256x128_S256x128_0_0).toLoadRect (View.loadsAt_vmem h_S256x128))
  pure ⟨BitVec.ofNat 32 (i 0).val, k0_pay9 v24 v25, k0_pay10 v28, k0_pay11 v31, k0_pay12 v24 v25 v31, k0_pay13 v24 v25⟩

set_option maxRecDepth 65536 in
theorem k0_part2_eq_skeleton : k0_part2 (F := F) = k0_part2_skel (F := F) := rfl

set_option cleanup.letToHave false in set_option maxHeartbeats 40000000 in
noncomputable def k0_part3_skel (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v27 : FVec F S256x512 .f32) (v30 : FVec F S256x512 .f32) (v32 : FVec F S256x128 .f32) (v34 : FVec F S256x128 .f32) (v35 : FVec F S256x128 .f32) :
    Prog (TpuEff nD τ sig (Elt F) Λ₀ .tc) (Vec F S256x2560 .fp8e4m3) := do
  let v42 : Vec F S1x512 .f32 ← Prog.lift (.load arg5 (Rect.unit (s := S1x2560) ![0, 512] S1x512.size inb_S1x2560_S1x512_0_512).toLoadRect (View.loadsAt_vmem h_S1x512))
  let v47 : Vec F S256x512 .f32 ← Prog.lift (.load arg10 (Rect.unit (s := S256x2560) ![0, 512] S256x512.size inb_S256x2560_S256x512_0_512).toLoadRect (View.loadsAt_vmem h_S256x512))
  Prog.lift (.store arg10 (Rect.unit (s := S256x2560) ![0, 512] S256x512.size inb_S256x2560_S256x512_0_512) (k0_pay14 v27 v30 v32 v34 v35 v42) Finset.univ (View.stores_vmem_bits_univ h_S256x512 rfl) (.inl rfl))
  let v48 : Vec F S256x2560 .fp8e4m3 ← Prog.lift (.load arg2 (Rect.unit (s := S256x2560) ![0, 0] S256x2560.size inb_S256x2560_S256x2560_0_0).toLoadRect (View.loadsAt_vmem h_S256x2560))
  let v49 : Vec F S2560x512 .fp8e4m3 ← Prog.lift (.load arg4 (Rect.unit (s := S2560x2560) ![0, 1024] S2560x512.size inb_S2560x2560_S2560x512_0_1024).toLoadRect (View.loadsAt_vmem h_S2560x512))
  let v52 : Vec F S256x512 .bf16 ← Prog.lift (.load arg6 (Rect.unit (s := S256x2560) ![0, 1024] S256x512.size inb_S256x2560_S256x512_0_1024).toLoadRect (View.loadsAt_vmem h_S256x512))
  let v55 : Vec F S256x128 .f32 ← Prog.lift (.load arg3 (Rect.unit (s := S256x128) ![0, 0] S256x128.size inb_S256x128_S256x128_0_0).toLoadRect (View.loadsAt_vmem h_S256x128))
  let v66 : Vec F S1x512 .f32 ← Prog.lift (.load arg5 (Rect.unit (s := S1x2560) ![0, 1024] S1x512.size inb_S1x2560_S1x512_0_1024).toLoadRect (View.loadsAt_vmem h_S1x512))
  let v71 : Vec F S256x512 .f32 ← Prog.lift (.load arg10 (Rect.unit (s := S256x2560) ![0, 1024] S256x512.size inb_S256x2560_S256x512_0_1024).toLoadRect (View.loadsAt_vmem h_S256x512))
  Prog.lift (.store arg10 (Rect.unit (s := S256x2560) ![0, 1024] S256x512.size inb_S256x2560_S256x512_0_1024) (k0_pay15 v48 v49 v52 v55 v66) Finset.univ (View.stores_vmem_bits_univ h_S256x512 rfl) (.inl rfl))
  let v72 : Vec F S256x2560 .fp8e4m3 ← Prog.lift (.load arg2 (Rect.unit (s := S256x2560) ![0, 0] S256x2560.size inb_S256x2560_S256x2560_0_0).toLoadRect (View.loadsAt_vmem h_S256x2560))
  let c0_37 : Index := 0#32
  let c1536 : Index := 1536#32
  pure v72

set_option maxRecDepth 65536 in
theorem k0_part3_eq_skeleton : k0_part3 (F := F) = k0_part3_skel (F := F) := rfl

set_option cleanup.letToHave false in set_option maxHeartbeats 40000000 in
noncomputable def k0_part4_skel (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v72 : Vec F S256x2560 .fp8e4m3) :
    Prog (TpuEff nD τ sig (Elt F) Λ₀ .tc) (Σ' (v102 : FVec F S256x512 .f32), FVec F S256x512 .f32) := do
  let v73 : Vec F S2560x512 .fp8e4m3 ← Prog.lift (.load arg4 (Rect.unit (s := S2560x2560) ![0, 1536] S2560x512.size inb_S2560x2560_S2560x512_0_1536).toLoadRect (View.loadsAt_vmem h_S2560x512))
  let v76 : Vec F S256x512 .bf16 ← Prog.lift (.load arg6 (Rect.unit (s := S256x2560) ![0, 1536] S256x512.size inb_S256x2560_S256x512_0_1536).toLoadRect (View.loadsAt_vmem h_S256x512))
  let v79 : Vec F S256x128 .f32 ← Prog.lift (.load arg3 (Rect.unit (s := S256x128) ![0, 0] S256x128.size inb_S256x128_S256x128_0_0).toLoadRect (View.loadsAt_vmem h_S256x128))
  let v90 : Vec F S1x512 .f32 ← Prog.lift (.load arg5 (Rect.unit (s := S1x2560) ![0, 1536] S1x512.size inb_S1x2560_S1x512_0_1536).toLoadRect (View.loadsAt_vmem h_S1x512))
  let v95 : Vec F S256x512 .f32 ← Prog.lift (.load arg10 (Rect.unit (s := S256x2560) ![0, 1536] S256x512.size inb_S256x2560_S256x512_0_1536).toLoadRect (View.loadsAt_vmem h_S256x512))
  Prog.lift (.store arg10 (Rect.unit (s := S256x2560) ![0, 1536] S256x512.size inb_S256x2560_S256x512_0_1536) (k0_pay16 v72 v73 v76 v79 v90) Finset.univ (View.stores_vmem_bits_univ h_S256x512 rfl) (.inl rfl))
  let v96 : Vec F S256x2560 .fp8e4m3 ← Prog.lift (.load arg2 (Rect.unit (s := S256x2560) ![0, 0] S256x2560.size inb_S256x2560_S256x2560_0_0).toLoadRect (View.loadsAt_vmem h_S256x2560))
  let v97 : Vec F S2560x512 .fp8e4m3 ← Prog.lift (.load arg4 (Rect.unit (s := S2560x2560) ![0, 2048] S2560x512.size inb_S2560x2560_S2560x512_0_2048).toLoadRect (View.loadsAt_vmem h_S2560x512))
  let v100 : Vec F S256x512 .bf16 ← Prog.lift (.load arg6 (Rect.unit (s := S256x2560) ![0, 2048] S256x512.size inb_S256x2560_S256x512_0_2048).toLoadRect (View.loadsAt_vmem h_S256x512))
  let v103 : Vec F S256x128 .f32 ← Prog.lift (.load arg3 (Rect.unit (s := S256x128) ![0, 0] S256x128.size inb_S256x128_S256x128_0_0).toLoadRect (View.loadsAt_vmem h_S256x128))
  pure ⟨k0_pay17 v100, k0_pay18 v96 v97 v103⟩

set_option maxRecDepth 65536 in
theorem k0_part4_eq_skeleton : k0_part4 (F := F) = k0_part4_skel (F := F) := rfl

end Cert.ProjSKernel.Body

end
-- ==== Proof.ProjSPLoops.lean ====
/- The quantising loop of `ProjSKernel`: one trip run at any row group, the pieces the trips before one leave, and the invariant
   the whole loop is run by. -/
module

public import proofs.«01_k».proof.Proof.ProjSPSkeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.ProjSKernel.Body

open Cert.ProjSKernel Cert.ProjSKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 v120 v122 v126)

/-! ### `k0_t1_loop`: the generated invariant (classifier: affine) -/

abbrev Trip_k0_t1 (c : Dev nD) (arg10 : Memref sig .tc .vmem S256x2560 .f32) (arg11 : Memref sig .tc .vmem S256x2560 .fp8e4m3) (arg12 : Memref sig .tc .vmem S256x128 .f32) (X_arg10 : BufTy.Contents (Elt F) arg10.view.ty) (f_arg11 : BufTy.Contents (Elt F) arg11.view.ty) (f_arg12 : BufTy.Contents (Elt F) arg12.view.ty) : sProp 𝕄G :=
  iprop((arg10.view.loc (c : Thread nD τ) ↦[arg10.view.set]{fullShare} X_arg10) ∗ (arg11.view.loc (c : Thread nD τ) ↦[arg11.view.set]{fullShare} f_arg11) ∗ (arg12.view.loc (c : Thread nD τ) ↦[arg12.view.set]{fullShare} f_arg12))

@[irreducible] def trip_k0_t1 (𝒱 : Variants) (c : Dev nD) (bd : Option 𝒱.V) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) (k : Fin k0_t1_loop.trips) :
    Σ' (L_arg11 : List (View.Piece (Elt F) S256x2560 .fp8e4m3)) , { L_arg12 : List (View.Piece (Elt F) S256x128 .f32) // ∀ (E : Set ℕ) (f_arg11 : BufTy.Contents (Elt F) arg11.view.ty) (f_arg12 : BufTy.Contents (Elt F) arg12.view.ty),
      Trip_k0_t1 (F := F) c arg10 arg11 arg12 X_arg10 f_arg11 f_arg12
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 v120 v122 v126 k PUnit.unit)
          (fun _ => Trip_k0_t1 (F := F) c arg10 arg11 arg12 X_arg10 (arg11.view.writes (Elt F) f_arg11 L_arg11) (arg12.view.writes (Elt F) f_arg12 L_arg12)) } := by
  have hk : k.val < 8 := Nat.lt_of_lt_of_le k.isLt k0_t1_abs.2.1
  refine ⟨?_, ?_, fun E f_arg11 f_arg12 => ?run⟩
  case run =>
    unfold k0_t1_body
    iintro ⟨HR_arg10, HW_arg11, HW_arg12⟩
    sl_exec
    sl_step
    sl_close

abbrev tripL_k0_t1 (𝒱 : Variants) (c : Dev nD) (bd : Option 𝒱.V) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) (k : Fin k0_t1_loop.trips) : List (View.Piece (Elt F) S256x2560 .fp8e4m3) × List (View.Piece (Elt F) S256x128 .f32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).1, (trip_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).2.1)

@[irreducible] def pb_k0_t1Step (𝒱 : Variants) (c : Dev nD) (bd : Option 𝒱.V) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) (k : ℕ) (prev : List (View.Piece (Elt F) S256x2560 .fp8e4m3) × List (View.Piece (Elt F) S256x128 .f32)) : List (View.Piece (Elt F) S256x2560 .fp8e4m3) × List (View.Piece (Elt F) S256x128 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 ⟨k, h⟩).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 ⟨k, h⟩).2 ++ prev.2)
  else prev

def pb_k0_t1 (𝒱 : Variants) (c : Dev nD) (bd : Option 𝒱.V) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) : ℕ → List (View.Piece (Elt F) S256x2560 .fp8e4m3) × List (View.Piece (Elt F) S256x128 .f32)
  | 0 => ([], [])
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 v120 v122 v126 X_arg10 k (pb_k0_t1 𝒱 c bd i arg1 harg1 arg2 harg2 arg3 harg3 arg4 harg4 arg5 harg5 arg6 harg6 arg7 harg7 arg8 harg8 arg9 harg9 arg10 harg10 arg11 harg11 arg12 harg12 v120 v122 v126 X_arg10 k)

theorem pb_k0_t1_succ (𝒱 : Variants) (c : Dev nD) (bd : Option 𝒱.V) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k.val).1, (tripL_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k.val).2) := by
  rw [pb_k0_t1.eq_2]; unfold pb_k0_t1Step; exact dif_pos k.isLt

abbrev inv_k0_t1 (𝒱 : Variants) (c : Dev nD) (bd : Option 𝒱.V) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) (G_arg11 : BufTy.Contents (Elt F) arg11.view.ty) (G_arg12 : BufTy.Contents (Elt F) arg12.view.ty) (k : ℕ) (_u : PUnit) : sProp 𝕄G :=
  iprop((arg10.view.loc (c : Thread nD τ) ↦[arg10.view.set]{fullShare} X_arg10) ∗ (∃ f, (arg11.view.loc (c : Thread nD τ) ↦[arg11.view.set]{fullShare} f) ∗ ⌜f = arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).1⌝) ∗ (∃ f, (arg12.view.loc (c : Thread nD τ) ↦[arg12.view.set]{fullShare} f) ∗ ⌜f = arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).2⌝))

set_option warn.classDefReducibility false in
@[sl_loop] def loopInv_k0_t1 (𝒱 : Variants) (c : Dev nD) (bd : Option 𝒱.V) (E : Set ℕ) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) (G_arg11 : BufTy.Contents (Elt F) arg11.view.ty) (G_arg12 : BufTy.Contents (Elt F) arg12.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 v120 v122 v126 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 G_arg11 G_arg12
  step k acc := by
    iintro ⟨HR_arg10, ⟨%f_arg11, HW_arg11, %h_arg11⟩, ⟨%f_arg12, HW_arg12, %h_arg12⟩⟩
    iapply (wp_wand_r Idealize.ShloMosaic.frame (wpE (defs₀ (F := F)) 𝒱 (c : Thread nD τ) bd) E)
    isplitl [HR_arg10 HW_arg11 HW_arg12]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).2.2 E f_arg11 f_arg12)
      isplitl [HR_arg10]; · iexact HR_arg10
      isplitl [HW_arg11]; · iexact HW_arg11
      iexact HW_arg12
    · iintro %_ ⟨HR_arg10, HW_arg11, HW_arg12⟩
      isplitl [HR_arg10]; · iexact HR_arg10
      rw [pb_k0_t1_succ]
      isplitl [HW_arg11]
      · iexists _; isplitl [HW_arg11]; · iexact HW_arg11
        ipureintro; rw [h_arg11, ← View.writes_append]
      iexists _; isplitl [HW_arg12]; · iexact HW_arg12
      ipureintro; rw [h_arg12, ← View.writes_append]

end Cert.ProjSKernel.Body

end
-- ==== Proof.ProjSPRun.lean ====
/- The body of `ProjSKernel` run on any staging buffers, under the side condition that the action id read at this grid point names a
   row of the table: what it leaves in each output, as pieces. -/
module

public import proofs.«01_k».proof.Proof.ProjSPLoops
public import proofs.«01_k».proof.Proof.Gen.ProjSKernel.Frame

@[expose] public section

set_option maxRecDepth 16384

noncomputable section

namespace Cert.ProjSKernel.Body

open Cert.ProjSKernel Cert.ProjSKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of an output, through which its contents are stated. -/
abbrev VO0_9 : View sig .tc .vmem S256x2560 .f32 := (Memref.whole cc0_stg9_0 : Memref sig .tc .vmem S256x2560 .f32).view
/-- One staging buffer of an output, through which its contents are stated. -/
abbrev VO0_10 : View sig .tc .vmem S256x2560 .fp8e4m3 := (Memref.whole cc0_stg10_0 : Memref sig .tc .vmem S256x2560 .fp8e4m3).view
/-- One staging buffer of an output, through which its contents are stated. -/
abbrev VO0_11 : View sig .tc .vmem S256x128 .f32 := (Memref.whole cc0_stg11_0 : Memref sig .tc .vmem S256x128 .f32).view
/-- Each window's current staging memref at point `t`, spelled as the pipeline passes it (`bodyAt0`), and its wholeness. -/
abbrev ms0_0 (t : Fin cfg0.N) : Memref sig .tc .smem S4 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2560 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2560x2560 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2560 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x2560 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2560 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2560 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2560 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2560 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x128 .f32 := win0_11.stage (cfg0.slots t 11)
abbrev hs0_11 (t : Fin cfg0.N) : (ms0_11 t).IsWhole := hstage0_11 ((cfg0.slots t 11).cast nbuf0_11)

/-! ## The side conditions the body assumes, as the frame's hypothesis -/

/-- At every grid point the action id the body reads names a row of the table. -/
def Hyps (m : (ℓ : Loc nD τ sig) → Buf (Elt F) ℓ) : Prop :=
  ∀ (c : Dev nD) (t : Fin cfg0.N),
    k0_chk1 ((ms0_0 t).view.readAt (Elt F) (Rect.unit (s := S4) (k0_off1 (grid0.coords t)) S1.size (k0_off1_inb (grid0.coords t))).toLoadRect ((hs0_0 t).unread (iblk m c 0 t)) (Shape.Idx.first (numel1_S1.symm ▸ Nat.one_pos)))

abbrev Hyps.p0 (m : (ℓ : Loc nD τ sig) → Buf (Elt F) ℓ) (c : Dev nD) (t : Fin cfg0.N) : Prop :=
  k0_chk1 ((ms0_0 t).view.readAt (Elt F) (Rect.unit (s := S4) (k0_off1 (grid0.coords t)) S1.size (k0_off1_inb (grid0.coords t))).toLoadRect ((hs0_0 t).unread (iblk m c 0 t)) (Shape.Idx.first (numel1_S1.symm ▸ Nat.one_pos)))
variable {m} in
theorem Hyps.c0 (hH : Hyps m) (c : Dev nD) (t : Fin cfg0.N) :
    k0_chk1 ((ms0_0 t).view.readAt (Elt F) (Rect.unit (s := S4) (k0_off1 (grid0.coords t)) S1.size (k0_off1_inb (grid0.coords t))).toLoadRect ((hs0_0 t).unread (iblk m c 0 t)) (Shape.Idx.first (numel1_S1.symm ▸ Nat.one_pos))) := (hH c t)
variable {m} in
theorem Hyps.of
    (p0 : ∀ (c : Dev nD) (t : Fin cfg0.N), Hyps.p0 m c t) :
    Hyps m := fun c t =>
  p0 c t

set_option maxHeartbeats 1000000 in
/-- What the body leaves in each output, as pieces (last first), with the proof that the body runs to a state with those pieces
    written and its inputs as they were. -/
noncomputable def kernelRun0_A (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) :
    Σ' (L9 : List (View.Piece (Elt F) S256x2560 .f32)), Σ' (L10 : List (View.Piece (Elt F) S256x2560 .fp8e4m3)), { L11 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_oproj_s i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_oproj_s_eq_skeleton]; unfold cc0_oproj_s_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact k0_hw1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact H11

end Cert.ProjSKernel.Body

end
-- ==== Proof.ProjSPFrame.lean ====
/- The frame of `ProjSKernel`: what each output holds after a grid point, the pipeline's proof data, the body's obligation, the run of
   the whole program and its frame, all under `Hyps` (every action id read names a row of the table). -/
module

public import proofs.«01_k».proof.Proof.ProjSPRun
public import Idealize.ShloMosaic.Lib.Claim

@[expose] public section

set_option maxRecDepth 16384

noncomputable section

namespace Cert.ProjSKernel.Body

open Cert.ProjSKernel Cert.ProjSKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces written to output 9 cover it. -/
theorem cover0_A_9 (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) (y : S256x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).1 S256x512.size (by sl_kernel_rfl) y

/-- What the run leaves in output 9's staging buffer: its pieces read back over junk. -/
def out0_A_9 (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) : Vec F S256x2560 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).1)

/-- The pieces written to output 10 cover it. -/
theorem cover0_A_10 (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) (y : S256x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).2.1 S32x2560.size (by sl_kernel_rfl) y

/-- What the run leaves in output 10's staging buffer: its pieces read back over junk. -/
def out0_A_10 (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) : Vec F S256x2560 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).2.1)

/-- The pieces written to output 11 cover it. -/
theorem cover0_A_11 (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).2.2.1 S32x128.size (by sl_kernel_rfl) y

/-- What the run leaves in output 11's staging buffer: its pieces read back over junk. -/
def out0_A_11 (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) : Vec F S256x128 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).2.2.1)

/-! ## What the outputs hold after each point -/

/-- What the outputs' staging buffers hold after the body at point `t` (as a tuple, in window order): the run's contents at
    the point's memrefs and input blocks. -/
def outsAt0 (hH : Hyps m) (c : Dev nD) (t : Fin cfg0.N) : Vec F S256x2560 .f32 × Vec F S256x2560 .fp8e4m3 × Vec F S256x128 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (Hyps.c0 hH c t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (Hyps.c0 hH c t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (Hyps.c0 hH c t))

/-! ## The pipeline's proof data -/

/-- The proof data of the one pipeline on core `c`: the arrays as the region finds them (`V`); after the body at
    point `t` each input's buffer at its block and the outputs' at `outsAt0`; the invariant the class's
    (the library: the scoped rest and the generator register); nothing owed; full shares. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m hH c t).1
    | ⟨10, _⟩ => (outsAt0 m hH c t).2.1
    | ⟨11, _⟩ => (outsAt0 m hH c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]
theorem after0_6 (hH : Hyps m) (c : Dev nD) (t : Fin cfg0.N) : (dats m hH 0 c).after 6 t = iblk m c 6 t := by dsimp only [dats]
theorem after0_7 (hH : Hyps m) (c : Dev nD) (t : Fin cfg0.N) : (dats m hH 0 c).after 7 t = iblk m c 7 t := by dsimp only [dats]
theorem after0_8 (hH : Hyps m) (c : Dev nD) (t : Fin cfg0.N) : (dats m hH 0 c).after 8 t = iblk m c 8 t := by dsimp only [dats]
theorem after0_9 (hH : Hyps m) (c : Dev nD) (t : Fin cfg0.N) : (dats m hH 0 c).after 9 t = (outsAt0 m hH c t).1 := by dsimp only [dats]
theorem after0_10 (hH : Hyps m) (c : Dev nD) (t : Fin cfg0.N) : (dats m hH 0 c).after 10 t = (outsAt0 m hH c t).2.1 := by dsimp only [dats]
theorem after0_11 (hH : Hyps m) (c : Dev nD) (t : Fin cfg0.N) : (dats m hH 0 c).after 11 t = (outsAt0 m hH c t).2.2 := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d
theorem before0_6 (hH : Hyps m) (c : Dev nD) (t : Fin cfg0.N) (d) : (dats m hH 0 c).before 6 t d = iblk m c 6 t :=
  before0_6_of m (dats m hH 0 c) (A_eq m hH c 6) (after0_6 m hH c) t d
theorem before0_7 (hH : Hyps m) (c : Dev nD) (t : Fin cfg0.N) (d) : (dats m hH 0 c).before 7 t d = iblk m c 7 t :=
  before0_7_of m (dats m hH 0 c) (A_eq m hH c 7) (after0_7 m hH c) t d
theorem before0_8 (hH : Hyps m) (c : Dev nD) (t : Fin cfg0.N) (d) : (dats m hH 0 c).before 8 t d = iblk m c 8 t :=
  before0_8_of m (dats m hH 0 c) (A_eq m hH c 8) (after0_8 m hH c) t d

/-! ## The body obligation, at a generic point -/

/-- What the body is called with at point `t` (the library's precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d))
    ∗ (∃ d, owns (c : Thread nD τ) (ms0_10 t) fullShare ((dats m hH 0 c).before 10 t d))
    ∗ (∃ d, owns (c : Thread nD τ) (ms0_11 t) fullShare ((dats m hH 0 c).before 11 t d)))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t)
    ∗ owns (c : Thread nD τ) (ms0_8 t) fullShare ((dats m hH 0 c).after 8 t)
    ∗ owns (c : Thread nD τ) (ms0_9 t) fullShare ((dats m hH 0 c).after 9 t)
    ∗ owns (c : Thread nD τ) (ms0_10 t) fullShare ((dats m hH 0 c).after 10 t)
    ∗ owns (c : Thread nD τ) (ms0_11 t) fullShare ((dats m hH 0 c).after 11 t))

set_option maxHeartbeats 1200000 in
/-- The body at any point: the inputs' memrefs hold their blocks (`before0_W`); so the
    run applies; the invariant passes through unread; the core owes nothing throughout. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9, after0_10, after0_11]
  unfold outsAt0
  unfold out0_A_9 out0_A_10 out0_A_11; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (Hyps.c0 hH c t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (the library). -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-! ## The run and the frame -/

set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.FramePost cfgs (dats m hH) 0 (V m)) r ∧ r.2.sem = fun _ => 0) :=
  Pipeline.θ_run_frame (Q' := _) cfgs (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

/-- At the compiled mesh, for any values, from any memory with zero counters: every weakly fair execution of @main on the
    TensorCores terminates, and every final state has every array of the pipeline at what the library computes from the
    proof data and every other unscoped buffer as the region found it (the library). -/
theorem run_main (hH : Hyps m) : θ_run defs (onTc (τ := τ) (main (F := F))) (s₀ m ρ) (Pipeline.FramePost cfgs (dats m hH) 0 (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m hH) (A_eq m hH) (run_main m ρ hH)

/-- The frame: every run ends, with the arguments as they were and every semaphore at zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hH) ((θ_run defs _ _).mono (fun _ h => h.2) (run_main_quiescent m ρ hH))

end Cert.ProjSKernel.Body

end
-- ==== Proof.ProjSISkeleton.lean ====
/- The body of `ProjSKernelIdeal` as its memory operations over named payloads: each value the body stores or carries is a definition
   over the values read before it, and each printed function is shown to be its skeleton by unfolding. -/
module

public import proofs.«01_k».proof.Proof.Gen.ProjSKernelIdeal

@[expose] public section

set_option synthInstance.maxSize 4096

noncomputable section

namespace Cert.ProjSKernelIdeal.Body

open Cert.ProjSKernelIdeal Cert.ProjSKernelIdeal.Gen

open Idealize.ShloMosaic Idealize.SL.Sem

variable {F : FTy → Type} [FloatOps F]

noncomputable def k0_pay1 (v102 : FVec F S256x512 .f32) (v113 : FVec F S256x512 .f32) (v114 : Vec F S1x512 .f32) : FVec F S256x512 .f32 :=
  have v115 : FVec F S1x512 .f32 := shapeCast S1x512 v114 shapeCasts_S1x512_S1x512
  have v116 : FVec F S256x512 .f32 := broadcastTo S256x512 v115 broadcasts_S1x512_S256x512
  have v117 : FVec F S256x512 .f32 := mulf v113 v116
  have v118 : FVec F S256x512 .f32 := addf v102 v117
  v118

noncomputable def k0_pay2 (v120 : Vec F S1x2560 .f32) : FVec F S1x2560 .f32 :=
  have v121 : FVec F S1x2560 .f32 := shapeCast S1x2560 v120 shapeCasts_S1x2560_S1x2560
  v121

noncomputable def k0_pay3 (v122 : Vec F S1x2560 .f32) : FVec F S1x2560 .f32 :=
  have v123 : FVec F S1x2560 .f32 := shapeCast S1x2560 v122 shapeCasts_S1x2560_S1x2560
  v123

noncomputable def k0_pay4 (v162 : FVec F S32x1 .f32) : FVec F S32x128 .f32 :=
  have v172 : FVec F S32x1 .f32 := shapeCast S32x1 v162 shapeCasts_S32x1_S32x1
  have v173 : FVec F S32x128 .f32 := broadcastTo S32x128 v172 broadcasts_S32x1_S32x128
  v173

noncomputable def k0_pay5 (v121 : FVec F S1x2560 .f32) (v123 : FVec F S1x2560 .f32) (v126 : Vec F S1x2560 .f32) (v130 : Vec F S32x2560 .f32) : FVec F S32x2560 .f32 :=
  have v131 : FVec F S32x2560 .f32 := shapeCast S32x2560 v130 shapeCasts_S32x2560_S32x2560
  have v132 : FVec F S32 .f32 := multiReduction .add [1] S32 v131 0x00000000#32 reduces_S32x2560_S32 (.inl rfl) rfl
  have v133 : FVec F S32x1 .f32 := shapeCast S32x1 v132 shapeCasts_S32_S32x1
  have cst_68 : F .f32 := Scalar.ofBits .f32 0x45200000#32
  have v134 : FVec F S32x1 .f32 := broadcast S32x1 cst_68
  have v135 : FVec F S32x1 .f32 := divf v133 v134
  have v136 : FVec F S32x2560 .f32 := broadcastTo S32x2560 v135 broadcasts_S32x1_S32x2560
  have v137 : FVec F S32x2560 .f32 := subf v131 v136
  have v138 : FVec F S32x2560 .f32 := mulf v137 v137
  have v139 : FVec F S32 .f32 := multiReduction .add [1] S32 v138 0x00000000#32 reduces_S32x2560_S32 (.inl rfl) rfl
  have v140 : FVec F S32x1 .f32 := shapeCast S32x1 v139 shapeCasts_S32_S32x1
  have cst_70 : F .f32 := Scalar.ofBits .f32 0x45200000#32
  have v141 : FVec F S32x1 .f32 := broadcast S32x1 cst_70
  have v142 : FVec F S32x1 .f32 := divf v140 v141
  have cst_71 : F .f32 := Scalar.ofBits .f32 0x3727C5AC#32
  have v143 : FVec F S32x1 .f32 := broadcast S32x1 cst_71
  have v144 : FVec F S32x1 .f32 := addf v142 v143
  have v145 : FVec F S32x1 .f32 := rsqrt v144
  have v146 : FVec F S32x2560 .f32 := broadcastTo S32x2560 v145 broadcasts_S32x1_S32x2560
  have v147 : FVec F S32x2560 .f32 := mulf v137 v146
  have v148 : FVec F S32x2560 .f32 := broadcastTo S32x2560 v121 broadcasts_S1x2560_S32x2560
  have v149 : FVec F S32x2560 .f32 := mulf v147 v148
  have v150 : FVec F S32x2560 .f32 := broadcastTo S32x2560 v123 broadcasts_S1x2560_S32x2560
  have v151 : FVec F S32x2560 .f32 := addf v149 v150
  have v152 : FVec F S32x2560 .f32 := broadcastTo S32x2560 v126 broadcasts_S1x2560_S32x2560
  have v153 : FVec F S32x2560 .f32 := addf v151 v152
  v153

noncomputable def k0_pay6 (v121 : FVec F S1x2560 .f32) (v123 : FVec F S1x2560 .f32) (v126 : Vec F S1x2560 .f32) (v130 : Vec F S32x2560 .f32) : FVec F S32x1 .f32 :=
  have v154 : FVec F S32x2560 .f32 := absf (k0_pay5 v121 v123 v126 v130)
  have v155 : FVec F S32 .f32 := multiReduction .maximumf [1] S32 v154 0xFF800000#32 reduces_S32x2560_S32 (.inl rfl) rfl
  have v156 : FVec F S32x1 .f32 := shapeCast S32x1 v155 shapeCasts_S32_S32x1
  have cst_73 : F .f32 := Scalar.ofBits .f32 0x00000000#32
  have v157 : FVec F S32x1 .f32 := broadcast S32x1 cst_73
  have v158 : IVec S32x1 1 := cmpf .oeq v156 v157
  have cst_74 : F .f32 := Scalar.ofBits .f32 0x43E00000#32
  have v159 : FVec F S32x1 .f32 := broadcast S32x1 cst_74
  have v160 : FVec F S32x1 .f32 := divf v156 v159
  have cst_75 : F .f32 := Scalar.ofBits .f32 0x3F800000#32
  have v161 : FVec F S32x1 .f32 := broadcast S32x1 cst_75
  have v162 : FVec F S32x1 .f32 := select v158 v161 v160
  v162

noncomputable def k0_pay7 (v121 : FVec F S1x2560 .f32) (v123 : FVec F S1x2560 .f32) (v126 : Vec F S1x2560 .f32) (v130 : Vec F S32x2560 .f32) : FVec F S32x2560 .fp8e4m3 :=
  have v163 : FVec F S32x2560 .f32 := broadcastTo S32x2560 (k0_pay6 v121 v123 v126 v130) broadcasts_S32x1_S32x2560
  have v164 : FVec F S32x2560 .f32 := divf (k0_pay5 v121 v123 v126 v130) v163
  have cst_76 : F .f32 := Scalar.ofBits .f32 0xC3E00000#32
  have cst_77 : F .f32 := Scalar.ofBits .f32 0x43E00000#32
  have v165 : FVec F S32x2560 .f32 := broadcast S32x2560 cst_76
  have v166 : FVec F S32x2560 .f32 := maximumf v165 v164
  have v167 : FVec F S32x2560 .f32 := broadcast S32x2560 cst_77
  have v168 : FVec F S32x2560 .f32 := minimumf v167 v166
  have v169 : FVec F S32x2560 .fp8e4m3 := truncf .fp8e4m3 v168 bitsLt_fp8e4m3_f32
  v169

noncomputable def k0_pay8 (v0 : Vec F S256x2560 .fp8e4m3) (v1 : Vec F S2560x512 .fp8e4m3) (v4 : Vec F S256x512 .bf16) (v7 : Vec F S256x128 .f32) (v18 : Vec F S1x512 .f32) : FVec F S256x512 .f32 :=
  have v2 : FVec F S2560x512 .fp8e4m3 := shapeCast S2560x512 v1 shapeCasts_S2560x512_S2560x512
  have cst : FVec F S256x512 .f32 := constant S256x512 .f32 0x00000000#32
  have v3 : FVec F S256x512 .f32 := matmul dot_S256x2560_S2560x512_S256x512_1_0_0_1_n_n none v0 v2 cst
  have v5 : FVec F S256x512 .bf16 := shapeCast S256x512 v4 shapeCasts_S256x512_S256x512
  have v6 : FVec F S256x512 .f32 := extf .f32 v5 bitsLt_bf16_f32
  have v8 : FVec F S256x128 .f32 := shapeCast S256x128 v7 shapeCasts_S256x128_S256x128
  have v9 : FVec F S256x128 .f32 := extractStridedSlice S256x128 ![0, 0] v3 slices_S256x512_o0_0_S256x128
  have v10 : FVec F S256x128 .f32 := mulf v9 v8
  have v11 : FVec F S256x128 .f32 := extractStridedSlice S256x128 ![0, 128] v3 slices_S256x512_o0_128_S256x128
  have v12 : FVec F S256x128 .f32 := mulf v11 v8
  have v13 : FVec F S256x128 .f32 := extractStridedSlice S256x128 ![0, 256] v3 slices_S256x512_o0_256_S256x128
  have v14 : FVec F S256x128 .f32 := mulf v13 v8
  have v15 : FVec F S256x128 .f32 := extractStridedSlice S256x128 ![0, 384] v3 slices_S256x512_o0_384_S256x128
  have v16 : FVec F S256x128 .f32 := mulf v15 v8
  have v17 : FVec F S256x512 .f32 := concatenate S256x512 1 [⟨S256x128, v10⟩, ⟨S256x128, v12⟩, ⟨S256x128, v14⟩, ⟨S256x128, v16⟩] concatenates_S256x128_S256x128_S256x128_S256x128_S256x512_d1
  have v19 : FVec F S1x512 .f32 := shapeCast S1x512 v18 shapeCasts_S1x512_S1x512
  have v20 : FVec F S256x512 .f32 := broadcastTo S256x512 v19 broadcasts_S1x512_S256x512
  have v21 : FVec F S256x512 .f32 := mulf v17 v20
  have v22 : FVec F S256x512 .f32 := addf v6 v21
  v22

noncomputable def k0_pay9 (v24 : Vec F S256x2560 .fp8e4m3) (v25 : Vec F S2560x512 .fp8e4m3) : FVec F S256x512 .f32 :=
  have v26 : FVec F S2560x512 .fp8e4m3 := shapeCast S2560x512 v25 shapeCasts_S2560x512_S2560x512
  have cst_14 : FVec F S256x512 .f32 := constant S256x512 .f32 0x00000000#32
  have v27 : FVec F S256x512 .f32 := matmul dot_S256x2560_S2560x512_S256x512_1_0_0_1_n_n none v24 v26 cst_14
  v27

noncomputable def k0_pay10 (v28 : Vec F S256x512 .bf16) : FVec F S256x512 .f32 :=
  have v29 : FVec F S256x512 .bf16 := shapeCast S256x512 v28 shapeCasts_S256x512_S256x512
  have v30 : FVec F S256x512 .f32 := extf .f32 v29 bitsLt_bf16_f32
  v30

noncomputable def k0_pay11 (v31 : Vec F S256x128 .f32) : FVec F S256x128 .f32 :=
  have v32 : FVec F S256x128 .f32 := shapeCast S256x128 v31 shapeCasts_S256x128_S256x128
  v32

noncomputable def k0_pay12 (v24 : Vec F S256x2560 .fp8e4m3) (v25 : Vec F S2560x512 .fp8e4m3) (v31 : Vec F S256x128 .f32) : FVec F S256x128 .f32 :=
  have v33 : FVec F S256x128 .f32 := extractStridedSlice S256x128 ![0, 0] (k0_pay9 v24 v25) slices_S256x512_o0_0_S256x128
  have v34 : FVec F S256x128 .f32 := mulf v33 (k0_pay11 v31)
  v34

noncomputable def k0_pay13 (v24 : Vec F S256x2560 .fp8e4m3) (v25 : Vec F S2560x512 .fp8e4m3) : FVec F S256x128 .f32 :=
  have v35 : FVec F S256x128 .f32 := extractStridedSlice S256x128 ![0, 128] (k0_pay9 v24 v25) slices_S256x512_o0_128_S256x128
  v35

noncomputable def k0_pay14 (v27 : FVec F S256x512 .f32) (v30 : FVec F S256x512 .f32) (v32 : FVec F S256x128 .f32) (v34 : FVec F S256x128 .f32) (v35 : FVec F S256x128 .f32) (v42 : Vec F S1x512 .f32) : FVec F S256x512 .f32 :=
  have v36 : FVec F S256x128 .f32 := mulf v35 v32
  have v37 : FVec F S256x128 .f32 := extractStridedSlice S256x128 ![0, 256] v27 slices_S256x512_o0_256_S256x128
  have v38 : FVec F S256x128 .f32 := mulf v37 v32
  have v39 : FVec F S256x128 .f32 := extractStridedSlice S256x128 ![0, 384] v27 slices_S256x512_o0_384_S256x128
  have v40 : FVec F S256x128 .f32 := mulf v39 v32
  have v41 : FVec F S256x512 .f32 := concatenate S256x512 1 [⟨S256x128, v34⟩, ⟨S256x128, v36⟩, ⟨S256x128, v38⟩, ⟨S256x128, v40⟩] concatenates_S256x128_S256x128_S256x128_S256x128_S256x512_d1
  have v43 : FVec F S1x512 .f32 := shapeCast S1x512 v42 shapeCasts_S1x512_S1x512
  have v44 : FVec F S256x512 .f32 := broadcastTo S256x512 v43 broadcasts_S1x512_S256x512
  have v45 : FVec F S256x512 .f32 := mulf v41 v44
  have v46 : FVec F S256x512 .f32 := addf v30 v45
  v46

noncomputable def k0_pay15 (v48 : Vec F S256x2560 .fp8e4m3) (v49 : Vec F S2560x512 .fp8e4m3) (v52 : Vec F S256x512 .bf16) (v55 : Vec F S256x128 .f32) (v66 : Vec F S1x512 .f32) : FVec F S256x512 .f32 :=
  have v50 : FVec F S2560x512 .fp8e4m3 := shapeCast S2560x512 v49 shapeCasts_S2560x512_S2560x512
  have cst_26 : FVec F S256x512 .f32 := constant S256x512 .f32 0x00000000#32
  have v51 : FVec F S256x512 .f32 := matmul dot_S256x2560_S2560x512_S256x512_1_0_0_1_n_n none v48 v50 cst_26
  have v53 : FVec F S256x512 .bf16 := shapeCast S256x512 v52 shapeCasts_S256x512_S256x512
  have v54 : FVec F S256x512 .f32 := extf .f32 v53 bitsLt_bf16_f32
  have v56 : FVec F S256x128 .f32 := shapeCast S256x128 v55 shapeCasts_S256x128_S256x128
  have v57 : FVec F S256x128 .f32 := extractStridedSlice S256x128 ![0, 0] v51 slices_S256x512_o0_0_S256x128
  have v58 : FVec F S256x128 .f32 := mulf v57 v56
  have v59 : FVec F S256x128 .f32 := extractStridedSlice S256x128 ![0, 128] v51 slices_S256x512_o0_128_S256x128
  have v60 : FVec F S256x128 .f32 := mulf v59 v56
  have v61 : FVec F S256x128 .f32 := extractStridedSlice S256x128 ![0, 256] v51 slices_S256x512_o0_256_S256x128
  have v62 : FVec F S256x128 .f32 := mulf v61 v56
  have v63 : FVec F S256x128 .f32 := extractStridedSlice S256x128 ![0, 384] v51 slices_S256x512_o0_384_S256x128
  have v64 : FVec F S256x128 .f32 := mulf v63 v56
  have v65 : FVec F S256x512 .f32 := concatenate S256x512 1 [⟨S256x128, v58⟩, ⟨S256x128, v60⟩, ⟨S256x128, v62⟩, ⟨S256x128, v64⟩] concatenates_S256x128_S256x128_S256x128_S256x128_S256x512_d1
  have v67 : FVec F S1x512 .f32 := shapeCast S1x512 v66 shapeCasts_S1x512_S1x512
  have v68 : FVec F S256x512 .f32 := broadcastTo S256x512 v67 broadcasts_S1x512_S256x512
  have v69 : FVec F S256x512 .f32 := mulf v65 v68
  have v70 : FVec F S256x512 .f32 := addf v54 v69
  v70

noncomputable def k0_pay16 (v72 : Vec F S256x2560 .fp8e4m3) (v73 : Vec F S2560x512 .fp8e4m3) (v76 : Vec F S256x512 .bf16) (v79 : Vec F S256x128 .f32) (v90 : Vec F S1x512 .f32) : FVec F S256x512 .f32 :=
  have v74 : FVec F S2560x512 .fp8e4m3 := shapeCast S2560x512 v73 shapeCasts_S2560x512_S2560x512
  have cst_38 : FVec F S256x512 .f32 := constant S256x512 .f32 0x00000000#32
  have v75 : FVec F S256x512 .f32 := matmul dot_S256x2560_S2560x512_S256x512_1_0_0_1_n_n none v72 v74 cst_38
  have v77 : FVec F S256x512 .bf16 := shapeCast S256x512 v76 shapeCasts_S256x512_S256x512
  have v78 : FVec F S256x512 .f32 := extf .f32 v77 bitsLt_bf16_f32
  have v80 : FVec F S256x128 .f32 := shapeCast S256x128 v79 shapeCasts_S256x128_S256x128
  have v81 : FVec F S256x128 .f32 := extractStridedSlice S256x128 ![0, 0] v75 slices_S256x512_o0_0_S256x128
  have v82 : FVec F S256x128 .f32 := mulf v81 v80
  have v83 : FVec F S256x128 .f32 := extractStridedSlice S256x128 ![0, 128] v75 slices_S256x512_o0_128_S256x128
  have v84 : FVec F S256x128 .f32 := mulf v83 v80
  have v85 : FVec F S256x128 .f32 := extractStridedSlice S256x128 ![0, 256] v75 slices_S256x512_o0_256_S256x128
  have v86 : FVec F S256x128 .f32 := mulf v85 v80
  have v87 : FVec F S256x128 .f32 := extractStridedSlice S256x128 ![0, 384] v75 slices_S256x512_o0_384_S256x128
  have v88 : FVec F S256x128 .f32 := mulf v87 v80
  have v89 : FVec F S256x512 .f32 := concatenate S256x512 1 [⟨S256x128, v82⟩, ⟨S256x128, v84⟩, ⟨S256x128, v86⟩, ⟨S256x128, v88⟩] concatenates_S256x128_S256x128_S256x128_S256x128_S256x512_d1
  have v91 : FVec F S1x512 .f32 := shapeCast S1x512 v90 shapeCasts_S1x512_S1x512
  have v92 : FVec F S256x512 .f32 := broadcastTo S256x512 v91 broadcasts_S1x512_S256x512
  have v93 : FVec F S256x512 .f32 := mulf v89 v92
  have v94 : FVec F S256x512 .f32 := addf v78 v93
  v94

noncomputable def k0_pay17 (v100 : Vec F S256x512 .bf16) : FVec F S256x512 .f32 :=
  have v101 : FVec F S256x512 .bf16 := shapeCast S256x512 v100 shapeCasts_S256x512_S256x512
  have v102 : FVec F S256x512 .f32 := extf .f32 v101 bitsLt_bf16_f32
  v102

noncomputable def k0_pay18 (v96 : Vec F S256x2560 .fp8e4m3) (v97 : Vec F S2560x512 .fp8e4m3) (v103 : Vec F S256x128 .f32) : FVec F S256x512 .f32 :=
  have v98 : FVec F S2560x512 .fp8e4m3 := shapeCast S2560x512 v97 shapeCasts_S2560x512_S2560x512
  have cst_50 : FVec F S256x512 .f32 := constant S256x512 .f32 0x00000000#32
  have v99 : FVec F S256x512 .f32 := matmul dot_S256x2560_S2560x512_S256x512_1_0_0_1_n_n none v96 v98 cst_50
  have v104 : FVec F S256x128 .f32 := shapeCast S256x128 v103 shapeCasts_S256x128_S256x128
  have v105 : FVec F S256x128 .f32 := extractStridedSlice S256x128 ![0, 0] v99 slices_S256x512_o0_0_S256x128
  have v106 : FVec F S256x128 .f32 := mulf v105 v104
  have v107 : FVec F S256x128 .f32 := extractStridedSlice S256x128 ![0, 128] v99 slices_S256x512_o0_128_S256x128
  have v108 : FVec F S256x128 .f32 := mulf v107 v104
  have v109 : FVec F S256x128 .f32 := extractStridedSlice S256x128 ![0, 256] v99 slices_S256x512_o0_256_S256x128
  have v110 : FVec F S256x128 .f32 := mulf v109 v104
  have v111 : FVec F S256x128 .f32 := extractStridedSlice S256x128 ![0, 384] v99 slices_S256x512_o0_384_S256x128
  have v112 : FVec F S256x128 .f32 := mulf v111 v104
  have v113 : FVec F S256x512 .f32 := concatenate S256x512 1 [⟨S256x128, v106⟩, ⟨S256x128, v108⟩, ⟨S256x128, v110⟩, ⟨S256x128, v112⟩] concatenates_S256x128_S256x128_S256x128_S256x128_S256x512_d1
  v113

set_option cleanup.letToHave false in set_option maxHeartbeats 40000000 in
noncomputable def k0_t1_body (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) :
    Fin k0_t1_loop.trips → Unit → Prog (TpuEff nD τ sig (Elt F) Λ₀ .tc) (Unit) :=
  fun k0_t1 _ => do
    let ⟨v128, v162⟩ : Σ' (v128 : BitVec 32), FVec F S32x1 .f32 ← k0_part1 i arg1 harg1 arg2 harg2 arg3 harg3 arg4 harg4 arg5 harg5 arg6 harg6 arg7 harg7 arg8 harg8 arg9 harg9 arg10 harg10 arg11 harg11 arg12 harg12 (k0_pay2 v120) (k0_pay3 v122) v126 0#32 1#32 k0_t1
    let v175 : Vec F S32x128 .f32 ← Prog.lift (.load arg12 (Rect.unit (s := S256x128) (k0_off4 k0_t1) S32x128.size (k0_off4_inb k0_t1)).toLoadRect (View.loadsAt_vmem h_S32x128))
    Prog.lift (.store arg12 (Rect.unit (s := S256x128) (k0_off4 k0_t1) S32x128.size (k0_off4_inb k0_t1)) (k0_pay4 v162) Finset.univ (View.stores_vmem_bits_univ h_S32x128 rfl) (.inl rfl))
    pure ⟨⟩

set_option cleanup.letToHave false in set_option maxHeartbeats 40000000 in
noncomputable def cc0_oproj_s_skel (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) :
    Prog (TpuEff nD τ sig (Elt F) Λ₀ .tc) PUnit := do
  let ⟨arg0, v27, v30, v32, v34, v35⟩ : Σ' (arg0 : BitVec 32) (v27 : FVec F S256x512 .f32) (v30 : FVec F S256x512 .f32) (v32 : FVec F S256x128 .f32) (v34 : FVec F S256x128 .f32), FVec F S256x128 .f32 ← k0_part2 i arg1 harg1 arg2 harg2 arg3 harg3 arg4 harg4 arg5 harg5 arg6 harg6 arg7 harg7 arg8 harg8 arg9 harg9 arg10 harg10 arg11 harg11 arg12 harg12
  let v72 : Vec F S256x2560 .fp8e4m3 ← k0_part3 i arg1 harg1 arg2 harg2 arg3 harg3 arg4 harg4 arg5 harg5 arg6 harg6 arg7 harg7 arg8 harg8 arg9 harg9 arg10 harg10 arg11 harg11 arg12 harg12 v27 v30 v32 v34 v35
  let ⟨v102, v113⟩ : Σ' (v102 : FVec F S256x512 .f32), FVec F S256x512 .f32 ← k0_part4 i arg1 harg1 arg2 harg2 arg3 harg3 arg4 harg4 arg5 harg5 arg6 harg6 arg7 harg7 arg8 harg8 arg9 harg9 arg10 harg10 arg11 harg11 arg12 harg12 v72
  let v114 : Vec F S1x512 .f32 ← Prog.lift (.load arg5 (Rect.unit (s := S1x2560) ![0, 2048] S1x512.size inb_S1x2560_S1x512_0_2048).toLoadRect (View.loadsAt_vmem h_S1x512))
  let v119 : Vec F S256x512 .f32 ← Prog.lift (.load arg10 (Rect.unit (s := S256x2560) ![0, 2048] S256x512.size inb_S256x2560_S256x512_0_2048).toLoadRect (View.loadsAt_vmem h_S256x512))
  Prog.lift (.store arg10 (Rect.unit (s := S256x2560) ![0, 2048] S256x512.size inb_S256x2560_S256x512_0_2048) (k0_pay1 v102 v113 v114) Finset.univ (View.stores_vmem_bits_univ h_S256x512 rfl) (.inl rfl))
  let v120 : Vec F S1x2560 .f32 ← Prog.lift (.load arg8 (Rect.unit (s := S1x2560) ![0, 0] S1x2560.size inb_S1x2560_S1x2560_0_0).toLoadRect (View.loadsAt_vmem h_S1x2560))
  let v122 : Vec F S1x2560 .f32 ← Prog.lift (.load arg9 (Rect.unit (s := S1x2560) ![0, 0] S1x2560.size inb_S1x2560_S1x2560_0_0).toLoadRect (View.loadsAt_vmem h_S1x2560))
  let v124 : Elt F .i32 ← smemLoad arg1 (Rect.unit (s := S4) (k0_off1 i) S1.size (k0_off1_inb i)) numel1_S1 rfl
  have k0_hw1 : k0_chk1 v124 := (← Prog.lift (TpuEff.assume (k0_chk1 v124) (k0_chk1.dec v124))).down
  let v126 : Vec F S1x2560 .f32 ← Prog.lift (.load arg7 (Rect.unit (s := S8x2560) (k0_off2 v124) S1x2560.size (k0_off2_inb v124 k0_hw1)).toLoadRect (View.loadsAt_vmem h_S1x2560))
  Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 v120 v122 v126)
  pure ⟨⟩

set_option maxRecDepth 65536 in
theorem cc0_oproj_s_eq_skeleton : cc0_oproj_s (F := F) = cc0_oproj_s_skel (F := F) := rfl

set_option cleanup.letToHave false in set_option maxHeartbeats 40000000 in
noncomputable def k0_part1_skel (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v121 : FVec F S1x2560 .f32) (v123 : FVec F S1x2560 .f32) (v126 : Vec F S1x2560 .f32) (c0_i32 : BitVec 32) (c1_i32 : BitVec 32) (k0_t1 : Fin k0_t1_loop.trips) :
    Prog (TpuEff nD τ sig (Elt F) Λ₀ .tc) (Σ' (v128 : BitVec 32), FVec F S32x1 .f32) := do
  let arg13 : BitVec 32 := Scf.iv c0_i32 c1_i32 k0_t1
  let v128 : BitVec 32 := Scalar.muli arg13 32#32
  let v130 : Vec F S32x2560 .f32 ← Prog.lift (.load arg10 (Rect.unit (s := S256x2560) (k0_off3 k0_t1) S32x2560.size (k0_off3_inb k0_t1)).toLoadRect (View.loadsAt_vmem h_S32x2560))
  let v171 : Vec F S32x2560 .fp8e4m3 ← Prog.lift (.load arg11 (Rect.unit (s := S256x2560) (k0_off3 k0_t1) S32x2560.size (k0_off3_inb k0_t1)).toLoadRect (View.loadsAt_vmem h_S32x2560))
  Prog.lift (.store arg11 (Rect.unit (s := S256x2560) (k0_off3 k0_t1) S32x2560.size (k0_off3_inb k0_t1)) (k0_pay7 v121 v123 v126 v130) Finset.univ (View.stores_vmem h_S32x2560 (harg11.storeExact_slice rfl _ (k0_off3_packedfp8e4m3 k0_t1)) (fun _ => rfl)) (.inl rfl))
  pure ⟨v128, k0_pay6 v121 v123 v126 v130⟩

set_option maxRecDepth 65536 in
theorem k0_part1_eq_skeleton : k0_part1 (F := F) = k0_part1_skel (F := F) := rfl

set_option cleanup.letToHave false in set_option maxHeartbeats 40000000 in
noncomputable def k0_part2_skel (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) :
    Prog (TpuEff nD τ sig (Elt F) Λ₀ .tc) (Σ' (arg0 : BitVec 32) (v27 : FVec F S256x512 .f32) (v30 : FVec F S256x512 .f32) (v32 : FVec F S256x128 .f32) (v34 : FVec F S256x128 .f32), FVec F S256x128 .f32) := do
  let v0 : Vec F S256x2560 .fp8e4m3 ← Prog.lift (.load arg2 (Rect.unit (s := S256x2560) ![0, 0] S256x2560.size inb_S256x2560_S256x2560_0_0).toLoadRect (View.loadsAt_vmem h_S256x2560))
  let v1 : Vec F S2560x512 .fp8e4m3 ← Prog.lift (.load arg4 (Rect.unit (s := S2560x2560) ![0, 0] S2560x512.size inb_S2560x2560_S2560x512_0_0).toLoadRect (View.loadsAt_vmem h_S2560x512))
  let v4 : Vec F S256x512 .bf16 ← Prog.lift (.load arg6 (Rect.unit (s := S256x2560) ![0, 0] S256x512.size inb_S256x2560_S256x512_0_0).toLoadRect (View.loadsAt_vmem h_S256x512))
  let v7 : Vec F S256x128 .f32 ← Prog.lift (.load arg3 (Rect.unit (s := S256x128) ![0, 0] S256x128.size inb_S256x128_S256x128_0_0).toLoadRect (View.loadsAt_vmem h_S256x128))
  let v18 : Vec F S1x512 .f32 ← Prog.lift (.load arg5 (Rect.unit (s := S1x2560) ![0, 0] S1x512.size inb_S1x2560_S1x512_0_0).toLoadRect (View.loadsAt_vmem h_S1x512))
  let v23 : Vec F S256x512 .f32 ← Prog.lift (.load arg10 (Rect.unit (s := S256x2560) ![0, 0] S256x512.size inb_S256x2560_S256x512_0_0).toLoadRect (View.loadsAt_vmem h_S256x512))
  Prog.lift (.store arg10 (Rect.unit (s := S256x2560) ![0, 0] S256x512.size inb_S256x2560_S256x512_0_0) (k0_pay8 v0 v1 v4 v7 v18) Finset.univ (View.stores_vmem_bits_univ h_S256x512 rfl) (.inl rfl))
  let v24 : Vec F S256x2560 .fp8e4m3 ← Prog.lift (.load arg2 (Rect.unit (s := S256x2560) ![0, 0] S256x2560.size inb_S256x2560_S256x2560_0_0).toLoadRect (View.loadsAt_vmem h_S256x2560))
  let v25 : Vec F S2560x512 .fp8e4m3 ← Prog.lift (.load arg4 (Rect.unit (s := S2560x2560) ![0, 512] S2560x512.size inb_S2560x2560_S2560x512_0_512).toLoadRect (View.loadsAt_vmem h_S2560x512))
  let v28 : Vec F S256x512 .bf16 ← Prog.lift (.load arg6 (Rect.unit (s := S256x2560) ![0, 512] S256x512.size inb_S256x2560_S256x512_0_512).toLoadRect (View.loadsAt_vmem h_S256x512))
  let v31 : Vec F S256x128 .f32 ← Prog.lift (.load arg3 (Rect.unit (s := S256x128) ![0, 0] S256x128.size inb_S256x128_S256x128_0_0).toLoadRect (View.loadsAt_vmem h_S256x128))
  pure ⟨BitVec.ofNat 32 (i 0).val, k0_pay9 v24 v25, k0_pay10 v28, k0_pay11 v31, k0_pay12 v24 v25 v31, k0_pay13 v24 v25⟩

set_option maxRecDepth 65536 in
theorem k0_part2_eq_skeleton : k0_part2 (F := F) = k0_part2_skel (F := F) := rfl

set_option cleanup.letToHave false in set_option maxHeartbeats 40000000 in
noncomputable def k0_part3_skel (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v27 : FVec F S256x512 .f32) (v30 : FVec F S256x512 .f32) (v32 : FVec F S256x128 .f32) (v34 : FVec F S256x128 .f32) (v35 : FVec F S256x128 .f32) :
    Prog (TpuEff nD τ sig (Elt F) Λ₀ .tc) (Vec F S256x2560 .fp8e4m3) := do
  let v42 : Vec F S1x512 .f32 ← Prog.lift (.load arg5 (Rect.unit (s := S1x2560) ![0, 512] S1x512.size inb_S1x2560_S1x512_0_512).toLoadRect (View.loadsAt_vmem h_S1x512))
  let v47 : Vec F S256x512 .f32 ← Prog.lift (.load arg10 (Rect.unit (s := S256x2560) ![0, 512] S256x512.size inb_S256x2560_S256x512_0_512).toLoadRect (View.loadsAt_vmem h_S256x512))
  Prog.lift (.store arg10 (Rect.unit (s := S256x2560) ![0, 512] S256x512.size inb_S256x2560_S256x512_0_512) (k0_pay14 v27 v30 v32 v34 v35 v42) Finset.univ (View.stores_vmem_bits_univ h_S256x512 rfl) (.inl rfl))
  let v48 : Vec F S256x2560 .fp8e4m3 ← Prog.lift (.load arg2 (Rect.unit (s := S256x2560) ![0, 0] S256x2560.size inb_S256x2560_S256x2560_0_0).toLoadRect (View.loadsAt_vmem h_S256x2560))
  let v49 : Vec F S2560x512 .fp8e4m3 ← Prog.lift (.load arg4 (Rect.unit (s := S2560x2560) ![0, 1024] S2560x512.size inb_S2560x2560_S2560x512_0_1024).toLoadRect (View.loadsAt_vmem h_S2560x512))
  let v52 : Vec F S256x512 .bf16 ← Prog.lift (.load arg6 (Rect.unit (s := S256x2560) ![0, 1024] S256x512.size inb_S256x2560_S256x512_0_1024).toLoadRect (View.loadsAt_vmem h_S256x512))
  let v55 : Vec F S256x128 .f32 ← Prog.lift (.load arg3 (Rect.unit (s := S256x128) ![0, 0] S256x128.size inb_S256x128_S256x128_0_0).toLoadRect (View.loadsAt_vmem h_S256x128))
  let v66 : Vec F S1x512 .f32 ← Prog.lift (.load arg5 (Rect.unit (s := S1x2560) ![0, 1024] S1x512.size inb_S1x2560_S1x512_0_1024).toLoadRect (View.loadsAt_vmem h_S1x512))
  let v71 : Vec F S256x512 .f32 ← Prog.lift (.load arg10 (Rect.unit (s := S256x2560) ![0, 1024] S256x512.size inb_S256x2560_S256x512_0_1024).toLoadRect (View.loadsAt_vmem h_S256x512))
  Prog.lift (.store arg10 (Rect.unit (s := S256x2560) ![0, 1024] S256x512.size inb_S256x2560_S256x512_0_1024) (k0_pay15 v48 v49 v52 v55 v66) Finset.univ (View.stores_vmem_bits_univ h_S256x512 rfl) (.inl rfl))
  let v72 : Vec F S256x2560 .fp8e4m3 ← Prog.lift (.load arg2 (Rect.unit (s := S256x2560) ![0, 0] S256x2560.size inb_S256x2560_S256x2560_0_0).toLoadRect (View.loadsAt_vmem h_S256x2560))
  let c0_37 : Index := 0#32
  let c1536 : Index := 1536#32
  pure v72

set_option maxRecDepth 65536 in
theorem k0_part3_eq_skeleton : k0_part3 (F := F) = k0_part3_skel (F := F) := rfl

set_option cleanup.letToHave false in set_option maxHeartbeats 40000000 in
noncomputable def k0_part4_skel (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v72 : Vec F S256x2560 .fp8e4m3) :
    Prog (TpuEff nD τ sig (Elt F) Λ₀ .tc) (Σ' (v102 : FVec F S256x512 .f32), FVec F S256x512 .f32) := do
  let v73 : Vec F S2560x512 .fp8e4m3 ← Prog.lift (.load arg4 (Rect.unit (s := S2560x2560) ![0, 1536] S2560x512.size inb_S2560x2560_S2560x512_0_1536).toLoadRect (View.loadsAt_vmem h_S2560x512))
  let v76 : Vec F S256x512 .bf16 ← Prog.lift (.load arg6 (Rect.unit (s := S256x2560) ![0, 1536] S256x512.size inb_S256x2560_S256x512_0_1536).toLoadRect (View.loadsAt_vmem h_S256x512))
  let v79 : Vec F S256x128 .f32 ← Prog.lift (.load arg3 (Rect.unit (s := S256x128) ![0, 0] S256x128.size inb_S256x128_S256x128_0_0).toLoadRect (View.loadsAt_vmem h_S256x128))
  let v90 : Vec F S1x512 .f32 ← Prog.lift (.load arg5 (Rect.unit (s := S1x2560) ![0, 1536] S1x512.size inb_S1x2560_S1x512_0_1536).toLoadRect (View.loadsAt_vmem h_S1x512))
  let v95 : Vec F S256x512 .f32 ← Prog.lift (.load arg10 (Rect.unit (s := S256x2560) ![0, 1536] S256x512.size inb_S256x2560_S256x512_0_1536).toLoadRect (View.loadsAt_vmem h_S256x512))
  Prog.lift (.store arg10 (Rect.unit (s := S256x2560) ![0, 1536] S256x512.size inb_S256x2560_S256x512_0_1536) (k0_pay16 v72 v73 v76 v79 v90) Finset.univ (View.stores_vmem_bits_univ h_S256x512 rfl) (.inl rfl))
  let v96 : Vec F S256x2560 .fp8e4m3 ← Prog.lift (.load arg2 (Rect.unit (s := S256x2560) ![0, 0] S256x2560.size inb_S256x2560_S256x2560_0_0).toLoadRect (View.loadsAt_vmem h_S256x2560))
  let v97 : Vec F S2560x512 .fp8e4m3 ← Prog.lift (.load arg4 (Rect.unit (s := S2560x2560) ![0, 2048] S2560x512.size inb_S2560x2560_S2560x512_0_2048).toLoadRect (View.loadsAt_vmem h_S2560x512))
  let v100 : Vec F S256x512 .bf16 ← Prog.lift (.load arg6 (Rect.unit (s := S256x2560) ![0, 2048] S256x512.size inb_S256x2560_S256x512_0_2048).toLoadRect (View.loadsAt_vmem h_S256x512))
  let v103 : Vec F S256x128 .f32 ← Prog.lift (.load arg3 (Rect.unit (s := S256x128) ![0, 0] S256x128.size inb_S256x128_S256x128_0_0).toLoadRect (View.loadsAt_vmem h_S256x128))
  pure ⟨k0_pay17 v100, k0_pay18 v96 v97 v103⟩

set_option maxRecDepth 65536 in
theorem k0_part4_eq_skeleton : k0_part4 (F := F) = k0_part4_skel (F := F) := rfl

end Cert.ProjSKernelIdeal.Body

end
-- ==== Proof.ProjSILoops.lean ====
/- The quantising loop of `ProjSKernelIdeal`: one trip run at any row group, the pieces the trips before one leave, and the invariant
   the whole loop is run by. -/
module

public import proofs.«01_k».proof.Proof.ProjSISkeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.ProjSKernelIdeal.Body

open Cert.ProjSKernelIdeal Cert.ProjSKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 v120 v122 v126)

/-! ### `k0_t1_loop`: the generated invariant (classifier: affine) -/

abbrev Trip_k0_t1 (c : Dev nD) (arg10 : Memref sig .tc .vmem S256x2560 .f32) (arg11 : Memref sig .tc .vmem S256x2560 .fp8e4m3) (arg12 : Memref sig .tc .vmem S256x128 .f32) (X_arg10 : BufTy.Contents (Elt F) arg10.view.ty) (f_arg11 : BufTy.Contents (Elt F) arg11.view.ty) (f_arg12 : BufTy.Contents (Elt F) arg12.view.ty) : sProp 𝕄G :=
  iprop((arg10.view.loc (c : Thread nD τ) ↦[arg10.view.set]{fullShare} X_arg10) ∗ (arg11.view.loc (c : Thread nD τ) ↦[arg11.view.set]{fullShare} f_arg11) ∗ (arg12.view.loc (c : Thread nD τ) ↦[arg12.view.set]{fullShare} f_arg12))

@[irreducible] def trip_k0_t1 (𝒱 : Variants) (c : Dev nD) (bd : Option 𝒱.V) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) (k : Fin k0_t1_loop.trips) :
    Σ' (L_arg11 : List (View.Piece (Elt F) S256x2560 .fp8e4m3)) , { L_arg12 : List (View.Piece (Elt F) S256x128 .f32) // ∀ (E : Set ℕ) (f_arg11 : BufTy.Contents (Elt F) arg11.view.ty) (f_arg12 : BufTy.Contents (Elt F) arg12.view.ty),
      Trip_k0_t1 (F := F) c arg10 arg11 arg12 X_arg10 f_arg11 f_arg12
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 v120 v122 v126 k PUnit.unit)
          (fun _ => Trip_k0_t1 (F := F) c arg10 arg11 arg12 X_arg10 (arg11.view.writes (Elt F) f_arg11 L_arg11) (arg12.view.writes (Elt F) f_arg12 L_arg12)) } := by
  have hk : k.val < 8 := Nat.lt_of_lt_of_le k.isLt k0_t1_abs.2.1
  refine ⟨?_, ?_, fun E f_arg11 f_arg12 => ?run⟩
  case run =>
    unfold k0_t1_body
    iintro ⟨HR_arg10, HW_arg11, HW_arg12⟩
    sl_exec
    sl_step
    sl_close

abbrev tripL_k0_t1 (𝒱 : Variants) (c : Dev nD) (bd : Option 𝒱.V) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) (k : Fin k0_t1_loop.trips) : List (View.Piece (Elt F) S256x2560 .fp8e4m3) × List (View.Piece (Elt F) S256x128 .f32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).1, (trip_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).2.1)

@[irreducible] def pb_k0_t1Step (𝒱 : Variants) (c : Dev nD) (bd : Option 𝒱.V) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) (k : ℕ) (prev : List (View.Piece (Elt F) S256x2560 .fp8e4m3) × List (View.Piece (Elt F) S256x128 .f32)) : List (View.Piece (Elt F) S256x2560 .fp8e4m3) × List (View.Piece (Elt F) S256x128 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 ⟨k, h⟩).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 ⟨k, h⟩).2 ++ prev.2)
  else prev

def pb_k0_t1 (𝒱 : Variants) (c : Dev nD) (bd : Option 𝒱.V) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) : ℕ → List (View.Piece (Elt F) S256x2560 .fp8e4m3) × List (View.Piece (Elt F) S256x128 .f32)
  | 0 => ([], [])
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 v120 v122 v126 X_arg10 k (pb_k0_t1 𝒱 c bd i arg1 harg1 arg2 harg2 arg3 harg3 arg4 harg4 arg5 harg5 arg6 harg6 arg7 harg7 arg8 harg8 arg9 harg9 arg10 harg10 arg11 harg11 arg12 harg12 v120 v122 v126 X_arg10 k)

theorem pb_k0_t1_succ (𝒱 : Variants) (c : Dev nD) (bd : Option 𝒱.V) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k.val).1, (tripL_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k.val).2) := by
  rw [pb_k0_t1.eq_2]; unfold pb_k0_t1Step; exact dif_pos k.isLt

abbrev inv_k0_t1 (𝒱 : Variants) (c : Dev nD) (bd : Option 𝒱.V) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) (G_arg11 : BufTy.Contents (Elt F) arg11.view.ty) (G_arg12 : BufTy.Contents (Elt F) arg12.view.ty) (k : ℕ) (_u : PUnit) : sProp 𝕄G :=
  iprop((arg10.view.loc (c : Thread nD τ) ↦[arg10.view.set]{fullShare} X_arg10) ∗ (∃ f, (arg11.view.loc (c : Thread nD τ) ↦[arg11.view.set]{fullShare} f) ∗ ⌜f = arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).1⌝) ∗ (∃ f, (arg12.view.loc (c : Thread nD τ) ↦[arg12.view.set]{fullShare} f) ∗ ⌜f = arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).2⌝))

set_option warn.classDefReducibility false in
@[sl_loop] def loopInv_k0_t1 (𝒱 : Variants) (c : Dev nD) (bd : Option 𝒱.V) (E : Set ℕ) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole) (v120 : Vec F S1x2560 .f32) (v122 : Vec F S1x2560 .f32) (v126 : Vec F S1x2560 .f32) (X_arg10 : BufTy.Contents (Elt F) arg10.view.ty) (G_arg11 : BufTy.Contents (Elt F) arg11.view.ty) (G_arg12 : BufTy.Contents (Elt F) arg12.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 v120 v122 v126 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 G_arg11 G_arg12
  step k acc := by
    iintro ⟨HR_arg10, ⟨%f_arg11, HW_arg11, %h_arg11⟩, ⟨%f_arg12, HW_arg12, %h_arg12⟩⟩
    iapply (wp_wand_r Idealize.ShloMosaic.frame (wpE (defs₀ (F := F)) 𝒱 (c : Thread nD τ) bd) E)
    isplitl [HR_arg10 HW_arg11 HW_arg12]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 v120 v122 v126 X_arg10 k).2.2 E f_arg11 f_arg12)
      isplitl [HR_arg10]; · iexact HR_arg10
      isplitl [HW_arg11]; · iexact HW_arg11
      iexact HW_arg12
    · iintro %_ ⟨HR_arg10, HW_arg11, HW_arg12⟩
      isplitl [HR_arg10]; · iexact HR_arg10
      rw [pb_k0_t1_succ]
      isplitl [HW_arg11]
      · iexists _; isplitl [HW_arg11]; · iexact HW_arg11
        ipureintro; rw [h_arg11, ← View.writes_append]
      iexists _; isplitl [HW_arg12]; · iexact HW_arg12
      ipureintro; rw [h_arg12, ← View.writes_append]

end Cert.ProjSKernelIdeal.Body

end
-- ==== Proof.ProjSIRun.lean ====
/- The body of `ProjSKernelIdeal` run on any staging buffers, under the side condition that the action id read at this grid point names a
   row of the table: what it leaves in each output, as pieces. -/
module

public import proofs.«01_k».proof.Proof.ProjSILoops
public import proofs.«01_k».proof.Proof.Gen.ProjSKernelIdeal.Frame

@[expose] public section

set_option maxRecDepth 16384

noncomputable section

namespace Cert.ProjSKernelIdeal.Body

open Cert.ProjSKernelIdeal Cert.ProjSKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of an output, through which its contents are stated. -/
abbrev VO0_9 : View sig .tc .vmem S256x2560 .f32 := (Memref.whole cc0_stg9_0 : Memref sig .tc .vmem S256x2560 .f32).view
/-- One staging buffer of an output, through which its contents are stated. -/
abbrev VO0_10 : View sig .tc .vmem S256x2560 .fp8e4m3 := (Memref.whole cc0_stg10_0 : Memref sig .tc .vmem S256x2560 .fp8e4m3).view
/-- One staging buffer of an output, through which its contents are stated. -/
abbrev VO0_11 : View sig .tc .vmem S256x128 .f32 := (Memref.whole cc0_stg11_0 : Memref sig .tc .vmem S256x128 .f32).view
/-- Each window's current staging memref at point `t`, spelled as the pipeline passes it (`bodyAt0`), and its wholeness. -/
abbrev ms0_0 (t : Fin cfg0.N) : Memref sig .tc .smem S4 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2560 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2560x2560 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2560 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x2560 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2560 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2560 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2560 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2560 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x128 .f32 := win0_11.stage (cfg0.slots t 11)
abbrev hs0_11 (t : Fin cfg0.N) : (ms0_11 t).IsWhole := hstage0_11 ((cfg0.slots t 11).cast nbuf0_11)

/-! ## The side conditions the body assumes, as the frame's hypothesis -/

/-- At every grid point the action id the body reads names a row of the table. -/
def Hyps (m : (ℓ : Loc nD τ sig) → Buf (Elt F) ℓ) : Prop :=
  ∀ (c : Dev nD) (t : Fin cfg0.N),
    k0_chk1 ((ms0_0 t).view.readAt (Elt F) (Rect.unit (s := S4) (k0_off1 (grid0.coords t)) S1.size (k0_off1_inb (grid0.coords t))).toLoadRect ((hs0_0 t).unread (iblk m c 0 t)) (Shape.Idx.first (numel1_S1.symm ▸ Nat.one_pos)))

abbrev Hyps.p0 (m : (ℓ : Loc nD τ sig) → Buf (Elt F) ℓ) (c : Dev nD) (t : Fin cfg0.N) : Prop :=
  k0_chk1 ((ms0_0 t).view.readAt (Elt F) (Rect.unit (s := S4) (k0_off1 (grid0.coords t)) S1.size (k0_off1_inb (grid0.coords t))).toLoadRect ((hs0_0 t).unread (iblk m c 0 t)) (Shape.Idx.first (numel1_S1.symm ▸ Nat.one_pos)))
variable {m} in
theorem Hyps.c0 (hH : Hyps m) (c : Dev nD) (t : Fin cfg0.N) :
    k0_chk1 ((ms0_0 t).view.readAt (Elt F) (Rect.unit (s := S4) (k0_off1 (grid0.coords t)) S1.size (k0_off1_inb (grid0.coords t))).toLoadRect ((hs0_0 t).unread (iblk m c 0 t)) (Shape.Idx.first (numel1_S1.symm ▸ Nat.one_pos))) := (hH c t)
variable {m} in
theorem Hyps.of
    (p0 : ∀ (c : Dev nD) (t : Fin cfg0.N), Hyps.p0 m c t) :
    Hyps m := fun c t =>
  p0 c t

set_option maxHeartbeats 1000000 in
/-- What the body leaves in each output, as pieces (last first), with the proof that the body runs to a state with those pieces
    written and its inputs as they were. -/
noncomputable def kernelRun0_A (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) :
    Σ' (L9 : List (View.Piece (Elt F) S256x2560 .f32)), Σ' (L10 : List (View.Piece (Elt F) S256x2560 .fp8e4m3)), { L11 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_oproj_s i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_oproj_s_eq_skeleton]; unfold cc0_oproj_s_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact k0_hw1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact H11

end Cert.ProjSKernelIdeal.Body

end
-- ==== Proof.ProjSIFrame.lean ====
/- The frame of `ProjSKernelIdeal`: what each output holds after a grid point, the pipeline's proof data, the body's obligation, the run of
   the whole program and its frame, all under `Hyps` (every action id read names a row of the table). -/
module

public import proofs.«01_k».proof.Proof.ProjSIRun
public import Idealize.ShloMosaic.Lib.Claim

@[expose] public section

set_option maxRecDepth 16384

noncomputable section

namespace Cert.ProjSKernelIdeal.Body

open Cert.ProjSKernelIdeal Cert.ProjSKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces written to output 9 cover it. -/
theorem cover0_A_9 (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) (y : S256x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).1 S256x512.size (by sl_kernel_rfl) y

/-- What the run leaves in output 9's staging buffer: its pieces read back over junk. -/
def out0_A_9 (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) : Vec F S256x2560 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).1)

/-- The pieces written to output 10 cover it. -/
theorem cover0_A_10 (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) (y : S256x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).2.1 S32x2560.size (by sl_kernel_rfl) y

/-- What the run leaves in output 10's staging buffer: its pieces read back over junk. -/
def out0_A_10 (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) : Vec F S256x2560 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).2.1)

/-- The pieces written to output 11 cover it. -/
theorem cover0_A_11 (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).2.2.1 S32x128.size (by sl_kernel_rfl) y

/-- What the run leaves in output 11's staging buffer: its pieces read back over junk. -/
def out0_A_11 (c : Dev nD) (i : grid0.Coords) (arg1 : Memref sig .tc .smem S4 .i32) (harg1 : arg1.IsWhole) (arg2 : Memref sig .tc .vmem S256x2560 .fp8e4m3) (harg2 : arg2.IsWhole) (arg3 : Memref sig .tc .vmem S256x128 .f32) (harg3 : arg3.IsWhole) (arg4 : Memref sig .tc .vmem S2560x2560 .fp8e4m3) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S8x2560 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S256x2560 .f32) (harg10 : arg10.IsWhole) (arg11 : Memref sig .tc .vmem S256x2560 .fp8e4m3) (harg11 : arg11.IsWhole) (arg12 : Memref sig .tc .vmem S256x128 .f32) (harg12 : arg12.IsWhole)
    (x0 : Vec F S4 .i32) (x1 : Vec F S256x2560 .fp8e4m3) (x2 : Vec F S256x128 .f32) (x3 : Vec F S2560x2560 .fp8e4m3) (x4 : Vec F S1x2560 .f32) (x5 : Vec F S256x2560 .bf16) (x6 : Vec F S8x2560 .f32) (x7 : Vec F S1x2560 .f32) (x8 : Vec F S1x2560 .f32) (k0_hw1 : k0_chk1 (arg1.view.readAt (Elt F) (Rect.unit (s := S4) (k0_off1 i) S1.size (k0_off1_inb i)).toLoadRect (harg1.unread x0) (Shape.Idx.first (numel1_S1.symm ▸ Nat.one_pos)))) : Vec F S256x128 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_hw1).2.2.1)

/-! ## What the outputs hold after each point -/

/-- What the outputs' staging buffers hold after the body at point `t` (as a tuple, in window order): the run's contents at
    the point's memrefs and input blocks. -/
def outsAt0 (hH : Hyps m) (c : Dev nD) (t : Fin cfg0.N) : Vec F S256x2560 .f32 × Vec F S256x2560 .fp8e4m3 × Vec F S256x128 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (Hyps.c0 hH c t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (Hyps.c0 hH c t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (Hyps.c0 hH c t))

/-! ## The pipeline's proof data -/

/-- The proof data of the one pipeline on core `c`: the arrays as the region finds them (`V`); after the body at
    point `t` each input's buffer at its block and the outputs' at `outsAt0`; the invariant the class's
    (the library: the scoped rest and the generator register); nothing owed; full shares. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m hH c t).1
    | ⟨10, _⟩ => (outsAt0 m hH c t).2.1
    | ⟨11, _⟩ => (outsAt0 m hH c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]
theorem after0_6 (hH : Hyps m) (c : Dev nD) (t : Fin cfg0.N) : (dats m hH 0 c).after 6 t = iblk m c 6 t := by dsimp only [dats]
theorem after0_7 (hH : Hyps m) (c : Dev nD) (t : Fin cfg0.N) : (dats m hH 0 c).after 7 t = iblk m c 7 t := by dsimp only [dats]
theorem after0_8 (hH : Hyps m) (c : Dev nD) (t : Fin cfg0.N) : (dats m hH 0 c).after 8 t = iblk m c 8 t := by dsimp only [dats]
theorem after0_9 (hH : Hyps m) (c : Dev nD) (t : Fin cfg0.N) : (dats m hH 0 c).after 9 t = (outsAt0 m hH c t).1 := by dsimp only [dats]
theorem after0_10 (hH : Hyps m) (c : Dev nD) (t : Fin cfg0.N) : (dats m hH 0 c).after 10 t = (outsAt0 m hH c t).2.1 := by dsimp only [dats]
theorem after0_11 (hH : Hyps m) (c : Dev nD) (t : Fin cfg0.N) : (dats m hH 0 c).after 11 t = (outsAt0 m hH c t).2.2 := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d
theorem before0_6 (hH : Hyps m) (c : Dev nD) (t : Fin cfg0.N) (d) : (dats m hH 0 c).before 6 t d = iblk m c 6 t :=
  before0_6_of m (dats m hH 0 c) (A_eq m hH c 6) (after0_6 m hH c) t d
theorem before0_7 (hH : Hyps m) (c : Dev nD) (t : Fin cfg0.N) (d) : (dats m hH 0 c).before 7 t d = iblk m c 7 t :=
  before0_7_of m (dats m hH 0 c) (A_eq m hH c 7) (after0_7 m hH c) t d
theorem before0_8 (hH : Hyps m) (c : Dev nD) (t : Fin cfg0.N) (d) : (dats m hH 0 c).before 8 t d = iblk m c 8 t :=
  before0_8_of m (dats m hH 0 c) (A_eq m hH c 8) (after0_8 m hH c) t d

/-! ## The body obligation, at a generic point -/

/-- What the body is called with at point `t` (the library's precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d))
    ∗ (∃ d, owns (c : Thread nD τ) (ms0_10 t) fullShare ((dats m hH 0 c).before 10 t d))
    ∗ (∃ d, owns (c : Thread nD τ) (ms0_11 t) fullShare ((dats m hH 0 c).before 11 t d)))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t)
    ∗ owns (c : Thread nD τ) (ms0_8 t) fullShare ((dats m hH 0 c).after 8 t)
    ∗ owns (c : Thread nD τ) (ms0_9 t) fullShare ((dats m hH 0 c).after 9 t)
    ∗ owns (c : Thread nD τ) (ms0_10 t) fullShare ((dats m hH 0 c).after 10 t)
    ∗ owns (c : Thread nD τ) (ms0_11 t) fullShare ((dats m hH 0 c).after 11 t))

set_option maxHeartbeats 1200000 in
/-- The body at any point: the inputs' memrefs hold their blocks (`before0_W`); so the
    run applies; the invariant passes through unread; the core owes nothing throughout. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9, after0_10, after0_11]
  unfold outsAt0
  unfold out0_A_9 out0_A_10 out0_A_11; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (Hyps.c0 hH c t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (the library). -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-! ## The run and the frame -/

set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.FramePost cfgs (dats m hH) 0 (V m)) r ∧ r.2.sem = fun _ => 0) :=
  Pipeline.θ_run_frame (Q' := _) cfgs (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

/-- At the compiled mesh, for any values, from any memory with zero counters: every weakly fair execution of @main on the
    TensorCores terminates, and every final state has every array of the pipeline at what the library computes from the
    proof data and every other unscoped buffer as the region found it (the library). -/
theorem run_main (hH : Hyps m) : θ_run defs (onTc (τ := τ) (main (F := F))) (s₀ m ρ) (Pipeline.FramePost cfgs (dats m hH) 0 (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m hH) (A_eq m hH) (run_main m ρ hH)

/-- The frame: every run ends, with the arguments as they were and every semaphore at zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hH) ((θ_run defs _ _).mono (fun _ h => h.2) (run_main_quiescent m ρ hH))

end Cert.ProjSKernelIdeal.Body

end
-- ==== Proof.ProjSIValue.lean ====
/- What the three outputs of `ProjSKernelIdeal` hold when the program has run: each point's block, and the whole arrays from the blocks. -/
module

public import proofs.«01_k».proof.Proof.ProjSIFrame
public import Idealize.ShloMosaic.Lib.Pipeline.Value

@[expose] public section

noncomputable section

namespace Cert.ProjSKernelIdeal.Value

open Cert.ProjSKernelIdeal Cert.ProjSKernelIdeal.Gen Cert.ProjSKernelIdeal.Body Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 9's array: the run's contents for that window after the body (`Gen.outsAt0`: its component 0), read through the window's block. -/
theorem flushed9 (hH : Hyps m) (c : Dev nD) (t : Fin cfg0.N) :
    (dats m hH 0 c).flushed 9 t = (cfg0.win 9).cut (grid0.coords t) ((outsAt0 m hH c t).1) := by
  show (cfg0.win 9).cut (grid0.coords t) ((dats m hH 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — the kernel's one case, `Gen.outsAt0` by definition. -/
theorem flushed9_A (hH : Hyps m) (c : Dev nD) (t : Fin cfg0.N) :
    (dats m hH 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (Hyps.c0 hH c t)) := by
  simp only [flushed9, outsAt0]

/-- The index map sends distinct grid points to distinct block indices (decided over the 4 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (hH : Hyps m) (c : Dev nD) (t : Fin cfg0.N) (hf : (cfg0.win 9).flush t = true) :
    ((cfg0.win 9).blk t).view.read (Elt F) ((dats m hH 0 c).arrAt 9 cfg0.N) = (dats m hH 0 c).flushed 9 t :=
  (dats m hH 0 c).read_blk_arrAt_eq_flushed 9 disjoint9 cfg0.N t t.isLt hf

/-- An index that no flushing point's block covers keeps output window 9's array contents at region entry. -/
theorem entry9 (hH : Hyps m) (c : Dev nD) (i : S1024x2560.Idx) (h : ∀ t : Fin cfg0.N, (cfg0.win 9).flush t = true → i ∉ ((cfg0.win 9).blk t).view.set) :
    (dats m hH 0 c).arrAt 9 cfg0.N i = V m c (Pipeline.arrRef spec0 9) i := by
  rw [(dats m hH 0 c).arrAt_apply_of_forall_not_mem 9 cfg0.N i (fun t _ hf => h t hf), A_eq]

/-- WHAT POINT `t` WRITES BACK to output window 10's array: the run's contents for that window after the body (`Gen.outsAt0`: its component 1), read through the window's block. -/
theorem flushed10 (hH : Hyps m) (c : Dev nD) (t : Fin cfg0.N) :
    (dats m hH 0 c).flushed 10 t = (cfg0.win 10).cut (grid0.coords t) ((outsAt0 m hH c t).2.1) := by
  show (cfg0.win 10).cut (grid0.coords t) ((dats m hH 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — the kernel's one case, `Gen.outsAt0` by definition. -/
theorem flushed10_A (hH : Hyps m) (c : Dev nD) (t : Fin cfg0.N) :
    (dats m hH 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (Hyps.c0 hH c t)) := by
  simp only [flushed10, outsAt0]

/-- The index map sends distinct grid points to distinct block indices (decided over the 4 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (hH : Hyps m) (c : Dev nD) (t : Fin cfg0.N) (hf : (cfg0.win 10).flush t = true) :
    ((cfg0.win 10).blk t).view.read (Elt F) ((dats m hH 0 c).arrAt 10 cfg0.N) = (dats m hH 0 c).flushed 10 t :=
  (dats m hH 0 c).read_blk_arrAt_eq_flushed 10 disjoint10 cfg0.N t t.isLt hf

/-- An index that no flushing point's block covers keeps output window 10's array contents at region entry. -/
theorem entry10 (hH : Hyps m) (c : Dev nD) (i : S1024x2560.Idx) (h : ∀ t : Fin cfg0.N, (cfg0.win 10).flush t = true → i ∉ ((cfg0.win 10).blk t).view.set) :
    (dats m hH 0 c).arrAt 10 cfg0.N i = V m c (Pipeline.arrRef spec0 10) i := by
  rw [(dats m hH 0 c).arrAt_apply_of_forall_not_mem 10 cfg0.N i (fun t _ hf => h t hf), A_eq]

/-- WHAT POINT `t` WRITES BACK to output window 11's array: the run's contents for that window after the body (`Gen.outsAt0`: its component 2), read through the window's block. -/
theorem flushed11 (hH : Hyps m) (c : Dev nD) (t : Fin cfg0.N) :
    (dats m hH 0 c).flushed 11 t = (cfg0.win 11).cut (grid0.coords t) ((outsAt0 m hH c t).2.2) := by
  show (cfg0.win 11).cut (grid0.coords t) ((dats m hH 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — the kernel's one case, `Gen.outsAt0` by definition. -/
theorem flushed11_A (hH : Hyps m) (c : Dev nD) (t : Fin cfg0.N) :
    (dats m hH 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (Hyps.c0 hH c t)) := by
  simp only [flushed11, outsAt0]

/-- The index map sends distinct grid points to distinct block indices (decided over the 4 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (hH : Hyps m) (c : Dev nD) (t : Fin cfg0.N) (hf : (cfg0.win 11).flush t = true) :
    ((cfg0.win 11).blk t).view.read (Elt F) ((dats m hH 0 c).arrAt 11 cfg0.N) = (dats m hH 0 c).flushed 11 t :=
  (dats m hH 0 c).read_blk_arrAt_eq_flushed 11 disjoint11 cfg0.N t t.isLt hf

/-- An index that no flushing point's block covers keeps output window 11's array contents at region entry. -/
theorem entry11 (hH : Hyps m) (c : Dev nD) (i : S1024x128.Idx) (h : ∀ t : Fin cfg0.N, (cfg0.win 11).flush t = true → i ∉ ((cfg0.win 11).blk t).view.set) :
    (dats m hH 0 c).arrAt 11 cfg0.N i = V m c (Pipeline.arrRef spec0 11) i := by
  rw [(dats m hH 0 c).arrAt_apply_of_forall_not_mem 11 cfg0.N i (fun t _ hf => h t hf), A_eq]

/-- After the frame run, output window 9's array is `(dats m hH 0 c).arrAt 9 N`. -/
theorem post9 (hH : Hyps m) (r : PUnit × MemSt nD τ sig (Elt F)) (h : Pipeline.FramePost cfgs (dats m hH) 0 (V m) r) (c : Dev nD) :
    r.2.mem ((c : Thread nD τ).loc main_v7_0) = (dats m hH 0 c).arrAt 9 cfg0.N :=
  (h c).1 9

/-- After the frame run, output window 10's array is `(dats m hH 0 c).arrAt 10 N`. -/
theorem post10 (hH : Hyps m) (r : PUnit × MemSt nD τ sig (Elt F)) (h : Pipeline.FramePost cfgs (dats m hH) 0 (V m) r) (c : Dev nD) :
    r.2.mem ((c : Thread nD τ).loc main_v7_1) = (dats m hH 0 c).arrAt 10 cfg0.N :=
  (h c).1 10

/-- After the frame run, output window 11's array is `(dats m hH 0 c).arrAt 11 N`. -/
theorem post11 (hH : Hyps m) (r : PUnit × MemSt nD τ sig (Elt F)) (h : Pipeline.FramePost cfgs (dats m hH) 0 (V m) r) (c : Dev nD) :
    r.2.mem ((c : Thread nD τ).loc main_v7_2) = (dats m hH 0 c).arrAt 11 cfg0.N :=
  (h c).1 11

/-- After the frame run, argument `main_arg0` is as launched: input window 0 stages it and never writes it back. -/
theorem kept_main_arg0 (hH : Hyps m) (r : PUnit × MemSt nD τ sig (Elt F)) (h : Pipeline.FramePost cfgs (dats m hH) 0 (V m) r) (c : Dev nD) :
    r.2.mem ((c : Thread nD τ).loc main_arg0) = m ((c : Thread nD τ).loc main_arg0) :=
  ((h c).1 0).trans (((dats m hH 0 c).arrAt_in 0 rfl _).trans ((A_eq m hH c 0).trans (V_main_arg0 m c)))

/-- After the frame run, argument `main_arg1` is as launched: input window 1 stages it and never writes it back. -/
theorem kept_main_arg1 (hH : Hyps m) (r : PUnit × MemSt nD τ sig (Elt F)) (h : Pipeline.FramePost cfgs (dats m hH) 0 (V m) r) (c : Dev nD) :
    r.2.mem ((c : Thread nD τ).loc main_arg1) = m ((c : Thread nD τ).loc main_arg1) :=
  ((h c).1 1).trans (((dats m hH 0 c).arrAt_in 1 rfl _).trans ((A_eq m hH c 1).trans (V_main_arg1 m c)))

/-- After the frame run, argument `main_arg2` is as launched: no window stages it, and the run leaves the region's other buffers as they were. -/
theorem kept_main_arg2 (hH : Hyps m) (r : PUnit × MemSt nD τ sig (Elt F)) (h : Pipeline.FramePost cfgs (dats m hH) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (hH : Hyps m) (r : PUnit × MemSt nD τ sig (Elt F)) (h : Pipeline.FramePost cfgs (dats m hH) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (hH : Hyps m) (r : PUnit × MemSt nD τ sig (Elt F)) (h : Pipeline.FramePost cfgs (dats m hH) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (hH : Hyps m) (r : PUnit × MemSt nD τ sig (Elt F)) (h : Pipeline.FramePost cfgs (dats m hH) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 6 stages it and never writes it back. -/
theorem kept_main_arg6 (hH : Hyps m) (r : PUnit × MemSt nD τ sig (Elt F)) (h : Pipeline.FramePost cfgs (dats m hH) 0 (V m) r) (c : Dev nD) :
    r.2.mem ((c : Thread nD τ).loc main_arg6) = m ((c : Thread nD τ).loc main_arg6) :=
  ((h c).1 6).trans (((dats m hH 0 c).arrAt_in 6 rfl _).trans ((A_eq m hH c 6).trans (V_main_arg6 m c)))

/-- After the frame run, argument `main_arg7` is as launched: no window stages it, and the run leaves the region's other buffers as they were. -/
theorem kept_main_arg7 (hH : Hyps m) (r : PUnit × MemSt nD τ sig (Elt F)) (h : Pipeline.FramePost cfgs (dats m hH) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (hH : Hyps m) (r : PUnit × MemSt nD τ sig (Elt F)) (h : Pipeline.FramePost cfgs (dats m hH) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The frame run with each output array after the run NAMED — `(dats m hH 0 c).arrAt w N`, which `blocks_w` / `entry_w` read —,
    the arguments unchanged. -/
theorem run_blocks (hH : Hyps m) : θ_run defs (onTc (τ := τ) (main (F := F))) ⟨m, fun _ => 0, ρ⟩ fun r => ∀ c : Dev nD,
      r.2.mem ((c : Thread nD τ).loc main_v7_0) = (dats m hH 0 c).arrAt 9 cfg0.N
      ∧ r.2.mem ((c : Thread nD τ).loc main_v7_1) = (dats m hH 0 c).arrAt 10 cfg0.N
      ∧ r.2.mem ((c : Thread nD τ).loc main_v7_2) = (dats m hH 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post9 m hH r h c,
      post10 m hH r h c,
      post11 m hH r h c,
      kept_main_arg0 m hH r h c,
      kept_main_arg1 m hH r h c,
      kept_main_arg2 m hH r h c,
      kept_main_arg3 m hH r h c,
      kept_main_arg4 m hH r h c,
      kept_main_arg5 m hH r h c,
      kept_main_arg6 m hH r h c,
      kept_main_arg7 m hH r h c,
      kept_main_arg8 m hH r h c⟩)
    (run_main m ρ hH)

end Cert.ProjSKernelIdeal.Value

end
-- ==== Proof.ProjSPay.lean ====
/- The computed values of the spatial output projection at an index: a column part of the residual sum, the
   layer norm of 32 rows, their scales and their codes. -/
module

public import proofs.«01_k».proof.Proof.ProjSIValue
public import proofs.«01_k».proof.Proof.Spec
public import proofs.«01_k».proof.Proof.Reads
public import proofs.«01_k».proof.Proof.Concat
public import Idealize.ShloMosaic.Lib.Pointwise
public import Idealize.ShloMosaic.Lib.Pipeline.ValueKit

@[expose] public section

set_option maxRecDepth 16384

noncomputable section

namespace Cert.ProjSKernelIdeal.Hand

open Cert.ProjSKernelIdeal Cert.ProjSKernelIdeal.Gen Cert.ProjSKernelIdeal.Body Idealize.ShloMosaic Idealize.ShloMosaic.TcCoe Idealize.SL.Sem

/-- The product of a block of codes with a column part of the weights. -/
theorem dot_apply (A : Vec Ideal S256x2560 .fp8e4m3) (B : Vec Ideal S2560x512 .fp8e4m3) (r : Fin 256) (n : Fin 512) :
    k0_pay9 A B (ix2 r n) = ∑ k : Fin 2560, A (ix2 r k) * B (ix2 k n) := by
  pointwise [k0_pay9]

/-- A product `Y` scaled: its four lane tiles, each times the row scales, side by side. -/
theorem tiles_apply (Y : FVec Ideal S256x512 .f32) (S : Vec Ideal S256x128 .f32) (r : Fin 256) (n : Fin 512) (s : EReal)
    (hS : ∀ l, S (ix2 r l) = s) :
    concatenate S256x512 1
        [⟨S256x128, mulf (extractStridedSlice S256x128 ![0, 0] Y slices_S256x512_o0_0_S256x128) (k0_pay11 S)⟩,
          ⟨S256x128, mulf (extractStridedSlice S256x128 ![0, 128] Y slices_S256x512_o0_128_S256x128) (k0_pay11 S)⟩,
          ⟨S256x128, mulf (extractStridedSlice S256x128 ![0, 256] Y slices_S256x512_o0_256_S256x128) (k0_pay11 S)⟩,
          ⟨S256x128, mulf (extractStridedSlice S256x128 ![0, 384] Y slices_S256x512_o0_384_S256x128) (k0_pay11 S)⟩]
        concatenates_S256x128_S256x128_S256x128_S256x128_S256x512_d1 (ix2 r n)
      = Y (ix2 r n) * s := by
  refine Reads.concat_cols (w := 128) (N := 512) _ _ ?_ r n _ ?_
  · rfl
  iterate 4 (refine ⟨⟨_, rfl, fun i hi => ?_⟩, ?_⟩; swap)
  · exact trivial
  all_goals
    pointwise [k0_pay11]
    rw [hS]
    exact congrArg (fun j => Y (ix2 r j) * s) (Fin.ext (by simp only; omega))

/-- The residual plus a scaled product. -/
theorem sum_apply (H : Vec Ideal S256x512 .bf16) (Z : FVec Ideal S256x512 .f32) (ws : Vec Ideal S1x512 .f32) (r : Fin 256) (n : Fin 512)
    {h z w : EReal} (hH : H (ix2 r n) = h) (hZ : Z (ix2 r n) = z) (hw : ws (ix2 0 n) = w) :
    k0_pay1 (k0_pay17 H) Z ws (ix2 r n) = h + z * w := by
  rw [← hH, ← hZ, ← hw]
  pointwise [k0_pay1, k0_pay17]

/-- A column part of the residual sum. -/
theorem part_apply (A : Vec Ideal S256x2560 .fp8e4m3) (B : Vec Ideal S2560x512 .fp8e4m3) (H : Vec Ideal S256x512 .bf16)
    (S : Vec Ideal S256x128 .f32) (ws : Vec Ideal S1x512 .f32) (r : Fin 256) (n : Fin 512) {h s w : EReal}
    (hH : H (ix2 r n) = h) (hS : ∀ l, S (ix2 r l) = s) (hw : ws (ix2 0 n) = w) :
    k0_pay1 (k0_pay17 H) (k0_pay18 A B S) ws (ix2 r n) = h + k0_pay9 A B (ix2 r n) * s * w :=
  sum_apply H _ ws r n hH (tiles_apply (k0_pay9 A B) S r n s hS) hw

/-- The five column parts are one function. -/
theorem pay8_eq (A : Vec Ideal S256x2560 .fp8e4m3) (B H S ws) :
    k0_pay8 A B H S ws = k0_pay1 (k0_pay17 H) (k0_pay18 A B S) ws := rfl
theorem pay14_eq (A : Vec Ideal S256x2560 .fp8e4m3) (B H S ws) :
    k0_pay14 (k0_pay9 A B) (k0_pay10 H) (k0_pay11 S) (k0_pay12 A B S) (k0_pay13 A B) ws = k0_pay1 (k0_pay17 H) (k0_pay18 A B S) ws := rfl
theorem pay15_eq (A : Vec Ideal S256x2560 .fp8e4m3) (B H S ws) :
    k0_pay15 A B H S ws = k0_pay1 (k0_pay17 H) (k0_pay18 A B S) ws := rfl
theorem pay16_eq (A : Vec Ideal S256x2560 .fp8e4m3) (B H S ws) :
    k0_pay16 A B H S ws = k0_pay1 (k0_pay17 H) (k0_pay18 A B S) ws := rfl

/-- The layer norm of a row of 32 plus the added row, at an index. -/
theorem norm_apply (g b a : Vec Ideal S1x2560 .f32) (X : Vec Ideal S32x2560 .f32) (r : Fin 32) (n : Fin 2560) :
    k0_pay5 (k0_pay2 g) (k0_pay3 b) a X (ix2 r n)
      = Spec.norm (fun k => X (ix2 r k)) (fun k => g (ix2 0 k)) (fun k => b (ix2 0 k)) n + a (ix2 0 n) := by
  unfold Spec.norm Spec.mean Spec.dev Spec.mean Spec.rowLen Spec.eps
  pointwise [k0_pay5, k0_pay2, k0_pay3]

/-- The reduction of a row to its maximum. -/
theorem red_apply (v : FVec Ideal S32x2560 .f32) (r : Fin 32) {f : Fin 2560 → EReal} (hf : ∀ n, v (ix2 r n) = f n) :
    multiReduction .maximumf [1] S32 v 0xFF800000#32 reduces_S32x2560_S32 (.inl rfl) rfl (ix1 r)
      = Finset.univ.fold max ⊥ f := by
  have hb : Ideal.ofBits .f32 0xFF800000#32 = ⊥ := by decide
  obtain rfl : f = fun n => v (ix2 r n) := funext fun n => (hf n).symm
  pointwise
  rw [hb]

/-- The scale from the row maxima `M`. -/
theorem tail_apply (M : FVec Ideal S32 .f32) (r : Fin 32) (l : Fin 1) :
    select
          (cmpf CmpFPredicate.oeq (shapeCast S32x1 M shapeCasts_S32_S32x1) (broadcast S32x1 (Scalar.ofBits .f32 0x00000000#32)))
          (broadcast S32x1 (Scalar.ofBits .f32 0x3F800000#32))
          (divf (shapeCast S32x1 M shapeCasts_S32_S32x1) (broadcast S32x1 (Scalar.ofBits .f32 0x43E00000#32))) (ix2 r l)
      = if M (ix1 r) = 0 then 1 else Ideal.div (M (ix1 r)) Spec.fmax := by
  unfold Spec.fmax
  pointwise

/-- The scale of a row, from its normalised values `f`. -/
theorem scale_apply (g b : FVec Ideal S1x2560 .f32) (a : Vec Ideal S1x2560 .f32) (X : Vec Ideal S32x2560 .f32) (r : Fin 32) (l : Fin 1) {f : Fin 2560 → EReal}
    (hf : ∀ n, k0_pay5 g b a X (ix2 r n) = f n) : k0_pay6 g b a X (ix2 r l) = Spec.scale f := by
  have hM := red_apply (absf (k0_pay5 (F := Ideal) g b a X)) r (f := fun n => max (f n) (-f n)) (fun n => by
    rw [← hf n]; rfl)
  unfold k0_pay6
  refine (tail_apply _ r l).trans ?_
  rw [hM]
  unfold Spec.scale Spec.amax
  with_reducible rfl

/-- The stored scales. -/
theorem scales_apply (g b : FVec Ideal S1x2560 .f32) (a : Vec Ideal S1x2560 .f32) (X : Vec Ideal S32x2560 .f32) (r : Fin 32) (l : Fin 128)
    {f : Fin 2560 → EReal} (hf : ∀ n, k0_pay5 g b a X (ix2 r n) = f n) : k0_pay4 (k0_pay6 g b a X) (ix2 r l) = Spec.scale f := by
  rw [← scale_apply g b a X r 0 hf]
  unfold k0_pay4
  generalize k0_pay6 g b a X = Z
  pointwise []

/-- The stored codes. -/
theorem codes_apply (g b : FVec Ideal S1x2560 .f32) (a : Vec Ideal S1x2560 .f32) (X : Vec Ideal S32x2560 .f32) (r : Fin 32) (n : Fin 2560) {f : Fin 2560 → EReal}
    (hf : ∀ n, k0_pay5 g b a X (ix2 r n) = f n) : k0_pay7 g b a X (ix2 r n) = Spec.code (f n) (Spec.scale f) := by
  rw [← scale_apply g b a X r 0 hf, ← hf n]
  unfold k0_pay7 Spec.code Spec.fmax Spec.fmin
  generalize k0_pay6 g b a X = Z
  generalize k0_pay5 g b a X = W
  pointwise []

end Cert.ProjSKernelIdeal.Hand

end
-- ==== Proof.ProjSLoop.lean ====
/- The codes and scales one grid point of the spatial output projection stores: a counted loop normalises and quantises
   32 rows per trip. -/
module

public import proofs.«01_k».proof.Proof.ProjSPay

@[expose] public section

set_option maxRecDepth 16384

noncomputable section

namespace Cert.ProjSKernelIdeal.Hand

open Cert.ProjSKernelIdeal Cert.ProjSKernelIdeal.Gen Cert.ProjSKernelIdeal.Body Idealize.ShloMosaic Idealize.ShloMosaic.TcCoe Idealize.SL.Sem
open Idealize.ShloMosaic.Pipeline (Dat)
open Idealize.ShloMosaic.Tactic

/-- A row of the layer norm plus the added row, from the rows `R` of the residual sum. -/
abbrev nrm (R : Fin 256 → Fin 2560 → EReal) (g b a : Vec Ideal S1x2560 .f32) (r : Fin 256) (n : Fin 2560) : EReal :=
  Spec.norm (R r) (fun k => g (ix2 0 k)) (fun k => b (ix2 0 k)) n + a (ix2 0 n)

/-- Where a trip's rows lie. -/
theorem off3_0 (k : Fin k0_t1_loop.trips) : k0_off3 k 0 = 32 * k.val := congrFun (k0_off3_eq k) 0
theorem off3_1 (k : Fin k0_t1_loop.trips) : k0_off3 k 1 = 0 := congrFun (k0_off3_eq k) 1
theorem off4_0 (k : Fin k0_t1_loop.trips) : k0_off4 k 0 = 32 * k.val := congrFun (k0_off4_eq k) 0
theorem off4_1 (k : Fin k0_t1_loop.trips) : k0_off4 k 1 = 0 := congrFun (k0_off4_eq k) 1

section Loop

variable (c : Dev nD) (i : grid0.Coords)
  (arg1 : Memref sig .tc .smem S4 .i32) (harg1 : arg1.IsWhole)
  (arg2 : Memref sig .tc .vmem S256x2560 .fp8e4m3) (harg2 : arg2.IsWhole)
  (arg3 : Memref sig .tc .vmem S256x128 .f32) (harg3 : arg3.IsWhole)
  (arg4 : Memref sig .tc .vmem S2560x2560 .fp8e4m3) (harg4 : arg4.IsWhole)
  (arg5 : Memref sig .tc .vmem S1x2560 .f32) (harg5 : arg5.IsWhole)
  (arg6 : Memref sig .tc .vmem S256x2560 .bf16) (harg6 : arg6.IsWhole)
  (arg7 : Memref sig .tc .vmem S8x2560 .f32) (harg7 : arg7.IsWhole)
  (arg8 : Memref sig .tc .vmem S1x2560 .f32) (harg8 : arg8.IsWhole)
  (arg9 : Memref sig .tc .vmem S1x2560 .f32) (harg9 : arg9.IsWhole)
  (arg10 : Memref sig .tc .vmem S256x2560 .f32) (harg10 : arg10.IsWhole)
  (arg11 : Memref sig .tc .vmem S256x2560 .fp8e4m3) (harg11 : arg11.IsWhole)
  (arg12 : Memref sig .tc .vmem S256x128 .f32) (harg12 : arg12.IsWhole)
  (g b a : Vec Ideal S1x2560 .f32) (X : BufTy.Contents (Elt Ideal) arg10.view.ty) (R : Fin 256 → Fin 2560 → EReal)
  (hX : ∀ j, arg10.view.read (Elt Ideal) X j = R (j 0) (j 1))

include hX in
/-- The rows one trip loads. -/
theorem trip_rows (k : Fin k0_t1_loop.trips) (r : Fin 32) (n : Fin 2560) (r' : Fin 256)
    (hr : r'.val = 32 * k.val + r.val) :
    k0_pay5 (k0_pay2 g) (k0_pay3 b) a
      (View.ld (arg10.view.read (Elt Ideal) X) (Rect.unit (k0_off3 k) ![32, 2560] (k0_off3_inb k))) (ix2 r n) = nrm R g b a r' n := by
  rw [norm_apply]
  refine congrArg (fun f => Spec.norm f _ _ n + a (ix2 0 n)) (funext fun q => ?_)
  refine (View.ld_unit_apply_of _ _ _ _ _ (ix2 r' q) fun j => ?_).trans (hX _)
  match j with
  | 0 => exact hr.trans (congrArg (· + r.val) (off3_0 k).symm)
  | 1 => exact (Nat.zero_add _).symm.trans (congrArg (· + q.val) (off3_1 k).symm)

include hX in
/-- The piece of codes one trip stores. -/
theorem trip_codes (k : Fin k0_t1_loop.trips) (y : S256x2560.Idx) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 g b a X k).1 y
      (Spec.code (nrm R g b a (y 0) (y 1)) (Spec.scale (nrm R g b a (y 0)))) := by
  unfold tripL_k0_t1 trip_k0_t1
  dsimp only
  simp only [View.readAt_eq_ld]
  refine View.allAt_cons _ _ _ (fun x hx => ?_) (View.allAt_nil _ _)
  subst hx
  have hx : x = ix2 (x 0) (x 1) := by blk_ext []
  have h0 : ((Rect.unit (s := S256x2560) (k0_off3 k) ![32, 2560] (k0_off3_inb k)).idx x 0).val = 32 * k.val + (x 0).val :=
    (Rect.idx_unit_val _ _ _ _ _).trans (congrArg (· + (x 0).val) (off3_0 k))
  have h1 : (Rect.unit (s := S256x2560) (k0_off3 k) ![32, 2560] (k0_off3_inb k)).idx x 1 = x 1 :=
    Fin.ext ((Rect.idx_unit_val _ _ _ _ _).trans ((congrArg (· + (x 1).val) (off3_1 k)).trans (Nat.zero_add _)))
  refine (congrArg _ hx).trans ((codes_apply _ _ _ _ (x 0) (x 1) fun n => trip_rows arg10 g b a X R hX k (x 0) n _ h0).trans ?_)
  exact congrArg (fun n => Spec.code (nrm R g b a _ n) _) h1.symm

include hX in
/-- The piece of scales one trip stores. -/
theorem trip_scales (k : Fin k0_t1_loop.trips) (y : S256x128.Idx) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 g b a X k).2 y
      (Spec.scale (nrm R g b a (y 0))) := by
  unfold tripL_k0_t1 trip_k0_t1
  dsimp only
  unfold trip_k0_t1.sl.r
  refine View.allAt_cons _ _ _ (fun x hx => ?_) (View.allAt_nil _ _)
  subst hx
  simp only [View.readAt_eq_ld]
  have hx : x = ix2 (x 0) (x 1) := by blk_ext []
  have h0 : ((Rect.unit (s := S256x128) (k0_off4 k) ![32, 128] (k0_off4_inb k)).idx x 0).val = 32 * k.val + (x 0).val :=
    (Rect.idx_unit_val _ _ _ _ _).trans (congrArg (· + (x 0).val) (off4_0 k))
  exact (congrArg _ hx).trans (scales_apply _ _ _ _ (x 0) (x 1) fun n => trip_rows arg10 g b a X R hX k (x 0) n _ h0)

/-- Every piece of the trips before `n` is a piece of one trip. -/
theorem mem_pieces (p : View.Piece (Elt Ideal) S256x2560 .fp8e4m3) : ∀ n : Nat,
    p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 g b a X n).1 →
    ∃ k, p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 g b a X k).1
  | 0, h => by rw [pb_k0_t1.eq_1] at h; exact absurd h List.not_mem_nil
  | n + 1, h => by
    rw [pb_k0_t1.eq_2] at h
    unfold pb_k0_t1Step at h
    split at h
    · rcases List.mem_append.mp h with h | h
      · exact ⟨_, h⟩
      · exact mem_pieces p n h
    · exact mem_pieces p n h

theorem mem_pieces' (p : View.Piece (Elt Ideal) S256x128 .f32) : ∀ n : Nat,
    p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 g b a X n).2 →
    ∃ k, p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 g b a X k).2
  | 0, h => by rw [pb_k0_t1.eq_1] at h; exact absurd h List.not_mem_nil
  | n + 1, h => by
    rw [pb_k0_t1.eq_2] at h
    unfold pb_k0_t1Step at h
    split at h
    · rcases List.mem_append.mp h with h | h
      · exact ⟨_, h⟩
      · exact mem_pieces' p n h
    · exact mem_pieces' p n h

include hX in
/-- The block of codes the loop leaves. -/
theorem loop_codes (y : S256x2560.Idx) :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 g b a X
      (Scf.trips (0#32) (Scalar.addi 0#32 8#32) 1#32)).1 y
      = Spec.code (nrm R g b a (y 0) (y 1)) (Spec.scale (nrm R g b a (y 0))) := by
  refine View.canon_eq_of_allAt _ y _ ?_ fun p hp => ?_
  · exact View.cover_of_tiledL (pb_k0_t1 (F := Ideal) Variants.none c none i arg1 harg1 arg2 harg2 arg3 harg3 arg4 harg4 arg5 harg5 arg6 harg6 arg7 harg7 arg8 harg8 arg9 harg9 arg10 harg10 arg11 harg11 arg12 harg12 g b a X
      (Scf.trips (0#32) (Scalar.addi 0#32 8#32) 1#32)).1 S32x2560.size (by sl_kernel_rfl) y
  obtain ⟨k, hk⟩ := mem_pieces c i arg1 harg1 arg2 harg2 arg3 harg3 arg4 harg4 arg5 harg5 arg6 harg6 arg7 harg7 arg8 harg8 arg9 harg9 arg10 harg10 arg11 harg11 arg12 harg12 g b a X p _ hp
  exact trip_codes c i arg1 harg1 arg2 harg2 arg3 harg3 arg4 harg4 arg5 harg5 arg6 harg6 arg7 harg7 arg8 harg8 arg9 harg9 arg10 harg10 arg11 harg11 arg12 harg12 g b a X R hX k y p hk

include hX in
/-- The block of scales the loop leaves. -/
theorem loop_scales (y : S256x128.Idx) :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 g b a X
      (Scf.trips (0#32) (Scalar.addi 0#32 8#32) 1#32)).2 y
      = Spec.scale (nrm R g b a (y 0)) := by
  refine View.canon_eq_of_allAt _ y _ ?_ fun p hp => ?_
  · exact View.cover_of_tiledL (pb_k0_t1 (F := Ideal) Variants.none c none i arg1 harg1 arg2 harg2 arg3 harg3 arg4 harg4 arg5 harg5 arg6 harg6 arg7 harg7 arg8 harg8 arg9 harg9 arg10 harg10 arg11 harg11 arg12 harg12 g b a X
      (Scf.trips (0#32) (Scalar.addi 0#32 8#32) 1#32)).2 S32x128.size (by sl_kernel_rfl) y
  obtain ⟨k, hk⟩ := mem_pieces' c i arg1 harg1 arg2 harg2 arg3 harg3 arg4 harg4 arg5 harg5 arg6 harg6 arg7 harg7 arg8 harg8 arg9 harg9 arg10 harg10 arg11 harg11 arg12 harg12 g b a X p _ hp
  exact trip_scales c i arg1 harg1 arg2 harg2 arg3 harg3 arg4 harg4 arg5 harg5 arg6 harg6 arg7 harg7 arg8 harg8 arg9 harg9 arg10 harg10 arg11 harg11 arg12 harg12 g b a X R hX k y p hk

end Loop

end Cert.ProjSKernelIdeal.Hand

end
-- ==== Proof.ProjSBlock.lean ====
/- The blocks each grid point of the spatial output projection reads and writes, in closed form, and its three arrays
   after the run. -/
module

public import proofs.«01_k».proof.Proof.ProjSLoop

@[expose] public section

set_option maxRecDepth 16384

noncomputable section

namespace Cert.ProjSKernelIdeal.Hand

open Cert.ProjSKernelIdeal Cert.ProjSKernelIdeal.Gen Cert.ProjSKernelIdeal.Body Idealize.ShloMosaic Idealize.ShloMosaic.TcCoe Idealize.SL.Sem
open Idealize.ShloMosaic.Pipeline (Dat)

variable (m : (ℓ : Loc nD τ sig) → Buf (Elt Ideal) ℓ)

/-- A weight: the heads' axis and the axis within a head are one. -/
def wgt (c : Dev nD) (k : Fin 2560) (n : Fin 2560) : EReal :=
  m ((c : Thread nD τ).loc main_arg3) (ix3 ⟨k.val / 128, by omega⟩ ⟨k.val % 128, by omega⟩ n)

/-- A code of the attention's result. -/
def act (c : Dev nD) (r : Fin 1024) (k : Fin 2560) : EReal := m ((c : Thread nD τ).loc main_arg1) (ix2 r k)

/-- The residual's entry. -/
def skip (c : Dev nD) (r : Fin 1024) (n : Fin 2560) : EReal := m ((c : Thread nD τ).loc main_arg5) (ix3 ⟨r.val / 256, by omega⟩ ⟨r.val % 256, by omega⟩ n)

/-- The residual sum at (`r`, `n`), over the argument arrays. -/
def res (c : Dev nD) (r : Fin 1024) (n : Fin 2560) : EReal :=
  skip m c r n
    + Spec.mm (act m c r) (m ((c : Thread nD τ).loc main_arg2) (ix1 r))
      (wgt m c) (fun n => m ((c : Thread nD τ).loc main_arg4) (ix1 n)) n

/-- The action id of part `p` of the batch, as a row number of the table. -/
def row (c : Dev nD) (p : Fin 4) : Fin 8 := Fin.ofNat 8 (BitVec.toNat (w := 32) (m ((c : Thread nD τ).loc main_arg0) (ix1 p)))

/-- The table's row that is added to row `r`. -/
def added (c : Dev nD) (r : Fin 1024) (n : Fin 2560) : EReal :=
  m ((c : Thread nD τ).loc main_arg6) (ix2 (row m c ⟨r.val / 256, by omega⟩) n)

/-- The layer norm plus the added row. -/
def nrmd (c : Dev nD) (r : Fin 1024) (n : Fin 2560) : EReal :=
  Spec.norm (res m c r) (fun k => m ((c : Thread nD τ).loc main_arg7) (ix1 k)) (fun k => m ((c : Thread nD τ).loc main_arg8) (ix1 k)) n
    + added m c r n

/-- The code of an entry of that sum. -/
def cod (c : Dev nD) (r : Fin 1024) (n : Fin 2560) : EReal := Spec.code (nrmd m c r n) (Spec.scale (nrmd m c r))

/-- The index maps: the rows move with the point, weights and vectors stay. -/
theorem idx : ∀ t : Fin cfg0.N, win0_0.index t = ![0] ∧ win0_6.index t = ![0, 0] ∧ win0_1.index t = ![t.val, 0] ∧ win0_2.index t = ![t.val, 0]
    ∧ win0_3.index t = ![0, 0] ∧ win0_4.index t = ![0, 0] ∧ win0_5.index t = ![t.val, 0] ∧ win0_7.index t = ![0, 0]
    ∧ win0_8.index t = ![0, 0] ∧ win0_9.index t = ![t.val, 0] ∧ win0_10.index t = ![t.val, 0] ∧ win0_11.index t = ![t.val, 0] :=
  (by decide +kernel : ∀ t : Fin grid0.N, _)

/-- The array row under row `r` of point `t`'s block. -/
abbrev pos (t : Fin cfg0.N) (r : Fin 256) : Fin 1024 :=
  ⟨256 * t.val + r.val, by have := t.isLt; have h : cfg0.N = 4 := N_0; omega⟩

theorem blk0 (c : Dev nD) (t : Fin cfg0.N) (p : Fin 4) :
    iblk m c 0 t (ix1 p) = m ((c : Thread nD τ).loc main_arg0) (ix1 p) := by
  blk_point [iblk, V, idx t]

theorem blk6 (c : Dev nD) (t : Fin cfg0.N) (q : Fin 8) (n : Fin 2560) :
    iblk m c 6 t (ix2 q n) = m ((c : Thread nD τ).loc main_arg6) (ix2 q n) := by
  blk_point [iblk, V, idx t]

theorem blk1 (c : Dev nD) (t : Fin cfg0.N) (r : Fin 256) (k : Fin 2560) :
    iblk m c 1 t (ix2 r k) = m ((c : Thread nD τ).loc main_arg1) (ix2 (pos t r) k) := by
  blk_point [iblk, V, idx t]

theorem blk2 (c : Dev nD) (t : Fin cfg0.N) (r : Fin 256) (l : Fin 128) :
    iblk m c 2 t (ix2 r l) = m ((c : Thread nD τ).loc main_arg2) (ix1 (pos t r)) := by
  blk_point [iblk, V, idx t]

theorem blk3 (c : Dev nD) (t : Fin cfg0.N) (k : Fin 2560) (n : Fin 2560) :
    iblk m c 3 t (ix2 k n) = wgt m c k n := by
  unfold wgt
  blk_point [iblk, V, idx t]

theorem blk4 (c : Dev nD) (t : Fin cfg0.N) (n : Fin 2560) :
    iblk m c 4 t (ix2 0 n) = m ((c : Thread nD τ).loc main_arg4) (ix1 n) := by
  blk_point [iblk, V, idx t]

theorem blk5 (c : Dev nD) (t : Fin cfg0.N) (r : Fin 256) (n : Fin 2560) :
    iblk m c 5 t (ix2 r n) = skip m c (pos t r) n := by
  unfold skip
  blk_point [iblk, V, idx t]

theorem blk7 (c : Dev nD) (t : Fin cfg0.N) (n : Fin 2560) :
    iblk m c 7 t (ix2 0 n) = m ((c : Thread nD τ).loc main_arg7) (ix1 n) := by
  blk_point [iblk, V, idx t]

theorem blk8 (c : Dev nD) (t : Fin cfg0.N) (n : Fin 2560) :
    iblk m c 8 t (ix2 0 n) = m ((c : Thread nD τ).loc main_arg8) (ix1 n) := by
  blk_point [iblk, V, idx t]

/-- The column under column `n` of the part at `o`. -/
abbrev coln (o : ℕ) (ho : o + 512 ≤ 2560) (n : Fin 512) : Fin 2560 := ⟨o + n.val, by omega⟩

/-- One column part of a point's residual sum. -/
theorem part (c : Dev nD) (t : Fin cfg0.N) (o : ℕ) (ho : o + 512 ≤ 2560)
    (B : Vec Ideal S2560x512 .fp8e4m3) (H : Vec Ideal S256x512 .bf16) (ws : Vec Ideal S1x512 .f32)
    (hB : ∀ k n, B (ix2 k n) = iblk m c 3 t (ix2 k (coln o ho n)))
    (hH : ∀ (r : Fin 256) n, H (ix2 r n) = iblk m c 5 t (ix2 r (coln o ho n)))
    (hw : ∀ n, ws (ix2 0 n) = iblk m c 4 t (ix2 0 (coln o ho n))) (r : Fin 256) (n : Fin 512) :
    k0_pay1 (k0_pay17 H) (k0_pay18 (iblk m c 1 t) B (iblk m c 2 t)) ws (ix2 r n) = res m c (pos t r) (coln o ho n) := by
  have hd : k0_pay9 (iblk m c 1 t) B (ix2 r n)
      = ∑ k : Fin 2560, act m c (pos t r) k * wgt m c k (coln o ho n) := by
    refine (dot_apply _ _ r n).trans (Finset.sum_congr rfl fun k _ => ?_)
    rw [hB, blk1, blk3]
    rfl
  refine (part_apply _ _ _ _ _ r n ((hH r n).trans (blk5 m c t r _)) (fun l => blk2 m c t r l) ((hw n).trans (blk4 m c t _))).trans ?_
  rw [hd]
  unfold res Spec.mm
  with_reducible rfl

/-- The five stored column parts make up the block. -/
theorem col_tiles (p4 p3 p2 p1 p0 : FVec Ideal S256x512 .f32) (G : Fin 256 → Fin 2560 → EReal) (y : S256x2560.Idx)
    (e0 : ∀ r n, p0 (ix2 r n) = G r (coln 0 (by omega) n)) (e1 : ∀ r n, p1 (ix2 r n) = G r (coln 512 (by omega) n))
    (e2 : ∀ r n, p2 (ix2 r n) = G r (coln 1024 (by omega) n)) (e3 : ∀ r n, p3 (ix2 r n) = G r (coln 1536 (by omega) n))
    (e4 : ∀ r n, p4 (ix2 r n) = G r (coln 2048 (by omega) n)) :
      View.canon (Val := Elt Ideal) (e := .f32) [
        ⟨Rect.unit (s := S256x2560) ![0, 2048] ![256, 512] inb_S256x2560_S256x512_0_2048, p4⟩,
        ⟨Rect.unit (s := S256x2560) ![0, 1536] ![256, 512] inb_S256x2560_S256x512_0_1536, p3⟩,
        ⟨Rect.unit (s := S256x2560) ![0, 1024] ![256, 512] inb_S256x2560_S256x512_0_1024, p2⟩,
        ⟨Rect.unit (s := S256x2560) ![0, 512] ![256, 512] inb_S256x2560_S256x512_0_512, p1⟩,
        ⟨Rect.unit (s := S256x2560) ![0, 0] ![256, 512] inb_S256x2560_S256x512_0_0, p0⟩] y = G (y 0) (y 1) := by
  canon_tiles x h
  all_goals (
      first
        | refine (congrArg p4 (?_ : x = ix2 (x 0) (x 1))).trans ((e4 (x 0) (x 1)).trans ?_)
        | refine (congrArg p3 (?_ : x = ix2 (x 0) (x 1))).trans ((e3 (x 0) (x 1)).trans ?_)
        | refine (congrArg p2 (?_ : x = ix2 (x 0) (x 1))).trans ((e2 (x 0) (x 1)).trans ?_)
        | refine (congrArg p1 (?_ : x = ix2 (x 0) (x 1))).trans ((e1 (x 0) (x 1)).trans ?_)
        | refine (congrArg p0 (?_ : x = ix2 (x 0) (x 1))).trans ((e0 (x 0) (x 1)).trans ?_)
      · blk_ext []
      · congr 1
        · exact Fin.ext h0.symm
        · exact Fin.ext (by simp only; omega))

/-- What a point leaves in the residual sum's block. -/
theorem block9 (hH : Hyps m) (c : Dev nD) (t : Fin cfg0.N) (y : S256x2560.Idx) :
    (outsAt0 m hH c t).1 y = res m c (pos t (y 0)) (y 1) := by
  unfold outsAt0
  dsimp only
  frame_out
  rw [pay16_eq, pay15_eq, pay14_eq, pay8_eq]
  refine col_tiles _ _ _ _ _ (fun r n => res m c (pos t r) n) y ?_ ?_ ?_ ?_ ?_
  all_goals
    intro r n
    refine part m c t _ (by omega) _ _ _ (fun k n => ?_) (fun r n => ?_) (fun n => ?_) r n
    · exact Reads.ld2 _ _ k n k _ (by omega) (by simp)
    · exact Reads.ld2 _ _ r n r _ (by omega) (by simp)
    · exact Reads.ld2 _ _ 0 n 0 _ (by simp) (by simp)

/-- The grid's only coordinate is the point. -/
theorem coord : ∀ t : Fin cfg0.N, k0_off1 (grid0.coords t) 0 = t.val := (by decide +kernel : ∀ t : Fin grid0.N, _)

/-- The word a point reads is the action id of its part of the batch. -/
theorem word (c : Dev nD) (t : Fin cfg0.N) :
    (ms0_0 t).view.readAt (Elt Ideal) (Rect.unit (s := S4) (k0_off1 (grid0.coords t)) S1.size (k0_off1_inb (grid0.coords t))).toLoadRect
        ((hs0_0 t).unread (iblk m c 0 t)) (Shape.Idx.first (numel1_S1.symm ▸ Nat.one_pos))
      = m ((c : Thread nD τ).loc main_arg0) (ix1 ⟨t.val, t.isLt⟩) := by
  rw [View.readAt_apply]
  refine (congrFun ((hs0_0 t).read_unread (iblk m c 0 t)) _).trans ((congrArg (iblk m c 0 t) ?_).trans (blk0 m c t ⟨t.val, t.isLt⟩))
  funext j
  match j with
  | 0 => exact Fin.ext (coord t)

/-- The row of the table a point loads. -/
theorem row_eq (c : Dev nD) (t : Fin cfg0.N) (w : BitVec 32) (hk : k0_chk1 w)
    (hw : w = m ((c : Thread nD τ).loc main_arg0) (ix1 ⟨t.val, t.isLt⟩)) (r : Fin 256) (n : Fin 2560) :
    View.ld (iblk m c 6 t) (Rect.unit (s := S8x2560) (k0_off2 w) ![1, 2560] (k0_off2_inb w hk)) (ix2 0 n) = added m c (pos t r) n := by
  have h8 : w.toNat < 8 := by
    have := hk 0
    simp [k0_off2, Scalar.indexCast] at this
    omega
  refine (View.ld_unit_apply_of _ _ _ _ _ (ix2 (Fin.ofNat 8 w.toNat) n) fun j => ?_).trans ((blk6 m c t _ n).trans ?_)
  · match j with
    | 0 => simp [k0_off2, Scalar.indexCast, Fin.ofNat, Nat.mod_eq_of_lt h8]
    | 1 => simp [k0_off2, Scalar.indexCast]
  · unfold added row
    have hp : (⟨(pos t r).val / 256, by omega⟩ : Fin 4) = ⟨t.val, t.isLt⟩ := Fin.ext (by dsimp only [pos]; omega)
    rw [hp, hw]

/-- The layer norm plus the added row, of a row of a point's block. -/
theorem nrm_eq (c : Dev nD) (t : Fin cfg0.N) (r : Fin 256) (a : Vec Ideal S1x2560 .f32)
    (ha : ∀ n, a (ix2 0 n) = added m c (pos t r) n) :
    nrm (fun r n => res m c (pos t r) n) (iblk m c 7 t) (iblk m c 8 t) a r = nrmd m c (pos t r) := by
  funext n
  unfold nrmd
  have hg : (fun k => iblk m c 7 t (ix2 0 k)) = fun k => m ((c : Thread nD τ).loc main_arg7) (ix1 k) := funext fun k => blk7 m c t k
  have hb : (fun k => iblk m c 8 t (ix2 0 k)) = fun k => m ((c : Thread nD τ).loc main_arg8) (ix1 k) := funext fun k => blk8 m c t k
  exact congrArg₂ (fun x y : EReal => x + y) (congrFun (congrArg₂ (Spec.norm (res m c (pos t r))) hg hb) n) (ha n)

/-- What a point leaves in the codes' block -/
theorem block10 (hH : Hyps m) (c : Dev nD) (t : Fin cfg0.N) (y : S256x2560.Idx) :
    (outsAt0 m hH c t).2.1 y = cod m c (pos t (y 0)) (y 1) := by
  have h9 := block9 m hH c t
  unfold outsAt0 at h9 ⊢
  dsimp only at h9 ⊢
  frame_out at h9
  frame_out
  refine (loop_codes _ _ _ _ _ _ _ _ _ _ _ _ _ _ _ _ _ _ _ _ _ _ _ _ _ _ _ _ _ _ (fun r n => res m c (pos t r) n) (fun j => ?_) y).trans ?_
  · rw [View.read_writes_junk_eq_canon]
    exact h9 j
  · exact congrArg (fun f : Fin 2560 → EReal => Spec.code (f (y 1)) (Spec.scale f)) (nrm_eq m c t (y 0) _ (row_eq m c t _ (Hyps.c0 hH c t) (word m c t) (y 0)))

/-- and in the scales' block. -/
theorem block11 (hH : Hyps m) (c : Dev nD) (t : Fin cfg0.N) (y : S256x128.Idx) :
    (outsAt0 m hH c t).2.2 y = Spec.scale (nrmd m c (pos t (y 0))) := by
  have h9 := block9 m hH c t
  unfold outsAt0 at h9 ⊢
  dsimp only at h9 ⊢
  frame_out at h9
  frame_out
  refine (loop_scales _ _ _ _ _ _ _ _ _ _ _ _ _ _ _ _ _ _ _ _ _ _ _ _ _ _ _ _ _ _ (fun r n => res m c (pos t r) n) (fun j => ?_) y).trans ?_
  · rw [View.read_writes_junk_eq_canon]
    exact h9 j
  · exact congrArg Spec.scale (nrm_eq m c t (y 0) _ (row_eq m c t _ (Hyps.c0 hH c t) (word m c t) (y 0)))

/-- The residual sum's array after the run. -/
theorem final9 (hH : Hyps m) (c : Dev nD) : (dats m hH 0 c).arrAt 9 cfg0.N = fun i => res m c (i 0) (i 1) := by
  refine (dats m hH 0 c).arrAt_eq_of_covers 9 _ (by decide +kernel) fun t hf y => ?_
  blk_simp; rw [after0_9]
  refine (block9 m hH c t y).trans ?_
  exact congrArg₂ (res m c) (Fin.ext (by blk_simp [idx t]; dsimp only [pos]; omega)) (Fin.ext (by blk_simp [idx t]))

/-- The codes' array after the run. -/
theorem final10 (hH : Hyps m) (c : Dev nD) : (dats m hH 0 c).arrAt 10 cfg0.N = fun i => cod m c (i 0) (i 1) := by
  refine (dats m hH 0 c).arrAt_eq_of_covers 10 _ (by decide +kernel) fun t hf y => ?_
  blk_simp; rw [after0_10]
  refine (block10 m hH c t y).trans ?_
  exact congrArg₂ (cod m c) (Fin.ext (by blk_simp [idx t]; dsimp only [pos]; omega)) (Fin.ext (by blk_simp [idx t]))

/-- The scales' array after the run. -/
theorem final11 (hH : Hyps m) (c : Dev nD) : (dats m hH 0 c).arrAt 11 cfg0.N = fun i => Spec.scale (nrmd m c (i 0)) := by
  refine (dats m hH 0 c).arrAt_eq_of_covers 11 _ (by decide +kernel) fun t hf y => ?_
  blk_simp; rw [after0_11]
  refine (block11 m hH c t y).trans ?_
  exact congrArg (fun r => Spec.scale (nrmd m c r)) (Fin.ext (by blk_simp [idx t]; dsimp only [pos]; omega))

end Cert.ProjSKernelIdeal.Hand

end
-- ==== Proof.ProjSRef.lean ====
/- The reference of the spatial output projection: its three arrays after the run. -/
module

public import proofs.«01_k».proof.Proof.Gen.ProjSReferenceIdeal.Value
public import proofs.«01_k».proof.Proof.Spec
public import Idealize.ShloMosaic.Lib.Pipeline.ValueKit
public import Idealize.ShloMosaic.Lib.Routing.Ops

@[expose] public section

set_option maxRecDepth 16384

noncomputable section

namespace Cert.ProjSReferenceIdeal.Hand

open Cert.ProjSReferenceIdeal Cert.ProjSReferenceIdeal.Gen Idealize.ShloMosaic Idealize.ShloMosaic.TcCoe Idealize.SL.Sem
open Idealize.ShloMosaic.Pipeline (Dat)

variable (m : (ℓ : Loc nD τ sig) → Buf (Elt Ideal) ℓ)

/-- A weight: the heads' axis and the axis within a head are one. -/
def wgt (c : Dev nD) (k : Fin 2560) (n : Fin 2560) : EReal :=
  m ((c : Thread nD τ).loc main_arg3) (ix3 ⟨k.val / 128, by omega⟩ ⟨k.val % 128, by omega⟩ n)

/-- A code of the attention's result. -/
def act (c : Dev nD) (r : Fin 1024) (k : Fin 2560) : EReal := m ((c : Thread nD τ).loc main_arg1) (ix2 r k)

/-- The residual's entry. -/
def skip (c : Dev nD) (r : Fin 1024) (n : Fin 2560) : EReal := m ((c : Thread nD τ).loc main_arg5) (ix3 ⟨r.val / 256, by omega⟩ ⟨r.val % 256, by omega⟩ n)

/-- The residual sum at (`r`, `n`), over the argument arrays. -/
def res (c : Dev nD) (r : Fin 1024) (n : Fin 2560) : EReal :=
  skip m c r n
    + Spec.mm (act m c r) (m ((c : Thread nD τ).loc main_arg2) (ix1 r))
      (wgt m c) (fun n => m ((c : Thread nD τ).loc main_arg4) (ix1 n)) n

/-- The action id of part `p` of the batch, as a row number of the table. -/
def row (c : Dev nD) (p : Fin 4) : Fin 8 := Fin.ofNat 8 (BitVec.toNat (w := 32) (m ((c : Thread nD τ).loc main_arg0) (ix1 p)))

/-- The table's row that is added to row `r`. -/
def added (c : Dev nD) (r : Fin 1024) (n : Fin 2560) : EReal :=
  m ((c : Thread nD τ).loc main_arg6) (ix2 (row m c ⟨r.val / 256, by omega⟩) n)

/-- The layer norm plus the added row. -/
def nrmd (c : Dev nD) (r : Fin 1024) (n : Fin 2560) : EReal :=
  Spec.norm (res m c r) (fun k => m ((c : Thread nD τ).loc main_arg7) (ix1 k)) (fun k => m ((c : Thread nD τ).loc main_arg8) (ix1 k)) n
    + added m c r n

/-- The code of an entry of that sum. -/
def cod (c : Dev nD) (r : Fin 1024) (n : Fin 2560) : EReal := Spec.code (nrmd m c r n) (Spec.scale (nrmd m c r))

/-- Every block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- The residual sum at an index, over any operands. -/
theorem pay7_apply (x : Vec Ideal S1024x2560 .fp8e4m3) (s : Vec Ideal S1024x1 .f32) (w : Vec Ideal S2560x2560 .fp8e4m3)
    (ws : Vec Ideal S1x2560 .f32) (h : Vec Ideal S1024x2560 .f32) (r : Fin 1024) (n : Fin 2560)
    {X W : Fin 2560 → EReal} {a u v : EReal}
    (hx : ∀ k, x (ix2 r k) = X k) (hw : ∀ k, w (ix2 k n) = W k) (hs : s (ix2 r 0) = a)
    (hu : ws (ix2 0 n) = u) (hv : h (ix2 r n) = v) :
    k0_pay7 x s w ws h (ix2 r n) = v + (∑ k, X k * W k) * a * u := by
  pointwise [k0_pay7]
  simp only [hx, hw]
  rw [hs, hu, hv]

/-- The normalised row before its gain and shift, over any operands. -/
theorem pay8_apply (x : Vec Ideal S1024x2560 .fp8e4m3) (s : Vec Ideal S1024x1 .f32) (w : Vec Ideal S2560x2560 .fp8e4m3)
    (ws : Vec Ideal S1x2560 .f32) (h : Vec Ideal S1024x2560 .f32) (r : Fin 1024) (n : Fin 2560)
    {f : Fin 2560 → EReal} (hf : ∀ n, k0_pay7 x s w ws h (ix2 r n) = f n) :
    k0_pay8 x s w ws h (ix2 r n) = Spec.dev f n * Ideal.rsqrt (Spec.mean (fun k => Spec.dev f k * Spec.dev f k) + Spec.eps) := by
  obtain rfl := funext hf
  unfold k0_pay8 Spec.mean Spec.dev Spec.mean Spec.rowLen Spec.eps
  generalize k0_pay7 x s w ws h = Z
  pointwise []

/-- The layer norm plus the added row, over any operands. -/
theorem pay1_apply (a : Vec Ideal S1024x2560 .f32) (g b : Vec Ideal S1x2560 .f32) (Z : FVec Ideal S1024x2560 .f32) (r : Fin 1024) (n : Fin 2560)
    {z u v w : EReal} (hz : Z (ix2 r n) = z) (hg : g (ix2 0 n) = u) (hb : b (ix2 0 n) = v) (ha : a (ix2 r n) = w) :
    k0_pay1 (k0_pay5 a) (k0_pay6 b) Z (k0_pay9 g) (ix2 r n) = z * u + v + w := by
  rw [← hz, ← hg, ← hb, ← ha]
  pointwise [k0_pay1, k0_pay5, k0_pay6, k0_pay9]

/-- The reduction of a row to its maximum. -/
theorem red_apply (v : FVec Ideal S1024x2560 .f32) (r : Fin 1024) {f : Fin 2560 → EReal} (hf : ∀ n, v (ix2 r n) = f n) :
    multiReduction .maximumf [1] S1024 v 0xFF800000#32 reduces_S1024x2560_S1024 (.inl rfl) rfl (ix1 r)
      = Finset.univ.fold max ⊥ f := by
  have hb : Ideal.ofBits .f32 0xFF800000#32 = ⊥ := by decide
  obtain rfl : f = fun n => v (ix2 r n) := funext fun n => (hf n).symm
  pointwise
  rw [hb]

/-- The scale from the row maxima `M`. -/
theorem tail_apply (M : FVec Ideal S1024 .f32) (r : Fin 1024) (l : Fin 1) :
    select
          (cmpf CmpFPredicate.oeq (shapeCast S1024x1 M shapeCasts_S1024_S1024x1) (broadcast S1024x1 (Scalar.ofBits .f32 0x00000000#32)))
          (broadcast S1024x1 (Scalar.ofBits .f32 0x3F800000#32))
          (divf (shapeCast S1024x1 M shapeCasts_S1024_S1024x1) (broadcast S1024x1 (Scalar.ofBits .f32 0x43E00000#32))) (ix2 r l)
      = if M (ix1 r) = 0 then 1 else Ideal.div (M (ix1 r)) Spec.fmax := by
  unfold Spec.fmax
  pointwise

/-- The scale of a row, from its values `f`. -/
theorem scale_apply (a : FVec Ideal S1024x2560 .f32) (b : FVec Ideal S1x2560 .f32) (Z G : FVec Ideal S1024x2560 .f32) (r : Fin 1024) (l : Fin 1)
    {f : Fin 2560 → EReal} (hf : ∀ n, k0_pay1 a b Z G (ix2 r n) = f n) : k0_pay2 a b Z G (ix2 r l) = Spec.scale f := by
  have hM := red_apply (absf (k0_pay1 (F := Ideal) a b Z G)) r (f := fun n => max (f n) (-f n)) (fun n => by
    rw [← hf n]; rfl)
  unfold k0_pay2
  refine (tail_apply _ r l).trans ?_
  rw [hM]
  unfold Spec.scale Spec.amax
  with_reducible rfl

/-- The stored scales. -/
theorem scales_apply (a : FVec Ideal S1024x2560 .f32) (b : FVec Ideal S1x2560 .f32) (Z G : FVec Ideal S1024x2560 .f32) (r : Fin 1024) (l : Fin 128)
    {f : Fin 2560 → EReal} (hf : ∀ n, k0_pay1 a b Z G (ix2 r n) = f n) : k0_pay4 a b Z G (ix2 r l) = Spec.scale f := by
  rw [← scale_apply a b Z G r 0 hf]
  unfold k0_pay4
  generalize k0_pay2 a b Z G = W
  pointwise []

/-- A column over the lanes of a row. -/
theorem lanes_apply (W : FVec Ideal S1024x1 .f32) (r : Fin 1024) (n : Fin 2560) :
    broadcastTo S1024x2560 W broadcasts_S1024x1_S1024x2560 (ix2 r n) = W (ix2 r 0) := by
  pointwise []

/-- A quotient, clipped and rounded, at an index. -/
theorem clip_apply (Z Y : FVec Ideal S1024x2560 .f32) (i : S1024x2560.Idx) :
    truncf .fp8e4m3 (minimumf (broadcast S1024x2560 (Scalar.ofBits .f32 0x43E00000#32))
      (maximumf (broadcast S1024x2560 (Scalar.ofBits .f32 0xC3E00000#32)) (divf Z Y))) bitsLt_fp8e4m3_f32 i
      = Spec.code (Z i) (Y i) := by
  unfold Spec.code Spec.fmax Spec.fmin
  pointwise []

/-- The stored codes. -/
theorem codes_apply (a : FVec Ideal S1024x2560 .f32) (b : FVec Ideal S1x2560 .f32) (Z G : FVec Ideal S1024x2560 .f32) (r : Fin 1024) (n : Fin 2560)
    {f : Fin 2560 → EReal} (hf : ∀ n, k0_pay1 a b Z G (ix2 r n) = f n) : k0_pay3 a b Z G (ix2 r n) = Spec.code (f n) (Spec.scale f) := by
  rw [← scale_apply a b Z G r 0 hf, ← hf n]
  refine (clip_apply _ _ _).trans ?_
  rw [lanes_apply]

/-- The ids are row numbers of the table. -/
def Bound (c : Dev nD) : Prop := ∀ p : Fin 4, BitVec.toNat (w := 32) (m ((c : Thread nD τ).loc main_arg0) (ix1 p)) < 8

theorem blk0 (c : Dev nD) (t : Fin cfg0.N) (r : Fin 1024) (k : Fin 2560) :
    iblk m c 0 t (ix2 r k) = act m c r k := by
  unfold act
  blk_point [iblk, V, idx t]

theorem blk1 (c : Dev nD) (t : Fin cfg0.N) (r : Fin 1024) :
    iblk m c 1 t (ix2 r 0) = m ((c : Thread nD τ).loc main_arg2) (ix1 r) := by
  blk_point [iblk, V, idx t]

theorem blk2 (c : Dev nD) (t : Fin cfg0.N) (k : Fin 2560) (n : Fin 2560) :
    iblk m c 2 t (ix2 k n) = wgt m c k n := by
  unfold wgt
  blk_point [iblk, V, idx t]

theorem blk3 (c : Dev nD) (t : Fin cfg0.N) (n : Fin 2560) :
    iblk m c 3 t (ix2 0 n) = m ((c : Thread nD τ).loc main_arg4) (ix1 n) := by
  blk_point [iblk, V, idx t]

theorem blk4 (c : Dev nD) (t : Fin cfg0.N) (r : Fin 1024) (n : Fin 2560) :
    iblk m c 4 t (ix2 r n) = skip m c r n := by
  unfold skip
  blk_point [iblk, V, idx t]

/-- The row numbers the reference gathers at: an id below 0 counts from the table's end. -/
abbrev starts (I : IVec S4 32) : IVec S4x1 32 :=
  broadcastInDim S4x1 ![0] bcast_S4_S4x1_0
    (select (cmpi CmpIPredicate.slt I (broadcastInDim S4 ![] bcast_S_S4 (constantI S_ 32 0#32)))
      (addi I (broadcastInDim S4 ![] bcast_S_S4 (constantI S_ 32 8#32))) I)

/-- An id in range is taken as it is. -/
theorem pick (w : BitVec 32) (h : w.toNat < 8) :
    Scalar.select (IntOp.cmpi .slt w 0#32) (IntOp.addi w 8#32) w = BitVec.ofNat 32 (Fin.ofNat 8 w.toNat).val := by
  have hs : IntOp.cmpi .slt w 0#32 = 0#1 := by
    have hw : w.slt 0#32 = false := by
      simp only [BitVec.slt, decide_eq_false_iff_not, BitVec.toInt, BitVec.toNat_ofNat]
      split <;> omega
    simp only [IntOp.cmpi, hw]
    rfl
  rw [hs]
  apply BitVec.eq_of_toNat_eq
  simp [Scalar.select, Fin.ofNat]
  omega

/-- A gathered row is the table's row of its id. -/
theorem gathered (T : Vec Ideal S8x2560 .f32) (I : IVec S4 32) (p : Fin 4) (n : Fin 2560) (h : (I (ix1 p)).toNat < 8) :
    Host.gather gather_S8x2560_S4x1_S4x2560_1_0_n_n_0_1_12560 T (starts I) (ix2 p n) = T (ix2 (Fin.ofNat 8 (I (ix1 p)).toNat) n) := by
  refine Routing.gather_row gather_S8x2560_S4x1_S4x2560_1_0_n_n_0_1_12560 rfl rfl rfl rfl rfl T (starts I) p n _ ?_ (by decide)
  refine Eq.trans ?_ (pick _ h)
  pointwise []

/-- The added rows the reference gathers on the host. -/
theorem blk5 (c : Dev nD) (hb : Bound m c) (t : Fin cfg0.N) (r : Fin 1024) (n : Fin 2560) :
    iblk m c 5 t (ix2 r n) = added m c r n := by
  blk_simp [iblk, V, idx t]
  entry_read
  pointwise []
  have hn : ((View.whole main_v9).slice (win0_5.rect t)).emb (ix2 r n) 1 = n :=
    Fin.ext (by blk_simp [idx t])
  have hr : (((View.whole main_v9).slice (win0_5.rect t)).emb (ix2 r n) 0).val = r.val := by
    blk_simp [idx t]
  unfold added row
  refine Eq.trans ?_ (gathered (m ((c : Thread nD τ).loc main_arg6))
    (m ((c : Thread nD τ).loc main_arg0)) ⟨r.val / 256, by omega⟩ n (hb _))
  refine congrArg (Host.gather gather_S8x2560_S4x1_S4x2560_1_0_n_n_0_1_12560 _ _) ?_
  exact congrArg₂ ix2 (Fin.ext (congrArg (· / 256) hr)) hn

theorem blk6 (c : Dev nD) (t : Fin cfg0.N) (n : Fin 2560) :
    iblk m c 6 t (ix2 0 n) = m ((c : Thread nD τ).loc main_arg7) (ix1 n) := by
  blk_point [iblk, V, idx t]

theorem blk7 (c : Dev nD) (t : Fin cfg0.N) (n : Fin 2560) :
    iblk m c 7 t (ix2 0 n) = m ((c : Thread nD τ).loc main_arg8) (ix1 n) := by
  blk_point [iblk, V, idx t]

/-- The residual sum of the run's blocks. -/
theorem sum_apply (c : Dev nD) (t : Fin cfg0.N) (r : Fin 1024) (n : Fin 2560) :
    k0_pay7 (F := Ideal) (iblk m c 0 t) (iblk m c 1 t) (iblk m c 2 t) (iblk m c 3 t) (iblk m c 4 t) (ix2 r n) = res m c r n :=
  pay7_apply _ _ _ _ _ r n (blk0 m c t r) (fun k => blk2 m c t k n) (blk1 m c t r) (blk3 m c t n) (blk4 m c t r n)

/-- The layer norm plus the added row, of the run's blocks. -/
theorem norm_apply (c : Dev nD) (hb : Bound m c) (t : Fin cfg0.N) (r : Fin 1024) (n : Fin 2560) :
    k0_pay1 (F := Ideal) (k0_pay5 (iblk m c 5 t)) (k0_pay6 (iblk m c 7 t))
        (k0_pay8 (iblk m c 0 t) (iblk m c 1 t) (iblk m c 2 t) (iblk m c 3 t) (iblk m c 4 t)) (k0_pay9 (iblk m c 6 t)) (ix2 r n)
      = nrmd m c r n :=
  pay1_apply _ _ _ _ r n (pay8_apply _ _ _ _ _ r n (sum_apply m c t r)) (blk6 m c t n) (blk7 m c t n) (blk5 m c hb t r n)

/-- The payloads read at whole blocks. -/
theorem pay10_eq (x0 x1 x2 x3 x4 x5 x6 x7) : k0_pay10 (F := Ideal) x0 x1 x2 x3 x4 x5 x6 x7 = k0_pay5 x5 := by
  unfold k0_pay10; frame_out
theorem pay11_eq (x0 x1 x2 x3 x4 x5 x6 x7) : k0_pay11 (F := Ideal) x0 x1 x2 x3 x4 x5 x6 x7 = k0_pay6 x7 := by
  unfold k0_pay11; frame_out
theorem pay12_eq (x0 x1 x2 x3 x4 x5 x6 x7) : k0_pay12 (F := Ideal) x0 x1 x2 x3 x4 x5 x6 x7 = k0_pay8 x0 x1 x2 x3 x4 := by
  unfold k0_pay12; frame_out
theorem pay13_eq (x0 x1 x2 x3 x4 x5 x6 x7) : k0_pay13 (F := Ideal) x0 x1 x2 x3 x4 x5 x6 x7 = k0_pay9 x6 := by
  unfold k0_pay13; frame_out

theorem out8 (c : Dev nD) (t : Fin cfg0.N) (y : S1024x2560.Idx) :
    out0_8 (F := Ideal) (iblk m c 0 t) (iblk m c 1 t) (iblk m c 2 t) (iblk m c 3 t) (iblk m c 4 t) (iblk m c 5 t) (iblk m c 6 t) (iblk m c 7 t) y
      = res m c (y 0) (y 1) := by
  frame_out
  have hy : y = ix2 (y 0) (y 1) := by blk_ext []
  rw [hy]
  exact sum_apply m c t (y 0) (y 1)

theorem out9 (c : Dev nD) (hb : Bound m c) (t : Fin cfg0.N) (y : S1024x2560.Idx) :
    out0_9 (F := Ideal) (iblk m c 0 t) (iblk m c 1 t) (iblk m c 2 t) (iblk m c 3 t) (iblk m c 4 t) (iblk m c 5 t) (iblk m c 6 t) (iblk m c 7 t) y
      = cod m c (y 0) (y 1) := by
  frame_out
  rw [pay10_eq, pay11_eq, pay12_eq, pay13_eq]
  have hy : y = ix2 (y 0) (y 1) := by blk_ext []
  rw [hy]
  exact codes_apply _ _ _ _ (y 0) (y 1) (norm_apply m c hb t (y 0))

theorem out10 (c : Dev nD) (hb : Bound m c) (t : Fin cfg0.N) (y : S1024x128.Idx) :
    out0_10 (F := Ideal) (iblk m c 0 t) (iblk m c 1 t) (iblk m c 2 t) (iblk m c 3 t) (iblk m c 4 t) (iblk m c 5 t) (iblk m c 6 t) (iblk m c 7 t) y
      = Spec.scale (nrmd m c (y 0)) := by
  frame_out
  rw [pay10_eq, pay11_eq, pay12_eq, pay13_eq]
  have hy : y = ix2 (y 0) (y 1) := by blk_ext []
  rw [hy]
  exact scales_apply _ _ _ _ (y 0) (y 1) (norm_apply m c hb t (y 0))

/-- The residual sum's array after the run. -/
theorem final8 (c : Dev nD) : (dats m 0 c).arrAt 8 cfg0.N = fun i => res m c (i 0) (i 1) := by
  refine (dats m 0 c).arrAt_eq_of_covers 8 _ (by decide +kernel) fun t hf y => ?_
  blk_simp; rw [after0_8]
  refine (out8 m c t y).trans ?_
  exact congrArg₂ (res m c) (Fin.ext (by blk_simp [idx t])) (Fin.ext (by blk_simp [idx t]))

/-- The codes' array after the run. -/
theorem final9 (c : Dev nD) (hb : Bound m c) : (dats m 0 c).arrAt 9 cfg0.N = fun i => cod m c (i 0) (i 1) := by
  refine (dats m 0 c).arrAt_eq_of_covers 9 _ (by decide +kernel) fun t hf y => ?_
  blk_simp; rw [after0_9]
  refine (out9 m c hb t y).trans ?_
  exact congrArg₂ (cod m c) (Fin.ext (by blk_simp [idx t])) (Fin.ext (by blk_simp [idx t]))

/-- The scales' array after the run. -/
theorem final10 (c : Dev nD) (hb : Bound m c) : (dats m 0 c).arrAt 10 cfg0.N = fun i => Spec.scale (nrmd m c (i 0)) := by
  refine (dats m 0 c).arrAt_eq_of_covers 10 _ (by decide +kernel) fun t hf y => ?_
  blk_simp; rw [after0_10]
  refine (out10 m c hb t y).trans ?_
  exact congrArg (fun r => Spec.scale (nrmd m c r)) (Fin.ext (by blk_simp [idx t]))

end Cert.ProjSReferenceIdeal.Hand

end
-- ==== Proof.ProjSIds.lean ====
/- The precondition, read: every action id is a row number of the table. -/
module

public import proofs.«01_k».proof.Proof.Gen.Pre_ids_in_table

@[expose] public section

namespace Cert.Proof.ProjS

open Idealize.ShloMosaic

theorem andi_one (a b : BitVec 1) : IntOp.andi a b = 1#1 ↔ a = 1#1 ∧ b = 1#1 := by revert a b; decide

theorem ofBool_eq_one (p : Bool) : (BitVec.ofBool p = 1#1) ↔ p = true := by cases p <;> decide

/-- A word that is at least 0 and below 8 as a signed number is below 8 as a natural number. -/
theorem word_lt (w : BitVec 32) (h0 : IntOp.cmpi .sge w 0#32 = 1#1) (h8 : IntOp.cmpi .slt w 8#32 = 1#1) : w.toNat < 8 := by
  simp only [ofBool_eq_one, IntOp.cmpi, BitVec.sle, BitVec.slt, decide_eq_true_eq, BitVec.toInt, BitVec.toNat_ofNat] at h0 h8
  have := w.isLt
  split at h0 <;> split at h8 <;> omega

/-- The precondition bounds every id. -/
theorem ids_lt {F : FTy → Type} [FloatOps F] {a0 : IVec Cert.Pre_ids_in_table.S4 32} {a1 a2 a3 a4 a5 a6 a7 a8}
    (h : Cert.Pre_ids_in_table.fn (F := F) a0 a1 a2 a3 a4 a5 a6 a7 a8 = fun _ => 1#1) (i : Cert.Pre_ids_in_table.S4.Idx) :
    (a0 i).toNat < 8 := by
  have hi := congrFun h i
  simp only [Cert.Pre_ids_in_table.fn, constantI, broadcastInDim, cmpi, andi, andi_one] at hi
  exact word_lt _ hi.1 hi.2

end Cert.Proof.ProjS
-- ==== Proof.ProjSHyps.lean ====
/- The word a grid point of the spatial output projection reads is an action id; from the precondition the row it
   names lies in the table, which is the side condition of the body's row load. -/
module

public import proofs.«01_k».proof.Defs
public import proofs.«01_k».proof.Proof.ProjSIds
public import proofs.«01_k».proof.Proof.ProjSPFrame
public import proofs.«01_k».proof.Proof.ProjSIFrame

@[expose] public section

namespace Cert.ProjSKernel.Body

open Cert.ProjSKernel Cert.ProjSKernel.Gen
open Idealize.ShloMosaic Idealize.ShloMosaic.TcCoe

/-- A word below 8 names a row of the table. -/
theorem chk_of_lt (v : BitVec 32) (h : v.toNat < 8) : k0_chk1 v := by
  unfold k0_chk1 k0_off2
  intro a
  fin_cases a <;> simp [Scalar.indexCast] <;> omega

/-- The precondition gives the body's side conditions. -/
theorem hyps_of_pre (m : (ℓ : Loc nD τ sig) → Buf (Elt Bits) ℓ) (h : Cert.Pre_ProjSKernel m) : Hyps m := by
  intro c t
  have rd : ∀ i, BitVec.toNat (w := 32) (iblk m c 0 t i) < 8 := fun i => by
    unfold iblk; rw [View.read_apply, cast_eq]; exact Cert.Proof.ProjS.ids_lt (h c) _
  rw [View.readAt_apply]
  exact chk_of_lt _ ((congrArg (BitVec.toNat (w := 32)) (congrFun ((hs0_0 t).read_unread (iblk m c 0 t)) _)).trans_lt (rd _))

end Cert.ProjSKernel.Body

namespace Cert.ProjSKernelIdeal.Body

open Cert.ProjSKernelIdeal Cert.ProjSKernelIdeal.Gen
open Idealize.ShloMosaic Idealize.ShloMosaic.TcCoe

/-- A word below 8 names a row of the table. -/
theorem chk_of_lt (v : BitVec 32) (h : v.toNat < 8) : k0_chk1 v := by
  unfold k0_chk1 k0_off2
  intro a
  fin_cases a <;> simp [Scalar.indexCast] <;> omega

/-- The precondition gives the body's side conditions. -/
theorem hyps_of_pre (m : (ℓ : Loc nD τ sig) → Buf (Elt Ideal) ℓ) (h : Cert.Pre_ProjSKernelIdeal m) : Hyps m := by
  intro c t
  have rd : ∀ i, BitVec.toNat (w := 32) (iblk m c 0 t i) < 8 := fun i => by
    unfold iblk; rw [View.read_apply, cast_eq]; exact Cert.Proof.ProjS.ids_lt (h c) _
  rw [View.readAt_apply]
  exact chk_of_lt _ ((congrArg (BitVec.toNat (w := 32)) (congrFun ((hs0_0 t).read_unread (iblk m c 0 t)) _)).trans_lt (rd _))

end Cert.ProjSKernelIdeal.Body
-- ==== Proof.ProjSClaim.lean ====
/- The spatial output projection computes its reference, over the extended reals. -/
module

public import proofs.«01_k».proof.Defs
public import proofs.«01_k».proof.Proof.ProjSBlock
public import proofs.«01_k».proof.Proof.ProjSRef
public import proofs.«01_k».proof.Proof.ProjSHyps
public import Idealize.ShloMosaic.Lib.Claim

@[expose] public section

set_option maxRecDepth 16384

noncomputable section

namespace Cert.Proof.ProjS

open Idealize.ShloMosaic Idealize.ShloMosaic.TcCoe Idealize.SL.Sem

variable (m : (ℓ : Loc Cert.ProjSKernelIdeal.nD Cert.ProjSKernelIdeal.τ Cert.ProjSKernelIdeal.sig) → Buf (Elt Ideal) ℓ)
  (m' : (ℓ : Loc Cert.ProjSReferenceIdeal.nD Cert.ProjSReferenceIdeal.τ Cert.ProjSReferenceIdeal.sig) → Buf (Elt Ideal) ℓ)
  (c : Dev Cert.ProjSKernelIdeal.nD)

/-- The two programs' arguments are equal. -/
abbrev Same : Prop :=
  m' ((c : Thread Cert.ProjSReferenceIdeal.nD Cert.ProjSReferenceIdeal.τ).loc Cert.ProjSReferenceIdeal.main_arg0) = m ((c : Thread Cert.ProjSKernelIdeal.nD Cert.ProjSKernelIdeal.τ).loc Cert.ProjSKernelIdeal.main_arg0)
    ∧ m' ((c : Thread Cert.ProjSReferenceIdeal.nD Cert.ProjSReferenceIdeal.τ).loc Cert.ProjSReferenceIdeal.main_arg1) = m ((c : Thread Cert.ProjSKernelIdeal.nD Cert.ProjSKernelIdeal.τ).loc Cert.ProjSKernelIdeal.main_arg1)
    ∧ m' ((c : Thread Cert.ProjSReferenceIdeal.nD Cert.ProjSReferenceIdeal.τ).loc Cert.ProjSReferenceIdeal.main_arg2) = m ((c : Thread Cert.ProjSKernelIdeal.nD Cert.ProjSKernelIdeal.τ).loc Cert.ProjSKernelIdeal.main_arg2)
    ∧ m' ((c : Thread Cert.ProjSReferenceIdeal.nD Cert.ProjSReferenceIdeal.τ).loc Cert.ProjSReferenceIdeal.main_arg3) = m ((c : Thread Cert.ProjSKernelIdeal.nD Cert.ProjSKernelIdeal.τ).loc Cert.ProjSKernelIdeal.main_arg3)
    ∧ m' ((c : Thread Cert.ProjSReferenceIdeal.nD Cert.ProjSReferenceIdeal.τ).loc Cert.ProjSReferenceIdeal.main_arg4) = m ((c : Thread Cert.ProjSKernelIdeal.nD Cert.ProjSKernelIdeal.τ).loc Cert.ProjSKernelIdeal.main_arg4)
    ∧ m' ((c : Thread Cert.ProjSReferenceIdeal.nD Cert.ProjSReferenceIdeal.τ).loc Cert.ProjSReferenceIdeal.main_arg5) = m ((c : Thread Cert.ProjSKernelIdeal.nD Cert.ProjSKernelIdeal.τ).loc Cert.ProjSKernelIdeal.main_arg5)
    ∧ m' ((c : Thread Cert.ProjSReferenceIdeal.nD Cert.ProjSReferenceIdeal.τ).loc Cert.ProjSReferenceIdeal.main_arg6) = m ((c : Thread Cert.ProjSKernelIdeal.nD Cert.ProjSKernelIdeal.τ).loc Cert.ProjSKernelIdeal.main_arg6)
    ∧ m' ((c : Thread Cert.ProjSReferenceIdeal.nD Cert.ProjSReferenceIdeal.τ).loc Cert.ProjSReferenceIdeal.main_arg7) = m ((c : Thread Cert.ProjSKernelIdeal.nD Cert.ProjSKernelIdeal.τ).loc Cert.ProjSKernelIdeal.main_arg7)
    ∧ m' ((c : Thread Cert.ProjSReferenceIdeal.nD Cert.ProjSReferenceIdeal.τ).loc Cert.ProjSReferenceIdeal.main_arg8) = m ((c : Thread Cert.ProjSKernelIdeal.nD Cert.ProjSKernelIdeal.τ).loc Cert.ProjSKernelIdeal.main_arg8)

/-- The two programs' residual sums, from equal arguments, -/
theorem res (h : Same m m' c) : Cert.ProjSReferenceIdeal.Hand.res m' c = Cert.ProjSKernelIdeal.Hand.res m c := by
  obtain ⟨e0, e1, e2, e3, e4, e5, e6, e7, e8⟩ := h
  funext r n
  unfold Cert.ProjSReferenceIdeal.Hand.res Cert.ProjSKernelIdeal.Hand.res Cert.ProjSReferenceIdeal.Hand.skip Cert.ProjSKernelIdeal.Hand.skip
  have ha : Cert.ProjSReferenceIdeal.Hand.act m' c = Cert.ProjSKernelIdeal.Hand.act m c := by
    funext r k
    unfold Cert.ProjSReferenceIdeal.Hand.act Cert.ProjSKernelIdeal.Hand.act
    rw [e1]
  have hw : Cert.ProjSReferenceIdeal.Hand.wgt m' c = Cert.ProjSKernelIdeal.Hand.wgt m c := by
    funext k n
    unfold Cert.ProjSReferenceIdeal.Hand.wgt Cert.ProjSKernelIdeal.Hand.wgt
    rw [e3]
  rw [ha, hw, e2, e4, e5]

/-- their normalised rows with the table's rows added -/
theorem nrmd (h : Same m m' c) : Cert.ProjSReferenceIdeal.Hand.nrmd m' c = Cert.ProjSKernelIdeal.Hand.nrmd m c := by
  have hr := res m m' c h
  obtain ⟨e0, e1, e2, e3, e4, e5, e6, e7, e8⟩ := h
  funext r n
  unfold Cert.ProjSReferenceIdeal.Hand.nrmd Cert.ProjSKernelIdeal.Hand.nrmd
  have ha : Cert.ProjSReferenceIdeal.Hand.added m' c = Cert.ProjSKernelIdeal.Hand.added m c := by
    funext r n
    unfold Cert.ProjSReferenceIdeal.Hand.added Cert.ProjSKernelIdeal.Hand.added Cert.ProjSReferenceIdeal.Hand.row Cert.ProjSKernelIdeal.Hand.row
    rw [e0, e6]
  rw [hr, ha, e7, e8]

/-- and their codes. -/
theorem cod (h : Same m m' c) : Cert.ProjSReferenceIdeal.Hand.cod m' c = Cert.ProjSKernelIdeal.Hand.cod m c := by
  funext r n
  unfold Cert.ProjSReferenceIdeal.Hand.cod Cert.ProjSKernelIdeal.Hand.cod
  rw [nrmd m m' c h]

/-- The reference's ids are in the table. -/
theorem bound (hp : Cert.Pre_ProjSKernelIdeal m) (h : Same m m' c) : Cert.ProjSReferenceIdeal.Hand.Bound m' c := by
  intro p
  rw [h.1]
  exact ids_lt (hp c) _

/-- The two results agree for all arguments whose ids name rows of the table. -/
theorem agree : Cert.algebraic_ProjSKernelIdeal_ProjSReferenceIdeal := by
  pair_intro
  · run_from Cert.ProjSKernelIdeal.Value.run_blocks m g (Cert.ProjSKernelIdeal.Body.hyps_of_pre m hpre)
  · run_from Cert.ProjSReferenceIdeal.Value.run_blocks m' g'
    · rw [Cert.ProjSReferenceIdeal.Hand.final8, Cert.ProjSKernelIdeal.Hand.final9, res m m' c (hagree c)]; rfl
    · rw [Cert.ProjSReferenceIdeal.Hand.final9 m' c (bound m m' c hpre (hagree c)), Cert.ProjSKernelIdeal.Hand.final10, cod m m' c (hagree c)]; rfl
    · rw [Cert.ProjSReferenceIdeal.Hand.final10 m' c (bound m m' c hpre (hagree c)), Cert.ProjSKernelIdeal.Hand.final11, nrmd m m' c (hagree c)]; rfl

end Cert.Proof.ProjS

end
-- ==== Proof.SpatISkeleton.lean ====
/- The body of `SpatKernelIdeal` as its memory operations over named payloads: each value the body stores or carries is a definition
   over the values read before it, and each printed function is shown to be its skeleton by unfolding. -/
module

public import proofs.«01_k».proof.Proof.Gen.SpatKernelIdeal

@[expose] public section

set_option synthInstance.maxSize 4096

noncomputable section

namespace Cert.SpatKernelIdeal.Body

open Cert.SpatKernelIdeal Cert.SpatKernelIdeal.Gen

open Idealize.ShloMosaic Idealize.SL.Sem

variable {F : FTy → Type} [FloatOps F]

noncomputable def k0_pay1 (v285 : FVec F S256x128 .f32) (v313 : FVec F S256x128 .f32) (v314 : Vec F S256x128 .f32) : FVec F S256x128 .f32 :=
  have v315 : FVec F S256x128 .f32 := maximumf v285 v313
  have v316 : FVec F S256x128 .f32 := maximumf v314 v315
  have v319 : FVec F S256x128 .f32 := shapeCast S256x128 v316 shapeCasts_S256x128_S256x128
  v319

noncomputable def k0_pay2 (v441 : FVec F S32x256 .f32) (v442 : FVec F S32x256 .f32) : FVec F S32x256 .fp8e4m3 :=
  have v443 : FVec F S32x256 .f32 := minimumf v442 v441
  have v444 : FVec F S32x256 .fp8e4m3 := truncf .fp8e4m3 v443 bitsLt_fp8e4m3_f32
  v444

noncomputable def k0_pay3 (v334 : FVec F S32x1 .f32) (v448 : Vec F S1x32x256 .f32) : FVec F S32x256 .fp8e4m3 :=
  have v449 : FVec F S32x256 .f32 := shapeCast S32x256 v448 shapeCasts_S1x32x256_S32x256
  have v450 : FVec F S32x256 .f32 := broadcastTo S32x256 v334 broadcasts_S32x1_S32x256
  have v451 : FVec F S32x256 .f32 := divf v449 v450
  have cst_247 : F .f32 := Scalar.ofBits .f32 0xC3E00000#32
  have cst_248 : F .f32 := Scalar.ofBits .f32 0x43E00000#32
  have v452 : FVec F S32x256 .f32 := broadcast S32x256 cst_247
  have v453 : FVec F S32x256 .f32 := maximumf v452 v451
  have v454 : FVec F S32x256 .f32 := broadcast S32x256 cst_248
  have v455 : FVec F S32x256 .f32 := minimumf v454 v453
  have v456 : FVec F S32x256 .fp8e4m3 := truncf .fp8e4m3 v455 bitsLt_fp8e4m3_f32
  v456

noncomputable def k0_pay4 (v324 : FVec F S1x2560 .f32) (v326 : FVec F S1x2560 .f32) (v334 : Vec F S32x2560 .bf16) : FVec F S32x2560 .f32 :=
  have v335 : FVec F S32x2560 .bf16 := shapeCast S32x2560 v334 shapeCasts_S32x2560_S32x2560
  have v336 : FVec F S32x2560 .f32 := extf .f32 v335 bitsLt_bf16_f32
  have v337 : FVec F S32 .f32 := multiReduction .add [1] S32 v336 0x00000000#32 reduces_S32x2560_S32 (.inl rfl) rfl
  have v338 : FVec F S32x1 .f32 := shapeCast S32x1 v337 shapeCasts_S32_S32x1
  have cst_215 : F .f32 := Scalar.ofBits .f32 0x45200000#32
  have v339 : FVec F S32x1 .f32 := broadcast S32x1 cst_215
  have v340 : FVec F S32x1 .f32 := divf v338 v339
  have v341 : FVec F S32x2560 .f32 := broadcastTo S32x2560 v340 broadcasts_S32x1_S32x2560
  have v342 : FVec F S32x2560 .f32 := subf v336 v341
  have v343 : FVec F S32x2560 .f32 := mulf v342 v342
  have v344 : FVec F S32 .f32 := multiReduction .add [1] S32 v343 0x00000000#32 reduces_S32x2560_S32 (.inl rfl) rfl
  have v345 : FVec F S32x1 .f32 := shapeCast S32x1 v344 shapeCasts_S32_S32x1
  have cst_217 : F .f32 := Scalar.ofBits .f32 0x45200000#32
  have v346 : FVec F S32x1 .f32 := broadcast S32x1 cst_217
  have v347 : FVec F S32x1 .f32 := divf v345 v346
  have cst_218 : F .f32 := Scalar.ofBits .f32 0x3727C5AC#32
  have v348 : FVec F S32x1 .f32 := broadcast S32x1 cst_218
  have v349 : FVec F S32x1 .f32 := addf v347 v348
  have v350 : FVec F S32x1 .f32 := rsqrt v349
  have v351 : FVec F S32x2560 .f32 := broadcastTo S32x2560 v350 broadcasts_S32x1_S32x2560
  have v352 : FVec F S32x2560 .f32 := mulf v342 v351
  have v353 : FVec F S32x2560 .f32 := broadcastTo S32x2560 v324 broadcasts_S1x2560_S32x2560
  have v354 : FVec F S32x2560 .f32 := mulf v352 v353
  have v355 : FVec F S32x2560 .f32 := broadcastTo S32x2560 v326 broadcasts_S1x2560_S32x2560
  have v356 : FVec F S32x2560 .f32 := addf v354 v355
  v356

noncomputable def k0_pay5 (v324 : FVec F S1x2560 .f32) (v326 : FVec F S1x2560 .f32) (v334 : Vec F S32x2560 .bf16) : FVec F S32x1 .f32 :=
  have v357 : FVec F S32x2560 .f32 := absf (k0_pay4 v324 v326 v334)
  have v358 : FVec F S32 .f32 := multiReduction .maximumf [1] S32 v357 0xFF800000#32 reduces_S32x2560_S32 (.inl rfl) rfl
  have v359 : FVec F S32x1 .f32 := shapeCast S32x1 v358 shapeCasts_S32_S32x1
  have cst_220 : F .f32 := Scalar.ofBits .f32 0x00000000#32
  have v360 : FVec F S32x1 .f32 := broadcast S32x1 cst_220
  have v361 : IVec S32x1 1 := cmpf .oeq v359 v360
  have cst_221 : F .f32 := Scalar.ofBits .f32 0x43E00000#32
  have v362 : FVec F S32x1 .f32 := broadcast S32x1 cst_221
  have v363 : FVec F S32x1 .f32 := divf v359 v362
  have cst_222 : F .f32 := Scalar.ofBits .f32 0x3F800000#32
  have v364 : FVec F S32x1 .f32 := broadcast S32x1 cst_222
  have v365 : FVec F S32x1 .f32 := select v361 v364 v363
  v365

noncomputable def k0_pay6 (v324 : FVec F S1x2560 .f32) (v326 : FVec F S1x2560 .f32) (v334 : Vec F S32x2560 .bf16) : FVec F S32x2560 .fp8e4m3 :=
  have v366 : FVec F S32x2560 .f32 := broadcastTo S32x2560 (k0_pay5 v324 v326 v334) broadcasts_S32x1_S32x2560
  have v367 : FVec F S32x2560 .f32 := divf (k0_pay4 v324 v326 v334) v366
  have cst_223 : F .f32 := Scalar.ofBits .f32 0xC3E00000#32
  have cst_224 : F .f32 := Scalar.ofBits .f32 0x43E00000#32
  have v368 : FVec F S32x2560 .f32 := broadcast S32x2560 cst_223
  have v369 : FVec F S32x2560 .f32 := maximumf v368 v367
  have v370 : FVec F S32x2560 .f32 := broadcast S32x2560 cst_224
  have v371 : FVec F S32x2560 .f32 := minimumf v370 v369
  have v372 : FVec F S32x2560 .fp8e4m3 := truncf .fp8e4m3 v371 bitsLt_fp8e4m3_f32
  v372

noncomputable def k0_pay7 (v324 : FVec F S1x2560 .f32) (v326 : FVec F S1x2560 .f32) (v334 : Vec F S32x2560 .bf16) : FVec F S32x1 .f32 :=
  have v375 : FVec F S32x1 .f32 := shapeCast S32x1 (k0_pay5 v324 v326 v334) shapeCasts_S32x1_S32x1
  v375

noncomputable def k0_pay8 (v326 : Vec F S32x128 .f32) : FVec F S32x1 .f32 :=
  have v327 : FVec F S32 .f32 := multiReduction .maximumf [1] S32 v326 0xFF800000#32 reduces_S32x128_S32 (.inl rfl) rfl
  have v328 : FVec F S32x1 .f32 := shapeCast S32x1 v327 shapeCasts_S32_S32x1
  have cst_208 : F .f32 := Scalar.ofBits .f32 0x00000000#32
  have v329 : FVec F S32x1 .f32 := broadcast S32x1 cst_208
  have v330 : IVec S32x1 1 := cmpf .oeq v328 v329
  have cst_209 : F .f32 := Scalar.ofBits .f32 0x43E00000#32
  have v331 : FVec F S32x1 .f32 := broadcast S32x1 cst_209
  have v332 : FVec F S32x1 .f32 := divf v328 v331
  have cst_210 : F .f32 := Scalar.ofBits .f32 0x3F800000#32
  have v333 : FVec F S32x1 .f32 := broadcast S32x1 cst_210
  have v334 : FVec F S32x1 .f32 := select v330 v333 v332
  v334

noncomputable def k0_pay9 (v326 : Vec F S32x128 .f32) : FVec F S32x128 .f32 :=
  have v335 : FVec F S32x1 .f32 := shapeCast S32x1 (k0_pay8 v326) shapeCasts_S32x1_S32x1
  have v336 : FVec F S32x128 .f32 := broadcastTo S32x128 v335 broadcasts_S32x1_S32x128
  v336

noncomputable def k0_pay10 (v326 : Vec F S32x128 .f32) (v340 : Vec F S1x32x256 .f32) : FVec F S32x256 .fp8e4m3 :=
  have v341 : FVec F S32x256 .f32 := shapeCast S32x256 v340 shapeCasts_S1x32x256_S32x256
  have v342 : FVec F S32x256 .f32 := broadcastTo S32x256 (k0_pay8 v326) broadcasts_S32x1_S32x256
  have v343 : FVec F S32x256 .f32 := divf v341 v342
  have cst_214 : F .f32 := Scalar.ofBits .f32 0xC3E00000#32
  have cst_215 : F .f32 := Scalar.ofBits .f32 0x43E00000#32
  have v344 : FVec F S32x256 .f32 := broadcast S32x256 cst_214
  have v345 : FVec F S32x256 .f32 := maximumf v344 v343
  have v346 : FVec F S32x256 .f32 := broadcast S32x256 cst_215
  have v347 : FVec F S32x256 .f32 := minimumf v346 v345
  have v348 : FVec F S32x256 .fp8e4m3 := truncf .fp8e4m3 v347 bitsLt_fp8e4m3_f32
  v348

noncomputable def k0_pay11 (v326 : Vec F S32x128 .f32) (v352 : Vec F S1x32x256 .f32) : FVec F S32x256 .fp8e4m3 :=
  have v353 : FVec F S32x256 .f32 := shapeCast S32x256 v352 shapeCasts_S1x32x256_S32x256
  have v354 : FVec F S32x256 .f32 := broadcastTo S32x256 (k0_pay8 v326) broadcasts_S32x1_S32x256
  have v355 : FVec F S32x256 .f32 := divf v353 v354
  have cst_219 : F .f32 := Scalar.ofBits .f32 0xC3E00000#32
  have cst_220 : F .f32 := Scalar.ofBits .f32 0x43E00000#32
  have v356 : FVec F S32x256 .f32 := broadcast S32x256 cst_219
  have v357 : FVec F S32x256 .f32 := maximumf v356 v355
  have v358 : FVec F S32x256 .f32 := broadcast S32x256 cst_220
  have v359 : FVec F S32x256 .f32 := minimumf v358 v357
  have v360 : FVec F S32x256 .fp8e4m3 := truncf .fp8e4m3 v359 bitsLt_fp8e4m3_f32
  v360

noncomputable def k0_pay12 (v334 : FVec F S32x1 .f32) (v364 : Vec F S1x32x256 .f32) : FVec F S32x256 .fp8e4m3 :=
  have v365 : FVec F S32x256 .f32 := shapeCast S32x256 v364 shapeCasts_S1x32x256_S32x256
  have v366 : FVec F S32x256 .f32 := broadcastTo S32x256 v334 broadcasts_S32x1_S32x256
  have v367 : FVec F S32x256 .f32 := divf v365 v366
  have cst_224 : F .f32 := Scalar.ofBits .f32 0xC3E00000#32
  have cst_225 : F .f32 := Scalar.ofBits .f32 0x43E00000#32
  have v368 : FVec F S32x256 .f32 := broadcast S32x256 cst_224
  have v369 : FVec F S32x256 .f32 := maximumf v368 v367
  have v370 : FVec F S32x256 .f32 := broadcast S32x256 cst_225
  have v371 : FVec F S32x256 .f32 := minimumf v370 v369
  have v372 : FVec F S32x256 .fp8e4m3 := truncf .fp8e4m3 v371 bitsLt_fp8e4m3_f32
  v372

noncomputable def k0_pay13 (v334 : FVec F S32x1 .f32) (v376 : Vec F S1x32x256 .f32) : FVec F S32x256 .fp8e4m3 :=
  have v377 : FVec F S32x256 .f32 := shapeCast S32x256 v376 shapeCasts_S1x32x256_S32x256
  have v378 : FVec F S32x256 .f32 := broadcastTo S32x256 v334 broadcasts_S32x1_S32x256
  have v379 : FVec F S32x256 .f32 := divf v377 v378
  have cst_228 : F .f32 := Scalar.ofBits .f32 0xC3E00000#32
  have cst_229 : F .f32 := Scalar.ofBits .f32 0x43E00000#32
  have v380 : FVec F S32x256 .f32 := broadcast S32x256 cst_228
  have v381 : FVec F S32x256 .f32 := maximumf v380 v379
  have v382 : FVec F S32x256 .f32 := broadcast S32x256 cst_229
  have v383 : FVec F S32x256 .f32 := minimumf v382 v381
  have v384 : FVec F S32x256 .fp8e4m3 := truncf .fp8e4m3 v383 bitsLt_fp8e4m3_f32
  v384

noncomputable def k0_pay14 (v334 : FVec F S32x1 .f32) (v388 : Vec F S1x32x256 .f32) : FVec F S32x256 .fp8e4m3 :=
  have v389 : FVec F S32x256 .f32 := shapeCast S32x256 v388 shapeCasts_S1x32x256_S32x256
  have v390 : FVec F S32x256 .f32 := broadcastTo S32x256 v334 broadcasts_S32x1_S32x256
  have v391 : FVec F S32x256 .f32 := divf v389 v390
  have cst_232 : F .f32 := Scalar.ofBits .f32 0xC3E00000#32
  have cst_233 : F .f32 := Scalar.ofBits .f32 0x43E00000#32
  have v392 : FVec F S32x256 .f32 := broadcast S32x256 cst_232
  have v393 : FVec F S32x256 .f32 := maximumf v392 v391
  have v394 : FVec F S32x256 .f32 := broadcast S32x256 cst_233
  have v395 : FVec F S32x256 .f32 := minimumf v394 v393
  have v396 : FVec F S32x256 .fp8e4m3 := truncf .fp8e4m3 v395 bitsLt_fp8e4m3_f32
  v396

noncomputable def k0_pay15 (v400 : Vec F S1x32x256 .f32) : FVec F S32x256 .f32 :=
  have v401 : FVec F S32x256 .f32 := shapeCast S32x256 v400 shapeCasts_S1x32x256_S32x256
  v401

noncomputable def k0_pay16 (v334 : FVec F S32x1 .f32) : FVec F S32x256 .f32 :=
  have v402 : FVec F S32x256 .f32 := broadcastTo S32x256 v334 broadcasts_S32x1_S32x256
  v402

noncomputable def k0_pay17 (v401 : FVec F S32x256 .f32) (v402 : FVec F S32x256 .f32) : FVec F S32x256 .fp8e4m3 :=
  have v403 : FVec F S32x256 .f32 := divf v401 v402
  have cst_235 : F .f32 := Scalar.ofBits .f32 0xC3E00000#32
  have cst_236 : F .f32 := Scalar.ofBits .f32 0x43E00000#32
  have v404 : FVec F S32x256 .f32 := broadcast S32x256 cst_235
  have v405 : FVec F S32x256 .f32 := maximumf v404 v403
  have v406 : FVec F S32x256 .f32 := broadcast S32x256 cst_236
  have v407 : FVec F S32x256 .f32 := minimumf v406 v405
  have v408 : FVec F S32x256 .fp8e4m3 := truncf .fp8e4m3 v407 bitsLt_fp8e4m3_f32
  v408

noncomputable def k0_pay18 (v334 : FVec F S32x1 .f32) (v412 : Vec F S1x32x256 .f32) : FVec F S32x256 .fp8e4m3 :=
  have v413 : FVec F S32x256 .f32 := shapeCast S32x256 v412 shapeCasts_S1x32x256_S32x256
  have v414 : FVec F S32x256 .f32 := broadcastTo S32x256 v334 broadcasts_S32x1_S32x256
  have v415 : FVec F S32x256 .f32 := divf v413 v414
  have cst_238 : F .f32 := Scalar.ofBits .f32 0xC3E00000#32
  have cst_239 : F .f32 := Scalar.ofBits .f32 0x43E00000#32
  have v416 : FVec F S32x256 .f32 := broadcast S32x256 cst_238
  have v417 : FVec F S32x256 .f32 := maximumf v416 v415
  have v418 : FVec F S32x256 .f32 := broadcast S32x256 cst_239
  have v419 : FVec F S32x256 .f32 := minimumf v418 v417
  have v420 : FVec F S32x256 .fp8e4m3 := truncf .fp8e4m3 v419 bitsLt_fp8e4m3_f32
  v420

noncomputable def k0_pay19 (v334 : FVec F S32x1 .f32) (v424 : Vec F S1x32x256 .f32) : FVec F S32x256 .fp8e4m3 :=
  have v425 : FVec F S32x256 .f32 := shapeCast S32x256 v424 shapeCasts_S1x32x256_S32x256
  have v426 : FVec F S32x256 .f32 := broadcastTo S32x256 v334 broadcasts_S32x1_S32x256
  have v427 : FVec F S32x256 .f32 := divf v425 v426
  have cst_241 : F .f32 := Scalar.ofBits .f32 0xC3E00000#32
  have cst_242 : F .f32 := Scalar.ofBits .f32 0x43E00000#32
  have v428 : FVec F S32x256 .f32 := broadcast S32x256 cst_241
  have v429 : FVec F S32x256 .f32 := maximumf v428 v427
  have v430 : FVec F S32x256 .f32 := broadcast S32x256 cst_242
  have v431 : FVec F S32x256 .f32 := minimumf v430 v429
  have v432 : FVec F S32x256 .fp8e4m3 := truncf .fp8e4m3 v431 bitsLt_fp8e4m3_f32
  v432

noncomputable def k0_pay20 (v334 : FVec F S32x1 .f32) (v436 : Vec F S1x32x256 .f32) : FVec F S32x256 .f32 :=
  have v437 : FVec F S32x256 .f32 := shapeCast S32x256 v436 shapeCasts_S1x32x256_S32x256
  have v438 : FVec F S32x256 .f32 := broadcastTo S32x256 v334 broadcasts_S32x1_S32x256
  have v439 : FVec F S32x256 .f32 := divf v437 v438
  have cst_244 : F .f32 := Scalar.ofBits .f32 0xC3E00000#32
  have v440 : FVec F S32x256 .f32 := broadcast S32x256 cst_244
  have v441 : FVec F S32x256 .f32 := maximumf v440 v439
  v441

noncomputable def k0_pay21 : FVec F S32x256 .f32 :=
  have cst_245 : F .f32 := Scalar.ofBits .f32 0x43E00000#32
  have v442 : FVec F S32x256 .f32 := broadcast S32x256 cst_245
  v442

noncomputable def k0_pay22 (v323 : Vec F S1x2560 .f32) : FVec F S1x2560 .f32 :=
  have v324 : FVec F S1x2560 .f32 := shapeCast S1x2560 v323 shapeCasts_S1x2560_S1x2560
  v324

noncomputable def k0_pay23 (v325 : Vec F S1x2560 .f32) : FVec F S1x2560 .f32 :=
  have v326 : FVec F S1x2560 .f32 := shapeCast S1x2560 v325 shapeCasts_S1x2560_S1x2560
  v326

noncomputable def k0_pay24 (v375 : FVec F S32x1 .f32) : FVec F S32x128 .f32 :=
  have v376 : FVec F S32x128 .f32 := broadcastTo S32x128 v375 broadcasts_S32x1_S32x128
  v376

noncomputable def k0_pay25 : FVec F S1024x128 .f32 :=
  have cst_209 : F .f32 := Scalar.ofBits .f32 0x00000000#32
  have v328 : FVec F S1024x128 .f32 := broadcast S1024x128 cst_209
  have v331 : FVec F S1024x128 .f32 := shapeCast S1024x128 v328 shapeCasts_S1024x128_S1024x128
  v331

noncomputable def k0_pay26 (v3 : Vec F S1024x2560 .fp8e4m3) (v5 : Vec F S1x1x2560x128 .fp8e4m3) (v7 : Vec F S1x1x2560x128 .fp8e4m3) (v11 : Vec F S1024x128 .f32) (v18 : Vec F S1x1x256 .f32) : FVec F S1x1024x256 .bf16 :=
  have v4 : FVec F S1024x2560 .fp8e4m3 := shapeCast S1024x2560 v3 shapeCasts_S1024x2560_S1024x2560
  have v6 : FVec F S2560x128 .fp8e4m3 := shapeCast S2560x128 v5 shapeCasts_S1x1x2560x128_S2560x128
  have v8 : FVec F S2560x128 .fp8e4m3 := shapeCast S2560x128 v7 shapeCasts_S1x1x2560x128_S2560x128
  have v9 : FVec F S2560x256 .fp8e4m3 := concatenate S2560x256 1 [⟨S2560x128, v6⟩, ⟨S2560x128, v8⟩] concatenates_S2560x128_S2560x128_S2560x256_d1
  have cst : FVec F S1024x256 .f32 := constant S1024x256 .f32 0x00000000#32
  have v10 : FVec F S1024x256 .f32 := matmul dot_S1024x2560_S2560x256_S1024x256_1_0_0_1_n_n none v4 v9 cst
  have v12 : FVec F S1024x128 .f32 := shapeCast S1024x128 v11 shapeCasts_S1024x128_S1024x128
  have v13 : FVec F S1024x128 .f32 := extractStridedSlice S1024x128 ![0, 0] v10 slices_S1024x256_o0_0_S1024x128
  have v14 : FVec F S1024x128 .f32 := mulf v13 v12
  have v15 : FVec F S1024x128 .f32 := extractStridedSlice S1024x128 ![0, 128] v10 slices_S1024x256_o0_128_S1024x128
  have v16 : FVec F S1024x128 .f32 := mulf v15 v12
  have v17 : FVec F S1024x256 .f32 := concatenate S1024x256 1 [⟨S1024x128, v14⟩, ⟨S1024x128, v16⟩] concatenates_S1024x128_S1024x128_S1024x256_d1
  have v19 : FVec F S1x256 .f32 := shapeCast S1x256 v18 shapeCasts_S1x1x256_S1x256
  have v20 : FVec F S1024x256 .f32 := broadcastTo S1024x256 v19 broadcasts_S1x256_S1024x256
  have v21 : FVec F S1024x256 .f32 := mulf v17 v20
  have v22 : FVec F S1024x256 .bf16 := truncf .bf16 v21 bitsLt_bf16_f32
  have v25 : FVec F S1x1024x256 .bf16 := shapeCast S1x1024x256 v22 shapeCasts_S1024x256_S1x1024x256
  v25

noncomputable def k0_pay27 (v26 : Vec F S1024x2560 .fp8e4m3) : FVec F S1024x2560 .fp8e4m3 :=
  have v27 : FVec F S1024x2560 .fp8e4m3 := shapeCast S1024x2560 v26 shapeCasts_S1024x2560_S1024x2560
  v27

noncomputable def k0_pay28 (v28 : Vec F S1x1x2560x128 .fp8e4m3) : FVec F S2560x128 .fp8e4m3 :=
  have v29 : FVec F S2560x128 .fp8e4m3 := shapeCast S2560x128 v28 shapeCasts_S1x1x2560x128_S2560x128
  v29

noncomputable def k0_pay29 (v27 : FVec F S1024x2560 .fp8e4m3) (v29 : FVec F S2560x128 .fp8e4m3) (v30 : Vec F S1x1x2560x128 .fp8e4m3) (v34 : Vec F S1024x128 .f32) (v41 : Vec F S1x1x256 .f32) : FVec F S1x1024x256 .bf16 :=
  have v31 : FVec F S2560x128 .fp8e4m3 := shapeCast S2560x128 v30 shapeCasts_S1x1x2560x128_S2560x128
  have v32 : FVec F S2560x256 .fp8e4m3 := concatenate S2560x256 1 [⟨S2560x128, v29⟩, ⟨S2560x128, v31⟩] concatenates_S2560x128_S2560x128_S2560x256_d1
  have cst_27 : FVec F S1024x256 .f32 := constant S1024x256 .f32 0x00000000#32
  have v33 : FVec F S1024x256 .f32 := matmul dot_S1024x2560_S2560x256_S1024x256_1_0_0_1_n_n none v27 v32 cst_27
  have v35 : FVec F S1024x128 .f32 := shapeCast S1024x128 v34 shapeCasts_S1024x128_S1024x128
  have v36 : FVec F S1024x128 .f32 := extractStridedSlice S1024x128 ![0, 0] v33 slices_S1024x256_o0_0_S1024x128
  have v37 : FVec F S1024x128 .f32 := mulf v36 v35
  have v38 : FVec F S1024x128 .f32 := extractStridedSlice S1024x128 ![0, 128] v33 slices_S1024x256_o0_128_S1024x128
  have v39 : FVec F S1024x128 .f32 := mulf v38 v35
  have v40 : FVec F S1024x256 .f32 := concatenate S1024x256 1 [⟨S1024x128, v37⟩, ⟨S1024x128, v39⟩] concatenates_S1024x128_S1024x128_S1024x256_d1
  have v42 : FVec F S1x256 .f32 := shapeCast S1x256 v41 shapeCasts_S1x1x256_S1x256
  have v43 : FVec F S1024x256 .f32 := broadcastTo S1024x256 v42 broadcasts_S1x256_S1024x256
  have v44 : FVec F S1024x256 .f32 := mulf v40 v43
  have v45 : FVec F S1024x256 .bf16 := truncf .bf16 v44 bitsLt_bf16_f32
  have v48 : FVec F S1x1024x256 .bf16 := shapeCast S1x1024x256 v45 shapeCasts_S1024x256_S1x1024x256
  v48

noncomputable def k0_pay30 (v49 : Vec F S1024x2560 .fp8e4m3) (v51 : Vec F S1x1x2560x128 .fp8e4m3) (v53 : Vec F S1x1x2560x128 .fp8e4m3) : FVec F S1024x256 .f32 :=
  have v50 : FVec F S1024x2560 .fp8e4m3 := shapeCast S1024x2560 v49 shapeCasts_S1024x2560_S1024x2560
  have v52 : FVec F S2560x128 .fp8e4m3 := shapeCast S2560x128 v51 shapeCasts_S1x1x2560x128_S2560x128
  have v54 : FVec F S2560x128 .fp8e4m3 := shapeCast S2560x128 v53 shapeCasts_S1x1x2560x128_S2560x128
  have v55 : FVec F S2560x256 .fp8e4m3 := concatenate S2560x256 1 [⟨S2560x128, v52⟩, ⟨S2560x128, v54⟩] concatenates_S2560x128_S2560x128_S2560x256_d1
  have cst_45 : FVec F S1024x256 .f32 := constant S1024x256 .f32 0x00000000#32
  have v56 : FVec F S1024x256 .f32 := matmul dot_S1024x2560_S2560x256_S1024x256_1_0_0_1_n_n none v50 v55 cst_45
  v56

noncomputable def k0_pay31 (v57 : Vec F S1024x128 .f32) : FVec F S1024x128 .f32 :=
  have v58 : FVec F S1024x128 .f32 := shapeCast S1024x128 v57 shapeCasts_S1024x128_S1024x128
  v58

noncomputable def k0_pay32 (v49 : Vec F S1024x2560 .fp8e4m3) (v51 : Vec F S1x1x2560x128 .fp8e4m3) (v53 : Vec F S1x1x2560x128 .fp8e4m3) (v57 : Vec F S1024x128 .f32) : FVec F S1024x128 .f32 :=
  have v59 : FVec F S1024x128 .f32 := extractStridedSlice S1024x128 ![0, 0] (k0_pay30 v49 v51 v53) slices_S1024x256_o0_0_S1024x128
  have v60 : FVec F S1024x128 .f32 := mulf v59 (k0_pay31 v57)
  v60

noncomputable def k0_pay33 (v49 : Vec F S1024x2560 .fp8e4m3) (v51 : Vec F S1x1x2560x128 .fp8e4m3) (v53 : Vec F S1x1x2560x128 .fp8e4m3) (v57 : Vec F S1024x128 .f32) : FVec F S1024x128 .f32 :=
  have v61 : FVec F S1024x128 .f32 := extractStridedSlice S1024x128 ![0, 128] (k0_pay30 v49 v51 v53) slices_S1024x256_o0_128_S1024x128
  have v62 : FVec F S1024x128 .f32 := mulf v61 (k0_pay31 v57)
  v62

noncomputable def k0_pay34 (v60 : FVec F S1024x128 .f32) (v62 : FVec F S1024x128 .f32) (v64 : Vec F S1x1x256 .f32) : FVec F S1x1024x256 .bf16 :=
  have v63 : FVec F S1024x256 .f32 := concatenate S1024x256 1 [⟨S1024x128, v60⟩, ⟨S1024x128, v62⟩] concatenates_S1024x128_S1024x128_S1024x256_d1
  have v65 : FVec F S1x256 .f32 := shapeCast S1x256 v64 shapeCasts_S1x1x256_S1x256
  have v66 : FVec F S1024x256 .f32 := broadcastTo S1024x256 v65 broadcasts_S1x256_S1024x256
  have v67 : FVec F S1024x256 .f32 := mulf v63 v66
  have v68 : FVec F S1024x256 .bf16 := truncf .bf16 v67 bitsLt_bf16_f32
  have v71 : FVec F S1x1024x256 .bf16 := shapeCast S1x1024x256 v68 shapeCasts_S1024x256_S1x1024x256
  v71

noncomputable def k0_pay35 (v72 : Vec F S1x256x128 .bf16) (v74 : Vec F S1x256x128 .bf16) (v90 : Vec F S1x256x128 .bf16) : FVec F S256x128 .f32 :=
  have v73 : FVec F S256x128 .bf16 := shapeCast S256x128 v72 shapeCasts_S1x256x128_S256x128
  have v75 : FVec F S256x128 .bf16 := shapeCast S256x128 v74 shapeCasts_S1x256x128_S256x128
  have cst_60 : FVec F S256x256 .f32 := constant S256x256 .f32 0x00000000#32
  have v76 : FVec F S256x256 .f32 := matmul dot_S256x128_S256x128_S256x256_1_1_0_0_n_n none v73 v75 cst_60
  have cst_61 : F .f32 := Scalar.ofBits .f32 0x3DB504F3#32
  have v77 : FVec F S256x256 .f32 := broadcast S256x256 cst_61
  have v78 : FVec F S256x256 .f32 := mulf v76 v77
  have cst_62 : F .f32 := Scalar.ofBits .f32 0x3FB8AA3B#32
  have v79 : FVec F S256x256 .f32 := broadcast S256x256 cst_62
  have v80 : FVec F S256x256 .f32 := mulf v78 v79
  have v81 : FVec F S256 .f32 := multiReduction .maximumf [1] S256 v80 0xFF800000#32 reduces_S256x256_S256 (.inl rfl) rfl
  have v82 : FVec F S256x1 .f32 := shapeCast S256x1 v81 shapeCasts_S256_S256x1
  have v83 : FVec F S256x1 .f32 := ceil v82
  have v84 : FVec F S256x256 .f32 := broadcastTo S256x256 v83 broadcasts_S256x1_S256x256
  have v85 : FVec F S256x256 .f32 := subf v80 v84
  have v86 : FVec F S256x256 .f32 := exp2 v85
  have v87 : FVec F S256 .f32 := multiReduction .add [1] S256 v86 0x00000000#32 reduces_S256x256_S256 (.inl rfl) rfl
  have v88 : FVec F S256x1 .f32 := shapeCast S256x1 v87 shapeCasts_S256_S256x1
  have v89 : FVec F S256x256 .bf16 := truncf .bf16 v86 bitsLt_bf16_f32
  have v91 : FVec F S256x128 .bf16 := shapeCast S256x128 v90 shapeCasts_S1x256x128_S256x128
  have cst_68 : FVec F S256x128 .f32 := constant S256x128 .f32 0x00000000#32
  have v92 : FVec F S256x128 .f32 := matmul dot_S256x256_S256x128_S256x128_1_0_0_1_n_n none v89 v91 cst_68
  have v93 : FVec F S256x128 .f32 := broadcastTo S256x128 v88 broadcasts_S256x1_S256x128
  have v94 : FVec F S256x128 .f32 := divf v92 v93
  v94

noncomputable def k0_pay36 (v72 : Vec F S1x256x128 .bf16) (v74 : Vec F S1x256x128 .bf16) (v90 : Vec F S1x256x128 .bf16) : FVec F S1x256x128 .f32 :=
  have v98 : FVec F S1x256x128 .f32 := shapeCast S1x256x128 (k0_pay35 v72 v74 v90) shapeCasts_S256x128_S1x256x128
  v98

noncomputable def k0_pay37 (v100 : Vec F S1x256x128 .bf16) (v102 : Vec F S1x256x128 .bf16) (v118 : Vec F S1x256x128 .bf16) : FVec F S256x128 .f32 :=
  have v101 : FVec F S256x128 .bf16 := shapeCast S256x128 v100 shapeCasts_S1x256x128_S256x128
  have v103 : FVec F S256x128 .bf16 := shapeCast S256x128 v102 shapeCasts_S1x256x128_S256x128
  have cst_76 : FVec F S256x256 .f32 := constant S256x256 .f32 0x00000000#32
  have v104 : FVec F S256x256 .f32 := matmul dot_S256x128_S256x128_S256x256_1_1_0_0_n_n none v101 v103 cst_76
  have cst_77 : F .f32 := Scalar.ofBits .f32 0x3DB504F3#32
  have v105 : FVec F S256x256 .f32 := broadcast S256x256 cst_77
  have v106 : FVec F S256x256 .f32 := mulf v104 v105
  have cst_78 : F .f32 := Scalar.ofBits .f32 0x3FB8AA3B#32
  have v107 : FVec F S256x256 .f32 := broadcast S256x256 cst_78
  have v108 : FVec F S256x256 .f32 := mulf v106 v107
  have v109 : FVec F S256 .f32 := multiReduction .maximumf [1] S256 v108 0xFF800000#32 reduces_S256x256_S256 (.inl rfl) rfl
  have v110 : FVec F S256x1 .f32 := shapeCast S256x1 v109 shapeCasts_S256_S256x1
  have v111 : FVec F S256x1 .f32 := ceil v110
  have v112 : FVec F S256x256 .f32 := broadcastTo S256x256 v111 broadcasts_S256x1_S256x256
  have v113 : FVec F S256x256 .f32 := subf v108 v112
  have v114 : FVec F S256x256 .f32 := exp2 v113
  have v115 : FVec F S256 .f32 := multiReduction .add [1] S256 v114 0x00000000#32 reduces_S256x256_S256 (.inl rfl) rfl
  have v116 : FVec F S256x1 .f32 := shapeCast S256x1 v115 shapeCasts_S256_S256x1
  have v117 : FVec F S256x256 .bf16 := truncf .bf16 v114 bitsLt_bf16_f32
  have v119 : FVec F S256x128 .bf16 := shapeCast S256x128 v118 shapeCasts_S1x256x128_S256x128
  have cst_84 : FVec F S256x128 .f32 := constant S256x128 .f32 0x00000000#32
  have v120 : FVec F S256x128 .f32 := matmul dot_S256x256_S256x128_S256x128_1_0_0_1_n_n none v117 v119 cst_84
  have v121 : FVec F S256x128 .f32 := broadcastTo S256x128 v116 broadcasts_S256x1_S256x128
  have v122 : FVec F S256x128 .f32 := divf v120 v121
  v122

noncomputable def k0_pay38 (v100 : Vec F S1x256x128 .bf16) (v102 : Vec F S1x256x128 .bf16) (v118 : Vec F S1x256x128 .bf16) : FVec F S1x256x128 .f32 :=
  have v126 : FVec F S1x256x128 .f32 := shapeCast S1x256x128 (k0_pay37 v100 v102 v118) shapeCasts_S256x128_S1x256x128
  v126

noncomputable def k0_pay39 (v94 : FVec F S256x128 .f32) (v100 : Vec F S1x256x128 .bf16) (v102 : Vec F S1x256x128 .bf16) (v118 : Vec F S1x256x128 .bf16) (v128 : Vec F S256x128 .f32) : FVec F S256x128 .f32 :=
  have v99 : FVec F S256x128 .f32 := absf v94
  have v127 : FVec F S256x128 .f32 := absf (k0_pay37 v100 v102 v118)
  have v129 : FVec F S256x128 .f32 := maximumf v99 v127
  have v130 : FVec F S256x128 .f32 := maximumf v128 v129
  have v133 : FVec F S256x128 .f32 := shapeCast S256x128 v130 shapeCasts_S256x128_S256x128
  v133

noncomputable def k0_pay40 (v134 : Vec F S1x256x128 .bf16) (v136 : Vec F S1x256x128 .bf16) (v152 : Vec F S1x256x128 .bf16) : FVec F S256x128 .f32 :=
  have v135 : FVec F S256x128 .bf16 := shapeCast S256x128 v134 shapeCasts_S1x256x128_S256x128
  have v137 : FVec F S256x128 .bf16 := shapeCast S256x128 v136 shapeCasts_S1x256x128_S256x128
  have cst_96 : FVec F S256x256 .f32 := constant S256x256 .f32 0x00000000#32
  have v138 : FVec F S256x256 .f32 := matmul dot_S256x128_S256x128_S256x256_1_1_0_0_n_n none v135 v137 cst_96
  have cst_97 : F .f32 := Scalar.ofBits .f32 0x3DB504F3#32
  have v139 : FVec F S256x256 .f32 := broadcast S256x256 cst_97
  have v140 : FVec F S256x256 .f32 := mulf v138 v139
  have cst_98 : F .f32 := Scalar.ofBits .f32 0x3FB8AA3B#32
  have v141 : FVec F S256x256 .f32 := broadcast S256x256 cst_98
  have v142 : FVec F S256x256 .f32 := mulf v140 v141
  have v143 : FVec F S256 .f32 := multiReduction .maximumf [1] S256 v142 0xFF800000#32 reduces_S256x256_S256 (.inl rfl) rfl
  have v144 : FVec F S256x1 .f32 := shapeCast S256x1 v143 shapeCasts_S256_S256x1
  have v145 : FVec F S256x1 .f32 := ceil v144
  have v146 : FVec F S256x256 .f32 := broadcastTo S256x256 v145 broadcasts_S256x1_S256x256
  have v147 : FVec F S256x256 .f32 := subf v142 v146
  have v148 : FVec F S256x256 .f32 := exp2 v147
  have v149 : FVec F S256 .f32 := multiReduction .add [1] S256 v148 0x00000000#32 reduces_S256x256_S256 (.inl rfl) rfl
  have v150 : FVec F S256x1 .f32 := shapeCast S256x1 v149 shapeCasts_S256_S256x1
  have v151 : FVec F S256x256 .bf16 := truncf .bf16 v148 bitsLt_bf16_f32
  have v153 : FVec F S256x128 .bf16 := shapeCast S256x128 v152 shapeCasts_S1x256x128_S256x128
  have cst_104 : FVec F S256x128 .f32 := constant S256x128 .f32 0x00000000#32
  have v154 : FVec F S256x128 .f32 := matmul dot_S256x256_S256x128_S256x128_1_0_0_1_n_n none v151 v153 cst_104
  have v155 : FVec F S256x128 .f32 := broadcastTo S256x128 v150 broadcasts_S256x1_S256x128
  have v156 : FVec F S256x128 .f32 := divf v154 v155
  v156

noncomputable def k0_pay41 (v134 : Vec F S1x256x128 .bf16) (v136 : Vec F S1x256x128 .bf16) (v152 : Vec F S1x256x128 .bf16) : FVec F S1x256x128 .f32 :=
  have v160 : FVec F S1x256x128 .f32 := shapeCast S1x256x128 (k0_pay40 v134 v136 v152) shapeCasts_S256x128_S1x256x128
  v160

noncomputable def k0_pay42 (v134 : Vec F S1x256x128 .bf16) (v136 : Vec F S1x256x128 .bf16) (v152 : Vec F S1x256x128 .bf16) : FVec F S256x128 .f32 :=
  have v161 : FVec F S256x128 .f32 := absf (k0_pay40 v134 v136 v152)
  v161

noncomputable def k0_pay43 (v162 : Vec F S1x256x128 .bf16) (v164 : Vec F S1x256x128 .bf16) : FVec F S256x256 .f32 :=
  have v163 : FVec F S256x128 .bf16 := shapeCast S256x128 v162 shapeCasts_S1x256x128_S256x128
  have v165 : FVec F S256x128 .bf16 := shapeCast S256x128 v164 shapeCasts_S1x256x128_S256x128
  have cst_113 : FVec F S256x256 .f32 := constant S256x256 .f32 0x00000000#32
  have v166 : FVec F S256x256 .f32 := matmul dot_S256x128_S256x128_S256x256_1_1_0_0_n_n none v163 v165 cst_113
  have cst_114 : F .f32 := Scalar.ofBits .f32 0x3DB504F3#32
  have v167 : FVec F S256x256 .f32 := broadcast S256x256 cst_114
  have v168 : FVec F S256x256 .f32 := mulf v166 v167
  v168

noncomputable def k0_pay44 (v168 : FVec F S256x256 .f32) (v180 : Vec F S1x256x128 .bf16) : FVec F S256x128 .f32 :=
  have cst_115 : F .f32 := Scalar.ofBits .f32 0x3FB8AA3B#32
  have v169 : FVec F S256x256 .f32 := broadcast S256x256 cst_115
  have v170 : FVec F S256x256 .f32 := mulf v168 v169
  have v171 : FVec F S256 .f32 := multiReduction .maximumf [1] S256 v170 0xFF800000#32 reduces_S256x256_S256 (.inl rfl) rfl
  have v172 : FVec F S256x1 .f32 := shapeCast S256x1 v171 shapeCasts_S256_S256x1
  have v173 : FVec F S256x1 .f32 := ceil v172
  have v174 : FVec F S256x256 .f32 := broadcastTo S256x256 v173 broadcasts_S256x1_S256x256
  have v175 : FVec F S256x256 .f32 := subf v170 v174
  have v176 : FVec F S256x256 .f32 := exp2 v175
  have v177 : FVec F S256 .f32 := multiReduction .add [1] S256 v176 0x00000000#32 reduces_S256x256_S256 (.inl rfl) rfl
  have v178 : FVec F S256x1 .f32 := shapeCast S256x1 v177 shapeCasts_S256_S256x1
  have v179 : FVec F S256x256 .bf16 := truncf .bf16 v176 bitsLt_bf16_f32
  have v181 : FVec F S256x128 .bf16 := shapeCast S256x128 v180 shapeCasts_S1x256x128_S256x128
  have cst_121 : FVec F S256x128 .f32 := constant S256x128 .f32 0x00000000#32
  have v182 : FVec F S256x128 .f32 := matmul dot_S256x256_S256x128_S256x128_1_0_0_1_n_n none v179 v181 cst_121
  have v183 : FVec F S256x128 .f32 := broadcastTo S256x128 v178 broadcasts_S256x1_S256x128
  have v184 : FVec F S256x128 .f32 := divf v182 v183
  v184

noncomputable def k0_pay45 (v168 : FVec F S256x256 .f32) (v180 : Vec F S1x256x128 .bf16) : FVec F S1x256x128 .f32 :=
  have v188 : FVec F S1x256x128 .f32 := shapeCast S1x256x128 (k0_pay44 v168 v180) shapeCasts_S256x128_S1x256x128
  v188

noncomputable def k0_pay46 (v161 : FVec F S256x128 .f32) (v168 : FVec F S256x256 .f32) (v180 : Vec F S1x256x128 .bf16) (v190 : Vec F S256x128 .f32) : FVec F S256x128 .f32 :=
  have v189 : FVec F S256x128 .f32 := absf (k0_pay44 v168 v180)
  have v191 : FVec F S256x128 .f32 := maximumf v161 v189
  have v192 : FVec F S256x128 .f32 := maximumf v190 v191
  have v195 : FVec F S256x128 .f32 := shapeCast S256x128 v192 shapeCasts_S256x128_S256x128
  v195

noncomputable def k0_pay47 (v196 : Vec F S1x256x128 .bf16) (v198 : Vec F S1x256x128 .bf16) : FVec F S256x256 .f32 :=
  have v197 : FVec F S256x128 .bf16 := shapeCast S256x128 v196 shapeCasts_S1x256x128_S256x128
  have v199 : FVec F S256x128 .bf16 := shapeCast S256x128 v198 shapeCasts_S1x256x128_S256x128
  have cst_133 : FVec F S256x256 .f32 := constant S256x256 .f32 0x00000000#32
  have v200 : FVec F S256x256 .f32 := matmul dot_S256x128_S256x128_S256x256_1_1_0_0_n_n none v197 v199 cst_133
  have cst_134 : F .f32 := Scalar.ofBits .f32 0x3DB504F3#32
  have v201 : FVec F S256x256 .f32 := broadcast S256x256 cst_134
  have v202 : FVec F S256x256 .f32 := mulf v200 v201
  have cst_135 : F .f32 := Scalar.ofBits .f32 0x3FB8AA3B#32
  have v203 : FVec F S256x256 .f32 := broadcast S256x256 cst_135
  have v204 : FVec F S256x256 .f32 := mulf v202 v203
  v204

noncomputable def k0_pay48 (v204 : FVec F S256x256 .f32) (v214 : Vec F S1x256x128 .bf16) : FVec F S256x128 .f32 :=
  have v205 : FVec F S256 .f32 := multiReduction .maximumf [1] S256 v204 0xFF800000#32 reduces_S256x256_S256 (.inl rfl) rfl
  have v206 : FVec F S256x1 .f32 := shapeCast S256x1 v205 shapeCasts_S256_S256x1
  have v207 : FVec F S256x1 .f32 := ceil v206
  have v208 : FVec F S256x256 .f32 := broadcastTo S256x256 v207 broadcasts_S256x1_S256x256
  have v209 : FVec F S256x256 .f32 := subf v204 v208
  have v210 : FVec F S256x256 .f32 := exp2 v209
  have v211 : FVec F S256 .f32 := multiReduction .add [1] S256 v210 0x00000000#32 reduces_S256x256_S256 (.inl rfl) rfl
  have v212 : FVec F S256x1 .f32 := shapeCast S256x1 v211 shapeCasts_S256_S256x1
  have v213 : FVec F S256x256 .bf16 := truncf .bf16 v210 bitsLt_bf16_f32
  have v215 : FVec F S256x128 .bf16 := shapeCast S256x128 v214 shapeCasts_S1x256x128_S256x128
  have cst_141 : FVec F S256x128 .f32 := constant S256x128 .f32 0x00000000#32
  have v216 : FVec F S256x128 .f32 := matmul dot_S256x256_S256x128_S256x128_1_0_0_1_n_n none v213 v215 cst_141
  have v217 : FVec F S256x128 .f32 := broadcastTo S256x128 v212 broadcasts_S256x1_S256x128
  have v218 : FVec F S256x128 .f32 := divf v216 v217
  v218

noncomputable def k0_pay49 (v204 : FVec F S256x256 .f32) (v214 : Vec F S1x256x128 .bf16) : FVec F S1x256x128 .f32 :=
  have v222 : FVec F S1x256x128 .f32 := shapeCast S1x256x128 (k0_pay48 v204 v214) shapeCasts_S256x128_S1x256x128
  v222

noncomputable def k0_pay50 (v204 : FVec F S256x256 .f32) (v214 : Vec F S1x256x128 .bf16) : FVec F S256x128 .f32 :=
  have v223 : FVec F S256x128 .f32 := absf (k0_pay48 v204 v214)
  v223

noncomputable def k0_pay51 (v224 : Vec F S1x256x128 .bf16) (v226 : Vec F S1x256x128 .bf16) : FVec F S256x256 .f32 :=
  have v225 : FVec F S256x128 .bf16 := shapeCast S256x128 v224 shapeCasts_S1x256x128_S256x128
  have v227 : FVec F S256x128 .bf16 := shapeCast S256x128 v226 shapeCasts_S1x256x128_S256x128
  have cst_150 : FVec F S256x256 .f32 := constant S256x256 .f32 0x00000000#32
  have v228 : FVec F S256x256 .f32 := matmul dot_S256x128_S256x128_S256x256_1_1_0_0_n_n none v225 v227 cst_150
  have cst_151 : F .f32 := Scalar.ofBits .f32 0x3DB504F3#32
  have v229 : FVec F S256x256 .f32 := broadcast S256x256 cst_151
  have v230 : FVec F S256x256 .f32 := mulf v228 v229
  have cst_152 : F .f32 := Scalar.ofBits .f32 0x3FB8AA3B#32
  have v231 : FVec F S256x256 .f32 := broadcast S256x256 cst_152
  have v232 : FVec F S256x256 .f32 := mulf v230 v231
  have v233 : FVec F S256 .f32 := multiReduction .maximumf [1] S256 v232 0xFF800000#32 reduces_S256x256_S256 (.inl rfl) rfl
  have v234 : FVec F S256x1 .f32 := shapeCast S256x1 v233 shapeCasts_S256_S256x1
  have v235 : FVec F S256x1 .f32 := ceil v234
  have v236 : FVec F S256x256 .f32 := broadcastTo S256x256 v235 broadcasts_S256x1_S256x256
  have v237 : FVec F S256x256 .f32 := subf v232 v236
  have v238 : FVec F S256x256 .f32 := exp2 v237
  v238

noncomputable def k0_pay52 (v224 : Vec F S1x256x128 .bf16) (v226 : Vec F S1x256x128 .bf16) : FVec F S256x1 .f32 :=
  have v239 : FVec F S256 .f32 := multiReduction .add [1] S256 (k0_pay51 v224 v226) 0x00000000#32 reduces_S256x256_S256 (.inl rfl) rfl
  have v240 : FVec F S256x1 .f32 := shapeCast S256x1 v239 shapeCasts_S256_S256x1
  v240

noncomputable def k0_pay53 (v224 : Vec F S1x256x128 .bf16) (v226 : Vec F S1x256x128 .bf16) : FVec F S256x256 .bf16 :=
  have v241 : FVec F S256x256 .bf16 := truncf .bf16 (k0_pay51 v224 v226) bitsLt_bf16_f32
  v241

noncomputable def k0_pay54 (v240 : FVec F S256x1 .f32) (v241 : FVec F S256x256 .bf16) (v242 : Vec F S1x256x128 .bf16) : FVec F S256x128 .f32 :=
  have v243 : FVec F S256x128 .bf16 := shapeCast S256x128 v242 shapeCasts_S1x256x128_S256x128
  have cst_158 : FVec F S256x128 .f32 := constant S256x128 .f32 0x00000000#32
  have v244 : FVec F S256x128 .f32 := matmul dot_S256x256_S256x128_S256x128_1_0_0_1_n_n none v241 v243 cst_158
  have v245 : FVec F S256x128 .f32 := broadcastTo S256x128 v240 broadcasts_S256x1_S256x128
  have v246 : FVec F S256x128 .f32 := divf v244 v245
  v246

noncomputable def k0_pay55 (v240 : FVec F S256x1 .f32) (v241 : FVec F S256x256 .bf16) (v242 : Vec F S1x256x128 .bf16) : FVec F S1x256x128 .f32 :=
  have v250 : FVec F S1x256x128 .f32 := shapeCast S1x256x128 (k0_pay54 v240 v241 v242) shapeCasts_S256x128_S1x256x128
  v250

noncomputable def k0_pay56 (v223 : FVec F S256x128 .f32) (v240 : FVec F S256x1 .f32) (v241 : FVec F S256x256 .bf16) (v242 : Vec F S1x256x128 .bf16) (v252 : Vec F S256x128 .f32) : FVec F S256x128 .f32 :=
  have v251 : FVec F S256x128 .f32 := absf (k0_pay54 v240 v241 v242)
  have v253 : FVec F S256x128 .f32 := maximumf v223 v251
  have v254 : FVec F S256x128 .f32 := maximumf v252 v253
  have v257 : FVec F S256x128 .f32 := shapeCast S256x128 v254 shapeCasts_S256x128_S256x128
  v257

noncomputable def k0_pay57 (v258 : Vec F S1x256x128 .bf16) (v260 : Vec F S1x256x128 .bf16) : FVec F S256x256 .f32 :=
  have v259 : FVec F S256x128 .bf16 := shapeCast S256x128 v258 shapeCasts_S1x256x128_S256x128
  have v261 : FVec F S256x128 .bf16 := shapeCast S256x128 v260 shapeCasts_S1x256x128_S256x128
  have cst_170 : FVec F S256x256 .f32 := constant S256x256 .f32 0x00000000#32
  have v262 : FVec F S256x256 .f32 := matmul dot_S256x128_S256x128_S256x256_1_1_0_0_n_n none v259 v261 cst_170
  have cst_171 : F .f32 := Scalar.ofBits .f32 0x3DB504F3#32
  have v263 : FVec F S256x256 .f32 := broadcast S256x256 cst_171
  have v264 : FVec F S256x256 .f32 := mulf v262 v263
  have cst_172 : F .f32 := Scalar.ofBits .f32 0x3FB8AA3B#32
  have v265 : FVec F S256x256 .f32 := broadcast S256x256 cst_172
  have v266 : FVec F S256x256 .f32 := mulf v264 v265
  have v267 : FVec F S256 .f32 := multiReduction .maximumf [1] S256 v266 0xFF800000#32 reduces_S256x256_S256 (.inl rfl) rfl
  have v268 : FVec F S256x1 .f32 := shapeCast S256x1 v267 shapeCasts_S256_S256x1
  have v269 : FVec F S256x1 .f32 := ceil v268
  have v270 : FVec F S256x256 .f32 := broadcastTo S256x256 v269 broadcasts_S256x1_S256x256
  have v271 : FVec F S256x256 .f32 := subf v266 v270
  have v272 : FVec F S256x256 .f32 := exp2 v271
  v272

noncomputable def k0_pay58 (v258 : Vec F S1x256x128 .bf16) (v260 : Vec F S1x256x128 .bf16) : FVec F S256x1 .f32 :=
  have v273 : FVec F S256 .f32 := multiReduction .add [1] S256 (k0_pay57 v258 v260) 0x00000000#32 reduces_S256x256_S256 (.inl rfl) rfl
  have v274 : FVec F S256x1 .f32 := shapeCast S256x1 v273 shapeCasts_S256_S256x1
  v274

noncomputable def k0_pay59 (v258 : Vec F S1x256x128 .bf16) (v260 : Vec F S1x256x128 .bf16) : FVec F S256x256 .bf16 :=
  have v275 : FVec F S256x256 .bf16 := truncf .bf16 (k0_pay57 v258 v260) bitsLt_bf16_f32
  v275

noncomputable def k0_pay60 (v276 : Vec F S1x256x128 .bf16) : FVec F S256x128 .bf16 :=
  have v277 : FVec F S256x128 .bf16 := shapeCast S256x128 v276 shapeCasts_S1x256x128_S256x128
  v277

noncomputable def k0_pay61 (v274 : FVec F S256x1 .f32) (v275 : FVec F S256x256 .bf16) (v277 : FVec F S256x128 .bf16) (cst_178 : FVec F S256x128 .f32) : FVec F S256x128 .f32 :=
  have v278 : FVec F S256x128 .f32 := matmul dot_S256x256_S256x128_S256x128_1_0_0_1_n_n none v275 v277 cst_178
  have v279 : FVec F S256x128 .f32 := broadcastTo S256x128 v274 broadcasts_S256x1_S256x128
  have v280 : FVec F S256x128 .f32 := divf v278 v279
  v280

noncomputable def k0_pay62 (v274 : FVec F S256x1 .f32) (v275 : FVec F S256x256 .bf16) (v277 : FVec F S256x128 .bf16) (cst_178 : FVec F S256x128 .f32) : FVec F S1x256x128 .f32 :=
  have v284 : FVec F S1x256x128 .f32 := shapeCast S1x256x128 (k0_pay61 v274 v275 v277 cst_178) shapeCasts_S256x128_S1x256x128
  v284

noncomputable def k0_pay63 (v274 : FVec F S256x1 .f32) (v275 : FVec F S256x256 .bf16) (v277 : FVec F S256x128 .bf16) (cst_178 : FVec F S256x128 .f32) : FVec F S256x128 .f32 :=
  have v285 : FVec F S256x128 .f32 := absf (k0_pay61 v274 v275 v277 cst_178)
  v285

noncomputable def k0_pay64 (v286 : Vec F S1x256x128 .bf16) (v288 : Vec F S1x256x128 .bf16) (v304 : Vec F S1x256x128 .bf16) : FVec F S256x128 .f32 :=
  have v287 : FVec F S256x128 .bf16 := shapeCast S256x128 v286 shapeCasts_S1x256x128_S256x128
  have v289 : FVec F S256x128 .bf16 := shapeCast S256x128 v288 shapeCasts_S1x256x128_S256x128
  have cst_187 : FVec F S256x256 .f32 := constant S256x256 .f32 0x00000000#32
  have v290 : FVec F S256x256 .f32 := matmul dot_S256x128_S256x128_S256x256_1_1_0_0_n_n none v287 v289 cst_187
  have cst_188 : F .f32 := Scalar.ofBits .f32 0x3DB504F3#32
  have v291 : FVec F S256x256 .f32 := broadcast S256x256 cst_188
  have v292 : FVec F S256x256 .f32 := mulf v290 v291
  have cst_189 : F .f32 := Scalar.ofBits .f32 0x3FB8AA3B#32
  have v293 : FVec F S256x256 .f32 := broadcast S256x256 cst_189
  have v294 : FVec F S256x256 .f32 := mulf v292 v293
  have v295 : FVec F S256 .f32 := multiReduction .maximumf [1] S256 v294 0xFF800000#32 reduces_S256x256_S256 (.inl rfl) rfl
  have v296 : FVec F S256x1 .f32 := shapeCast S256x1 v295 shapeCasts_S256_S256x1
  have v297 : FVec F S256x1 .f32 := ceil v296
  have v298 : FVec F S256x256 .f32 := broadcastTo S256x256 v297 broadcasts_S256x1_S256x256
  have v299 : FVec F S256x256 .f32 := subf v294 v298
  have v300 : FVec F S256x256 .f32 := exp2 v299
  have v301 : FVec F S256 .f32 := multiReduction .add [1] S256 v300 0x00000000#32 reduces_S256x256_S256 (.inl rfl) rfl
  have v302 : FVec F S256x1 .f32 := shapeCast S256x1 v301 shapeCasts_S256_S256x1
  have v303 : FVec F S256x256 .bf16 := truncf .bf16 v300 bitsLt_bf16_f32
  have v305 : FVec F S256x128 .bf16 := shapeCast S256x128 v304 shapeCasts_S1x256x128_S256x128
  have cst_195 : FVec F S256x128 .f32 := constant S256x128 .f32 0x00000000#32
  have v306 : FVec F S256x128 .f32 := matmul dot_S256x256_S256x128_S256x128_1_0_0_1_n_n none v303 v305 cst_195
  have v307 : FVec F S256x128 .f32 := broadcastTo S256x128 v302 broadcasts_S256x1_S256x128
  have v308 : FVec F S256x128 .f32 := divf v306 v307
  v308

noncomputable def k0_pay65 (v286 : Vec F S1x256x128 .bf16) (v288 : Vec F S1x256x128 .bf16) (v304 : Vec F S1x256x128 .bf16) : FVec F S1x256x128 .f32 :=
  have v312 : FVec F S1x256x128 .f32 := shapeCast S1x256x128 (k0_pay64 v286 v288 v304) shapeCasts_S256x128_S1x256x128
  v312

noncomputable def k0_pay66 (v286 : Vec F S1x256x128 .bf16) (v288 : Vec F S1x256x128 .bf16) (v304 : Vec F S1x256x128 .bf16) : FVec F S256x128 .f32 :=
  have v313 : FVec F S256x128 .f32 := absf (k0_pay64 v286 v288 v304)
  v313

noncomputable def k0_t2_body (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h2 : k0_cond2 i = 1#1) :
    Fin k0_t2_loop.trips → Unit → Prog (TpuEff nD τ sig (Elt F) Λ₀ .tc) (Unit) :=
  fun k0_t2 _ => do
    let ⟨v324, v334⟩ : Σ' (v324 : BitVec 32), FVec F S32x1 .f32 ← k0_part2 i arg1 harg1 arg2 harg2 arg3 harg3 arg4 harg4 arg5 harg5 arg6 harg6 arg7 harg7 arg8 harg8 arg9 harg9 arg10 harg10 arg11 harg11 arg12 harg12 k0_h2 0#32 1#32 k0_t2
    let ⟨v401, v402⟩ : Σ' (v401 : FVec F S32x256 .f32), FVec F S32x256 .f32 ← k0_part3 i arg1 harg1 arg2 harg2 arg3 harg3 arg4 harg4 arg5 harg5 arg6 harg6 arg7 harg7 arg8 harg8 arg9 harg9 arg10 harg10 arg11 harg11 arg12 harg12 k0_h2 k0_t2 v324 v334
    let ⟨v441, v442⟩ : Σ' (v441 : FVec F S32x256 .f32), FVec F S32x256 .f32 ← k0_part4 i arg1 harg1 arg2 harg2 arg3 harg3 arg4 harg4 arg5 harg5 arg6 harg6 arg7 harg7 arg8 harg8 arg9 harg9 arg10 harg10 arg11 harg11 arg12 harg12 k0_h2 k0_t2 v324 v334 v401 v402
    let v446 : Vec F S32x256 .fp8e4m3 ← Prog.lift (.load arg8 (Rect.unit (s := S1024x2560) (k0_off29 k0_t2) S32x256.size (k0_off29_inb i k0_t2 k0_h2)).toLoadRect (View.loadsAt_vmem h_S32x256))
    Prog.lift (.store arg8 (Rect.unit (s := S1024x2560) (k0_off29 k0_t2) S32x256.size (k0_off29_inb i k0_t2 k0_h2)) (k0_pay2 v441 v442) Finset.univ (View.stores_vmem h_S32x256 (harg8.storeExact_slice rfl _ (k0_off29_packedfp8e4m3 i k0_t2 k0_h2)) (fun _ => rfl)) (.inl rfl))
    let v448 : Vec F S1x32x256 .f32 ← Prog.lift (.load arg11 (Rect.unit (s := S10x1024x256) (k0_off30 k0_t2) S1x32x256.size (k0_off30_inb i k0_t2 k0_h2)).toLoadRect (View.loadsAt_vmem h_S1x32x256))
    let v458 : Vec F S32x256 .fp8e4m3 ← Prog.lift (.load arg8 (Rect.unit (s := S1024x2560) (k0_off31 k0_t2) S32x256.size (k0_off31_inb i k0_t2 k0_h2)).toLoadRect (View.loadsAt_vmem h_S32x256))
    Prog.lift (.store arg8 (Rect.unit (s := S1024x2560) (k0_off31 k0_t2) S32x256.size (k0_off31_inb i k0_t2 k0_h2)) (k0_pay3 v334 v448) Finset.univ (View.stores_vmem h_S32x256 (harg8.storeExact_slice rfl _ (k0_off31_packedfp8e4m3 i k0_t2 k0_h2)) (fun _ => rfl)) (.inl rfl))
    pure ⟨⟩

noncomputable def cc0_spatial_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) :
    Prog (TpuEff nD τ sig (Elt F) Λ₀ .tc) PUnit := do
  let ⟨arg0, v27, v29⟩ : Σ' (arg0 : BitVec 32) (v27 : FVec F S1024x2560 .fp8e4m3), FVec F S2560x128 .fp8e4m3 ← k0_part5 i arg1 harg1 arg2 harg2 arg3 harg3 arg4 harg4 arg5 harg5 arg6 harg6 arg7 harg7 arg8 harg8 arg9 harg9 arg10 harg10 arg11 harg11 arg12 harg12
  let ⟨v60, v62⟩ : Σ' (v60 : FVec F S1024x128 .f32), FVec F S1024x128 .f32 ← k0_part6 i arg1 harg1 arg2 harg2 arg3 harg3 arg4 harg4 arg5 harg5 arg6 harg6 arg7 harg7 arg8 harg8 arg9 harg9 arg10 harg10 arg11 harg11 arg12 harg12 v27 v29
  let ⟨v94, v98⟩ : Σ' (v94 : FVec F S256x128 .f32), FVec F S1x256x128 .f32 ← k0_part7 i arg1 harg1 arg2 harg2 arg3 harg3 arg4 harg4 arg5 harg5 arg6 harg6 arg7 harg7 arg8 harg8 arg9 harg9 arg10 harg10 arg11 harg11 arg12 harg12 arg0 v60 v62
  k0_part8 i arg1 harg1 arg2 harg2 arg3 harg3 arg4 harg4 arg5 harg5 arg6 harg6 arg7 harg7 arg8 harg8 arg9 harg9 arg10 harg10 arg11 harg11 arg12 harg12 arg0 v94 v98
  let ⟨v161, v168⟩ : Σ' (v161 : FVec F S256x128 .f32), FVec F S256x256 .f32 ← k0_part9 i arg1 harg1 arg2 harg2 arg3 harg3 arg4 harg4 arg5 harg5 arg6 harg6 arg7 harg7 arg8 harg8 arg9 harg9 arg10 harg10 arg11 harg11 arg12 harg12 arg0
  let v204 : FVec F S256x256 .f32 ← k0_part10 i arg1 harg1 arg2 harg2 arg3 harg3 arg4 harg4 arg5 harg5 arg6 harg6 arg7 harg7 arg8 harg8 arg9 harg9 arg10 harg10 arg11 harg11 arg12 harg12 arg0 v161 v168
  let ⟨v223, v240, v241⟩ : Σ' (v223 : FVec F S256x128 .f32) (v240 : FVec F S256x1 .f32), FVec F S256x256 .bf16 ← k0_part11 i arg1 harg1 arg2 harg2 arg3 harg3 arg4 harg4 arg5 harg5 arg6 harg6 arg7 harg7 arg8 harg8 arg9 harg9 arg10 harg10 arg11 harg11 arg12 harg12 arg0 v204
  let ⟨v274, v275, v277, cst_178⟩ : Σ' (v274 : FVec F S256x1 .f32) (v275 : FVec F S256x256 .bf16) (v277 : FVec F S256x128 .bf16), FVec F S256x128 .f32 ← k0_part12 i arg1 harg1 arg2 harg2 arg3 harg3 arg4 harg4 arg5 harg5 arg6 harg6 arg7 harg7 arg8 harg8 arg9 harg9 arg10 harg10 arg11 harg11 arg12 harg12 arg0 v223 v240 v241
  let ⟨v285, v313, v314⟩ : Σ' (v285 : FVec F S256x128 .f32) (v313 : FVec F S256x128 .f32), Vec F S256x128 .f32 ← k0_part13 i arg1 harg1 arg2 harg2 arg3 harg3 arg4 harg4 arg5 harg5 arg6 harg6 arg7 harg7 arg8 harg8 arg9 harg9 arg10 harg10 arg11 harg11 arg12 harg12 arg0 v274 v275 v277 cst_178
  let v317 : Vec F S256x128 .f32 ← Prog.lift (.load arg12 (Rect.unit (s := S1024x128) ![768, 0] S256x128.size inb_S1024x128_S256x128_768_0).toLoadRect (View.loadsAt_vmem h_S256x128))
  Prog.lift (.store arg12 (Rect.unit (s := S1024x128) ![768, 0] S256x128.size inb_S1024x128_S256x128_768_0) (k0_pay1 v285 v313 v314) Finset.univ (View.stores_vmem_bits_univ h_S256x128 rfl) (.inl rfl))
  if k0_h2 : k0_cond2 i = 1#1 then do
    Scf.Loop.for k0_t2_loop (k0_t2_ok i k0_h2) ⟨⟩ (k0_t2_body i arg1 harg1 arg2 harg2 arg3 harg3 arg4 harg4 arg5 harg5 arg6 harg6 arg7 harg7 arg8 harg8 arg9 harg9 arg10 harg10 arg11 harg11 arg12 harg12 k0_h2)
    pure ⟨⟩
  else do
    pure ⟨⟩
  pure ⟨⟩

set_option maxRecDepth 65536 in
theorem cc0_spatial_eq_skeleton : cc0_spatial (F := F) = cc0_spatial_skel (F := F) := rfl

noncomputable def k0_part1_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h1 : k0_cond1 i = 1#1) (v324 : FVec F S1x2560 .f32) (v326 : FVec F S1x2560 .f32) (c0_i32_207 : BitVec 32) (c1_i32 : BitVec 32) (k0_t1 : Fin k0_t1_loop.trips) :
    Prog (TpuEff nD τ sig (Elt F) Λ₀ .tc) (Σ' (v332 : BitVec 32), FVec F S32x1 .f32) := do
  let arg13 : BitVec 32 := Scf.iv c0_i32_207 c1_i32 k0_t1
  let v332 : BitVec 32 := Scalar.muli arg13 32#32
  let v334 : Vec F S32x2560 .bf16 ← Prog.lift (.load arg1 (Rect.unit (s := S1024x2560) (k0_off1 k0_t1) S32x2560.size (k0_off1_inb i k0_t1 k0_h1)).toLoadRect (View.loadsAt_vmem h_S32x2560))
  let v374 : Vec F S32x2560 .fp8e4m3 ← Prog.lift (.load arg6 (Rect.unit (s := S1024x2560) (k0_off1 k0_t1) S32x2560.size (k0_off1_inb i k0_t1 k0_h1)).toLoadRect (View.loadsAt_vmem h_S32x2560))
  Prog.lift (.store arg6 (Rect.unit (s := S1024x2560) (k0_off1 k0_t1) S32x2560.size (k0_off1_inb i k0_t1 k0_h1)) (k0_pay6 v324 v326 v334) Finset.univ (View.stores_vmem h_S32x2560 (harg6.storeExact_slice rfl _ (k0_off1_packedfp8e4m3 i k0_t1 k0_h1)) (fun _ => rfl)) (.inl rfl))
  pure ⟨v332, k0_pay7 v324 v326 v334⟩

set_option maxRecDepth 65536 in
theorem k0_part1_eq_skeleton : k0_part1 (F := F) = k0_part1_skel (F := F) := rfl

noncomputable def k0_part2_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h2 : k0_cond2 i = 1#1) (c0_i32_203 : BitVec 32) (c1_i32 : BitVec 32) (k0_t2 : Fin k0_t2_loop.trips) :
    Prog (TpuEff nD τ sig (Elt F) Λ₀ .tc) (Σ' (v324 : BitVec 32), FVec F S32x1 .f32) := do
  let arg13 : BitVec 32 := Scf.iv c0_i32_203 c1_i32 k0_t2
  let v324 : BitVec 32 := Scalar.muli arg13 32#32
  let v326 : Vec F S32x128 .f32 ← Prog.lift (.load arg12 (Rect.unit (s := S1024x128) (k0_off11 k0_t2) S32x128.size (k0_off11_inb i k0_t2 k0_h2)).toLoadRect (View.loadsAt_vmem h_S32x128))
  let v338 : Vec F S32x128 .f32 ← Prog.lift (.load arg9 (Rect.unit (s := S1024x128) (k0_off11 k0_t2) S32x128.size (k0_off11_inb i k0_t2 k0_h2)).toLoadRect (View.loadsAt_vmem h_S32x128))
  Prog.lift (.store arg9 (Rect.unit (s := S1024x128) (k0_off11 k0_t2) S32x128.size (k0_off11_inb i k0_t2 k0_h2)) (k0_pay9 v326) Finset.univ (View.stores_vmem_bits_univ h_S32x128 rfl) (.inl rfl))
  let v340 : Vec F S1x32x256 .f32 ← Prog.lift (.load arg11 (Rect.unit (s := S10x1024x256) (k0_off12 k0_t2) S1x32x256.size (k0_off12_inb i k0_t2 k0_h2)).toLoadRect (View.loadsAt_vmem h_S1x32x256))
  let v350 : Vec F S32x256 .fp8e4m3 ← Prog.lift (.load arg8 (Rect.unit (s := S1024x2560) (k0_off13 k0_t2) S32x256.size (k0_off13_inb i k0_t2 k0_h2)).toLoadRect (View.loadsAt_vmem h_S32x256))
  Prog.lift (.store arg8 (Rect.unit (s := S1024x2560) (k0_off13 k0_t2) S32x256.size (k0_off13_inb i k0_t2 k0_h2)) (k0_pay10 v326 v340) Finset.univ (View.stores_vmem h_S32x256 (harg8.storeExact_slice rfl _ (k0_off13_packedfp8e4m3 i k0_t2 k0_h2)) (fun _ => rfl)) (.inl rfl))
  let v352 : Vec F S1x32x256 .f32 ← Prog.lift (.load arg11 (Rect.unit (s := S10x1024x256) (k0_off14 k0_t2) S1x32x256.size (k0_off14_inb i k0_t2 k0_h2)).toLoadRect (View.loadsAt_vmem h_S1x32x256))
  let v362 : Vec F S32x256 .fp8e4m3 ← Prog.lift (.load arg8 (Rect.unit (s := S1024x2560) (k0_off15 k0_t2) S32x256.size (k0_off15_inb i k0_t2 k0_h2)).toLoadRect (View.loadsAt_vmem h_S32x256))
  Prog.lift (.store arg8 (Rect.unit (s := S1024x2560) (k0_off15 k0_t2) S32x256.size (k0_off15_inb i k0_t2 k0_h2)) (k0_pay11 v326 v352) Finset.univ (View.stores_vmem h_S32x256 (harg8.storeExact_slice rfl _ (k0_off15_packedfp8e4m3 i k0_t2 k0_h2)) (fun _ => rfl)) (.inl rfl))
  pure ⟨v324, k0_pay8 v326⟩

set_option maxRecDepth 65536 in
theorem k0_part2_eq_skeleton : k0_part2 (F := F) = k0_part2_skel (F := F) := rfl

noncomputable def k0_part3_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h2 : k0_cond2 i = 1#1) (k0_t2 : Fin k0_t2_loop.trips) (v324 : BitVec 32) (v334 : FVec F S32x1 .f32) :
    Prog (TpuEff nD τ sig (Elt F) Λ₀ .tc) (Σ' (v401 : FVec F S32x256 .f32), FVec F S32x256 .f32) := do
  let v364 : Vec F S1x32x256 .f32 ← Prog.lift (.load arg11 (Rect.unit (s := S10x1024x256) (k0_off16 k0_t2) S1x32x256.size (k0_off16_inb i k0_t2 k0_h2)).toLoadRect (View.loadsAt_vmem h_S1x32x256))
  let v374 : Vec F S32x256 .fp8e4m3 ← Prog.lift (.load arg8 (Rect.unit (s := S1024x2560) (k0_off17 k0_t2) S32x256.size (k0_off17_inb i k0_t2 k0_h2)).toLoadRect (View.loadsAt_vmem h_S32x256))
  Prog.lift (.store arg8 (Rect.unit (s := S1024x2560) (k0_off17 k0_t2) S32x256.size (k0_off17_inb i k0_t2 k0_h2)) (k0_pay12 v334 v364) Finset.univ (View.stores_vmem h_S32x256 (harg8.storeExact_slice rfl _ (k0_off17_packedfp8e4m3 i k0_t2 k0_h2)) (fun _ => rfl)) (.inl rfl))
  let v376 : Vec F S1x32x256 .f32 ← Prog.lift (.load arg11 (Rect.unit (s := S10x1024x256) (k0_off18 k0_t2) S1x32x256.size (k0_off18_inb i k0_t2 k0_h2)).toLoadRect (View.loadsAt_vmem h_S1x32x256))
  let v386 : Vec F S32x256 .fp8e4m3 ← Prog.lift (.load arg8 (Rect.unit (s := S1024x2560) (k0_off19 k0_t2) S32x256.size (k0_off19_inb i k0_t2 k0_h2)).toLoadRect (View.loadsAt_vmem h_S32x256))
  Prog.lift (.store arg8 (Rect.unit (s := S1024x2560) (k0_off19 k0_t2) S32x256.size (k0_off19_inb i k0_t2 k0_h2)) (k0_pay13 v334 v376) Finset.univ (View.stores_vmem h_S32x256 (harg8.storeExact_slice rfl _ (k0_off19_packedfp8e4m3 i k0_t2 k0_h2)) (fun _ => rfl)) (.inl rfl))
  let v388 : Vec F S1x32x256 .f32 ← Prog.lift (.load arg11 (Rect.unit (s := S10x1024x256) (k0_off20 k0_t2) S1x32x256.size (k0_off20_inb i k0_t2 k0_h2)).toLoadRect (View.loadsAt_vmem h_S1x32x256))
  let v398 : Vec F S32x256 .fp8e4m3 ← Prog.lift (.load arg8 (Rect.unit (s := S1024x2560) (k0_off21 k0_t2) S32x256.size (k0_off21_inb i k0_t2 k0_h2)).toLoadRect (View.loadsAt_vmem h_S32x256))
  Prog.lift (.store arg8 (Rect.unit (s := S1024x2560) (k0_off21 k0_t2) S32x256.size (k0_off21_inb i k0_t2 k0_h2)) (k0_pay14 v334 v388) Finset.univ (View.stores_vmem h_S32x256 (harg8.storeExact_slice rfl _ (k0_off21_packedfp8e4m3 i k0_t2 k0_h2)) (fun _ => rfl)) (.inl rfl))
  let v400 : Vec F S1x32x256 .f32 ← Prog.lift (.load arg11 (Rect.unit (s := S10x1024x256) (k0_off22 k0_t2) S1x32x256.size (k0_off22_inb i k0_t2 k0_h2)).toLoadRect (View.loadsAt_vmem h_S1x32x256))
  pure ⟨k0_pay15 v400, k0_pay16 v334⟩

set_option maxRecDepth 65536 in
theorem k0_part3_eq_skeleton : k0_part3 (F := F) = k0_part3_skel (F := F) := rfl

noncomputable def k0_part4_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h2 : k0_cond2 i = 1#1) (k0_t2 : Fin k0_t2_loop.trips) (v324 : BitVec 32) (v334 : FVec F S32x1 .f32) (v401 : FVec F S32x256 .f32) (v402 : FVec F S32x256 .f32) :
    Prog (TpuEff nD τ sig (Elt F) Λ₀ .tc) (Σ' (v441 : FVec F S32x256 .f32), FVec F S32x256 .f32) := do
  let v410 : Vec F S32x256 .fp8e4m3 ← Prog.lift (.load arg8 (Rect.unit (s := S1024x2560) (k0_off23 k0_t2) S32x256.size (k0_off23_inb i k0_t2 k0_h2)).toLoadRect (View.loadsAt_vmem h_S32x256))
  Prog.lift (.store arg8 (Rect.unit (s := S1024x2560) (k0_off23 k0_t2) S32x256.size (k0_off23_inb i k0_t2 k0_h2)) (k0_pay17 v401 v402) Finset.univ (View.stores_vmem h_S32x256 (harg8.storeExact_slice rfl _ (k0_off23_packedfp8e4m3 i k0_t2 k0_h2)) (fun _ => rfl)) (.inl rfl))
  let v412 : Vec F S1x32x256 .f32 ← Prog.lift (.load arg11 (Rect.unit (s := S10x1024x256) (k0_off24 k0_t2) S1x32x256.size (k0_off24_inb i k0_t2 k0_h2)).toLoadRect (View.loadsAt_vmem h_S1x32x256))
  let v422 : Vec F S32x256 .fp8e4m3 ← Prog.lift (.load arg8 (Rect.unit (s := S1024x2560) (k0_off25 k0_t2) S32x256.size (k0_off25_inb i k0_t2 k0_h2)).toLoadRect (View.loadsAt_vmem h_S32x256))
  Prog.lift (.store arg8 (Rect.unit (s := S1024x2560) (k0_off25 k0_t2) S32x256.size (k0_off25_inb i k0_t2 k0_h2)) (k0_pay18 v334 v412) Finset.univ (View.stores_vmem h_S32x256 (harg8.storeExact_slice rfl _ (k0_off25_packedfp8e4m3 i k0_t2 k0_h2)) (fun _ => rfl)) (.inl rfl))
  let v424 : Vec F S1x32x256 .f32 ← Prog.lift (.load arg11 (Rect.unit (s := S10x1024x256) (k0_off26 k0_t2) S1x32x256.size (k0_off26_inb i k0_t2 k0_h2)).toLoadRect (View.loadsAt_vmem h_S1x32x256))
  let v434 : Vec F S32x256 .fp8e4m3 ← Prog.lift (.load arg8 (Rect.unit (s := S1024x2560) (k0_off27 k0_t2) S32x256.size (k0_off27_inb i k0_t2 k0_h2)).toLoadRect (View.loadsAt_vmem h_S32x256))
  Prog.lift (.store arg8 (Rect.unit (s := S1024x2560) (k0_off27 k0_t2) S32x256.size (k0_off27_inb i k0_t2 k0_h2)) (k0_pay19 v334 v424) Finset.univ (View.stores_vmem h_S32x256 (harg8.storeExact_slice rfl _ (k0_off27_packedfp8e4m3 i k0_t2 k0_h2)) (fun _ => rfl)) (.inl rfl))
  let v436 : Vec F S1x32x256 .f32 ← Prog.lift (.load arg11 (Rect.unit (s := S10x1024x256) (k0_off28 k0_t2) S1x32x256.size (k0_off28_inb i k0_t2 k0_h2)).toLoadRect (View.loadsAt_vmem h_S1x32x256))
  pure ⟨k0_pay20 v334 v436, k0_pay21 (F := F)⟩

set_option maxRecDepth 65536 in
theorem k0_part4_eq_skeleton : k0_part4 (F := F) = k0_part4_skel (F := F) := rfl

noncomputable def k0_t1_body (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h1 : k0_cond1 i = 1#1) (v323 : Vec F S1x2560 .f32) (v325 : Vec F S1x2560 .f32) :
    Fin k0_t1_loop.trips → Unit → Prog (TpuEff nD τ sig (Elt F) Λ₀ .tc) (Unit) :=
  fun k0_t1 _ => do
    let ⟨v332, v375⟩ : Σ' (v332 : BitVec 32), FVec F S32x1 .f32 ← k0_part1 i arg1 harg1 arg2 harg2 arg3 harg3 arg4 harg4 arg5 harg5 arg6 harg6 arg7 harg7 arg8 harg8 arg9 harg9 arg10 harg10 arg11 harg11 arg12 harg12 k0_h1 (k0_pay22 v323) (k0_pay23 v325) 0#32 1#32 k0_t1
    let v378 : Vec F S32x128 .f32 ← Prog.lift (.load arg7 (Rect.unit (s := S1024x128) (k0_off2 k0_t1) S32x128.size (k0_off2_inb i k0_t1 k0_h1)).toLoadRect (View.loadsAt_vmem h_S32x128))
    Prog.lift (.store arg7 (Rect.unit (s := S1024x128) (k0_off2 k0_t1) S32x128.size (k0_off2_inb i k0_t1 k0_h1)) (k0_pay24 v375) Finset.univ (View.stores_vmem_bits_univ h_S32x128 rfl) (.inl rfl))
    pure ⟨⟩

noncomputable def k0_part5_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) :
    Prog (TpuEff nD τ sig (Elt F) Λ₀ .tc) (Σ' (arg0 : BitVec 32) (v27 : FVec F S1024x2560 .fp8e4m3), FVec F S2560x128 .fp8e4m3) := do
  let arg0 : BitVec 32 := BitVec.ofNat 32 (i 0).val
  if k0_h1 : k0_cond1 i = 1#1 then do
    let v323 : Vec F S1x2560 .f32 ← Prog.lift (.load arg2 (Rect.unit (s := S1x2560) ![0, 0] S1x2560.size inb_S1x2560_S1x2560_0_0).toLoadRect (View.loadsAt_vmem h_S1x2560))
    let v325 : Vec F S1x2560 .f32 ← Prog.lift (.load arg3 (Rect.unit (s := S1x2560) ![0, 0] S1x2560.size inb_S1x2560_S1x2560_0_0).toLoadRect (View.loadsAt_vmem h_S1x2560))
    Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 k0_h1 v323 v325)
    let v329 : Vec F S1024x128 .f32 ← Prog.lift (.load arg12 (Rect.unit (s := S1024x128) ![0, 0] S1024x128.size inb_S1024x128_S1024x128_0_0).toLoadRect (View.loadsAt_vmem h_S1024x128))
    Prog.lift (.store arg12 (Rect.unit (s := S1024x128) ![0, 0] S1024x128.size inb_S1024x128_S1024x128_0_0) (k0_pay25 (F := F)) Finset.univ (View.stores_vmem_bits_univ h_S1024x128 rfl) (.inl rfl))
    pure ⟨⟩
  else do
    pure ⟨⟩
  let v3 : Vec F S1024x2560 .fp8e4m3 ← Prog.lift (.load arg6 (Rect.unit (s := S1024x2560) ![0, 0] S1024x2560.size inb_S1024x2560_S1024x2560_0_0).toLoadRect (View.loadsAt_vmem h_S1024x2560))
  let v5 : Vec F S1x1x2560x128 .fp8e4m3 ← Prog.lift (.load arg4 (Rect.unit (s := S3x2x2560x128) ![0, 0, 0, 0] S1x1x2560x128.size inb_S3x2x2560x128_S1x1x2560x128_0_0_0_0).toLoadRect (View.loadsAt_vmem h_S1x1x2560x128))
  let v7 : Vec F S1x1x2560x128 .fp8e4m3 ← Prog.lift (.load arg4 (Rect.unit (s := S3x2x2560x128) ![0, 1, 0, 0] S1x1x2560x128.size inb_S3x2x2560x128_S1x1x2560x128_0_1_0_0).toLoadRect (View.loadsAt_vmem h_S1x1x2560x128))
  let v11 : Vec F S1024x128 .f32 ← Prog.lift (.load arg7 (Rect.unit (s := S1024x128) ![0, 0] S1024x128.size inb_S1024x128_S1024x128_0_0).toLoadRect (View.loadsAt_vmem h_S1024x128))
  let v18 : Vec F S1x1x256 .f32 ← Prog.lift (.load arg5 (Rect.unit (s := S1x3x256) ![0, 0, 0] S1x1x256.size inb_S1x3x256_S1x1x256_0_0_0).toLoadRect (View.loadsAt_vmem h_S1x1x256))
  let v23 : Vec F S1x1024x256 .bf16 ← Prog.lift (.load arg10 (Rect.unit (s := S3x1024x256) ![0, 0, 0] S1x1024x256.size inb_S3x1024x256_S1x1024x256_0_0_0).toLoadRect (View.loadsAt_vmem h_S1x1024x256))
  Prog.lift (.store arg10 (Rect.unit (s := S3x1024x256) ![0, 0, 0] S1x1024x256.size inb_S3x1024x256_S1x1024x256_0_0_0) (k0_pay26 v3 v5 v7 v11 v18) Finset.univ (View.stores_vmem h_S1x1024x256 (harg10.storeExact_slice rfl _ packedbf16_S3x1024x256_S1x1024x256_0_0_0) (fun _ => rfl)) (.inl rfl))
  let v26 : Vec F S1024x2560 .fp8e4m3 ← Prog.lift (.load arg6 (Rect.unit (s := S1024x2560) ![0, 0] S1024x2560.size inb_S1024x2560_S1024x2560_0_0).toLoadRect (View.loadsAt_vmem h_S1024x2560))
  let v28 : Vec F S1x1x2560x128 .fp8e4m3 ← Prog.lift (.load arg4 (Rect.unit (s := S3x2x2560x128) ![1, 0, 0, 0] S1x1x2560x128.size inb_S3x2x2560x128_S1x1x2560x128_1_0_0_0).toLoadRect (View.loadsAt_vmem h_S1x1x2560x128))
  pure ⟨arg0, k0_pay27 v26, k0_pay28 v28⟩

set_option maxRecDepth 65536 in
theorem k0_part5_eq_skeleton : k0_part5 (F := F) = k0_part5_skel (F := F) := rfl

noncomputable def k0_part6_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (v27 : FVec F S1024x2560 .fp8e4m3) (v29 : FVec F S2560x128 .fp8e4m3) :
    Prog (TpuEff nD τ sig (Elt F) Λ₀ .tc) (Σ' (v60 : FVec F S1024x128 .f32), FVec F S1024x128 .f32) := do
  let v30 : Vec F S1x1x2560x128 .fp8e4m3 ← Prog.lift (.load arg4 (Rect.unit (s := S3x2x2560x128) ![1, 1, 0, 0] S1x1x2560x128.size inb_S3x2x2560x128_S1x1x2560x128_1_1_0_0).toLoadRect (View.loadsAt_vmem h_S1x1x2560x128))
  let v34 : Vec F S1024x128 .f32 ← Prog.lift (.load arg7 (Rect.unit (s := S1024x128) ![0, 0] S1024x128.size inb_S1024x128_S1024x128_0_0).toLoadRect (View.loadsAt_vmem h_S1024x128))
  let v41 : Vec F S1x1x256 .f32 ← Prog.lift (.load arg5 (Rect.unit (s := S1x3x256) ![0, 1, 0] S1x1x256.size inb_S1x3x256_S1x1x256_0_1_0).toLoadRect (View.loadsAt_vmem h_S1x1x256))
  let v46 : Vec F S1x1024x256 .bf16 ← Prog.lift (.load arg10 (Rect.unit (s := S3x1024x256) ![1, 0, 0] S1x1024x256.size inb_S3x1024x256_S1x1024x256_1_0_0).toLoadRect (View.loadsAt_vmem h_S1x1024x256))
  Prog.lift (.store arg10 (Rect.unit (s := S3x1024x256) ![1, 0, 0] S1x1024x256.size inb_S3x1024x256_S1x1024x256_1_0_0) (k0_pay29 v27 v29 v30 v34 v41) Finset.univ (View.stores_vmem h_S1x1024x256 (harg10.storeExact_slice rfl _ packedbf16_S3x1024x256_S1x1024x256_1_0_0) (fun _ => rfl)) (.inl rfl))
  let v49 : Vec F S1024x2560 .fp8e4m3 ← Prog.lift (.load arg6 (Rect.unit (s := S1024x2560) ![0, 0] S1024x2560.size inb_S1024x2560_S1024x2560_0_0).toLoadRect (View.loadsAt_vmem h_S1024x2560))
  let v51 : Vec F S1x1x2560x128 .fp8e4m3 ← Prog.lift (.load arg4 (Rect.unit (s := S3x2x2560x128) ![2, 0, 0, 0] S1x1x2560x128.size inb_S3x2x2560x128_S1x1x2560x128_2_0_0_0).toLoadRect (View.loadsAt_vmem h_S1x1x2560x128))
  let v53 : Vec F S1x1x2560x128 .fp8e4m3 ← Prog.lift (.load arg4 (Rect.unit (s := S3x2x2560x128) ![2, 1, 0, 0] S1x1x2560x128.size inb_S3x2x2560x128_S1x1x2560x128_2_1_0_0).toLoadRect (View.loadsAt_vmem h_S1x1x2560x128))
  let v57 : Vec F S1024x128 .f32 ← Prog.lift (.load arg7 (Rect.unit (s := S1024x128) ![0, 0] S1024x128.size inb_S1024x128_S1024x128_0_0).toLoadRect (View.loadsAt_vmem h_S1024x128))
  pure ⟨k0_pay32 v49 v51 v53 v57, k0_pay33 v49 v51 v53 v57⟩

set_option maxRecDepth 65536 in
theorem k0_part6_eq_skeleton : k0_part6 (F := F) = k0_part6_skel (F := F) := rfl

noncomputable def k0_part7_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (arg0 : BitVec 32) (v60 : FVec F S1024x128 .f32) (v62 : FVec F S1024x128 .f32) :
    Prog (TpuEff nD τ sig (Elt F) Λ₀ .tc) (Σ' (v94 : FVec F S256x128 .f32), FVec F S1x256x128 .f32) := do
  let v64 : Vec F S1x1x256 .f32 ← Prog.lift (.load arg5 (Rect.unit (s := S1x3x256) ![0, 2, 0] S1x1x256.size inb_S1x3x256_S1x1x256_0_2_0).toLoadRect (View.loadsAt_vmem h_S1x1x256))
  let v69 : Vec F S1x1024x256 .bf16 ← Prog.lift (.load arg10 (Rect.unit (s := S3x1024x256) ![2, 0, 0] S1x1024x256.size inb_S3x1024x256_S1x1024x256_2_0_0).toLoadRect (View.loadsAt_vmem h_S1x1024x256))
  Prog.lift (.store arg10 (Rect.unit (s := S3x1024x256) ![2, 0, 0] S1x1024x256.size inb_S3x1024x256_S1x1024x256_2_0_0) (k0_pay34 v60 v62 v64) Finset.univ (View.stores_vmem h_S1x1024x256 (harg10.storeExact_slice rfl _ packedbf16_S3x1024x256_S1x1024x256_2_0_0) (fun _ => rfl)) (.inl rfl))
  let v72 : Vec F S1x256x128 .bf16 ← Prog.lift (.load arg10 (Rect.unit (s := S3x1024x256) ![0, 0, 0] S1x256x128.size inb_S3x1024x256_S1x256x128_0_0_0).toLoadRect (View.loadsAt_vmem h_S1x256x128))
  let v74 : Vec F S1x256x128 .bf16 ← Prog.lift (.load arg10 (Rect.unit (s := S3x1024x256) ![1, 0, 0] S1x256x128.size inb_S3x1024x256_S1x256x128_1_0_0).toLoadRect (View.loadsAt_vmem h_S1x256x128))
  let v90 : Vec F S1x256x128 .bf16 ← Prog.lift (.load arg10 (Rect.unit (s := S3x1024x256) ![2, 0, 0] S1x256x128.size inb_S3x1024x256_S1x256x128_2_0_0).toLoadRect (View.loadsAt_vmem h_S1x256x128))
  let v96 : Vec F S1x256x128 .f32 ← Prog.lift (.load arg11 (Rect.unit (s := S10x1024x256) (k0_off3 i) S1x256x128.size (k0_off3_inb i)).toLoadRect (View.loadsAt_vmem h_S1x256x128))
  pure ⟨k0_pay35 v72 v74 v90, k0_pay36 v72 v74 v90⟩

set_option maxRecDepth 65536 in
theorem k0_part7_eq_skeleton : k0_part7 (F := F) = k0_part7_skel (F := F) := rfl

noncomputable def k0_part8_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (arg0 : BitVec 32) (v94 : FVec F S256x128 .f32) (v98 : FVec F S1x256x128 .f32) :
    Prog (TpuEff nD τ sig (Elt F) Λ₀ .tc) (PUnit) := do
  Prog.lift (.store arg11 (Rect.unit (s := S10x1024x256) (k0_off3 i) S1x256x128.size (k0_off3_inb i)) v98 Finset.univ (View.stores_vmem_bits_univ h_S1x256x128 rfl) (.inl rfl))
  let v100 : Vec F S1x256x128 .bf16 ← Prog.lift (.load arg10 (Rect.unit (s := S3x1024x256) ![0, 0, 128] S1x256x128.size inb_S3x1024x256_S1x256x128_0_0_128).toLoadRect (View.loadsAt_vmem h_S1x256x128))
  let v102 : Vec F S1x256x128 .bf16 ← Prog.lift (.load arg10 (Rect.unit (s := S3x1024x256) ![1, 0, 128] S1x256x128.size inb_S3x1024x256_S1x256x128_1_0_128).toLoadRect (View.loadsAt_vmem h_S1x256x128))
  let v118 : Vec F S1x256x128 .bf16 ← Prog.lift (.load arg10 (Rect.unit (s := S3x1024x256) ![2, 0, 128] S1x256x128.size inb_S3x1024x256_S1x256x128_2_0_128).toLoadRect (View.loadsAt_vmem h_S1x256x128))
  let v124 : Vec F S1x256x128 .f32 ← Prog.lift (.load arg11 (Rect.unit (s := S10x1024x256) (k0_off4 i) S1x256x128.size (k0_off4_inb i)).toLoadRect (View.loadsAt_vmem h_S1x256x128))
  Prog.lift (.store arg11 (Rect.unit (s := S10x1024x256) (k0_off4 i) S1x256x128.size (k0_off4_inb i)) (k0_pay38 v100 v102 v118) Finset.univ (View.stores_vmem_bits_univ h_S1x256x128 rfl) (.inl rfl))
  let v128 : Vec F S256x128 .f32 ← Prog.lift (.load arg12 (Rect.unit (s := S1024x128) ![0, 0] S256x128.size inb_S1024x128_S256x128_0_0).toLoadRect (View.loadsAt_vmem h_S256x128))
  let v131 : Vec F S256x128 .f32 ← Prog.lift (.load arg12 (Rect.unit (s := S1024x128) ![0, 0] S256x128.size inb_S1024x128_S256x128_0_0).toLoadRect (View.loadsAt_vmem h_S256x128))
  Prog.lift (.store arg12 (Rect.unit (s := S1024x128) ![0, 0] S256x128.size inb_S1024x128_S256x128_0_0) (k0_pay39 v94 v100 v102 v118 v128) Finset.univ (View.stores_vmem_bits_univ h_S256x128 rfl) (.inl rfl))
  pure ⟨⟩

set_option maxRecDepth 65536 in
theorem k0_part8_eq_skeleton : k0_part8 (F := F) = k0_part8_skel (F := F) := rfl

noncomputable def k0_part9_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (arg0 : BitVec 32) :
    Prog (TpuEff nD τ sig (Elt F) Λ₀ .tc) (Σ' (v161 : FVec F S256x128 .f32), FVec F S256x256 .f32) := do
  let v134 : Vec F S1x256x128 .bf16 ← Prog.lift (.load arg10 (Rect.unit (s := S3x1024x256) ![0, 256, 0] S1x256x128.size inb_S3x1024x256_S1x256x128_0_256_0).toLoadRect (View.loadsAt_vmem h_S1x256x128))
  let v136 : Vec F S1x256x128 .bf16 ← Prog.lift (.load arg10 (Rect.unit (s := S3x1024x256) ![1, 256, 0] S1x256x128.size inb_S3x1024x256_S1x256x128_1_256_0).toLoadRect (View.loadsAt_vmem h_S1x256x128))
  let v152 : Vec F S1x256x128 .bf16 ← Prog.lift (.load arg10 (Rect.unit (s := S3x1024x256) ![2, 256, 0] S1x256x128.size inb_S3x1024x256_S1x256x128_2_256_0).toLoadRect (View.loadsAt_vmem h_S1x256x128))
  let v158 : Vec F S1x256x128 .f32 ← Prog.lift (.load arg11 (Rect.unit (s := S10x1024x256) (k0_off5 i) S1x256x128.size (k0_off5_inb i)).toLoadRect (View.loadsAt_vmem h_S1x256x128))
  Prog.lift (.store arg11 (Rect.unit (s := S10x1024x256) (k0_off5 i) S1x256x128.size (k0_off5_inb i)) (k0_pay41 v134 v136 v152) Finset.univ (View.stores_vmem_bits_univ h_S1x256x128 rfl) (.inl rfl))
  let v162 : Vec F S1x256x128 .bf16 ← Prog.lift (.load arg10 (Rect.unit (s := S3x1024x256) ![0, 256, 128] S1x256x128.size inb_S3x1024x256_S1x256x128_0_256_128).toLoadRect (View.loadsAt_vmem h_S1x256x128))
  let v164 : Vec F S1x256x128 .bf16 ← Prog.lift (.load arg10 (Rect.unit (s := S3x1024x256) ![1, 256, 128] S1x256x128.size inb_S3x1024x256_S1x256x128_1_256_128).toLoadRect (View.loadsAt_vmem h_S1x256x128))
  pure ⟨k0_pay42 v134 v136 v152, k0_pay43 v162 v164⟩

set_option maxRecDepth 65536 in
theorem k0_part9_eq_skeleton : k0_part9 (F := F) = k0_part9_skel (F := F) := rfl

noncomputable def k0_part10_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (arg0 : BitVec 32) (v161 : FVec F S256x128 .f32) (v168 : FVec F S256x256 .f32) :
    Prog (TpuEff nD τ sig (Elt F) Λ₀ .tc) (FVec F S256x256 .f32) := do
  let v180 : Vec F S1x256x128 .bf16 ← Prog.lift (.load arg10 (Rect.unit (s := S3x1024x256) ![2, 256, 128] S1x256x128.size inb_S3x1024x256_S1x256x128_2_256_128).toLoadRect (View.loadsAt_vmem h_S1x256x128))
  let v186 : Vec F S1x256x128 .f32 ← Prog.lift (.load arg11 (Rect.unit (s := S10x1024x256) (k0_off6 i) S1x256x128.size (k0_off6_inb i)).toLoadRect (View.loadsAt_vmem h_S1x256x128))
  Prog.lift (.store arg11 (Rect.unit (s := S10x1024x256) (k0_off6 i) S1x256x128.size (k0_off6_inb i)) (k0_pay45 v168 v180) Finset.univ (View.stores_vmem_bits_univ h_S1x256x128 rfl) (.inl rfl))
  let v190 : Vec F S256x128 .f32 ← Prog.lift (.load arg12 (Rect.unit (s := S1024x128) ![256, 0] S256x128.size inb_S1024x128_S256x128_256_0).toLoadRect (View.loadsAt_vmem h_S256x128))
  let v193 : Vec F S256x128 .f32 ← Prog.lift (.load arg12 (Rect.unit (s := S1024x128) ![256, 0] S256x128.size inb_S1024x128_S256x128_256_0).toLoadRect (View.loadsAt_vmem h_S256x128))
  Prog.lift (.store arg12 (Rect.unit (s := S1024x128) ![256, 0] S256x128.size inb_S1024x128_S256x128_256_0) (k0_pay46 v161 v168 v180 v190) Finset.univ (View.stores_vmem_bits_univ h_S256x128 rfl) (.inl rfl))
  let v196 : Vec F S1x256x128 .bf16 ← Prog.lift (.load arg10 (Rect.unit (s := S3x1024x256) ![0, 512, 0] S1x256x128.size inb_S3x1024x256_S1x256x128_0_512_0).toLoadRect (View.loadsAt_vmem h_S1x256x128))
  let v198 : Vec F S1x256x128 .bf16 ← Prog.lift (.load arg10 (Rect.unit (s := S3x1024x256) ![1, 512, 0] S1x256x128.size inb_S3x1024x256_S1x256x128_1_512_0).toLoadRect (View.loadsAt_vmem h_S1x256x128))
  pure (k0_pay47 v196 v198)

set_option maxRecDepth 65536 in
theorem k0_part10_eq_skeleton : k0_part10 (F := F) = k0_part10_skel (F := F) := rfl

noncomputable def k0_part11_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (arg0 : BitVec 32) (v204 : FVec F S256x256 .f32) :
    Prog (TpuEff nD τ sig (Elt F) Λ₀ .tc) (Σ' (v223 : FVec F S256x128 .f32) (v240 : FVec F S256x1 .f32), FVec F S256x256 .bf16) := do
  let v214 : Vec F S1x256x128 .bf16 ← Prog.lift (.load arg10 (Rect.unit (s := S3x1024x256) ![2, 512, 0] S1x256x128.size inb_S3x1024x256_S1x256x128_2_512_0).toLoadRect (View.loadsAt_vmem h_S1x256x128))
  let v220 : Vec F S1x256x128 .f32 ← Prog.lift (.load arg11 (Rect.unit (s := S10x1024x256) (k0_off7 i) S1x256x128.size (k0_off7_inb i)).toLoadRect (View.loadsAt_vmem h_S1x256x128))
  Prog.lift (.store arg11 (Rect.unit (s := S10x1024x256) (k0_off7 i) S1x256x128.size (k0_off7_inb i)) (k0_pay49 v204 v214) Finset.univ (View.stores_vmem_bits_univ h_S1x256x128 rfl) (.inl rfl))
  let v224 : Vec F S1x256x128 .bf16 ← Prog.lift (.load arg10 (Rect.unit (s := S3x1024x256) ![0, 512, 128] S1x256x128.size inb_S3x1024x256_S1x256x128_0_512_128).toLoadRect (View.loadsAt_vmem h_S1x256x128))
  let v226 : Vec F S1x256x128 .bf16 ← Prog.lift (.load arg10 (Rect.unit (s := S3x1024x256) ![1, 512, 128] S1x256x128.size inb_S3x1024x256_S1x256x128_1_512_128).toLoadRect (View.loadsAt_vmem h_S1x256x128))
  pure ⟨k0_pay50 v204 v214, k0_pay52 v224 v226, k0_pay53 v224 v226⟩

set_option maxRecDepth 65536 in
theorem k0_part11_eq_skeleton : k0_part11 (F := F) = k0_part11_skel (F := F) := rfl

noncomputable def k0_part12_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (arg0 : BitVec 32) (v223 : FVec F S256x128 .f32) (v240 : FVec F S256x1 .f32) (v241 : FVec F S256x256 .bf16) :
    Prog (TpuEff nD τ sig (Elt F) Λ₀ .tc) (Σ' (v274 : FVec F S256x1 .f32) (v275 : FVec F S256x256 .bf16) (v277 : FVec F S256x128 .bf16), FVec F S256x128 .f32) := do
  let v242 : Vec F S1x256x128 .bf16 ← Prog.lift (.load arg10 (Rect.unit (s := S3x1024x256) ![2, 512, 128] S1x256x128.size inb_S3x1024x256_S1x256x128_2_512_128).toLoadRect (View.loadsAt_vmem h_S1x256x128))
  let v248 : Vec F S1x256x128 .f32 ← Prog.lift (.load arg11 (Rect.unit (s := S10x1024x256) (k0_off8 i) S1x256x128.size (k0_off8_inb i)).toLoadRect (View.loadsAt_vmem h_S1x256x128))
  Prog.lift (.store arg11 (Rect.unit (s := S10x1024x256) (k0_off8 i) S1x256x128.size (k0_off8_inb i)) (k0_pay55 v240 v241 v242) Finset.univ (View.stores_vmem_bits_univ h_S1x256x128 rfl) (.inl rfl))
  let v252 : Vec F S256x128 .f32 ← Prog.lift (.load arg12 (Rect.unit (s := S1024x128) ![512, 0] S256x128.size inb_S1024x128_S256x128_512_0).toLoadRect (View.loadsAt_vmem h_S256x128))
  let v255 : Vec F S256x128 .f32 ← Prog.lift (.load arg12 (Rect.unit (s := S1024x128) ![512, 0] S256x128.size inb_S1024x128_S256x128_512_0).toLoadRect (View.loadsAt_vmem h_S256x128))
  Prog.lift (.store arg12 (Rect.unit (s := S1024x128) ![512, 0] S256x128.size inb_S1024x128_S256x128_512_0) (k0_pay56 v223 v240 v241 v242 v252) Finset.univ (View.stores_vmem_bits_univ h_S256x128 rfl) (.inl rfl))
  let v258 : Vec F S1x256x128 .bf16 ← Prog.lift (.load arg10 (Rect.unit (s := S3x1024x256) ![0, 768, 0] S1x256x128.size inb_S3x1024x256_S1x256x128_0_768_0).toLoadRect (View.loadsAt_vmem h_S1x256x128))
  let v260 : Vec F S1x256x128 .bf16 ← Prog.lift (.load arg10 (Rect.unit (s := S3x1024x256) ![1, 768, 0] S1x256x128.size inb_S3x1024x256_S1x256x128_1_768_0).toLoadRect (View.loadsAt_vmem h_S1x256x128))
  let v276 : Vec F S1x256x128 .bf16 ← Prog.lift (.load arg10 (Rect.unit (s := S3x1024x256) ![2, 768, 0] S1x256x128.size inb_S3x1024x256_S1x256x128_2_768_0).toLoadRect (View.loadsAt_vmem h_S1x256x128))
  have cst_178 : FVec F S256x128 .f32 := constant S256x128 .f32 0x00000000#32
  pure ⟨k0_pay58 v258 v260, k0_pay59 v258 v260, k0_pay60 v276, cst_178⟩

set_option maxRecDepth 65536 in
theorem k0_part12_eq_skeleton : k0_part12 (F := F) = k0_part12_skel (F := F) := rfl

noncomputable def k0_part13_skel (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (arg0 : BitVec 32) (v274 : FVec F S256x1 .f32) (v275 : FVec F S256x256 .bf16) (v277 : FVec F S256x128 .bf16) (cst_178 : FVec F S256x128 .f32) :
    Prog (TpuEff nD τ sig (Elt F) Λ₀ .tc) (Σ' (v285 : FVec F S256x128 .f32) (v313 : FVec F S256x128 .f32), Vec F S256x128 .f32) := do
  let v282 : Vec F S1x256x128 .f32 ← Prog.lift (.load arg11 (Rect.unit (s := S10x1024x256) (k0_off9 i) S1x256x128.size (k0_off9_inb i)).toLoadRect (View.loadsAt_vmem h_S1x256x128))
  Prog.lift (.store arg11 (Rect.unit (s := S10x1024x256) (k0_off9 i) S1x256x128.size (k0_off9_inb i)) (k0_pay62 v274 v275 v277 cst_178) Finset.univ (View.stores_vmem_bits_univ h_S1x256x128 rfl) (.inl rfl))
  let v286 : Vec F S1x256x128 .bf16 ← Prog.lift (.load arg10 (Rect.unit (s := S3x1024x256) ![0, 768, 128] S1x256x128.size inb_S3x1024x256_S1x256x128_0_768_128).toLoadRect (View.loadsAt_vmem h_S1x256x128))
  let v288 : Vec F S1x256x128 .bf16 ← Prog.lift (.load arg10 (Rect.unit (s := S3x1024x256) ![1, 768, 128] S1x256x128.size inb_S3x1024x256_S1x256x128_1_768_128).toLoadRect (View.loadsAt_vmem h_S1x256x128))
  let v304 : Vec F S1x256x128 .bf16 ← Prog.lift (.load arg10 (Rect.unit (s := S3x1024x256) ![2, 768, 128] S1x256x128.size inb_S3x1024x256_S1x256x128_2_768_128).toLoadRect (View.loadsAt_vmem h_S1x256x128))
  let v310 : Vec F S1x256x128 .f32 ← Prog.lift (.load arg11 (Rect.unit (s := S10x1024x256) (k0_off10 i) S1x256x128.size (k0_off10_inb i)).toLoadRect (View.loadsAt_vmem h_S1x256x128))
  Prog.lift (.store arg11 (Rect.unit (s := S10x1024x256) (k0_off10 i) S1x256x128.size (k0_off10_inb i)) (k0_pay65 v286 v288 v304) Finset.univ (View.stores_vmem_bits_univ h_S1x256x128 rfl) (.inl rfl))
  let v314 : Vec F S256x128 .f32 ← Prog.lift (.load arg12 (Rect.unit (s := S1024x128) ![768, 0] S256x128.size inb_S1024x128_S256x128_768_0).toLoadRect (View.loadsAt_vmem h_S256x128))
  pure ⟨k0_pay63 v274 v275 v277 cst_178, k0_pay66 v286 v288 v304, v314⟩

set_option maxRecDepth 65536 in
theorem k0_part13_eq_skeleton : k0_part13 (F := F) = k0_part13_skel (F := F) := rfl

end Cert.SpatKernelIdeal.Body

end
-- ==== Proof.SpatILoops.lean ====
/- The two loops of `SpatKernelIdeal` (the quantised layer norm of the first point, the quantisation of the attention at the last): one
   trip of each run at any row group, the pieces the trips before one leave, and the invariant the whole loop is run by. -/
module

public import proofs.«01_k».proof.Proof.SpatISkeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.SpatKernelIdeal.Body

open Cert.SpatKernelIdeal Cert.SpatKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h2 : k0_cond2 i = 1#1) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st (k0_t2_ok i k0_h2) () (k0_t2_body (F := F) i arg1 harg1 arg2 harg2 arg3 harg3 arg4 harg4 arg5 harg5 arg6 harg6 arg7 harg7 arg8 harg8 arg9 harg9 arg10 harg10 arg11 harg11 arg12 harg12 k0_h2)

/-! ### `k0_t2_loop`: the generated invariant (classifier: affine) -/

abbrev Trip_k0_t2 (c : Dev nD) (arg11 : Memref sig .tc .vmem S10x1024x256 .f32) (arg12 : Memref sig .tc .vmem S1024x128 .f32) (arg8 : Memref sig .tc .vmem S1024x2560 .fp8e4m3) (arg9 : Memref sig .tc .vmem S1024x128 .f32) (X_arg11 : BufTy.Contents (Elt F) arg11.view.ty) (X_arg12 : BufTy.Contents (Elt F) arg12.view.ty) (f_arg8 : BufTy.Contents (Elt F) arg8.view.ty) (f_arg9 : BufTy.Contents (Elt F) arg9.view.ty) : sProp 𝕄G :=
  iprop((arg11.view.loc (c : Thread nD τ) ↦[arg11.view.set]{fullShare} X_arg11) ∗ (arg12.view.loc (c : Thread nD τ) ↦[arg12.view.set]{fullShare} X_arg12) ∗ (arg8.view.loc (c : Thread nD τ) ↦[arg8.view.set]{fullShare} f_arg8) ∗ (arg9.view.loc (c : Thread nD τ) ↦[arg9.view.set]{fullShare} f_arg9))

@[irreducible] def trip_k0_t2 (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h2 : k0_cond2 i = 1#1) (X_arg11 : BufTy.Contents (Elt F) arg11.view.ty) (X_arg12 : BufTy.Contents (Elt F) arg12.view.ty) (k : Fin k0_t2_loop.trips) :
    Σ' (L_arg8 : List (View.Piece (Elt F) S1024x2560 .fp8e4m3)) , { L_arg9 : List (View.Piece (Elt F) S1024x128 .f32) // ∀ (E : Set ℕ) (f_arg8 : BufTy.Contents (Elt F) arg8.view.ty) (f_arg9 : BufTy.Contents (Elt F) arg9.view.ty),
      Trip_k0_t2 (F := F) c arg11 arg12 arg8 arg9 X_arg11 X_arg12 f_arg8 f_arg9
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 k0_h2 k PUnit.unit)
          (fun _ => Trip_k0_t2 (F := F) c arg11 arg12 arg8 arg9 X_arg11 X_arg12 (arg8.view.writes (Elt F) f_arg8 L_arg8) (arg9.view.writes (Elt F) f_arg9 L_arg9)) } := by
  have hk : k.val < 32 := Nat.lt_of_lt_of_le k.isLt k0_t2_abs.2.1
  refine ⟨?_, ?_, fun E f_arg8 f_arg9 => ?run⟩
  case run =>
    unfold k0_t2_body
    iintro ⟨HR_arg11, HR_arg12, HW_arg8, HW_arg9⟩
    sl_exec
    sl_step
    sl_close

abbrev tripL_k0_t2 (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h2 : k0_cond2 i = 1#1) (X_arg11 : BufTy.Contents (Elt F) arg11.view.ty) (X_arg12 : BufTy.Contents (Elt F) arg12.view.ty) (k : Fin k0_t2_loop.trips) : List (View.Piece (Elt F) S1024x2560 .fp8e4m3) × List (View.Piece (Elt F) S1024x128 .f32) :=
  ((trip_k0_t2 (F := F) 𝒱 c bd i arg1 harg1 arg2 harg2 arg3 harg3 arg4 harg4 arg5 harg5 arg6 harg6 arg7 harg7 arg8 harg8 arg9 harg9 arg10 harg10 arg11 harg11 arg12 harg12 k0_h2 X_arg11 X_arg12 k).1, (trip_k0_t2 (F := F) 𝒱 c bd i arg1 harg1 arg2 harg2 arg3 harg3 arg4 harg4 arg5 harg5 arg6 harg6 arg7 harg7 arg8 harg8 arg9 harg9 arg10 harg10 arg11 harg11 arg12 harg12 k0_h2 X_arg11 X_arg12 k).2.1)

@[irreducible] def pb_k0_t2Step (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h2 : k0_cond2 i = 1#1) (X_arg11 : BufTy.Contents (Elt F) arg11.view.ty) (X_arg12 : BufTy.Contents (Elt F) arg12.view.ty) (k : ℕ) (prev : List (View.Piece (Elt F) S1024x2560 .fp8e4m3) × List (View.Piece (Elt F) S1024x128 .f32)) : List (View.Piece (Elt F) S1024x2560 .fp8e4m3) × List (View.Piece (Elt F) S1024x128 .f32) :=
  if h : k < k0_t2_loop.trips then
    ((tripL_k0_t2 (F := F) 𝒱 c bd i arg1 harg1 arg2 harg2 arg3 harg3 arg4 harg4 arg5 harg5 arg6 harg6 arg7 harg7 arg8 harg8 arg9 harg9 arg10 harg10 arg11 harg11 arg12 harg12 k0_h2 X_arg11 X_arg12 ⟨k, h⟩).1 ++ prev.1, (tripL_k0_t2 (F := F) 𝒱 c bd i arg1 harg1 arg2 harg2 arg3 harg3 arg4 harg4 arg5 harg5 arg6 harg6 arg7 harg7 arg8 harg8 arg9 harg9 arg10 harg10 arg11 harg11 arg12 harg12 k0_h2 X_arg11 X_arg12 ⟨k, h⟩).2 ++ prev.2)
  else prev

def pb_k0_t2 (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h2 : k0_cond2 i = 1#1) (X_arg11 : BufTy.Contents (Elt F) arg11.view.ty) (X_arg12 : BufTy.Contents (Elt F) arg12.view.ty) : ℕ → List (View.Piece (Elt F) S1024x2560 .fp8e4m3) × List (View.Piece (Elt F) S1024x128 .f32)
  | 0 => ([], [])
  | k + 1 => pb_k0_t2Step 𝒱 c bd i arg1 harg1 arg2 harg2 arg3 harg3 arg4 harg4 arg5 harg5 arg6 harg6 arg7 harg7 arg8 harg8 arg9 harg9 arg10 harg10 arg11 harg11 arg12 harg12 k0_h2 X_arg11 X_arg12 k (pb_k0_t2 𝒱 c bd i arg1 harg1 arg2 harg2 arg3 harg3 arg4 harg4 arg5 harg5 arg6 harg6 arg7 harg7 arg8 harg8 arg9 harg9 arg10 harg10 arg11 harg11 arg12 harg12 k0_h2 X_arg11 X_arg12 k)

theorem pb_k0_t2_succ (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h2 : k0_cond2 i = 1#1) (X_arg11 : BufTy.Contents (Elt F) arg11.view.ty) (X_arg12 : BufTy.Contents (Elt F) arg12.view.ty) (k : Fin k0_t2_loop.trips) :
    pb_k0_t2 (F := F) 𝒱 c bd i arg1 harg1 arg2 harg2 arg3 harg3 arg4 harg4 arg5 harg5 arg6 harg6 arg7 harg7 arg8 harg8 arg9 harg9 arg10 harg10 arg11 harg11 arg12 harg12 k0_h2 X_arg11 X_arg12 (k.val + 1)
      = ((tripL_k0_t2 (F := F) 𝒱 c bd i arg1 harg1 arg2 harg2 arg3 harg3 arg4 harg4 arg5 harg5 arg6 harg6 arg7 harg7 arg8 harg8 arg9 harg9 arg10 harg10 arg11 harg11 arg12 harg12 k0_h2 X_arg11 X_arg12 k).1 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 k0_h2 X_arg11 X_arg12 k.val).1, (tripL_k0_t2 (F := F) 𝒱 c bd i arg1 harg1 arg2 harg2 arg3 harg3 arg4 harg4 arg5 harg5 arg6 harg6 arg7 harg7 arg8 harg8 arg9 harg9 arg10 harg10 arg11 harg11 arg12 harg12 k0_h2 X_arg11 X_arg12 k).2 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 k0_h2 X_arg11 X_arg12 k.val).2) := by
  rw [pb_k0_t2.eq_2]; unfold pb_k0_t2Step; exact dif_pos k.isLt

abbrev inv_k0_t2 (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h2 : k0_cond2 i = 1#1) (X_arg11 : BufTy.Contents (Elt F) arg11.view.ty) (X_arg12 : BufTy.Contents (Elt F) arg12.view.ty) (G_arg8 : BufTy.Contents (Elt F) arg8.view.ty) (G_arg9 : BufTy.Contents (Elt F) arg9.view.ty) (k : ℕ) (_u : PUnit) : sProp 𝕄G :=
  iprop((arg11.view.loc (c : Thread nD τ) ↦[arg11.view.set]{fullShare} X_arg11) ∗ (arg12.view.loc (c : Thread nD τ) ↦[arg12.view.set]{fullShare} X_arg12) ∗ (∃ f, (arg8.view.loc (c : Thread nD τ) ↦[arg8.view.set]{fullShare} f) ∗ ⌜f = arg8.view.writes (Elt F) G_arg8 (pb_k0_t2 (F := F) 𝒱 c bd i arg1 harg1 arg2 harg2 arg3 harg3 arg4 harg4 arg5 harg5 arg6 harg6 arg7 harg7 arg8 harg8 arg9 harg9 arg10 harg10 arg11 harg11 arg12 harg12 k0_h2 X_arg11 X_arg12 k).1⌝) ∗ (∃ f, (arg9.view.loc (c : Thread nD τ) ↦[arg9.view.set]{fullShare} f) ∗ ⌜f = arg9.view.writes (Elt F) G_arg9 (pb_k0_t2 (F := F) 𝒱 c bd i arg1 harg1 arg2 harg2 arg3 harg3 arg4 harg4 arg5 harg5 arg6 harg6 arg7 harg7 arg8 harg8 arg9 harg9 arg10 harg10 arg11 harg11 arg12 harg12 k0_h2 X_arg11 X_arg12 k).2⌝))

set_option warn.classDefReducibility false in
@[sl_loop] def loopInv_k0_t2 (𝒱 : Variants) (c : Dev nD) (bd : Option 𝒱.V) (E : Set ℕ) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h2 : k0_cond2 i = 1#1) (X_arg11 : BufTy.Contents (Elt F) arg11.view.ty) (X_arg12 : BufTy.Contents (Elt F) arg12.view.ty) (G_arg8 : BufTy.Contents (Elt F) arg8.view.ty) (G_arg9 : BufTy.Contents (Elt F) arg9.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 k0_h2 where
  inv := inv_k0_t2 (F := F) 𝒱 c bd i arg1 harg1 arg2 harg2 arg3 harg3 arg4 harg4 arg5 harg5 arg6 harg6 arg7 harg7 arg8 harg8 arg9 harg9 arg10 harg10 arg11 harg11 arg12 harg12 k0_h2 X_arg11 X_arg12 G_arg8 G_arg9
  step k acc := by
    iintro ⟨HR_arg11, HR_arg12, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg11 HR_arg12 HW_arg8 HW_arg9]
    · iapply ((trip_k0_t2 (F := F) 𝒱 c bd i arg1 harg1 arg2 harg2 arg3 harg3 arg4 harg4 arg5 harg5 arg6 harg6 arg7 harg7 arg8 harg8 arg9 harg9 arg10 harg10 arg11 harg11 arg12 harg12 k0_h2 X_arg11 X_arg12 k).2.2 E f_arg8 f_arg9)
      isplitl [HR_arg11]; · iexact HR_arg11
      isplitl [HR_arg12]; · iexact HR_arg12
      isplitl [HW_arg8]; · iexact HW_arg8
      iexact HW_arg9
    · iintro %_ ⟨HR_arg11, HR_arg12, HW_arg8, HW_arg9⟩
      isplitl [HR_arg11]; · iexact HR_arg11
      isplitl [HR_arg12]; · iexact HR_arg12
      rw [pb_k0_t2_succ]
      isplitl [HW_arg8]
      · iexists _; isplitl [HW_arg8]; · iexact HW_arg8
        ipureintro; rw [h_arg8, ← View.writes_append]
      iexists _; isplitl [HW_arg9]; · iexact HW_arg9
      ipureintro; rw [h_arg9, ← View.writes_append]

abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h1 : k0_cond1 i = 1#1) (v323 : Vec F S1x2560 .f32) (v325 : Vec F S1x2560 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st (k0_t1_ok i k0_h1) () (k0_t1_body (F := F) i arg1 harg1 arg2 harg2 arg3 harg3 arg4 harg4 arg5 harg5 arg6 harg6 arg7 harg7 arg8 harg8 arg9 harg9 arg10 harg10 arg11 harg11 arg12 harg12 k0_h1 v323 v325)

/-! ### `k0_t1_loop`: the generated invariant (classifier: affine) -/

abbrev Trip_k0_t1 (c : Dev nD) (arg1 : Memref sig .tc .vmem S1024x2560 .bf16) (arg6 : Memref sig .tc .vmem S1024x2560 .fp8e4m3) (arg7 : Memref sig .tc .vmem S1024x128 .f32) (X_arg1 : BufTy.Contents (Elt F) arg1.view.ty) (f_arg6 : BufTy.Contents (Elt F) arg6.view.ty) (f_arg7 : BufTy.Contents (Elt F) arg7.view.ty) : sProp 𝕄G :=
  iprop((arg1.view.loc (c : Thread nD τ) ↦[arg1.view.set]{fullShare} X_arg1) ∗ (arg6.view.loc (c : Thread nD τ) ↦[arg6.view.set]{fullShare} f_arg6) ∗ (arg7.view.loc (c : Thread nD τ) ↦[arg7.view.set]{fullShare} f_arg7))

@[irreducible] def trip_k0_t1 (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h1 : k0_cond1 i = 1#1) (v323 : Vec F S1x2560 .f32) (v325 : Vec F S1x2560 .f32) (X_arg1 : BufTy.Contents (Elt F) arg1.view.ty) (k : Fin k0_t1_loop.trips) :
    Σ' (L_arg6 : List (View.Piece (Elt F) S1024x2560 .fp8e4m3)) , { L_arg7 : List (View.Piece (Elt F) S1024x128 .f32) // ∀ (E : Set ℕ) (f_arg6 : BufTy.Contents (Elt F) arg6.view.ty) (f_arg7 : BufTy.Contents (Elt F) arg7.view.ty),
      Trip_k0_t1 (F := F) c arg1 arg6 arg7 X_arg1 f_arg6 f_arg7
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 k0_h1 v323 v325 k PUnit.unit)
          (fun _ => Trip_k0_t1 (F := F) c arg1 arg6 arg7 X_arg1 (arg6.view.writes (Elt F) f_arg6 L_arg6) (arg7.view.writes (Elt F) f_arg7 L_arg7)) } := by
  have hk : k.val < 32 := Nat.lt_of_lt_of_le k.isLt k0_t1_abs.2.1
  refine ⟨?_, ?_, fun E f_arg6 f_arg7 => ?run⟩
  case run =>
    unfold k0_t1_body
    iintro ⟨HR_arg1, HW_arg6, HW_arg7⟩
    sl_exec
    sl_step
    sl_close

abbrev tripL_k0_t1 (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h1 : k0_cond1 i = 1#1) (v323 : Vec F S1x2560 .f32) (v325 : Vec F S1x2560 .f32) (X_arg1 : BufTy.Contents (Elt F) arg1.view.ty) (k : Fin k0_t1_loop.trips) : List (View.Piece (Elt F) S1024x2560 .fp8e4m3) × List (View.Piece (Elt F) S1024x128 .f32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 k).1, (trip_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 k).2.1)

@[irreducible] def pb_k0_t1Step (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h1 : k0_cond1 i = 1#1) (v323 : Vec F S1x2560 .f32) (v325 : Vec F S1x2560 .f32) (X_arg1 : BufTy.Contents (Elt F) arg1.view.ty) (k : ℕ) (prev : List (View.Piece (Elt F) S1024x2560 .fp8e4m3) × List (View.Piece (Elt F) S1024x128 .f32)) : List (View.Piece (Elt F) S1024x2560 .fp8e4m3) × List (View.Piece (Elt F) S1024x128 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 ⟨k, h⟩).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 ⟨k, h⟩).2 ++ prev.2)
  else prev

def pb_k0_t1 (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h1 : k0_cond1 i = 1#1) (v323 : Vec F S1x2560 .f32) (v325 : Vec F S1x2560 .f32) (X_arg1 : BufTy.Contents (Elt F) arg1.view.ty) : ℕ → List (View.Piece (Elt F) S1024x2560 .fp8e4m3) × List (View.Piece (Elt F) S1024x128 .f32)
  | 0 => ([], [])
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 k0_h1 v323 v325 X_arg1 k (pb_k0_t1 𝒱 c bd i arg1 harg1 arg2 harg2 arg3 harg3 arg4 harg4 arg5 harg5 arg6 harg6 arg7 harg7 arg8 harg8 arg9 harg9 arg10 harg10 arg11 harg11 arg12 harg12 k0_h1 v323 v325 X_arg1 k)

theorem pb_k0_t1_succ (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h1 : k0_cond1 i = 1#1) (v323 : Vec F S1x2560 .f32) (v325 : Vec F S1x2560 .f32) (X_arg1 : BufTy.Contents (Elt F) arg1.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 k).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 k.val).1, (tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 k).2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 k.val).2) := by
  rw [pb_k0_t1.eq_2]; unfold pb_k0_t1Step; exact dif_pos k.isLt

abbrev inv_k0_t1 (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h1 : k0_cond1 i = 1#1) (v323 : Vec F S1x2560 .f32) (v325 : Vec F S1x2560 .f32) (X_arg1 : BufTy.Contents (Elt F) arg1.view.ty) (G_arg6 : BufTy.Contents (Elt F) arg6.view.ty) (G_arg7 : BufTy.Contents (Elt F) arg7.view.ty) (k : ℕ) (_u : PUnit) : sProp 𝕄G :=
  iprop((arg1.view.loc (c : Thread nD τ) ↦[arg1.view.set]{fullShare} X_arg1) ∗ (∃ f, (arg6.view.loc (c : Thread nD τ) ↦[arg6.view.set]{fullShare} f) ∗ ⌜f = arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 k).1⌝) ∗ (∃ f, (arg7.view.loc (c : Thread nD τ) ↦[arg7.view.set]{fullShare} f) ∗ ⌜f = arg7.view.writes (Elt F) G_arg7 (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 k).2⌝))

set_option warn.classDefReducibility false in
@[sl_loop] def loopInv_k0_t1 (𝒱 : Variants) (c : Dev nD) (bd : Option 𝒱.V) (E : Set ℕ) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h1 : k0_cond1 i = 1#1) (v323 : Vec F S1x2560 .f32) (v325 : Vec F S1x2560 .f32) (X_arg1 : BufTy.Contents (Elt F) arg1.view.ty) (G_arg6 : BufTy.Contents (Elt F) arg6.view.ty) (G_arg7 : BufTy.Contents (Elt F) arg7.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 k0_h1 v323 v325 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 G_arg6 G_arg7
  step k acc := by
    iintro ⟨HR_arg1, ⟨%f_arg6, HW_arg6, %h_arg6⟩, ⟨%f_arg7, HW_arg7, %h_arg7⟩⟩
    iapply (wp_wand_r Idealize.ShloMosaic.frame (wpE (defs₀ (F := F)) 𝒱 (c : Thread nD τ) bd) E)
    isplitl [HR_arg1 HW_arg6 HW_arg7]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 k).2.2 E f_arg6 f_arg7)
      isplitl [HR_arg1]; · iexact HR_arg1
      isplitl [HW_arg6]; · iexact HW_arg6
      iexact HW_arg7
    · iintro %_ ⟨HR_arg1, HW_arg6, HW_arg7⟩
      isplitl [HR_arg1]; · iexact HR_arg1
      rw [pb_k0_t1_succ]
      isplitl [HW_arg6]
      · iexists _; isplitl [HW_arg6]; · iexact HW_arg6
        ipureintro; rw [h_arg6, ← View.writes_append]
      iexists _; isplitl [HW_arg7]; · iexact HW_arg7
      ipureintro; rw [h_arg7, ← View.writes_append]

end Cert.SpatKernelIdeal.Body

end
-- ==== Proof.SpatIRun.lean ====
/- The body of `SpatKernelIdeal` run on any staging buffers, at the first point, at a middle point and at the last: what it leaves in each
   output and in each scratch buffer, as pieces. -/
module

public import proofs.«01_k».proof.Proof.SpatILoops
public import proofs.«01_k».proof.Proof.Gen.SpatKernelIdeal.Frame
public import Idealize.ShloMosaic.Lib.WordCmp

@[expose] public section

set_option maxRecDepth 16384

noncomputable section

namespace Cert.SpatKernelIdeal.Body

open Cert.SpatKernelIdeal Cert.SpatKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := k0_cond1 i = 1#1
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

abbrev cond0_1 (i : grid0.Coords) : Prop := k0_cond2 i = 1#1
theorem hcond0_1 : ∀ t : Fin cfg0.N, cond0_1 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ t.val % 10 = 9)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5_A : ∀ t : Fin cfg0.N, cond0_0 (grid0.coords t) → ¬cond0_1 (grid0.coords t) → cfg0.idle 5 (grid0.coords t) = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem idleAt0_5_C : ∀ t : Fin cfg0.N, ¬cond0_0 (grid0.coords t) → cond0_1 (grid0.coords t) → cfg0.idle 5 (grid0.coords t) = true := by decide +kernel
theorem liveAt0_6_A : ∀ t : Fin cfg0.N, cond0_0 (grid0.coords t) → ¬cond0_1 (grid0.coords t) → cfg0.idle 6 (grid0.coords t) = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem idleAt0_6_C : ∀ t : Fin cfg0.N, ¬cond0_0 (grid0.coords t) → cond0_1 (grid0.coords t) → cfg0.idle 6 (grid0.coords t) = true := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

abbrev ms0_0 (t : Fin cfg0.N) : Memref sig .tc .vmem S1024x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2560 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2560 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x2x2560x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2560 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2560 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)
abbrev scM0_0 : Memref sig .tc .vmem S3x1024x256 .bf16 := Memref.whole cc0_scratch0
abbrev scM0_1 : Memref sig .tc .vmem S10x1024x256 .f32 := Memref.whole cc0_scratch1
abbrev scM0_2 : Memref sig .tc .vmem S1024x128 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 1000000 in
/-- The body at the first point: the quantised layer norm, then one pair of heads. The attention scratch `arg11` keeps what it held outside the pair's slab. -/
noncomputable def kernelRun0_A (c : Dev nD) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (hc0 : cond0_0 i) (hc1 : ¬cond0_1 i)
    (x0 : Vec F S1024x2560 .bf16) (x1 : Vec F S1x2560 .f32) (x2 : Vec F S1x2560 .f32) (x3 : Vec F S3x2x2560x128 .fp8e4m3) (x4 : Vec F S1x3x256 .f32) :
    Σ' (L5 : List (View.Piece (Elt F) S1024x2560 .fp8e4m3)), Σ' (L6 : List (View.Piece (Elt F) S1024x128 .f32)), Σ' (L7 : List (View.Piece (Elt F) S1024x2560 .fp8e4m3)), Σ' (L8 : List (View.Piece (Elt F) S1024x128 .f32)), Σ' (LS1 : List (View.Piece (Elt F) S10x1024x256 .f32)), Σ' (LS2 : List (View.Piece (Elt F) S1024x128 .f32)), { LT0 : List (View.Piece (Elt F) S3x1024x256 .bf16) //
      ∀ (xi7 : Vec F S1024x2560 .fp8e4m3) (xi8 : Vec F S1024x128 .f32) (xs1 : Vec F S10x1024x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ owns (c : Thread nD τ) arg11 fullShare xs1 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ d, owns (c : Thread nD τ) arg10 fullShare d) ∗ (arg11.view.loc (c : Thread nD τ) ↦[arg11.view.set]{fullShare} arg11.view.writes (Elt F) (harg11.unread xs1) LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_spatial i arg1 harg1 arg2 harg2 arg3 harg3 arg4 harg4 arg5 harg5 arg6 harg6 arg7 harg7 arg8 harg8 arg9 harg9 arg10 harg10 arg11 harg11 arg12 harg12) K } := by
  refine ⟨?_, ?_, [], [], ?_, ?_, [], fun xi7 xi8 xs1 E K => ?run⟩
  case run =>
    simp only [cc0_spatial_eq_skeleton]; unfold cc0_spatial_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%ds0, %fs0, -, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8; obtain rfl := harg11.eq_unread hfs1
    have hrd0 : ∀ (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h1 : k0_cond1 i = 1#1) (v323 : Vec F S1x2560 .f32) (v325 : Vec F S1x2560 .f32) (X_arg1 : BufTy.Contents (Elt F) arg1.view.ty) (hrdF : BufTy.Contents (Elt F) arg6.view.ty) (hrdB : LoadRect S1024x2560), arg6.view.readAt (Elt F) hrdB (arg6.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 (Scf.trips k0_t1_loop.lb k0_t1_loop.ub k0_t1_loop.st)).1) = arg6.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 k0_h1 v323 v325 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 (Scf.trips k0_t1_loop.lb k0_t1_loop.ub k0_t1_loop.st)).1 S32x2560.size (by sl_kernel_rfl) (hrdB.idx hrdJ))
    have hrd1 : ∀ (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (k0_h1 : k0_cond1 i = 1#1) (v323 : Vec F S1x2560 .f32) (v325 : Vec F S1x2560 .f32) (X_arg1 : BufTy.Contents (Elt F) arg1.view.ty) (hrdF : BufTy.Contents (Elt F) arg7.view.ty) (hrdB : LoadRect S1024x128), arg7.view.readAt (Elt F) hrdB (arg7.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 (Scf.trips k0_t1_loop.lb k0_t1_loop.ub k0_t1_loop.st)).2) = arg7.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 k0_h1 v323 v325 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 v323 v325 X_arg1 (Scf.trips k0_t1_loop.lb k0_t1_loop.ub k0_t1_loop.st)).2 S32x128.size (by sl_kernel_rfl) (hrdB.idx hrdJ))
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]
    · iexists _, _; isplitr; swap; · iexact HS0
      ipureintro; rfl
    isplitl [HS1]; · iexact HS1
    iexists _; iexact HS2

set_option maxHeartbeats 1000000 in
/-- The body at a middle point: one pair of heads, from the codes and scales the first point left in the outputs. -/
noncomputable def kernelRun0_B (c : Dev nD) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (hc0 : ¬cond0_0 i) (hc1 : ¬cond0_1 i)
    (x0 : Vec F S1024x2560 .bf16) (x1 : Vec F S1x2560 .f32) (x2 : Vec F S1x2560 .f32) (x3 : Vec F S3x2x2560x128 .fp8e4m3) (x4 : Vec F S1x3x256 .f32) (xi5 : Vec F S1024x2560 .fp8e4m3) (xi6 : Vec F S1024x128 .f32) (xs2 : Vec F S1024x128 .f32) :
    Σ' (L5 : List (View.Piece (Elt F) S1024x2560 .fp8e4m3)), Σ' (L6 : List (View.Piece (Elt F) S1024x128 .f32)), Σ' (L7 : List (View.Piece (Elt F) S1024x2560 .fp8e4m3)), Σ' (L8 : List (View.Piece (Elt F) S1024x128 .f32)), Σ' (LS1 : List (View.Piece (Elt F) S10x1024x256 .f32)), Σ' (LS2 : List (View.Piece (Elt F) S1024x128 .f32)), { LT0 : List (View.Piece (Elt F) S3x1024x256 .bf16) //
      ∀ (xi7 : Vec F S1024x2560 .fp8e4m3) (xi8 : Vec F S1024x128 .f32) (xs1 : Vec F S10x1024x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ owns (c : Thread nD τ) arg9 fullShare xi8 ∗ (∃ d, owns (c : Thread nD τ) arg10 fullShare d) ∗ owns (c : Thread nD τ) arg11 fullShare xs1 ∗ owns (c : Thread nD τ) arg12 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ owns (c : Thread nD τ) arg9 fullShare xi8 ∗ (∃ f, arg10.view.loc (c : Thread nD τ) ↦[arg10.view.set]{fullShare} arg10.view.writes (Elt F) f LT0) ∗ (arg11.view.loc (c : Thread nD τ) ↦[arg11.view.set]{fullShare} arg11.view.writes (Elt F) (harg11.unread xs1) LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_spatial i arg1 harg1 arg2 harg2 arg3 harg3 arg4 harg4 arg5 harg5 arg6 harg6 arg7 harg7 arg8 harg8 arg9 harg9 arg10 harg10 arg11 harg11 arg12 harg12) K } := by
  refine ⟨[], [], [], [], ?_, ?_, ?_, fun xi7 xi8 xs1 E K => ?run⟩
  case run =>
    simp only [cc0_spatial_eq_skeleton]; unfold cc0_spatial_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs1; obtain rfl := harg12.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    isplitl [HS1]; · iexact HS1
    iexists _; iexact HS2

set_option maxHeartbeats 1000000 in
/-- The body at the last point: the last pair of heads, then the quantisation of all pairs, which reads the attention scratch whole. -/
noncomputable def kernelRun0_C (c : Dev nD) (i : grid0.Coords) (arg1 : Memref sig .tc .vmem S1024x2560 .bf16) (harg1 : arg1.IsWhole) (arg2 : Memref sig .tc .vmem S1x2560 .f32) (harg2 : arg2.IsWhole) (arg3 : Memref sig .tc .vmem S1x2560 .f32) (harg3 : arg3.IsWhole) (arg4 : Memref sig .tc .vmem S3x2x2560x128 .fp8e4m3) (harg4 : arg4.IsWhole) (arg5 : Memref sig .tc .vmem S1x3x256 .f32) (harg5 : arg5.IsWhole) (arg6 : Memref sig .tc .vmem S1024x2560 .fp8e4m3) (harg6 : arg6.IsWhole) (arg7 : Memref sig .tc .vmem S1024x128 .f32) (harg7 : arg7.IsWhole) (arg8 : Memref sig .tc .vmem S1024x2560 .fp8e4m3) (harg8 : arg8.IsWhole) (arg9 : Memref sig .tc .vmem S1024x128 .f32) (harg9 : arg9.IsWhole) (arg10 : Memref sig .tc .vmem S3x1024x256 .bf16) (harg10 : arg10.IsWhole) (arg11 : Memref sig .tc .vmem S10x1024x256 .f32) (harg11 : arg11.IsWhole) (arg12 : Memref sig .tc .vmem S1024x128 .f32) (harg12 : arg12.IsWhole) (hc0 : ¬cond0_0 i) (hc1 : cond0_1 i) (hl0 : k0_off10 i = ![9, 768, 128]) (hl1 : k0_off3 i = ![9, 0, 0]) (hl2 : k0_off4 i = ![9, 0, 128]) (hl3 : k0_off5 i = ![9, 256, 0]) (hl4 : k0_off6 i = ![9, 256, 128]) (hl5 : k0_off7 i = ![9, 512, 0]) (hl6 : k0_off8 i = ![9, 512, 128]) (hl7 : k0_off9 i = ![9, 768, 0])
    (x0 : Vec F S1024x2560 .bf16) (x1 : Vec F S1x2560 .f32) (x2 : Vec F S1x2560 .f32) (x3 : Vec F S3x2x2560x128 .fp8e4m3) (x4 : Vec F S1x3x256 .f32) (xi5 : Vec F S1024x2560 .fp8e4m3) (xi6 : Vec F S1024x128 .f32) (xs1 : Vec F S10x1024x256 .f32) (xs2 : Vec F S1024x128 .f32) :
    Σ' (L5 : List (View.Piece (Elt F) S1024x2560 .fp8e4m3)), Σ' (L6 : List (View.Piece (Elt F) S1024x128 .f32)), Σ' (L7 : List (View.Piece (Elt F) S1024x2560 .fp8e4m3)), Σ' (L8 : List (View.Piece (Elt F) S1024x128 .f32)), Σ' (LS1 : List (View.Piece (Elt F) S10x1024x256 .f32)), Σ' (LS2 : List (View.Piece (Elt F) S1024x128 .f32)), { LT0 : List (View.Piece (Elt F) S3x1024x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1 ∗ owns (c : Thread nD τ) arg12 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LT0) ∗ (arg11.view.loc (c : Thread nD τ) ↦[arg11.view.set]{fullShare} arg11.view.writes (Elt F) (harg11.unread xs1) LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_spatial i arg1 harg1 arg2 harg2 arg3 harg3 arg4 harg4 arg5 harg5 arg6 harg6 arg7 harg7 arg8 harg8 arg9 harg9 arg10 harg10 arg11 harg11 arg12 harg12) K } := by
  refine ⟨[], [], ?_, ?_, ?_, ?_, ?_, fun E K => ?run⟩
  case run =>
    letI : ClosedOff (k0_off10 i) := ⟨![9, 768, 128], hl0⟩
    letI : ClosedOff (k0_off3 i) := ⟨![9, 0, 0], hl1⟩
    letI : ClosedOff (k0_off4 i) := ⟨![9, 0, 128], hl2⟩
    letI : ClosedOff (k0_off5 i) := ⟨![9, 256, 0], hl3⟩
    letI : ClosedOff (k0_off6 i) := ⟨![9, 256, 128], hl4⟩
    letI : ClosedOff (k0_off7 i) := ⟨![9, 512, 0], hl5⟩
    letI : ClosedOff (k0_off8 i) := ⟨![9, 512, 128], hl6⟩
    letI : ClosedOff (k0_off9 i) := ⟨![9, 768, 0], hl7⟩
    simp only [cc0_spatial_eq_skeleton]; unfold cc0_spatial_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs1; obtain rfl := harg12.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]; · iexists _; iexact HS0
    isplitl [HS1]; · iexact HS1
    iexists _; iexact HS2

end Cert.SpatKernelIdeal.Body

end
-- ==== Proof.SpatIPoint.lean ====
/- What the outputs and the scratch buffers of `SpatKernelIdeal` hold after each point. The attention scratch is described slab by slab: after point `p` its slabs
   `0 … p` hold what those points stored. -/
module

public import proofs.«01_k».proof.Proof.SpatIRun
public import Idealize.ShloMosaic.Lib.Claim

@[expose] public section

set_option maxRecDepth 16384

noncomputable section

namespace Cert.SpatKernelIdeal.Body

open Cert.SpatKernelIdeal Cert.SpatKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The runs at a point of the grid -/

theorem lt10 (t : Fin cfg0.N) : t.val < 10 := lt_of_lt_of_eq t.isLt N_0

/-- Where a point's eight stores of attention results begin. -/
theorem offs : ∀ t : Fin cfg0.N, k0_off3 (grid0.coords t) = ![t.val, 0, 0] ∧ k0_off4 (grid0.coords t) = ![t.val, 0, 128]
    ∧ k0_off5 (grid0.coords t) = ![t.val, 256, 0] ∧ k0_off6 (grid0.coords t) = ![t.val, 256, 128]
    ∧ k0_off7 (grid0.coords t) = ![t.val, 512, 0] ∧ k0_off8 (grid0.coords t) = ![t.val, 512, 128]
    ∧ k0_off9 (grid0.coords t) = ![t.val, 768, 0] ∧ k0_off10 (grid0.coords t) = ![t.val, 768, 128] :=
  (by decide +kernel : ∀ t : Fin grid0.N, k0_off3 (grid0.coords t) = ![t.val, 0, 0] ∧ k0_off4 (grid0.coords t) = ![t.val, 0, 128]
    ∧ k0_off5 (grid0.coords t) = ![t.val, 256, 0] ∧ k0_off6 (grid0.coords t) = ![t.val, 256, 128]
    ∧ k0_off7 (grid0.coords t) = ![t.val, 512, 0] ∧ k0_off8 (grid0.coords t) = ![t.val, 512, 128]
    ∧ k0_off9 (grid0.coords t) = ![t.val, 768, 0] ∧ k0_off10 (grid0.coords t) = ![t.val, 768, 128])

theorem offs9 (t : Fin cfg0.N) (h : t.val = 9) : k0_off3 (grid0.coords t) = ![9, 0, 0] ∧ k0_off4 (grid0.coords t) = ![9, 0, 128]
    ∧ k0_off5 (grid0.coords t) = ![9, 256, 0] ∧ k0_off6 (grid0.coords t) = ![9, 256, 128]
    ∧ k0_off7 (grid0.coords t) = ![9, 512, 0] ∧ k0_off8 (grid0.coords t) = ![9, 512, 128]
    ∧ k0_off9 (grid0.coords t) = ![9, 768, 0] ∧ k0_off10 (grid0.coords t) = ![9, 768, 128] := by
  have := offs t; rwa [h] at this

/-- The run at the first point, -/
abbrev runA (t : Fin cfg0.N) (h : t.val = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _)
    ((hcond0_0 t).mpr (by omega)) (fun e => by have := (hcond0_1 t).mp e; omega) (iblk m c 0 t) (iblk m c 1 t) (iblk m c 2 t) (iblk m c 3 t) (iblk m c 4 t)

/-- at a middle point, over what it finds in the codes, the scales and the running maximum, -/
abbrev runB (t : Fin cfg0.N) (h0 : t.val ≠ 0) (h9 : t.val ≠ 9) (x5 : Vec F S1024x2560 .fp8e4m3) (x6 xs2 : Vec F S1024x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _)
    (fun e => by have := (hcond0_0 t).mp e; have := lt10 t; omega) (fun e => by have := (hcond0_1 t).mp e; have := lt10 t; omega) (iblk m c 0 t) (iblk m c 1 t) (iblk m c 2 t) (iblk m c 3 t) (iblk m c 4 t) x5 x6 xs2

/-- and at the last, over what it finds in the attention scratch as well. -/
abbrev runC (t : Fin cfg0.N) (h : t.val = 9) (x5 : Vec F S1024x2560 .fp8e4m3) (x6 : Vec F S1024x128 .f32) (xs1 : Vec F S10x1024x256 .f32) (xs2 : Vec F S1024x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _)
    (fun e => by have := (hcond0_0 t).mp e; omega) ((hcond0_1 t).mpr (by omega))
    (offs9 t h).2.2.2.2.2.2.2 (offs9 t h).1 (offs9 t h).2.1 (offs9 t h).2.2.1 (offs9 t h).2.2.2.1 (offs9 t h).2.2.2.2.1 (offs9 t h).2.2.2.2.2.1 (offs9 t h).2.2.2.2.2.2.1
    (iblk m c 0 t) (iblk m c 1 t) (iblk m c 2 t) (iblk m c 3 t) (iblk m c 4 t) x5 x6 xs1 xs2

/-! ## What the buffers hold -/

/-- The first point. -/
abbrev t0 : Fin cfg0.N := ⟨0, lt_of_lt_of_eq (by omega) N_0.symm⟩
/-- The last point. -/
abbrev t9 : Fin cfg0.N := ⟨9, lt_of_lt_of_eq (by omega) N_0.symm⟩

/-- The codes of the layer norm, from the first point on, -/
def C1 : Vec F S1024x2560 .fp8e4m3 := View.canon (runA m c t0 rfl).1

/-- and their scales. -/
def SC1 : Vec F S1024x128 .f32 := View.canon (runA m c t0 rfl).2.1

/-- A number, where what is given does not matter. -/
def any : Elt F .f32 := k0_pay25 (F := F) (fun k => ⟨0, (by decide : ∀ k, 0 < S1024x128.size k) k⟩)

/-- The running maximum after point `n`. -/
def AM : (n : ℕ) → n < cfg0.N → Vec F S1024x128 .f32
  | 0, hn => View.canon (runA m c ⟨0, hn⟩ rfl).2.2.2.2.2.1
  | n + 1, hn => if h9 : n + 1 = 9 then View.canon (runC m c ⟨n + 1, hn⟩ h9 (C1 m c) (SC1 m c) (fun _ => any) (AM n (Nat.lt_of_succ_lt hn))).2.2.2.2.2.1
      else View.canon (runB m c ⟨n + 1, hn⟩ (Nat.succ_ne_zero n) h9 (C1 m c) (SC1 m c) (AM n (Nat.lt_of_succ_lt hn))).2.2.2.2.2.1

/-- The attention results point `t` stores. -/
def OP (t : Fin cfg0.N) : List (View.Piece (Elt F) S10x1024x256 .f32) :=
  if h0 : t.val = 0 then (runA m c t h0).2.2.2.2.1
  else if h9 : t.val = 9 then (runC m c t h9 (C1 m c) (SC1 m c) (fun _ => any) (fun _ => any)).2.2.2.2.1
  else (runB m c t h0 h9 (C1 m c) (SC1 m c) (fun _ => any)).2.2.2.2.1

/-- The attention scratch once every point has stored its slab. -/
def OF : Vec F S10x1024x256 .f32 := fun y => View.canon (OP m c ((show Fin 10 from y 0).cast N_0.symm)) y

/-- The codes of the attention results, -/
def C2 : Vec F S1024x2560 .fp8e4m3 := View.canon (runC m c t9 rfl (C1 m c) (SC1 m c) (OF m c) (AM m c 8 (lt_of_lt_of_eq (by omega) N_0.symm))).2.2.1

/-- and their scales. -/
def SC2 : Vec F S1024x128 .f32 := View.canon (runC m c t9 rfl (C1 m c) (SC1 m c) (OF m c) (AM m c 8 (lt_of_lt_of_eq (by omega) N_0.symm))).2.2.2.1

theorem OP_A (t : Fin cfg0.N) (h : t.val = 0) : OP m c t = (runA m c t h).2.2.2.2.1 := dif_pos h

theorem OP_B (t : Fin cfg0.N) (h0 : t.val ≠ 0) (h9 : t.val ≠ 9) (xs2 : Vec F S1024x128 .f32) :
    OP m c t = (runB m c t h0 h9 (C1 m c) (SC1 m c) xs2).2.2.2.2.1 := by
  unfold OP; rw [dif_neg h0, dif_neg h9]; dsimp only [runB, kernelRun0_B]

/-- What the last point stores does not depend on what it found in the scratch buffers. -/
theorem stored_C (t : Fin cfg0.N) (h : t.val = 9) : ∃ L, ∀ (xs1 : Vec F S10x1024x256 .f32) (xs2 : Vec F S1024x128 .f32),
    (runC m c t h (C1 m c) (SC1 m c) xs1 xs2).2.2.2.2.1 = L :=
  ⟨_, fun xs1 xs2 => by dsimp only [runC, kernelRun0_C]⟩

theorem OP_C (t : Fin cfg0.N) (h : t.val = 9) (xs1 : Vec F S10x1024x256 .f32) (xs2 : Vec F S1024x128 .f32) :
    OP m c t = (runC m c t h (C1 m c) (SC1 m c) xs1 xs2).2.2.2.2.1 := by
  obtain ⟨L, hL⟩ := stored_C m c t h
  unfold OP; rw [dif_neg (by omega), dif_pos h]; exact (hL _ _).trans (hL xs1 xs2).symm

theorem AM_B (t : Fin cfg0.N) (h0 : t.val ≠ 0) (h9 : t.val ≠ 9) :
    AM m c t.val t.isLt = View.canon (runB m c t h0 h9 (C1 m c) (SC1 m c) (AM m c (t.val - 1) (lt_of_le_of_lt (Nat.sub_le _ _) t.isLt))).2.2.2.2.2.1 := by
  obtain ⟨n, hn⟩ := t
  cases n with
  | zero => exact absurd rfl h0
  | succ n => exact dif_neg h9

/-- Nor does the running maximum it leaves depend on the attention scratch. -/
theorem max_C (t : Fin cfg0.N) (h : t.val = 9) (xs2 : Vec F S1024x128 .f32) : ∃ L, ∀ xs1 : Vec F S10x1024x256 .f32,
    (runC m c t h (C1 m c) (SC1 m c) xs1 xs2).2.2.2.2.2.1 = L :=
  ⟨_, fun xs1 => by dsimp only [runC, kernelRun0_C]⟩

theorem AM_C (t : Fin cfg0.N) (h : t.val = 9) (xs1 : Vec F S10x1024x256 .f32) :
    AM m c t.val t.isLt = View.canon (runC m c t h (C1 m c) (SC1 m c) xs1 (AM m c (t.val - 1) (lt_of_le_of_lt (Nat.sub_le _ _) t.isLt))).2.2.2.2.2.1 := by
  obtain ⟨L, hL⟩ := max_C m c t h (AM m c (t.val - 1) (lt_of_le_of_lt (Nat.sub_le _ _) t.isLt))
  rw [hL xs1, ← hL (fun _ => any)]
  obtain ⟨n, hn⟩ := t
  cases n with
  | zero => exact absurd h (by simp)
  | succ n => exact dif_pos h

theorem AM_A (t : Fin cfg0.N) (h : t.val = 0) : AM m c t.val t.isLt = View.canon (runA m c t h).2.2.2.2.2.1 := by
  obtain rfl : t = t0 := Fin.ext h
  rfl
theorem C1_eq (t : Fin cfg0.N) (h : t.val = 0) : C1 m c = View.canon (runA m c t h).1 := by
  obtain rfl : t = t0 := Fin.ext h
  rfl
theorem SC1_eq (t : Fin cfg0.N) (h : t.val = 0) : SC1 m c = View.canon (runA m c t h).2.1 := by
  obtain rfl : t = t0 := Fin.ext h
  rfl

/-! ## The slabs -/

/-- Eight stores at the quarters and halves of slab `n` lie in it and cover it. -/
theorem slab_of (n : ℕ) (o0 o1 o2 o3 o4 o5 o6 o7 : Fin 3 → ℕ) {i0 i1 i2 i3 i4 i5 i6 i7} {w0 w1 w2 w3 w4 w5 w6 w7}
    (h0 : o0 = ![n, 0, 0]) (h1 : o1 = ![n, 0, 128]) (h2 : o2 = ![n, 256, 0]) (h3 : o3 = ![n, 256, 128])
    (h4 : o4 = ![n, 512, 0]) (h5 : o5 = ![n, 512, 128]) (h6 : o6 = ![n, 768, 0]) (h7 : o7 = ![n, 768, 128]) :
    ∀ L : List (View.Piece (Elt F) S10x1024x256 .f32),
    L = [⟨Rect.unit (s := S10x1024x256) o7 ![1, 256, 128] i7, w7⟩, ⟨Rect.unit (s := S10x1024x256) o6 ![1, 256, 128] i6, w6⟩,
      ⟨Rect.unit (s := S10x1024x256) o5 ![1, 256, 128] i5, w5⟩, ⟨Rect.unit (s := S10x1024x256) o4 ![1, 256, 128] i4, w4⟩,
      ⟨Rect.unit (s := S10x1024x256) o3 ![1, 256, 128] i3, w3⟩, ⟨Rect.unit (s := S10x1024x256) o2 ![1, 256, 128] i2, w2⟩,
      ⟨Rect.unit (s := S10x1024x256) o1 ![1, 256, 128] i1, w1⟩, ⟨Rect.unit (s := S10x1024x256) o0 ![1, 256, 128] i0, w0⟩] →
    (∀ p ∈ L, ∀ y ∈ p.1.set, (y 0).val = n) ∧ (∀ y : S10x1024x256.Idx, (y 0).val = n → ∃ p ∈ L, y ∈ p.1.set) := by
  subst h0 h1 h2 h3 h4 h5 h6 h7
  rintro L rfl
  have lies : ∀ (y : S10x1024x256.Idx) (a b : ℕ) {i}, y ∈ (Rect.unit (s := S10x1024x256) ![n, a, b] ![1, 256, 128] i).set → (y 0).val = n := by
    intro y a b i hy
    have h : n ≤ (y 0).val ∧ (y 0).val < n + 1 := (Rect.mem_set_unit.mp hy) 0
    omega
  refine ⟨fun p hp y hy => ?_, fun y hy => ?_⟩
  · simp only [List.mem_cons, List.not_mem_nil, or_false] at hp
    rcases hp with rfl | rfl | rfl | rfl | rfl | rfl | rfl | rfl
    exacts [lies y _ _ (i := i7) hy, lies y _ _ (i := i6) hy, lies y _ _ (i := i5) hy, lies y _ _ (i := i4) hy,
      lies y _ _ (i := i3) hy, lies y _ _ (i := i2) hy, lies y _ _ (i := i1) hy, lies y _ _ (i := i0) hy]
  · have hr : (y 1).val < 1024 := (y 1).isLt
    have hc : (y 2).val < 256 := (y 2).isLt
    have go : ∀ (a b : ℕ) {i}, (a ≤ (y 1).val ∧ (y 1).val < a + 256) → (b ≤ (y 2).val ∧ (y 2).val < b + 128) →
        y ∈ (Rect.unit (s := S10x1024x256) ![n, a, b] ![1, 256, 128] i).set := by
      intro a b i ha hb
      refine Rect.mem_set_unit.mpr fun k => ?_
      match k with
      | 0 => exact ⟨le_of_eq hy.symm, lt_of_eq_of_lt hy (Nat.lt_succ_self n)⟩
      | 1 => exact ha
      | 2 => exact hb
    by_cases q4 : (y 2).val < 128
    · by_cases q1 : (y 1).val < 256
      · exact ⟨_, .tail _ (.tail _ (.tail _ (.tail _ (.tail _ (.tail _ (.tail _ List.mem_cons_self)))))), go 0 0 (i := i0) (by omega) (by omega)⟩
      · by_cases q2 : (y 1).val < 512
        · exact ⟨_, .tail _ (.tail _ (.tail _ (.tail _ (.tail _ List.mem_cons_self)))), go 256 0 (i := i2) (by omega) (by omega)⟩
        · by_cases q3 : (y 1).val < 768
          · exact ⟨_, .tail _ (.tail _ (.tail _ List.mem_cons_self)), go 512 0 (i := i4) (by omega) (by omega)⟩
          · exact ⟨_, .tail _ List.mem_cons_self, go 768 0 (i := i6) (by omega) (by omega)⟩
    · by_cases q1 : (y 1).val < 256
      · exact ⟨_, .tail _ (.tail _ (.tail _ (.tail _ (.tail _ (.tail _ List.mem_cons_self))))), go 0 128 (i := i1) (by omega) (by omega)⟩
      · by_cases q2 : (y 1).val < 512
        · exact ⟨_, .tail _ (.tail _ (.tail _ (.tail _ List.mem_cons_self))), go 256 128 (i := i3) (by omega) (by omega)⟩
        · by_cases q3 : (y 1).val < 768
          · exact ⟨_, .tail _ (.tail _ List.mem_cons_self), go 512 128 (i := i5) (by omega) (by omega)⟩
          · exact ⟨_, List.mem_cons_self, go 768 128 (i := i7) (by omega) (by omega)⟩

/-- A point's stores lie in its slab and cover it. -/
theorem slab (t : Fin cfg0.N) : (∀ p ∈ OP m c t, ∀ y ∈ p.1.set, (y 0).val = t.val) ∧ (∀ y : S10x1024x256.Idx, (y 0).val = t.val → ∃ p ∈ OP m c t, y ∈ p.1.set) := by
  obtain ⟨e0, e1, e2, e3, e4, e5, e6, e7⟩ := offs t
  by_cases h0 : t.val = 0
  · rw [OP_A m c t h0]
    exact slab_of t.val _ _ _ _ _ _ _ _ e0 e1 e2 e3 e4 e5 e6 e7 _ rfl
  · by_cases h9 : t.val = 9
    · rw [OP_C m c t h9 (fun _ => any) (fun _ => any)]
      exact slab_of t.val _ _ _ _ _ _ _ _ e0 e1 e2 e3 e4 e5 e6 e7 _ rfl
    · rw [OP_B m c t h0 h9 (fun _ => any)]
      exact slab_of t.val _ _ _ _ _ _ _ _ e0 e1 e2 e3 e4 e5 e6 e7 _ rfl

/-- Contents that agree with `OF` on the slabs below `t` agree with it on slab `t` too once point `t` has stored. -/
theorem slab_step (t : Fin cfg0.N) (W : Vec F S10x1024x256 .f32) (hW : ∀ y : S10x1024x256.Idx, (y 0).val < t.val → W y = OF m c y) (y : S10x1024x256.Idx)
    (hy : (y 0).val < t.val + 1) :
    scM0_1.view.read (Elt F) (scM0_1.view.writes (Elt F) ((Memref.isWhole_whole cc0_scratch1).unread W) (OP m c t)) y = OF m c y := by
  by_cases h : (y 0).val = t.val
  · rw [View.read_writes_apply_eq_canon _ _ _ _ ((slab m c t).2 y h)]
    unfold OF
    exact congrArg (fun t => View.canon (OP m c t) y) (Fin.ext h.symm)
  · rw [View.read_writes_apply_of_forall_not_mem _ _ _ _ fun p hp hy' => h ((slab m c t).1 p hp y hy')]
    rw [(Memref.isWhole_whole cc0_scratch1).read_unread]
    exact hW y (by omega)

/-- The pieces of the quantising loop, by what the attention scratch and the running maximum hold. -/
def QZ (t : Fin cfg0.N) (h : t.val = 9) (X : BufTy.Contents (Elt F) scM0_1.view.ty) (Y : BufTy.Contents (Elt F) scM0_2.view.ty) :=
  pb_k0_t2 (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_1 t).mpr (by omega)) X Y (Scf.trips (0#32) (Scalar.addi 0#32 32#32) 1#32)

/-- The last point's pieces, by what the attention scratch and the running maximum hold when it quantises. -/
theorem runC_codes (t : Fin cfg0.N) (h : t.val = 9) (x5 : Vec F S1024x2560 .fp8e4m3) (x6 : Vec F S1024x128 .f32) (xs1 xs1' : Vec F S10x1024x256 .f32) (xs2 : Vec F S1024x128 .f32) :
    (runC m c t h x5 x6 xs1 xs2).2.2.1 = (QZ c t h
      (scM0_1.view.writes (Elt F) ((Memref.isWhole_whole cc0_scratch1).unread xs1) (runC m c t h x5 x6 xs1 xs2).2.2.2.2.1)
      (scM0_2.view.writes (Elt F) scM0_2.view.junk (runC m c t h x5 x6 xs1' xs2).2.2.2.2.2.1)).1 := rfl
theorem runC_scales (t : Fin cfg0.N) (h : t.val = 9) (x5 : Vec F S1024x2560 .fp8e4m3) (x6 : Vec F S1024x128 .f32) (xs1 xs1' : Vec F S10x1024x256 .f32) (xs2 : Vec F S1024x128 .f32) :
    (runC m c t h x5 x6 xs1 xs2).2.2.2.1 = (QZ c t h
      (scM0_1.view.writes (Elt F) ((Memref.isWhole_whole cc0_scratch1).unread xs1) (runC m c t h x5 x6 xs1 xs2).2.2.2.2.1)
      (scM0_2.view.writes (Elt F) scM0_2.view.junk (runC m c t h x5 x6 xs1' xs2).2.2.2.2.2.1)).2 := rfl

/-- The attention scratch after the last point's stores, whatever slab 9 held before. -/
theorem full (t : Fin cfg0.N) (h : t.val = 9) (W : Vec F S10x1024x256 .f32) (hW : ∀ y : S10x1024x256.Idx, (y 0).val < 9 → W y = OF m c y) (xs2 : Vec F S1024x128 .f32) :
    scM0_1.view.writes (Elt F) ((Memref.isWhole_whole cc0_scratch1).unread W) (runC m c t h (C1 m c) (SC1 m c) W xs2).2.2.2.2.1
      = (Memref.isWhole_whole cc0_scratch1).unread (OF m c) := by
  refine (Memref.isWhole_whole cc0_scratch1).eq_unread (funext fun y => ?_)
  rw [← OP_C m c t h W xs2]
  exact slab_step m c t W (fun y hy => hW y (by omega)) y (by have : (y 0).val < 10 := (y 0).isLt; omega)

theorem codes_eq (t : Fin cfg0.N) (h : t.val = 9) (W : Vec F S10x1024x256 .f32) (hW : ∀ y : S10x1024x256.Idx, (y 0).val < 9 → W y = OF m c y) (xs2 : Vec F S1024x128 .f32) :
    (runC m c t h (C1 m c) (SC1 m c) W xs2).2.2.1 = (runC m c t h (C1 m c) (SC1 m c) (OF m c) xs2).2.2.1 := by
  exact (runC_codes m c t h _ _ W (OF m c) xs2).trans ((congrArg (fun X => (QZ c t h X _).1)
    ((full m c t h W hW xs2).trans (full m c t h (OF m c) (fun _ _ => rfl) xs2).symm)).trans (runC_codes m c t h _ _ (OF m c) (OF m c) xs2).symm)
theorem scales_eq (t : Fin cfg0.N) (h : t.val = 9) (W : Vec F S10x1024x256 .f32) (hW : ∀ y : S10x1024x256.Idx, (y 0).val < 9 → W y = OF m c y) (xs2 : Vec F S1024x128 .f32) :
    (runC m c t h (C1 m c) (SC1 m c) W xs2).2.2.2.1 = (runC m c t h (C1 m c) (SC1 m c) (OF m c) xs2).2.2.2.1 := by
  exact (runC_scales m c t h _ _ W (OF m c) xs2).trans ((congrArg (fun X => (QZ c t h X _).2)
    ((full m c t h W hW xs2).trans (full m c t h (OF m c) (fun _ _ => rfl) xs2).symm)).trans (runC_scales m c t h _ _ (OF m c) (OF m c) xs2).symm)

/-! ## Covers -/

theorem coverA5 (t : Fin cfg0.N) (h) (y : S1024x2560.Idx) : ∃ p ∈ (runA m c t h).1, y ∈ p.1.set :=
  View.cover_of_tiledL (runA m c t h).1 S32x2560.size (by sl_kernel_rfl) y
theorem coverA6 (t : Fin cfg0.N) (h) (y : S1024x128.Idx) : ∃ p ∈ (runA m c t h).2.1, y ∈ p.1.set :=
  View.cover_of_tiledL (runA m c t h).2.1 S32x128.size (by sl_kernel_rfl) y
theorem coverAM (t : Fin cfg0.N) (h) (y : S1024x128.Idx) : ∃ p ∈ (runA m c t h).2.2.2.2.2.1, y ∈ p.1.set :=
  View.cover_of_tiledL (runA m c t h).2.2.2.2.2.1 S256x128.size (by sl_kernel_rfl) y
theorem coverBM (t : Fin cfg0.N) (h0 h9 x5 x6 xs2) (y : S1024x128.Idx) : ∃ p ∈ (runB m c t h0 h9 x5 x6 xs2).2.2.2.2.2.1, y ∈ p.1.set :=
  View.cover_of_tiledL (runB m c t h0 h9 x5 x6 xs2).2.2.2.2.2.1 S256x128.size (by sl_kernel_rfl) y
theorem coverCM (t : Fin cfg0.N) (h x5 x6 xs1 xs2) (y : S1024x128.Idx) : ∃ p ∈ (runC m c t h x5 x6 xs1 xs2).2.2.2.2.2.1, y ∈ p.1.set :=
  View.cover_of_tiledL (runC m c t h x5 x6 xs1 xs2).2.2.2.2.2.1 S256x128.size (by sl_kernel_rfl) y
theorem coverC7 (t : Fin cfg0.N) (h x5 x6 xs1 xs2) (y : S1024x2560.Idx) : ∃ p ∈ (runC m c t h x5 x6 xs1 xs2).2.2.1, y ∈ p.1.set :=
  View.cover_of_tiledL (runC m c t h x5 x6 xs1 xs2).2.2.1 S32x256.size (by sl_kernel_rfl) y
theorem coverC8 (t : Fin cfg0.N) (h x5 x6 xs1 xs2) (y : S1024x128.Idx) : ∃ p ∈ (runC m c t h x5 x6 xs1 xs2).2.2.2.1, y ∈ p.1.set :=
  View.cover_of_tiledL (runC m c t h x5 x6 xs1 xs2).2.2.2.1 S32x128.size (by sl_kernel_rfl) y

end Cert.SpatKernelIdeal.Body

end
-- ==== Proof.SpatIFrame.lean ====
/- The frame of `SpatKernelIdeal`: the pipeline's proof data, the body's
   obligation, the run of the whole program and its frame. -/
module

public import proofs.«01_k».proof.Proof.SpatIPoint
public import Idealize.ShloMosaic.Lib.Claim

@[expose] public section

set_option maxRecDepth 16384

noncomputable section

namespace Cert.SpatKernelIdeal.Body

open Cert.SpatKernelIdeal Cert.SpatKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- What the scratch buffers hold before point `n`: before the first point anything; after it the attention scratch agrees with `OF`
    on the slabs stored so far and the running maximum is the last point's. -/
def Phi : (n : ℕ) → n ≤ cfg0.N → sProp 𝕄
  | 0, _ => Pipeline.ΦA spec0 c
  | n + 1, hn => iprop(iprop((∃ d, owns (c : Thread nD τ) scM0_0 fullShare d)
      ∗ (∃ W, ⌜∀ y : S10x1024x256.Idx, (y 0).val < n + 1 → W y = OF m c y⌝ ∗ owns (c : Thread nD τ) scM0_1 fullShare W)
      ∗ owns (c : Thread nD τ) scM0_2 fullShare (AM m c n hn)) ∗ (∃ r, prngReg c r))

theorem Phi_zero (n : ℕ) (hn : n ≤ cfg0.N) (h : n = 0) : Phi m c n hn = Pipeline.ΦA spec0 c := by
  subst h; rfl

theorem Phi_pos (n : ℕ) (hn : n ≤ cfg0.N) (h : n ≠ 0) : Phi m c n hn
    = iprop(iprop((∃ d, owns (c : Thread nD τ) scM0_0 fullShare d)
      ∗ (∃ W, ⌜∀ y : S10x1024x256.Idx, (y 0).val < n → W y = OF m c y⌝ ∗ owns (c : Thread nD τ) scM0_1 fullShare W)
      ∗ owns (c : Thread nD τ) scM0_2 fullShare (AM m c (n - 1) (by omega))) ∗ (∃ r, prngReg c r)) := by
  cases n with
  | zero => exact absurd rfl h
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => C1 m c
    | ⟨6, _⟩ => SC1 m c
    | ⟨7, _⟩ => C2 m c
    | ⟨8, _⟩ => SC2 m c
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (t : Fin cfg0.N) :
    (dats m 0 c).Φ t.castSucc = Phi m c t.val (Nat.le_of_lt t.isLt) := by
  dsimp only [dats]; exact Pipeline.Dat.Φ_castSucc (Phi m c) t

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = C1 m c := by dsimp only [dats]
theorem after0_6 (t : Fin cfg0.N) : (dats m 0 c).after 6 t = SC1 m c := by dsimp only [dats]
theorem after0_7 (t : Fin cfg0.N) : (dats m 0 c).after 7 t = C2 m c := by dsimp only [dats]
theorem after0_8 (t : Fin cfg0.N) : (dats m 0 c).after 8 t = SC2 m c := by dsimp only [dats]
theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d

/-- After the first point the staging buffer of output 5 holds what the first point left there: no other point writes it. -/
theorem before0_5 (d) : ∀ (n : ℕ) (hn : n < cfg0.N), n ≠ 0 → (dats m 0 c).before 5 ⟨n, hn⟩ d = C1 m c
  | 0, _, h => absurd rfl h
  | n + 1, hn, _ => by
    have hN : n + 1 < 10 := lt_of_lt_of_eq hn N_0
    have hfe : ∀ t : Fin cfg0.N, (cfg0.win 5).fetch t = false := by decide +kernel
    have hfl : ∀ t : Fin cfg0.N, t.val < 9 → (cfg0.win 5).flush t = false := by decide +kernel
    rw [Dat.before_of_pos _ 5 ⟨n + 1, hn⟩ (Nat.succ_ne_zero n) (hfe _) d]
    have hf := hfl ⟨n, Nat.lt_of_succ_lt hn⟩ (by simp only; omega)
    show (if (cfg0.win 5).flush ⟨n, Nat.lt_of_succ_lt hn⟩ = true then d else (dats m 0 c).left 5 ⟨n, Nat.lt_of_succ_lt hn⟩ d) = _
    rw [hf, if_neg Bool.false_ne_true]
    unfold Dat.left
    by_cases h : n = 0
    · subst h
      rw [liveAt0_5_A ⟨0, Nat.lt_of_succ_lt hn⟩ ((hcond0_0 _).mpr rfl) (fun e => by have := (hcond0_1 _).mp e; simp at this)]
      exact after0_5 m c _
    · rw [idleAt0_5_B ⟨n, Nat.lt_of_succ_lt hn⟩ (fun e => by have := (hcond0_0 _).mp e; simp only at this; omega) (fun e => by have := (hcond0_1 _).mp e; simp only at this; omega)]
      exact before0_5 d n _ h

/-- After the first point the staging buffer of output 6 holds what the first point left there: no other point writes it. -/
theorem before0_6 (d) : ∀ (n : ℕ) (hn : n < cfg0.N), n ≠ 0 → (dats m 0 c).before 6 ⟨n, hn⟩ d = SC1 m c
  | 0, _, h => absurd rfl h
  | n + 1, hn, _ => by
    have hN : n + 1 < 10 := lt_of_lt_of_eq hn N_0
    have hfe : ∀ t : Fin cfg0.N, (cfg0.win 6).fetch t = false := by decide +kernel
    have hfl : ∀ t : Fin cfg0.N, t.val < 9 → (cfg0.win 6).flush t = false := by decide +kernel
    rw [Dat.before_of_pos _ 6 ⟨n + 1, hn⟩ (Nat.succ_ne_zero n) (hfe _) d]
    have hf := hfl ⟨n, Nat.lt_of_succ_lt hn⟩ (by simp only; omega)
    show (if (cfg0.win 6).flush ⟨n, Nat.lt_of_succ_lt hn⟩ = true then d else (dats m 0 c).left 6 ⟨n, Nat.lt_of_succ_lt hn⟩ d) = _
    rw [hf, if_neg Bool.false_ne_true]
    unfold Dat.left
    by_cases h : n = 0
    · subst h
      rw [liveAt0_6_A ⟨0, Nat.lt_of_succ_lt hn⟩ ((hcond0_0 _).mpr rfl) (fun e => by have := (hcond0_1 _).mp e; simp at this)]
      exact after0_6 m c _
    · rw [idleAt0_6_B ⟨n, Nat.lt_of_succ_lt hn⟩ (fun e => by have := (hcond0_0 _).mp e; simp only at this; omega) (fun e => by have := (hcond0_1 _).mp e; simp only at this; omega)]
      exact before0_6 d n _ h

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (t : Fin cfg0.N) : (dats m 0 c).leavesExact 0 t = owns (c : Thread nD τ) (ms0_0 t) fullShare (iblk m c 0 t) := by
  unfold Dat.leavesExact; rw [liveAt0_0 t, after0_0]

theorem leaves0_1 (t : Fin cfg0.N) : (dats m 0 c).leavesExact 1 t = owns (c : Thread nD τ) (ms0_1 t) fullShare (iblk m c 1 t) := by
  unfold Dat.leavesExact; rw [liveAt0_1 t, after0_1]

theorem leaves0_2 (t : Fin cfg0.N) : (dats m 0 c).leavesExact 2 t = owns (c : Thread nD τ) (ms0_2 t) fullShare (iblk m c 2 t) := by
  unfold Dat.leavesExact; rw [liveAt0_2 t, after0_2]

theorem leaves0_3 (t : Fin cfg0.N) : (dats m 0 c).leavesExact 3 t = owns (c : Thread nD τ) (ms0_3 t) fullShare (iblk m c 3 t) := by
  unfold Dat.leavesExact; rw [liveAt0_3 t, after0_3]

theorem leaves0_4 (t : Fin cfg0.N) : (dats m 0 c).leavesExact 4 t = owns (c : Thread nD τ) (ms0_4 t) fullShare (iblk m c 4 t) := by
  unfold Dat.leavesExact; rw [liveAt0_4 t, after0_4]

/-- What a live output is left with. -/
theorem leaves_live (w : Fin cfg0.W) (t : Fin cfg0.N) (hl : cfg0.idle w (cfg0.grid.coords t) = false) :
    (dats m 0 c).leavesExact w t = owns (c : Thread nD τ) ((cfg0.win w).stage (cfg0.slots t w)) fullShare ((dats m 0 c).after w t) := by
  unfold Dat.leavesExact; rw [hl]

/-- What an idle output whose block is written back is left with. -/
theorem leaves_flush (w : Fin cfg0.W) (t : Fin cfg0.N) (hi : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [hi, hf]

set_option maxHeartbeats 4000000 in
theorem sound_A (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.succ = Phi m c (t.val + 1) t.isLt from rfl, Phi_castSucc, leaves0_0, leaves0_1, leaves0_2, leaves0_3, leaves0_4]
  rw [Phi_zero m c _ _ h0, PhiA0_eq, leaves_live m c 5 t (liveAt0_5_A t ((hcond0_0 t).mpr (by omega)) (fun e => by have := (hcond0_1 t).mp e; omega)), leaves_live m c 6 t (liveAt0_6_A t ((hcond0_0 t).mpr (by omega)) (fun e => by have := (hcond0_1 t).mp e; omega)), after0_5, after0_6,
    Dat.leavesExact_idle (dats m 0 c) 7 t (idleAt0_7_A t ((hcond0_0 t).mpr (by omega)) (fun e => by have := (hcond0_1 t).mp e; omega)) (noFlush0_7_A t ((hcond0_0 t).mpr (by omega)) (fun e => by have := (hcond0_1 t).mp e; omega)),
    Dat.leavesExact_idle (dats m 0 c) 8 t (idleAt0_8_A t ((hcond0_0 t).mpr (by omega)) (fun e => by have := (hcond0_1 t).mp e; omega)) (noFlush0_8_A t ((hcond0_0 t).mpr (by omega)) (fun e => by have := (hcond0_1 t).mp e; omega)), Phi_pos m c _ _ (Nat.succ_ne_zero _)]
  iintro ⟨⟨⟨⟨%ds0, HS0⟩, ⟨%ds1, HS1⟩, ⟨%ds2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA m c t h0).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [HS0]; · iexists _; iexact HS0
  isplitl [HS1]; · iexact HS1
  isplitl [HS2]; · iexists _; iexact HS2
  iintro ⟨H0, H1, H2, H3, H4, ⟨%e5, H5⟩, ⟨%e6, H6⟩, H7, H8, HS0, HS1, ⟨%es2, HS2⟩⟩
  isplitl [HS0 HS1 HS2 Hg]
  · isplitl [HS0 HS1 HS2]
    · isplitl [HS0]
      · iexact HS0
      isplitl [HS1]
      · iexists _; isplitr
        swap
        · unfold owns; iexists _; isplitr
          swap; · iexact HS1
          ipureintro; rfl
        ipureintro; intro y hy; rw [← OP_A m c t h0]; exact slab_step m c t _ (fun y hy => absurd hy (by omega)) y hy
      · unfold owns; iexists _; isplitr
        swap; · iexact HS2
        ipureintro; exact (View.read_writes_eq_canon _ _ _ (coverAM m c t h0)).trans (AM_A m c t h0).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact (View.read_writes_eq_canon _ _ _ (coverA5 m c t h0)).trans (C1_eq m c t h0).symm
  isplitl [H6]
  · unfold owns; iexists _; isplitr
    swap; · iexact H6
    ipureintro; exact (View.read_writes_eq_canon _ _ _ (coverA6 m c t h0)).trans (SC1_eq m c t h0).symm
  isplitl [H7]; · iexists _; iexact H7
  iexists _; iexact H8

set_option maxHeartbeats 4000000 in
theorem sound_B (t : Fin cfg0.N) (h0 : t.val ≠ 0) (h9 : t.val ≠ 9) :
    bodyPre m c t ⊢ wp frame (wpE (defs₀ (F := F)) Variants.none c none) Set.univ (bodyAt0 t) (fun _ => bodyPost m c t) := by
  have e5 : ∀ d, (dats m 0 c).before 5 t d = C1 m c := fun d => before0_5 m c d t.val t.isLt h0
  have e6 : ∀ d, (dats m 0 c).before 6 t d = SC1 m c := fun d => before0_6 m c d t.val t.isLt h0
  unfold bodyPre bodyPost bodyAt0
  simp only [before0_0, before0_1, before0_2, before0_3, before0_4]
  rw [show (dats m 0 c).owesAt () t.succ = (dats m 0 c).owesAt () t.castSucc from rfl,
    show (dats m 0 c).Φ t.succ = Phi m c (t.val + 1) t.isLt from rfl, Phi_castSucc, leaves0_0, leaves0_1, leaves0_2, leaves0_3, leaves0_4]
  rw [Phi_pos m c _ _ h0, Dat.leavesExact_idle (dats m 0 c) 5 t (idleAt0_5_B t (fun e => by have := (hcond0_0 t).mp e; have := lt10 t; omega) (fun e => by have := (hcond0_1 t).mp e; have := lt10 t; omega)) (noFlush0_5_B t (fun e => by have := (hcond0_0 t).mp e; have := lt10 t; omega) (fun e => by have := (hcond0_1 t).mp e; have := lt10 t; omega)),
    Dat.leavesExact_idle (dats m 0 c) 6 t (idleAt0_6_B t (fun e => by have := (hcond0_0 t).mp e; have := lt10 t; omega) (fun e => by have := (hcond0_1 t).mp e; have := lt10 t; omega)) (noFlush0_6_B t (fun e => by have := (hcond0_0 t).mp e; have := lt10 t; omega) (fun e => by have := (hcond0_1 t).mp e; have := lt10 t; omega)),
    Dat.leavesExact_idle (dats m 0 c) 7 t (idleAt0_7_B t (fun e => by have := (hcond0_0 t).mp e; have := lt10 t; omega) (fun e => by have := (hcond0_1 t).mp e; have := lt10 t; omega)) (noFlush0_7_B t (fun e => by have := (hcond0_0 t).mp e; have := lt10 t; omega) (fun e => by have := (hcond0_1 t).mp e; have := lt10 t; omega)),
    Dat.leavesExact_idle (dats m 0 c) 8 t (idleAt0_8_B t (fun e => by have := (hcond0_0 t).mp e; have := lt10 t; omega) (fun e => by have := (hcond0_1 t).mp e; have := lt10 t; omega)) (noFlush0_8_B t (fun e => by have := (hcond0_0 t).mp e; have := lt10 t; omega) (fun e => by have := (hcond0_1 t).mp e; have := lt10 t; omega)), Phi_pos m c _ _ (Nat.succ_ne_zero _)]
  simp only [e5, e6]
  iintro ⟨⟨⟨HS0, ⟨%W, %hW, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB m c t h0 h9 (C1 m c) (SC1 m c) _).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, ⟨%es2, HS2⟩⟩
  isplitl [HS0 HS1 HS2 Hg]
  · isplitl [HS0 HS1 HS2]
    · isplitl [HS0]
      · icases HS0 with ⟨%f0, HS0⟩
        iexists _; unfold owns; iexists _; isplitr
        swap; · iexact HS0
        ipureintro; rfl
      isplitl [HS1]
      · iexists _; isplitr
        swap
        · unfold owns; iexists _; isplitr
          swap; · iexact HS1
          ipureintro; rfl
        ipureintro; intro y hy; rw [← OP_B m c t h0 h9 _]; exact slab_step m c t _ hW y hy
      · unfold owns; iexists _; isplitr
        swap; · iexact HS2
        ipureintro; exact (View.read_writes_eq_canon _ _ _ (coverBM m c t h0 h9 _ _ _)).trans (AM_B m c t h0 h9).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexists _; iexact H7
  iexists _; iexact H8

theorem C2_eq (t : Fin cfg0.N) (h : t.val = 9) : C2 m c = View.canon (runC m c t h (C1 m c) (SC1 m c) (OF m c) (AM m c (t.val - 1) (lt_of_le_of_lt (Nat.sub_le _ _) t.isLt))).2.2.1 := by
  obtain rfl : t = t9 := Fin.ext h
  rfl
theorem SC2_eq (t : Fin cfg0.N) (h : t.val = 9) : SC2 m c = View.canon (runC m c t h (C1 m c) (SC1 m c) (OF m c) (AM m c (t.val - 1) (lt_of_le_of_lt (Nat.sub_le _ _) t.isLt))).2.2.2.1 := by
  obtain rfl : t = t9 := Fin.ext h
  rfl

set_option maxHeartbeats 4000000 in
theorem sound_C (t : Fin cfg0.N) (h9 : t.val = 9) :
    bodyPre m c t ⊢ wp frame (wpE (defs₀ (F := F)) Variants.none c none) Set.univ (bodyAt0 t) (fun _ => bodyPost m c t) := by
  have h0 : t.val ≠ 0 := by omega
  have e5 : ∀ d, (dats m 0 c).before 5 t d = C1 m c := fun d => before0_5 m c d t.val t.isLt h0
  have e6 : ∀ d, (dats m 0 c).before 6 t d = SC1 m c := fun d => before0_6 m c d t.val t.isLt h0
  have f5 : ∀ t : Fin cfg0.N, t.val = 9 → (cfg0.win 5).flush t = true := by decide +kernel
  have f6 : ∀ t : Fin cfg0.N, t.val = 9 → (cfg0.win 6).flush t = true := by decide +kernel
  unfold bodyPre bodyPost bodyAt0
  simp only [before0_0, before0_1, before0_2, before0_3, before0_4]
  rw [show (dats m 0 c).owesAt () t.succ = (dats m 0 c).owesAt () t.castSucc from rfl,
    show (dats m 0 c).Φ t.succ = Phi m c (t.val + 1) t.isLt from rfl, Phi_castSucc, leaves0_0, leaves0_1, leaves0_2, leaves0_3, leaves0_4]
  rw [Phi_pos m c _ _ h0, leaves_flush m c 5 t (idleAt0_5_C t (fun e => by have := (hcond0_0 t).mp e; omega) ((hcond0_1 t).mpr (by omega))) (f5 t h9), leaves_flush m c 6 t (idleAt0_6_C t (fun e => by have := (hcond0_0 t).mp e; omega) ((hcond0_1 t).mpr (by omega))) (f6 t h9),
    leaves_live m c 7 t (liveAt0_7_C t (fun e => by have := (hcond0_0 t).mp e; omega) ((hcond0_1 t).mpr (by omega))), leaves_live m c 8 t (liveAt0_8_C t (fun e => by have := (hcond0_0 t).mp e; omega) ((hcond0_1 t).mpr (by omega))), after0_5, after0_6, after0_7, after0_8,
    Phi_pos m c _ _ (Nat.succ_ne_zero _)]
  simp only [e5, e6]
  iintro ⟨⟨⟨HS0, ⟨%W, %hW, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC m c t h9 (C1 m c) (SC1 m c) W _).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, ⟨%e7, H7⟩, ⟨%e8, H8⟩, HS0, HS1, ⟨%es2, HS2⟩⟩
  isplitl [HS0 HS1 HS2 Hg]
  · isplitl [HS0 HS1 HS2]
    · isplitl [HS0]
      · icases HS0 with ⟨%f0, HS0⟩
        iexists _; unfold owns; iexists _; isplitr
        swap; · iexact HS0
        ipureintro; rfl
      isplitl [HS1]
      · iexists _; isplitr
        swap
        · unfold owns; iexists _; isplitr
          swap; · iexact HS1
          ipureintro; rfl
        ipureintro; intro y hy; rw [← OP_C m c t h9 W _]; exact slab_step m c t _ hW y hy
      · unfold owns; iexists _; isplitr
        swap; · iexact HS2
        ipureintro; exact (View.read_writes_eq_canon _ _ _ (coverCM m c t h9 _ _ _ _)).trans (AM_C m c t h9 W).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact (View.read_writes_eq_canon _ _ _ (coverC7 m c t h9 _ _ _ _)).trans ((congrArg View.canon (codes_eq m c t h9 W (fun y hy => hW y (by omega)) _)).trans (C2_eq m c t h9).symm)
  · unfold owns; iexists _; isplitr
    swap; · iexact H8
    ipureintro; exact (View.read_writes_eq_canon _ _ _ (coverC8 m c t h9 _ _ _ _)).trans ((congrArg View.canon (scales_eq m c t h9 W (fun y hy => hW y (by omega)) _)).trans (SC2_eq m c t h9).symm)

theorem sound_body (t : Fin cfg0.N) :
    bodyPre m c t ⊢ wp frame (wpE (defs₀ (F := F)) Variants.none c none) Set.univ (bodyAt0 t) (fun _ => bodyPost m c t) := by
  by_cases h0 : t.val = 0
  · exact sound_A m c t h0
  · by_cases h9 : t.val = 9
    · exact sound_C m c t h9
    · exact sound_B m c t h0 h9

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

theorem hin : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout : (dats m 0 c).Φ (Fin.last cfg0.N) ⊢ Pipeline.ΦA spec0 c := by
  have hN : cfg0.N = 10 := N_0
  rw [show (dats m 0 c).Φ (Fin.last cfg0.N) = Phi m c cfg0.N (Nat.le_refl _) from rfl, Phi_pos m c _ _ (by omega), PhiA0_eq]
  iintro ⟨⟨HS0, ⟨%W, %hW, HS1⟩, HS2⟩, Hg⟩
  isplitl [HS0 HS1 HS2]
  · isplitl [HS0]; · iexact HS0
    isplitl [HS1]; · iexists _; iexact HS1
    iexists _; iexact HS2
  iexact Hg

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair run of the program ends, every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends, with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.SpatKernelIdeal.Body

end
-- ==== Proof.SpatPFrame.lean ====
/- The frame of the printed spatial kernel. Its module and the one printed for the ideal reading hold the same program, operation by
   operation, so what is proved of the one at any number type is what is to be proved of the other. -/
module

public import proofs.«01_k».proof.Proof.Gen.SpatKernel
public import proofs.«01_k».proof.Proof.SpatIFrame

@[expose] public section

set_option maxRecDepth 16384

noncomputable section

namespace Cert.SpatKernel.Body

open Cert.SpatKernel Cert.SpatKernel.Gen Idealize.ShloMosaic Idealize.ShloMosaic.TcCoe Idealize.SL.Sem

variable {F : FTy → Type} [FloatOps F] (m : (ℓ : Loc nD τ sig) → Buf (Elt F) ℓ) (ρ : Dev nD → PrngReg)

/-- The bodies are the same program. -/
theorem body_eq : Cert.SpatKernel.cc0_spatial (F := F) = Cert.SpatKernelIdeal.cc0_spatial (F := F) := by with_unfolding_all rfl

/-- So are the whole programs, -/
theorem main_eq : Cert.SpatKernel.main (F := F) = Cert.SpatKernelIdeal.main (F := F) := by with_unfolding_all rfl

/-- the tables of bodies, -/
theorem bodies_eq : Cert.SpatKernel.defs₀ (F := F) = Cert.SpatKernelIdeal.defs₀ (F := F) := by
  unfold Cert.SpatKernel.defs₀ Cert.SpatKernelIdeal.defs₀
  refine congrArg (Defs.onTc (nD := nD) (τ := τ) (sig := sig)) ?_
  funext l x
  match l, x with
  | 0, (t, s) => rw [body_eq]; rfl
  | ⟨_ + 1, h⟩, _ => exact absurd h (Nat.not_lt.2 (Nat.le_add_left _ _))

/-- and the tables with the pipelines. -/
theorem defs_eq : Cert.SpatKernel.defs (F := F) = Cert.SpatKernelIdeal.defs (F := F) := by
  unfold Cert.SpatKernel.defs Cert.SpatKernelIdeal.defs
  rw [bodies_eq]
  rfl

/-- Every execution ends, leaves the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [main_eq, defs_eq]
  exact Cert.SpatKernelIdeal.Body.frame (F := F) m ρ

end Cert.SpatKernel.Body

end
-- ==== Proof.SpatINorm.lean ====
/- The codes and scales of the layer norm the spatial kernel computes at its first point: a counted loop normalises and
   quantises 32 rows per trip. -/
module

public import proofs.«01_k».proof.Proof.SpatILoops
public import proofs.«01_k».proof.Proof.Spec
public import Idealize.ShloMosaic.Lib.Pointwise
public import Idealize.ShloMosaic.Lib.Pipeline.ValueKit
public import Idealize.ShloMosaic.Lib.Ring

@[expose] public section

set_option maxRecDepth 16384

noncomputable section

namespace Cert.SpatKernelIdeal.Hand

open Cert.SpatKernelIdeal Cert.SpatKernelIdeal.Gen Cert.SpatKernelIdeal.Body Idealize.ShloMosaic Idealize.ShloMosaic.TcCoe Idealize.SL.Sem
open Idealize.ShloMosaic.Tactic

/-- The layer norm of a row of 32, at an index. -/
theorem norm_apply (g b : Vec Ideal S1x2560 .f32) (X : Vec Ideal S32x2560 .bf16) (r : Fin 32) (n : Fin 2560) :
    k0_pay4 (k0_pay22 g) (k0_pay23 b) X (ix2 r n)
      = Spec.norm (fun k => X (ix2 r k)) (fun k => g (ix2 0 k)) (fun k => b (ix2 0 k)) n := by
  unfold Spec.norm Spec.mean Spec.dev Spec.mean Spec.rowLen Spec.eps
  pointwise [k0_pay4, k0_pay22, k0_pay23]

/-- The reduction of a row to its maximum. -/
theorem red_apply (v : FVec Ideal S32x2560 .f32) (r : Fin 32) {f : Fin 2560 → EReal} (hf : ∀ n, v (ix2 r n) = f n) :
    multiReduction .maximumf [1] S32 v 0xFF800000#32 reduces_S32x2560_S32 (.inl rfl) rfl (ix1 r)
      = Finset.univ.fold max ⊥ f := by
  have hb : Ideal.ofBits .f32 0xFF800000#32 = ⊥ := by decide
  obtain rfl : f = fun n => v (ix2 r n) := funext fun n => (hf n).symm
  pointwise
  rw [hb]

/-- The scale from the row maxima `M`. -/
theorem tail_apply (M : FVec Ideal S32 .f32) (r : Fin 32) (l : Fin 1) :
    select
          (cmpf CmpFPredicate.oeq (shapeCast S32x1 M shapeCasts_S32_S32x1) (broadcast S32x1 (Scalar.ofBits .f32 0x00000000#32)))
          (broadcast S32x1 (Scalar.ofBits .f32 0x3F800000#32))
          (divf (shapeCast S32x1 M shapeCasts_S32_S32x1) (broadcast S32x1 (Scalar.ofBits .f32 0x43E00000#32))) (ix2 r l)
      = if M (ix1 r) = 0 then 1 else Ideal.div (M (ix1 r)) Spec.fmax := by
  unfold Spec.fmax
  pointwise

/-- The scale of a row, from its normalised values `f`. -/
theorem scale_apply (g b : FVec Ideal S1x2560 .f32) (X : Vec Ideal S32x2560 .bf16) (r : Fin 32) (l : Fin 1) {f : Fin 2560 → EReal}
    (hf : ∀ n, k0_pay4 g b X (ix2 r n) = f n) : k0_pay5 g b X (ix2 r l) = Spec.scale f := by
  have hM := red_apply (absf (k0_pay4 (F := Ideal) g b X)) r (f := fun n => max (f n) (-f n)) (fun n => by
    rw [← hf n]; rfl)
  unfold k0_pay5
  refine (tail_apply _ r l).trans ?_
  rw [hM]
  unfold Spec.scale Spec.amax
  with_reducible rfl

/-- The stored scales. -/
theorem scales_apply (g b : FVec Ideal S1x2560 .f32) (X : Vec Ideal S32x2560 .bf16) (r : Fin 32) (l : Fin 128)
    {f : Fin 2560 → EReal} (hf : ∀ n, k0_pay4 g b X (ix2 r n) = f n) : k0_pay24 (k0_pay7 g b X) (ix2 r l) = Spec.scale f := by
  rw [← scale_apply g b X r 0 hf]
  unfold k0_pay24 k0_pay7
  generalize k0_pay5 g b X = Z
  pointwise []

/-- The stored codes. -/
theorem codes_apply (g b : FVec Ideal S1x2560 .f32) (X : Vec Ideal S32x2560 .bf16) (r : Fin 32) (n : Fin 2560) {f : Fin 2560 → EReal}
    (hf : ∀ n, k0_pay4 g b X (ix2 r n) = f n) : k0_pay6 g b X (ix2 r n) = Spec.code (f n) (Spec.scale f) := by
  rw [← scale_apply g b X r 0 hf, ← hf n]
  unfold k0_pay6 Spec.code Spec.fmax Spec.fmin
  generalize k0_pay5 g b X = Z
  generalize k0_pay4 g b X = W
  pointwise []

/-- A row of the layer norm, from the rows `R`. -/
abbrev nrm (R : Fin 1024 → Fin 2560 → EReal) (g b : Vec Ideal S1x2560 .f32) (r : Fin 1024) (n : Fin 2560) : EReal :=
  Spec.norm (R r) (fun k => g (ix2 0 k)) (fun k => b (ix2 0 k)) n

/-- Where a trip's rows lie. -/
theorem off1_0 (k : Fin k0_t1_loop.trips) : k0_off1 k 0 = 32 * k.val := congrFun (k0_off1_eq k) 0
theorem off1_1 (k : Fin k0_t1_loop.trips) : k0_off1 k 1 = 0 := congrFun (k0_off1_eq k) 1
theorem off2_0 (k : Fin k0_t1_loop.trips) : k0_off2 k 0 = 32 * k.val := congrFun (k0_off2_eq k) 0
theorem off2_1 (k : Fin k0_t1_loop.trips) : k0_off2 k 1 = 0 := congrFun (k0_off2_eq k) 1

section Loop

variable (c : Dev nD) (i : grid0.Coords)
  (arg1 : Memref sig .tc .vmem S1024x2560 .bf16) (harg1 : arg1.IsWhole) (arg2 : Memref sig .tc .vmem S1x2560 .f32) (harg2 : arg2.IsWhole)
  (arg3 : Memref sig .tc .vmem S1x2560 .f32) (harg3 : arg3.IsWhole) (arg4 : Memref sig .tc .vmem S3x2x2560x128 .fp8e4m3) (harg4 : arg4.IsWhole)
  (arg5 : Memref sig .tc .vmem S1x3x256 .f32) (harg5 : arg5.IsWhole) (arg6 : Memref sig .tc .vmem S1024x2560 .fp8e4m3) (harg6 : arg6.IsWhole)
  (arg7 : Memref sig .tc .vmem S1024x128 .f32) (harg7 : arg7.IsWhole) (arg8 : Memref sig .tc .vmem S1024x2560 .fp8e4m3) (harg8 : arg8.IsWhole)
  (arg9 : Memref sig .tc .vmem S1024x128 .f32) (harg9 : arg9.IsWhole) (arg10 : Memref sig .tc .vmem S3x1024x256 .bf16) (harg10 : arg10.IsWhole)
  (arg11 : Memref sig .tc .vmem S10x1024x256 .f32) (harg11 : arg11.IsWhole) (arg12 : Memref sig .tc .vmem S1024x128 .f32) (harg12 : arg12.IsWhole)
  (k0_h1 : k0_cond1 i = 1#1) (g b : Vec Ideal S1x2560 .f32) (X : BufTy.Contents (Elt Ideal) arg1.view.ty) (R : Fin 1024 → Fin 2560 → EReal)
  (hX : ∀ j, arg1.view.read (Elt Ideal) X j = R (j 0) (j 1))

include hX in
/-- The rows one trip loads. -/
theorem trip_rows (k : Fin k0_t1_loop.trips) (inb) (r : Fin 32) (n : Fin 2560) (r' : Fin 1024)
    (hr : r'.val = 32 * k.val + r.val) :
    k0_pay4 (k0_pay22 g) (k0_pay23 b)
      (View.ld (arg1.view.read (Elt Ideal) X) (Rect.unit (k0_off1 k) ![32, 2560] inb)) (ix2 r n) = nrm R g b r' n := by
  rw [norm_apply]
  refine congrArg (fun f => Spec.norm f _ _ n) (funext fun q => ?_)
  refine (View.ld_unit_apply_of _ _ _ _ _ (ix2 r' q) fun j => ?_).trans (hX _)
  match j with
  | 0 => exact hr.trans (congrArg (· + r.val) (off1_0 k).symm)
  | 1 => exact (Nat.zero_add _).symm.trans (congrArg (· + q.val) (off1_1 k).symm)

include hX in
/-- The piece of codes one trip stores. -/
theorem trip_codes (k : Fin k0_t1_loop.trips) (y : S1024x2560.Idx) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 k0_h1 g b X k).1 y
      (Spec.code (nrm R g b (y 0) (y 1)) (Spec.scale (nrm R g b (y 0)))) := by
  unfold tripL_k0_t1 trip_k0_t1
  dsimp only
  simp only [View.readAt_eq_ld]
  refine View.allAt_cons _ _ _ (fun x hx => ?_) (View.allAt_nil _ _)
  subst hx
  have hx : x = ix2 (x 0) (x 1) := by blk_ext []
  have h0 : ((Rect.unit (s := S1024x2560) (k0_off1 k) ![32, 2560] (k0_off1_inb i k k0_h1)).idx x 0).val = 32 * k.val + (x 0).val :=
    (Rect.idx_unit_val _ _ _ _ _).trans (congrArg (· + (x 0).val) (off1_0 k))
  have h1 : (Rect.unit (s := S1024x2560) (k0_off1 k) ![32, 2560] (k0_off1_inb i k k0_h1)).idx x 1 = x 1 :=
    Fin.ext ((Rect.idx_unit_val _ _ _ _ _).trans ((congrArg (· + (x 1).val) (off1_1 k)).trans (Nat.zero_add _)))
  refine (congrArg _ hx).trans ((codes_apply _ _ _ (x 0) (x 1) fun n => trip_rows arg1 g b X R hX k _ (x 0) n _ h0).trans ?_)
  exact congrArg (fun n => Spec.code (nrm R g b _ n) _) h1.symm

include hX in
/-- The piece of scales one trip stores. -/
theorem trip_scales (k : Fin k0_t1_loop.trips) (y : S1024x128.Idx) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 k0_h1 g b X k).2 y
      (Spec.scale (nrm R g b (y 0))) := by
  unfold tripL_k0_t1 trip_k0_t1
  dsimp only
  try unfold trip_k0_t1.sl.r
  refine View.allAt_cons _ _ _ (fun x hx => ?_) (View.allAt_nil _ _)
  subst hx
  simp only [View.readAt_eq_ld]
  have hx : x = ix2 (x 0) (x 1) := by blk_ext []
  have h0 : ((Rect.unit (s := S1024x128) (k0_off2 k) ![32, 128] (k0_off2_inb i k k0_h1)).idx x 0).val = 32 * k.val + (x 0).val :=
    (Rect.idx_unit_val _ _ _ _ _).trans (congrArg (· + (x 0).val) (off2_0 k))
  exact (congrArg _ hx).trans (scales_apply _ _ _ (x 0) (x 1) fun n => trip_rows arg1 g b X R hX k _ (x 0) n _ h0)

/-- Every piece of the trips before `n` is a piece of one trip. -/
theorem mem_pieces (p : View.Piece (Elt Ideal) S1024x2560 .fp8e4m3) : ∀ n : Nat,
    p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 k0_h1 g b X n).1 →
    ∃ k, p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 k0_h1 g b X k).1
  | 0, h => by rw [pb_k0_t1.eq_1] at h; exact absurd h List.not_mem_nil
  | n + 1, h => by
    rw [pb_k0_t1.eq_2] at h
    unfold pb_k0_t1Step at h
    split at h
    · rcases List.mem_append.mp h with h | h
      · exact ⟨_, h⟩
      · exact mem_pieces p n h
    · exact mem_pieces p n h

theorem mem_pieces' (p : View.Piece (Elt Ideal) S1024x128 .f32) : ∀ n : Nat,
    p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 k0_h1 g b X n).2 →
    ∃ k, p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 k0_h1 g b X k).2
  | 0, h => by rw [pb_k0_t1.eq_1] at h; exact absurd h List.not_mem_nil
  | n + 1, h => by
    rw [pb_k0_t1.eq_2] at h
    unfold pb_k0_t1Step at h
    split at h
    · rcases List.mem_append.mp h with h | h
      · exact ⟨_, h⟩
      · exact mem_pieces' p n h
    · exact mem_pieces' p n h

include hX in
/-- The codes the loop leaves. -/
theorem loop_codes (y : S1024x2560.Idx) :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 k0_h1 g b X
      (Scf.trips (0#32) (Scalar.addi 0#32 32#32) 1#32)).1 y
      = Spec.code (nrm R g b (y 0) (y 1)) (Spec.scale (nrm R g b (y 0))) := by
  refine View.canon_eq_of_allAt _ y _ ?_ fun p hp => ?_
  · exact View.cover_of_tiledL (pb_k0_t1 (F := Ideal) Variants.none c none i arg1 harg1 arg2 harg2 arg3 harg3 arg4 harg4 arg5 harg5 arg6 harg6 arg7 harg7 arg8 harg8 arg9 harg9 arg10 harg10 arg11 harg11 arg12 harg12 k0_h1 g b X
      (Scf.trips (0#32) (Scalar.addi 0#32 32#32) 1#32)).1 S32x2560.size (by sl_kernel_rfl) y
  obtain ⟨k, hk⟩ := mem_pieces c i arg1 harg1 arg2 harg2 arg3 harg3 arg4 harg4 arg5 harg5 arg6 harg6 arg7 harg7 arg8 harg8 arg9 harg9 arg10 harg10 arg11 harg11 arg12 harg12 k0_h1 g b X p _ hp
  exact trip_codes c i arg1 harg1 arg2 harg2 arg3 harg3 arg4 harg4 arg5 harg5 arg6 harg6 arg7 harg7 arg8 harg8 arg9 harg9 arg10 harg10 arg11 harg11 arg12 harg12 k0_h1 g b X R hX k y p hk

include hX in
/-- The scales the loop leaves. -/
theorem loop_scales (y : S1024x128.Idx) :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 k0_h1 g b X
      (Scf.trips (0#32) (Scalar.addi 0#32 32#32) 1#32)).2 y
      = Spec.scale (nrm R g b (y 0)) := by
  refine View.canon_eq_of_allAt _ y _ ?_ fun p hp => ?_
  · exact View.cover_of_tiledL (pb_k0_t1 (F := Ideal) Variants.none c none i arg1 harg1 arg2 harg2 arg3 harg3 arg4 harg4 arg5 harg5 arg6 harg6 arg7 harg7 arg8 harg8 arg9 harg9 arg10 harg10 arg11 harg11 arg12 harg12 k0_h1 g b X
      (Scf.trips (0#32) (Scalar.addi 0#32 32#32) 1#32)).2 S32x128.size (by sl_kernel_rfl) y
  obtain ⟨k, hk⟩ := mem_pieces' c i arg1 harg1 arg2 harg2 arg3 harg3 arg4 harg4 arg5 harg5 arg6 harg6 arg7 harg7 arg8 harg8 arg9 harg9 arg10 harg10 arg11 harg11 arg12 harg12 k0_h1 g b X p _ hp
  exact trip_scales c i arg1 harg1 arg2 harg2 arg3 harg3 arg4 harg4 arg5 harg5 arg6 harg6 arg7 harg7 arg8 harg8 arg9 harg9 arg10 harg10 arg11 harg11 arg12 harg12 k0_h1 g b X R hX k y p hk

end Loop

end Cert.SpatKernelIdeal.Hand

end
-- ==== Proof.SpatIValue.lean ====
/- The spatial kernel's codes and scales of the layer norm after the run. -/
module

public import proofs.«01_k».proof.Proof.SpatIFrame
public import proofs.«01_k».proof.Proof.SpatINorm

@[expose] public section

set_option maxRecDepth 16384

noncomputable section

namespace Cert.SpatKernelIdeal.Hand

open Cert.SpatKernelIdeal Cert.SpatKernelIdeal.Gen Cert.SpatKernelIdeal.Body Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An entry of the activations: the batch's axis and the row's are one. -/
def row (c : Dev nD) (r : Fin 1024) (n : Fin 2560) : EReal := m ((c : Thread nD τ).loc main_arg0) (ix3 ⟨r.val / 256, by omega⟩ ⟨r.val % 256, by omega⟩ n)

/-- The layer norm of a row. -/
def nrmd (c : Dev nD) (r : Fin 1024) (n : Fin 2560) : EReal :=
  Spec.norm (row m c r) (fun k => m ((c : Thread nD τ).loc main_arg1) (ix1 k)) (fun k => m ((c : Thread nD τ).loc main_arg2) (ix1 k)) n

/-- The code of an entry of it. -/
def cod (c : Dev nD) (r : Fin 1024) (n : Fin 2560) : EReal := Spec.code (nrmd m c r n) (Spec.scale (nrmd m c r))

/-- The blocks of the layer norm's inputs and outputs are their whole arrays. -/
theorem idx : ∀ t : Fin cfg0.N, win0_0.index t = ![0, 0] ∧ win0_1.index t = ![0, 0] ∧ win0_2.index t = ![0, 0]
    ∧ win0_5.index t = ![0, 0] ∧ win0_6.index t = ![0, 0] :=
  (by decide +kernel : ∀ t : Fin grid0.N, _)

theorem blk0 (c : Dev nD) (t : Fin cfg0.N) (r : Fin 1024) (n : Fin 2560) : iblk m c 0 t (ix2 r n) = row m c r n := by
  unfold row
  blk_point [iblk, V, idx t]

theorem blk1 (c : Dev nD) (t : Fin cfg0.N) (n : Fin 2560) : iblk m c 1 t (ix2 0 n) = m ((c : Thread nD τ).loc main_arg1) (ix1 n) := by
  blk_point [iblk, V, idx t]

theorem blk2 (c : Dev nD) (t : Fin cfg0.N) (n : Fin 2560) : iblk m c 2 t (ix2 0 n) = m ((c : Thread nD τ).loc main_arg2) (ix1 n) := by
  blk_point [iblk, V, idx t]

/-- The layer norm of a row, of the run's blocks. -/
theorem nrm_eq (c : Dev nD) (t : Fin cfg0.N) (r : Fin 1024) : nrm (row m c) (iblk m c 1 t) (iblk m c 2 t) r = nrmd m c r := by
  funext n
  unfold nrmd nrm
  simp only [blk1, blk2]

/-- What the first point leaves in the codes' block -/
theorem out5 (c : Dev nD) (y : S1024x2560.Idx) : C1 m c y = cod m c (y 0) (y 1) := by
  unfold C1
  dsimp only [runA, kernelRun0_A]
  frame_out
  refine (loop_codes _ _ _ _ _ _ _ _ _ _ _ _ _ _ _ _ _ _ _ _ _ _ _ _ _ _ _ _ _ _ (row m c) (fun j => ?_) y).trans ?_
  · rw [(hs0_0 t0).read_unread]
    exact (congrArg (iblk m c 0 t0) (by blk_ext [])).trans (blk0 m c t0 (j 0) (j 1))
  · exact congrArg (fun f : Fin 2560 → EReal => Spec.code (f (y 1)) (Spec.scale f)) (nrm_eq m c t0 (y 0))

/-- and in the scales' block. -/
theorem out6 (c : Dev nD) (y : S1024x128.Idx) : SC1 m c y = Spec.scale (nrmd m c (y 0)) := by
  unfold SC1
  dsimp only [runA, kernelRun0_A]
  frame_out
  refine (loop_scales _ _ _ _ _ _ _ _ _ _ _ _ _ _ _ _ _ _ _ _ _ _ _ _ _ _ _ _ _ _ (row m c) (fun j => ?_) y).trans ?_
  · rw [(hs0_0 t0).read_unread]
    exact (congrArg (iblk m c 0 t0) (by blk_ext [])).trans (blk0 m c t0 (j 0) (j 1))
  · exact congrArg Spec.scale (nrm_eq m c t0 (y 0))

/-- The codes' array after the run. -/
theorem final5 (c : Dev nD) : (dats m 0 c).arrAt 5 cfg0.N = fun i => cod m c (i 0) (i 1) := by
  refine (dats m 0 c).arrAt_eq_of_covers 5 _ (by decide +kernel) fun t hf y => ?_
  blk_simp; rw [after0_5]
  refine (out5 m c y).trans ?_
  exact congrArg₂ (cod m c) (Fin.ext (by blk_simp [idx t])) (Fin.ext (by blk_simp [idx t]))

/-- The scales' array after the run. -/
theorem final6 (c : Dev nD) : (dats m 0 c).arrAt 6 cfg0.N = fun i => Spec.scale (nrmd m c (i 0)) := by
  refine (dats m 0 c).arrAt_eq_of_covers 6 _ (by decide +kernel) fun t hf y => ?_
  blk_simp; rw [after0_6]
  refine (out6 m c y).trans ?_
  exact congrArg (fun r => Spec.scale (nrmd m c r)) (Fin.ext (by blk_simp [idx t]))

/-- After the run, argument `main_arg0` is as launched: no window stages it. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the run, argument `main_arg1` is as launched: no window stages it. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the run, argument `main_arg2` is as launched: no window stages it. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the run, argument `main_arg3` is as launched: no window stages it. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the run, argument `main_arg4` is as launched: no window stages it. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run, with the four arrays it leaves named and the arguments unchanged. -/
theorem run_blocks : θ_run defs (onTc (τ := τ) (main (F := Ideal))) ⟨m, fun _ => 0, ρ⟩ fun r => ∀ c : Dev nD,
      r.2.mem ((c : Thread nD τ).loc main_v6_0) = (dats m 0 c).arrAt 5 cfg0.N
      ∧ r.2.mem ((c : Thread nD τ).loc main_v6_1) = (dats m 0 c).arrAt 6 cfg0.N
      ∧ r.2.mem ((c : Thread nD τ).loc main_v6_2) = (dats m 0 c).arrAt 7 cfg0.N
      ∧ r.2.mem ((c : Thread nD τ).loc main_v6_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, (h c).1 8,
      kept_main_arg0 m r h c, kept_main_arg1 m r h c, kept_main_arg2 m r h c, kept_main_arg3 m r h c, kept_main_arg4 m r h c⟩)
    (run_main m ρ)

end Cert.SpatKernelIdeal.Hand

end
-- ==== Proof.SpatRef.lean ====
/- The reference of the spatial attention: the codes and the scales of its layer norm after the run. -/
module

public import proofs.«01_k».proof.Proof.Gen.SpatReferenceIdeal.Value
public import proofs.«01_k».proof.Proof.Spec
public import Idealize.ShloMosaic.Lib.Pipeline.ValueKit
public import Idealize.ShloMosaic.Lib.Ring

@[expose] public section

set_option maxRecDepth 16384

noncomputable section

namespace Cert.SpatReferenceIdeal.Hand

open Cert.SpatReferenceIdeal Cert.SpatReferenceIdeal.Gen Idealize.ShloMosaic Idealize.ShloMosaic.TcCoe Idealize.SL.Sem
open Idealize.ShloMosaic.Pipeline (Dat)

variable (m : (ℓ : Loc nD τ sig) → Buf (Elt Ideal) ℓ)

/-- An entry of the activations: the batch's axis and the row's are one. -/
def row (c : Dev nD) (r : Fin 1024) (n : Fin 2560) : EReal := m ((c : Thread nD τ).loc main_arg0) (ix3 ⟨r.val / 256, by omega⟩ ⟨r.val % 256, by omega⟩ n)

/-- The layer norm of a row. -/
def nrmd (c : Dev nD) (r : Fin 1024) (n : Fin 2560) : EReal :=
  Spec.norm (row m c r) (fun k => m ((c : Thread nD τ).loc main_arg1) (ix1 k)) (fun k => m ((c : Thread nD τ).loc main_arg2) (ix1 k)) n

/-- The code of an entry of it. -/
def cod (c : Dev nD) (r : Fin 1024) (n : Fin 2560) : EReal := Spec.code (nrmd m c r n) (Spec.scale (nrmd m c r))

/-- The blocks of the layer norm's inputs and outputs are their whole arrays. -/
theorem idx : ∀ t : Fin cfg0.N, win0_0.index t = ![0, 0] ∧ win0_1.index t = ![0, 0] ∧ win0_2.index t = ![0, 0]
    ∧ win0_5.index t = ![0, 0] ∧ win0_6.index t = ![0, 0] :=
  (by decide +kernel : ∀ t : Fin grid0.N, _)

theorem blk0 (c : Dev nD) (t : Fin cfg0.N) (r : Fin 1024) (n : Fin 2560) : iblk m c 0 t (ix2 r n) = row m c r n := by
  unfold row
  blk_point [iblk, V, idx t]

theorem blk1 (c : Dev nD) (t : Fin cfg0.N) (n : Fin 2560) : iblk m c 1 t (ix2 0 n) = m ((c : Thread nD τ).loc main_arg1) (ix1 n) := by
  blk_point [iblk, V, idx t]

theorem blk2 (c : Dev nD) (t : Fin cfg0.N) (n : Fin 2560) : iblk m c 2 t (ix2 0 n) = m ((c : Thread nD τ).loc main_arg2) (ix1 n) := by
  blk_point [iblk, V, idx t]

/-- The layer norm at an index, over any operands. -/
theorem pay7_apply (x : Vec Ideal S1024x2560 .bf16) (g b : Vec Ideal S1x2560 .f32) (r : Fin 1024) (n : Fin 2560) :
    k0_pay7 x g b (ix2 r n) = Spec.norm (fun k => x (ix2 r k)) (fun k => g (ix2 0 k)) (fun k => b (ix2 0 k)) n := by
  unfold Spec.norm Spec.mean Spec.dev Spec.mean Spec.rowLen Spec.eps
  pointwise [k0_pay7]

/-- The reduction of a row to its maximum. -/
theorem red_apply (v : FVec Ideal S1024x2560 .f32) (r : Fin 1024) {f : Fin 2560 → EReal} (hf : ∀ n, v (ix2 r n) = f n) :
    multiReduction .maximumf [1] S1024 v 0xFF800000#32 reduces_S1024x2560_S1024 (.inl rfl) rfl (ix1 r)
      = Finset.univ.fold max ⊥ f := by
  have hb : Ideal.ofBits .f32 0xFF800000#32 = ⊥ := by decide
  obtain rfl : f = fun n => v (ix2 r n) := funext fun n => (hf n).symm
  pointwise
  rw [hb]

/-- The scale from the row maxima `M`. -/
theorem tail_apply (M : FVec Ideal S1024 .f32) (r : Fin 1024) (l : Fin 1) :
    select
          (cmpf CmpFPredicate.oeq (shapeCast S1024x1 M shapeCasts_S1024_S1024x1) (broadcast S1024x1 (Scalar.ofBits .f32 0x00000000#32)))
          (broadcast S1024x1 (Scalar.ofBits .f32 0x3F800000#32))
          (divf (shapeCast S1024x1 M shapeCasts_S1024_S1024x1) (broadcast S1024x1 (Scalar.ofBits .f32 0x43E00000#32))) (ix2 r l)
      = if M (ix1 r) = 0 then 1 else Ideal.div (M (ix1 r)) Spec.fmax := by
  unfold Spec.fmax
  pointwise

/-- The scale of a row, from its values `f`. -/
theorem scale_apply (x : Vec Ideal S1024x2560 .bf16) (g b : Vec Ideal S1x2560 .f32) (r : Fin 1024) (l : Fin 1)
    {f : Fin 2560 → EReal} (hf : ∀ n, k0_pay7 x g b (ix2 r n) = f n) : k0_pay8 x g b (ix2 r l) = Spec.scale f := by
  have hM := red_apply (absf (k0_pay7 (F := Ideal) x g b)) r (f := fun n => max (f n) (-f n)) (fun n => by
    rw [← hf n]; rfl)
  unfold k0_pay8
  refine (tail_apply _ r l).trans ?_
  rw [hM]
  unfold Spec.scale Spec.amax
  with_reducible rfl

/-- The stored scales. -/
theorem scales_apply (x : Vec Ideal S1024x2560 .bf16) (g b : Vec Ideal S1x2560 .f32) (r : Fin 1024) (l : Fin 128)
    {f : Fin 2560 → EReal} (hf : ∀ n, k0_pay7 x g b (ix2 r n) = f n) : k0_pay3 (k0_pay8 x g b) (ix2 r l) = Spec.scale f := by
  rw [← scale_apply x g b r 0 hf]
  unfold k0_pay3
  generalize k0_pay8 x g b = W
  pointwise []

/-- The stored codes. -/
theorem codes_apply (x : Vec Ideal S1024x2560 .bf16) (g b : Vec Ideal S1x2560 .f32) (r : Fin 1024) (n : Fin 2560)
    {f : Fin 2560 → EReal} (hf : ∀ n, k0_pay7 x g b (ix2 r n) = f n) :
    k0_pay10 (k0_pay7 x g b) (k0_pay9 x g b) (ix2 r n) = Spec.code (f n) (Spec.scale f) := by
  rw [← scale_apply x g b r 0 hf, ← hf n]
  unfold k0_pay10 k0_pay9 Spec.code Spec.fmax Spec.fmin
  generalize k0_pay8 x g b = Z
  generalize k0_pay7 x g b = W
  pointwise []

/-- The layer norm of the run's blocks. -/
theorem norm_apply (c : Dev nD) (t : Fin cfg0.N) (r : Fin 1024) (n : Fin 2560) :
    k0_pay7 (F := Ideal) (iblk m c 0 t) (iblk m c 1 t) (iblk m c 2 t) (ix2 r n) = nrmd m c r n := by
  refine (pay7_apply _ _ _ r n).trans ?_
  unfold nrmd
  simp only [blk0, blk1, blk2]

/-- The payloads read at whole blocks. -/
theorem pay16_eq (x0 x1 x2 x3 x4) : k0_pay16 (F := Ideal) x0 x1 x2 x3 x4 = k0_pay7 x0 x1 x2 := by
  unfold k0_pay16; frame_out
theorem pay17_eq (x0 x1 x2 x3 x4) : k0_pay17 (F := Ideal) x0 x1 x2 x3 x4 = k0_pay8 x0 x1 x2 := by
  unfold k0_pay17; frame_out
theorem pay18_eq (x0 x1 x2 x3 x4) : k0_pay18 (F := Ideal) x0 x1 x2 x3 x4 = k0_pay9 x0 x1 x2 := by
  unfold k0_pay18; frame_out

theorem out5 (c : Dev nD) (t : Fin cfg0.N) (y : S1024x2560.Idx) :
    out0_5 (F := Ideal) (iblk m c 0 t) (iblk m c 1 t) (iblk m c 2 t) (iblk m c 3 t) (iblk m c 4 t) y = cod m c (y 0) (y 1) := by
  frame_out
  rw [pay16_eq, pay18_eq]
  have hy : y = ix2 (y 0) (y 1) := by blk_ext []
  rw [hy]
  exact codes_apply _ _ _ (y 0) (y 1) (norm_apply m c t (y 0))

theorem out6 (c : Dev nD) (t : Fin cfg0.N) (y : S1024x128.Idx) :
    out0_6 (F := Ideal) (iblk m c 0 t) (iblk m c 1 t) (iblk m c 2 t) (iblk m c 3 t) (iblk m c 4 t) y = Spec.scale (nrmd m c (y 0)) := by
  frame_out
  rw [pay17_eq]
  have hy : y = ix2 (y 0) (y 1) := by blk_ext []
  rw [hy]
  exact scales_apply _ _ _ (y 0) (y 1) (norm_apply m c t (y 0))

/-- The codes' array after the run. -/
theorem final5 (c : Dev nD) : (dats m 0 c).arrAt 5 cfg0.N = fun i => cod m c (i 0) (i 1) := by
  refine (dats m 0 c).arrAt_eq_of_covers 5 _ (by decide +kernel) fun t hf y => ?_
  blk_simp; rw [after0_5]
  refine (out5 m c t y).trans ?_
  exact congrArg₂ (cod m c) (Fin.ext (by blk_simp [idx t])) (Fin.ext (by blk_simp [idx t]))

/-- The scales' array after the run. -/
theorem final6 (c : Dev nD) : (dats m 0 c).arrAt 6 cfg0.N = fun i => Spec.scale (nrmd m c (i 0)) := by
  refine (dats m 0 c).arrAt_eq_of_covers 6 _ (by decide +kernel) fun t hf y => ?_
  blk_simp; rw [after0_6]
  refine (out6 m c t y).trans ?_
  exact congrArg (fun r => Spec.scale (nrmd m c r)) (Fin.ext (by blk_simp [idx t]))

end Cert.SpatReferenceIdeal.Hand

end
-- ==== Proof.SpatClaim.lean ====
/- The spatial attention's layer norm: the kernel computes the reference's codes and scales, over the extended reals. -/
module

public import proofs.«01_k».proof.Defs
public import proofs.«01_k».proof.Proof.SpatIValue
public import proofs.«01_k».proof.Proof.SpatRef
public import proofs.«01_k».proof.Proof.Gen.On_norm_results
public import Idealize.ShloMosaic.Lib.Claim

@[expose] public section

set_option maxRecDepth 16384

noncomputable section

namespace Cert.Proof.Spat

open Idealize.ShloMosaic Idealize.ShloMosaic.TcCoe Idealize.SL.Sem

variable (m : (ℓ : Loc Cert.SpatKernelIdeal.nD Cert.SpatKernelIdeal.τ Cert.SpatKernelIdeal.sig) → Buf (Elt Ideal) ℓ)
  (m' : (ℓ : Loc Cert.SpatReferenceIdeal.nD Cert.SpatReferenceIdeal.τ Cert.SpatReferenceIdeal.sig) → Buf (Elt Ideal) ℓ)
  (c : Dev Cert.SpatKernelIdeal.nD)

/-- The two programs' arguments are equal. -/
abbrev Same : Prop :=
  m' ((c : Thread Cert.SpatReferenceIdeal.nD Cert.SpatReferenceIdeal.τ).loc Cert.SpatReferenceIdeal.main_arg0) = m ((c : Thread Cert.SpatKernelIdeal.nD Cert.SpatKernelIdeal.τ).loc Cert.SpatKernelIdeal.main_arg0)
    ∧ m' ((c : Thread Cert.SpatReferenceIdeal.nD Cert.SpatReferenceIdeal.τ).loc Cert.SpatReferenceIdeal.main_arg1) = m ((c : Thread Cert.SpatKernelIdeal.nD Cert.SpatKernelIdeal.τ).loc Cert.SpatKernelIdeal.main_arg1)
    ∧ m' ((c : Thread Cert.SpatReferenceIdeal.nD Cert.SpatReferenceIdeal.τ).loc Cert.SpatReferenceIdeal.main_arg2) = m ((c : Thread Cert.SpatKernelIdeal.nD Cert.SpatKernelIdeal.τ).loc Cert.SpatKernelIdeal.main_arg2)
    ∧ m' ((c : Thread Cert.SpatReferenceIdeal.nD Cert.SpatReferenceIdeal.τ).loc Cert.SpatReferenceIdeal.main_arg3) = m ((c : Thread Cert.SpatKernelIdeal.nD Cert.SpatKernelIdeal.τ).loc Cert.SpatKernelIdeal.main_arg3)
    ∧ m' ((c : Thread Cert.SpatReferenceIdeal.nD Cert.SpatReferenceIdeal.τ).loc Cert.SpatReferenceIdeal.main_arg4) = m ((c : Thread Cert.SpatKernelIdeal.nD Cert.SpatKernelIdeal.τ).loc Cert.SpatKernelIdeal.main_arg4)

/-- The two programs' normalised rows, from equal arguments, -/
theorem nrmd (h : Same m m' c) : Cert.SpatReferenceIdeal.Hand.nrmd m' c = Cert.SpatKernelIdeal.Hand.nrmd m c := by
  obtain ⟨e0, e1, e2, e3, e4⟩ := h
  funext r n
  unfold Cert.SpatReferenceIdeal.Hand.nrmd Cert.SpatKernelIdeal.Hand.nrmd
  have hr : Cert.SpatReferenceIdeal.Hand.row m' c = Cert.SpatKernelIdeal.Hand.row m c := by
    funext r n
    unfold Cert.SpatReferenceIdeal.Hand.row Cert.SpatKernelIdeal.Hand.row
    rw [e0]
  rw [hr, e1, e2]

/-- and their codes. -/
theorem cod (h : Same m m' c) : Cert.SpatReferenceIdeal.Hand.cod m' c = Cert.SpatKernelIdeal.Hand.cod m c := by
  funext r n
  unfold Cert.SpatReferenceIdeal.Hand.cod Cert.SpatKernelIdeal.Hand.cod
  rw [nrmd m m' c h]

/-- The mask selects nothing of the two last results. -/
theorem off : (0#1 : BitVec 1) ≠ 1#1 := by decide

/-- The codes and the scales of the layer norm agree, for all arguments. -/
theorem agree : Cert.algebraic_SpatKernelIdeal_SpatReferenceIdeal_on_norm_results := by
  intro m g m' g' hpre hagree
  refine ⟨fun c => (Cert.SpatKernelIdeal.Body.dats m 0 c).arrAt 5 Cert.SpatKernelIdeal.cfg0.N,
    fun c => (Cert.SpatKernelIdeal.Body.dats m 0 c).arrAt 6 Cert.SpatKernelIdeal.cfg0.N,
    fun c => (Cert.SpatKernelIdeal.Body.dats m 0 c).arrAt 7 Cert.SpatKernelIdeal.cfg0.N,
    fun c => (Cert.SpatKernelIdeal.Body.dats m 0 c).arrAt 8 Cert.SpatKernelIdeal.cfg0.N, ?_, ?_⟩
  · refine (θ_run _ _ _).mono (fun r h c => ?_) (Cert.SpatKernelIdeal.Hand.run_blocks m g)
    obtain ⟨h0, h1, h2, h3, h4⟩ := h c
    exact ⟨fun i _ => congrFun h0 i, fun i _ => congrFun h1 i, fun i _ => congrFun h2 i, fun i _ => congrFun h3 i, h4⟩
  · refine (θ_run _ _ _).mono (fun r h c => ?_) (Cert.SpatReferenceIdeal.Value.run_blocks m' g')
    obtain ⟨h0, h1, h2, h3, h4⟩ := h c
    refine ⟨fun i _ => (congrFun h0 i).trans (congrFun ?_ i), fun i _ => (congrFun h1 i).trans (congrFun ?_ i), fun i e => absurd e off, fun i e => absurd e off, h4⟩
    · rw [Cert.SpatReferenceIdeal.Hand.final5, Cert.SpatKernelIdeal.Hand.final5, cod m m' c (hagree c)]; rfl
    · rw [Cert.SpatReferenceIdeal.Hand.final6, Cert.SpatKernelIdeal.Hand.final6, nrmd m m' c (hagree c)]; rfl

end Cert.Proof.Spat

end
-- ==== Proof.lean ====
/- The claims of the kernels, each from the module that proves it. -/
module

public import proofs.«01_k».proof.Proof.Gen.ProjSKernel.Frame
public import proofs.«01_k».proof.Proof.Gen.ProjSKernelIdeal.Frame
public import proofs.«01_k».proof.Proof.Gen.ProjSReferenceIdeal.Frame
public import proofs.«01_k».proof.Proof.Gen.ProjSReferenceIdeal.Value
public import proofs.«01_k».proof.Proof.Gen.Pre_ids_in_table
public import proofs.«01_k».proof.Proof.Gen.SpatKernel.Frame
public import proofs.«01_k».proof.Proof.Gen.SpatKernelIdeal.Frame
public import proofs.«01_k».proof.Proof.Gen.SpatReferenceIdeal.Frame
public import proofs.«01_k».proof.Proof.Gen.SpatReferenceIdeal.Value
public import proofs.«01_k».proof.Proof.Gen.On_norm_results
public import proofs.«01_k».proof.Defs
public import proofs.«01_k».proof.Proof.Gen.FcOneKernel.Frame
public import proofs.«01_k».proof.Proof.Gen.FcOneKernelIdeal.Frame
public import proofs.«01_k».proof.Proof.Gen.FcOneReferenceIdeal.Frame
public import proofs.«01_k».proof.Proof.Gen.FcTwoKernel.Frame
public import proofs.«01_k».proof.Proof.Gen.FcTwoKernelIdeal.Frame
public import proofs.«01_k».proof.Proof.Gen.FcTwoReferenceIdeal.Frame
public import proofs.«01_k».proof.Proof.Gen.ProjTKernel.Frame
public import proofs.«01_k».proof.Proof.Gen.ProjTKernelIdeal.Frame
public import proofs.«01_k».proof.Proof.Gen.ProjTReferenceIdeal.Frame
public import proofs.«01_k».proof.Proof.Gen.ProjTKernelIdeal.Value
public import proofs.«01_k».proof.Proof.Gen.ProjTReferenceIdeal.Value
public import proofs.«01_k».proof.Proof.Gen.FcTwoKernelIdeal.Value
public import proofs.«01_k».proof.Proof.Gen.FcTwoReferenceIdeal.Value
public import proofs.«01_k».proof.Proof.FcOneClaim
public import proofs.«01_k».proof.Proof.FcTwoClaim
public import proofs.«01_k».proof.Proof.ProjTClaim
public import proofs.«01_k».proof.Proof.ProjSPFrame
public import proofs.«01_k».proof.Proof.ProjSClaim
public import proofs.«01_k».proof.Proof.SpatPFrame
public import proofs.«01_k».proof.Proof.SpatClaim
public import Idealize.ShloMosaic.Adequacy
public import Idealize.ShloMosaic.Init

@[expose] public section

noncomputable section

namespace Cert.Proof

open Idealize.ShloMosaic

/-- Every claim of the certificate. -/
theorem claim : Cert.Claim :=
  ⟨Cert.FcOneKernel.Gen.facts, Cert.FcOneKernelIdeal.Gen.facts, Cert.FcOneReferenceIdeal.Gen.facts,
    Cert.FcTwoKernel.Gen.facts, Cert.FcTwoKernelIdeal.Gen.facts, Cert.FcTwoReferenceIdeal.Gen.facts,
    Cert.ProjTKernel.Gen.facts, Cert.ProjTKernelIdeal.Gen.facts, Cert.ProjTReferenceIdeal.Gen.facts,
    Cert.ProjSKernel.Gen.facts, Cert.ProjSKernelIdeal.Gen.facts, Cert.ProjSReferenceIdeal.Gen.facts,
    Cert.SpatKernel.Gen.facts, Cert.SpatKernelIdeal.Gen.facts, Cert.SpatReferenceIdeal.Gen.facts,
    Cert.Pre_ids_in_table.Gen.facts, Cert.On_norm_results.Gen.facts,
    fun m ρ _ => Cert.FcOneKernel.Gen.frame m ρ,
    fun m ρ _ => Cert.FcOneKernelIdeal.Gen.frame m ρ,
    fun m ρ _ => Cert.FcOneReferenceIdeal.Gen.frame m ρ,
    fun m ρ _ => Cert.FcTwoKernel.Gen.frame m ρ,
    fun m ρ _ => Cert.FcTwoKernelIdeal.Gen.frame m ρ,
    fun m ρ _ => Cert.FcTwoReferenceIdeal.Gen.frame m ρ,
    fun m ρ _ => Cert.ProjTKernel.Gen.frame m ρ,
    fun m ρ _ => Cert.ProjTKernelIdeal.Gen.frame m ρ,
    fun m ρ _ => Cert.ProjTReferenceIdeal.Gen.frame m ρ,
    fun m ρ h => Cert.ProjSKernel.Body.frame m ρ (Cert.ProjSKernel.Body.hyps_of_pre m h),
    fun m ρ h => Cert.ProjSKernelIdeal.Body.frame m ρ (Cert.ProjSKernelIdeal.Body.hyps_of_pre m h),
    fun m ρ _ => Cert.ProjSReferenceIdeal.Gen.frame m ρ,
    fun m ρ _ => Cert.ProjSReferenceIdeal.Gen.frame m ρ,
    fun m ρ _ => Cert.SpatKernel.Body.frame m ρ,
    fun m ρ _ => Cert.SpatKernelIdeal.Body.frame m ρ,
    fun m ρ _ => Cert.SpatReferenceIdeal.Gen.frame m ρ,
    trivial,
    fcOne,
    trivial,
    fcTwo,
    trivial,
    ProjT.agree,
    trivial,
    ProjS.agree,
    trivial,
    Spat.agree⟩

end Cert.Proof

end
